-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v14_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v67)) (v1 : (c : Dev Cert.Kernel2Ideal.nD) → Buf (Elt Ideal) ((c.tc : Thread Cert.Kernel2Ideal.nD Cert.Kernel2Ideal.τ).loc Cert.Kernel2Ideal.main_v56)) (v2 : (c : Dev Cert.Kernel2Ideal.nD) → Buf (Elt Ideal) ((c.tc : Thread Cert.Kernel2Ideal.nD Cert.Kernel2Ideal.τ).loc Cert.Kernel2Ideal.main_v57)) (v3 : (c : Dev Cert.Kernel2Ideal.nD) → Buf (Elt Ideal) ((c.tc : Thread Cert.Kernel2Ideal.nD Cert.Kernel2Ideal.τ).loc Cert.Kernel2Ideal.main_v58)) (v4 : (c : Dev Cert.Kernel2Ideal.nD) → Buf (Elt Ideal) ((c.tc : Thread Cert.Kernel2Ideal.nD Cert.Kernel2Ideal.τ).loc Cert.Kernel2Ideal.main_v59)) (v5 : (c : Dev Cert.Kernel2Ideal.nD) → Buf (Elt Ideal) ((c.tc : Thread Cert.Kernel2Ideal.nD Cert.Kernel2Ideal.τ).loc Cert.Kernel2Ideal.main_v60)) (v6 : (c : Dev Cert.Kernel2Ideal.nD) → Buf (Elt Ideal) ((c.tc : Thread Cert.Kernel2Ideal.nD Cert.Kernel2Ideal.τ).loc Cert.Kernel2Ideal.main_v61)) (v7 : (c : Dev Cert.Kernel2Ideal.nD) → Buf (Elt Ideal) ((c.tc : Thread Cert.Kernel2Ideal.nD Cert.Kernel2Ideal.τ).loc Cert.Kernel2Ideal.main_v68)) (v8 : (c : Dev Cert.Kernel2Ideal.nD) → Buf (Elt Ideal) ((c.tc : Thread Cert.Kernel2Ideal.nD Cert.Kernel2Ideal.τ).loc Cert.Kernel2Ideal.main_v69)) (v9 : (c : Dev Cert.Kernel2Ideal.nD) → Buf (Elt Ideal) ((c.tc : Thread Cert.Kernel2Ideal.nD Cert.Kernel2Ideal.τ).loc Cert.Kernel2Ideal.main_v72)) (v10 : (c : Dev Cert.Kernel2Ideal.nD) → Buf (Elt Ideal) ((c.tc : Thread Cert.Kernel2Ideal.nD Cert.Kernel2Ideal.τ).loc Cert.Kernel2Ideal.main_v64)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v67) = v0 c
          ∧ r.2.mem ((c.tc : Thread Cert.Kernel2Ideal.nD Cert.Kernel2Ideal.τ).loc Cert.Kernel2Ideal.main_v56) = v1 c
          ∧ r.2.mem ((c.tc : Thread Cert.Kernel2Ideal.nD Cert.Kernel2Ideal.τ).loc Cert.Kernel2Ideal.main_v57) = v2 c
          ∧ r.2.mem ((c.tc : Thread Cert.Kernel2Ideal.nD Cert.Kernel2Ideal.τ).loc Cert.Kernel2Ideal.main_v58) = v3 c
          ∧ r.2.mem ((c.tc : Thread Cert.Kernel2Ideal.nD Cert.Kernel2Ideal.τ).loc Cert.Kernel2Ideal.main_v59) = v4 c
          ∧ r.2.mem ((c.tc : Thread Cert.Kernel2Ideal.nD Cert.Kernel2Ideal.τ).loc Cert.Kernel2Ideal.main_v60) = v5 c
          ∧ r.2.mem ((c.tc : Thread Cert.Kernel2Ideal.nD Cert.Kernel2Ideal.τ).loc Cert.Kernel2Ideal.main_v61) = v6 c
          ∧ r.2.mem ((c.tc : Thread Cert.Kernel2Ideal.nD Cert.Kernel2Ideal.τ).loc Cert.Kernel2Ideal.main_v68) = v7 c
          ∧ r.2.mem ((c.tc : Thread Cert.Kernel2Ideal.nD Cert.Kernel2Ideal.τ).loc Cert.Kernel2Ideal.main_v69) = v8 c
          ∧ r.2.mem ((c.tc : Thread Cert.Kernel2Ideal.nD Cert.Kernel2Ideal.τ).loc Cert.Kernel2Ideal.main_v72) = v9 c
          ∧ r.2.mem ((c.tc : Thread Cert.Kernel2Ideal.nD Cert.Kernel2Ideal.τ).loc Cert.Kernel2Ideal.main_v64) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v41) = v4 c
          ∧ r.2.mem ((c.tc : Thread Cert.Reference2Ideal.nD Cert.Reference2Ideal.τ).loc Cert.Reference2Ideal.main_v74) = v5 c
          ∧ r.2.mem ((c.tc : Thread Cert.Reference2Ideal.nD Cert.Reference2Ideal.τ).loc Cert.Reference2Ideal.main_v42) = v6 c
          ∧ r.2.mem ((c.tc : Thread Cert.Reference2Ideal.nD Cert.Reference2Ideal.τ).loc Cert.Reference2Ideal.main_v84) = v7 c
          ∧ r.2.mem ((c.tc : Thread Cert.Reference2Ideal.nD Cert.Reference2Ideal.τ).loc Cert.Reference2Ideal.main_v85) = v8 c
          ∧ r.2.mem ((c.tc : Thread Cert.Reference2Ideal.nD Cert.Reference2Ideal.τ).loc Cert.Reference2Ideal.main_v83) = v9 c
          ∧ r.2.mem ((c.tc : Thread Cert.Reference2Ideal.nD Cert.Reference2Ideal.τ).loc Cert.Reference2Ideal.main_v81) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v47)) (v1 : (c : Dev Cert.Kernel5Ideal.nD) → Buf (Elt Ideal) ((c.tc : Thread Cert.Kernel5Ideal.nD Cert.Kernel5Ideal.τ).loc Cert.Kernel5Ideal.main_v48)) (v2 : (c : Dev Cert.Kernel5Ideal.nD) → Buf (Elt Ideal) ((c.tc : Thread Cert.Kernel5Ideal.nD Cert.Kernel5Ideal.τ).loc Cert.Kernel5Ideal.main_v49)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v47) = v0 c
          ∧ r.2.mem ((c.tc : Thread Cert.Kernel5Ideal.nD Cert.Kernel5Ideal.τ).loc Cert.Kernel5Ideal.main_v48) = v1 c
          ∧ r.2.mem ((c.tc : Thread Cert.Kernel5Ideal.nD Cert.Kernel5Ideal.τ).loc Cert.Kernel5Ideal.main_v49) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v44) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v47)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v48)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v48) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v47)) (v1 : (c : Dev Cert.Kernel8Ideal.nD) → Buf (Elt Ideal) ((c.tc : Thread Cert.Kernel8Ideal.nD Cert.Kernel8Ideal.τ).loc Cert.Kernel8Ideal.main_v48)) (v2 : (c : Dev Cert.Kernel8Ideal.nD) → Buf (Elt Ideal) ((c.tc : Thread Cert.Kernel8Ideal.nD Cert.Kernel8Ideal.τ).loc Cert.Kernel8Ideal.main_v49)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v47) = v0 c
          ∧ r.2.mem ((c.tc : Thread Cert.Kernel8Ideal.nD Cert.Kernel8Ideal.τ).loc Cert.Kernel8Ideal.main_v48) = v1 c
          ∧ r.2.mem ((c.tc : Thread Cert.Kernel8Ideal.nD Cert.Kernel8Ideal.τ).loc Cert.Kernel8Ideal.main_v49) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_v61) = v1 c
          ∧ r.2.mem ((c.tc : Thread Cert.Reference8Ideal.nD Cert.Reference8Ideal.τ).loc Cert.Reference8Ideal.main_v63) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite4 : Cert.Pre_finite4.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4x4096x1024 : Shape := ⟨3, ![4, 4096, 1024]⟩
abbrev S4x16x64x64 : Shape := ⟨4, ![4, 16, 64, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x16x64x64 : S_.BroadcastsInDim S4x16x64x64 (![] : Fin 0 → Fin S4x16x64x64.rank)
  reducesTo_S4x16x64x64_S_d0_1_2_3 : S4x16x64x64.ReducesTo [0, 1, 2, 3] S_

variable [Facts]

def fn_part1 {F : FTy → Type} [FloatOps F] (main_arg4 : FVec F S4x4096x1024 .f32) (main_arg5 : FVec F S4x4096x1024 .f32) (main_arg6 : FVec F S4x16x64x64 .f32) (main_v13 : IVec S_ 1) (main_v16 : IVec S4x4096x1024 1) : IVec S_ 1 :=
  let main_c_5 : IVec S_ 1 := constantI S_ 1 1#1
  let main_v17 : IVec S_ 1 := (fun x v => Host.reduce IntOp.andi x v reducesTo_S4x4096x1024_S_d0_1_2 h_S_) main_v16 main_c_5
  let main_v18 : IVec S_ 1 := andi main_v13 main_v17
  let main_v19 : FVec F S4x4096x1024 .f32 := Host.absf main_arg4
  let main_cst_6 : FVec F S_ .f32 := constant S_ .f32 0x7F800000#32
  let main_v20 : FVec F S4x4096x1024 .f32 := broadcastInDim S4x4096x1024 ![] bcast_S_S4x4096x1024 main_cst_6
  let main_v21 : IVec S4x4096x1024 1 := cmpf .olt main_v19 main_v20
  let main_c_7 : IVec S_ 1 := constantI S_ 1 1#1
  let main_v22 : IVec S_ 1 := (fun x v => Host.reduce IntOp.andi x v reducesTo_S4x4096x1024_S_d0_1_2 h_S_) main_v21 main_c_7
  let main_v23 : IVec S_ 1 := andi main_v18 main_v22
  let main_v24 : FVec F S4x4096x1024 .f32 := Host.absf main_arg5
  let main_cst_8 : FVec F S_ .f32 := constant S_ .f32 0x7F800000#32
  let main_v25 : FVec F S4x4096x1024 .f32 := broadcastInDim S4x4096x1024 ![] bcast_S_S4x4096x1024 main_cst_8
  let main_v26 : IVec S4x4096x1024 1 := cmpf .olt main_v24 main_v25
  let main_c_9 : IVec S_ 1 := constantI S_ 1 1#1
  let main_v27 : IVec S_ 1 := (fun x v => Host.reduce IntOp.andi x v reducesTo_S4x4096x1024_S_d0_1_2 h_S_) main_v26 main_c_9
  let main_v28 : IVec S_ 1 := andi main_v23 main_v27
  let main_v29 : FVec F S4x16x64x64 .f32 := Host.absf main_arg6
  let main_cst_10 : FVec F S_ .f32 := constant S_ .f32 0x7F800000#32
  let main_v30 : FVec F S4x16x64x64 .f32 := broadcastInDim S4x16x64x64 ![] bcast_S_S4x16x64x64 main_cst_10
  let main_v31 : IVec S4x16x64x64 1 := cmpf .olt main_v29 main_v30
  let main_c_11 : IVec S_ 1 := constantI S_ 1 1#1
  let main_v32 : IVec S_ 1 := (fun x v => Host.reduce IntOp.andi x v reducesTo_S4x16x64x64_S_d0_1_2_3 h_S_) main_v31 main_c_11
  let main_v33 : IVec S_ 1 := andi main_v28 main_v32
  main_v33

def fn {F : FTy → Type} [FloatOps F] (main_arg0 : FVec F S4x4096x1024 .f32) (main_arg1 : FVec F S4x4096x1024 .f32) (main_arg2 : FVec F S4x4096x1024 .f32) (main_arg3 : FVec F S4x4096x1024 .f32) (main_arg4 : FVec F S4x4096x1024 .f32) (main_arg5 : FVec F S4x4096x1024 .f32) (main_arg6 : FVec F S4x16x64x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S4x4096x1024 .f32 := Host.absf main_arg3
  let main_cst_4 : FVec F S_ .f32 := constant S_ .f32 0x7F800000#32
  let main_v15 : FVec F S4x4096x1024 .f32 := broadcastInDim S4x4096x1024 ![] bcast_S_S4x4096x1024 main_cst_4
  let main_v16 : IVec S4x4096x1024 1 := cmpf .olt main_v14 main_v15
  fn_part1 (F := F) main_arg4 main_arg5 main_arg6 main_v13 main_v16
-- ==== Pre_finite2.lean ====
abbrev S4x4096x1024 : Shape := ⟨3, ![4, 4096, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3632 : S_.BroadcastsInDim S1024x3632 (![] : Fin 0 → Fin S1024x3632.rank)
  reducesTo_S1024x3632_S_d0_1 : S1024x3632.ReducesTo [0, 1] S_

variable [Facts]

def fn {F : FTy → Type} [FloatOps F] (main_arg0 : FVec F S4x4096x1024 .f32) (main_arg1 : FVec F S1024 .f32) (main_arg2 : FVec F S1024x3632 .f32) (main_arg3 : FVec F S64 .f32) (main_arg4 : FVec F S3x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3632 .f32 := Host.absf main_arg2
  let main_cst_2 : FVec F S_ .f32 := constant S_ .f32 0x7F800000#32
  let main_v10 : FVec F S1024x3632 .f32 := broadcastInDim S1024x3632 ![] bcast_S_S1024x3632 main_cst_2
  let main_v11 : IVec S1024x3632 1 := cmpf .olt main_v9 main_v10
  let main_c_3 : IVec S_ 1 := constantI S_ 1 1#1
  let main_v12 : IVec S_ 1 := (fun x v => Host.reduce IntOp.andi x v reducesTo_S1024x3632_S_d0_1 h_S_) main_v11 main_c_3
  let main_v13 : IVec S_ 1 := andi main_v8 main_v12
  main_v13
-- ==== Pre_finite4.lean ====
abbrev S4x4096x1024 : Shape := ⟨3, ![4, 4096, 1024]⟩
abbrev S16x64 : Shape := ⟨2, ![16, 64]⟩
abbrev S1024 : Shape := ⟨1, ![1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S4x4096x1024 .f32) (main_arg1 : FVec F S4x4096x1024 .f32) (main_arg2 : FVec F S4x4096x1024 .f32) (main_arg3 : FVec F S4x4096x1024 .f32) (main_arg4 : FVec F S4x4096x1024 .f32) (main_arg5 : FVec F S4x4096x1024 .f32) (main_arg6 : FVec F S16x64 .f32) (main_arg7 : FVec F S1024 .f32) (main_arg8 : FVec F S1024 .f32) (main_arg9 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S16x64 .f32 := Host.absf main_arg6
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Pre_finite8.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_
  bcast_S_S6x1024 : S_.BroadcastsInDim S6x1024 (![] : Fin 0 → Fin S6x1024.rank)
  reducesTo_S6x1024_S_d0_1 : S6x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_arg8 : FVec F S1024 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S4x1024 .f32) (main_arg2 : FVec F S1024 .f32) (main_arg3 : FVec F S6x1024 .f32) (main_arg4 : FVec F S1024 .f32) (main_arg5 : FVec F S1024x1024 .f32) (main_arg6 : FVec F S1024x64 .f32) (main_arg7 : FVec F S64x1024 .f32) (main_arg8 : FVec F S1024 .f32) (main_arg9 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg5 main_arg8 main_v13 main_v16
-- ==== Kernel.lean ====
abbrev S4x4096x1024 : Shape := ⟨3, ![4, 4096, 1024]⟩
abbrev S4x16x64x64 : Shape := ⟨4, ![4, 16, 64, 64]⟩
abbrev S4x8x2x64x64 : Shape := ⟨5, ![4, 8, 2, 64, 64]⟩
abbrev S4x8x1x64x64 : Shape := ⟨5, ![4, 8, 1, 64, 64]⟩
abbrev S4x8x64x64 : Shape := ⟨4, ![4, 8, 64, 64]⟩
abbrev S_ : Shape := ⟨0, ![]⟩
abbrev S4x8x64x128 : Shape := ⟨4, ![4, 8, 64, 128]⟩
abbrev S4x8x128x128 : Shape := ⟨4, ![4, 8, 128, 128]⟩
abbrev S1x64x1024 : Shape := ⟨3, ![1, 64, 1024]⟩
abbrev S1x8x128x128 : Shape := ⟨4, ![1, 8, 128, 128]⟩
abbrev S8x128x128 : Shape := ⟨3, ![8, 128, 128]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S64x64 : Shape := ⟨2, ![64, 64]⟩
abbrev S1x128 : Shape := ⟨2, ![1, 128]⟩

abbrev nBuf : Space → Nat
  | .hbm => 27
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x16x64x64, .f32⟩
  | .hbm, ⟨7, _⟩ => ⟨S4x8x2x64x64, .f32⟩
  | .hbm, ⟨8, _⟩ => ⟨S4x8x1x64x64, .f32⟩
  | .hbm, ⟨9, _⟩ => ⟨S4x8x64x64, .f32⟩
  | .hbm, ⟨10, _⟩ => ⟨S_, .f32⟩
  | .hbm, ⟨11, _⟩ => ⟨S4x8x64x64, .f32⟩
  | .hbm, ⟨12, _⟩ => ⟨S4x8x1x64x64, .f32⟩
  | .hbm, ⟨13, _⟩ => ⟨S4x8x64x64, .f32⟩
  | .hbm, ⟨14, _⟩ => ⟨S4x8x64x128, .f32⟩
  | .hbm, ⟨15, _⟩ => ⟨S4x8x1x64x64, .f32⟩
  | .hbm, ⟨16, _⟩ => ⟨S4x8x64x64, .f32⟩
  | .hbm, ⟨17, _⟩ => ⟨S4x8x64x128, .f32⟩
  | .hbm, ⟨18, _⟩ => ⟨S4x8x128x128, .f32⟩
  | .hbm, ⟨19, _⟩ => ⟨S4x4096x1024, .f32⟩
  | .hbm, ⟨20, _⟩ => ⟨S4x8x128x128, .f32⟩
  | .hbm, ⟨21, _⟩ => ⟨S4x8x64x64, .f32⟩
  | .hbm, ⟨22, _⟩ => ⟨S4x8x64x64, .f32⟩
  | .hbm, ⟨23, _⟩ => ⟨S4x8x1x64x64, .f32⟩
  | .hbm, ⟨24, _⟩ => ⟨S4x8x1x64x64, .f32⟩
  | .hbm, ⟨25, _⟩ => ⟨S4x8x2x64x64, .f32⟩
  | .hbm, ⟨26, _⟩ => ⟨S4x16x64x64, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S1x64x1024, .f32⟩
  | .local _ .vmem, ⟨15, _⟩ => ⟨S1x64x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S8x128x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 64], ![false, false, false]⟩

def k0_cond2 (i : grid0.Coords) : BitVec 1 :=
  let arg2 : BitVec 32 := BitVec.ofNat 32 (i 2).val
  let c63_i32 : BitVec 32 := 63#32
  let v1249 : BitVec 1 := Scalar.cmpi .eq arg2 c63_i32
  let v1250 : BitVec 32 := Scalar.extui v1249
  let c0_i32_555 : BitVec 32 := 0#32
  let v1251 : BitVec 1 := Scalar.cmpi .ne v1250 c0_i32_555
  v1251

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4x4096x1024 : Shape := ⟨3, ![4, 4096, 1024]⟩
abbrev S4x16x64x64 : Shape := ⟨4, ![4, 16, 64, 64]⟩
abbrev S4x4096x16x64 : Shape := ⟨4, ![4, 4096, 16, 64]⟩
abbrev S4096x4x16x64 : Shape := ⟨4, ![4096, 4, 16, 64]⟩
abbrev S_ : Shape := ⟨0, ![]⟩
abbrev S1x4x16x64 : Shape := ⟨4, ![1, 4, 16, 64]⟩
abbrev S4x16x64 : Shape := ⟨3, ![4, 16, 64]⟩
abbrev S4x16x1x64 : Shape := ⟨4, ![4, 16, 1, 64]⟩
abbrev S4x16x64x1 : Shape := ⟨4, ![4, 16, 64, 1]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x16x64x64, .f32⟩
  | .hbm, ⟨7, _⟩ => ⟨S4x4096x1024, .f32⟩
  | .hbm, ⟨8, _⟩ => ⟨S4x4096x16x64, .f32⟩
  | .hbm, ⟨9, _⟩ => ⟨S4096x4x16x64, .f32⟩
  | .hbm, ⟨10, _⟩ => ⟨S4x4096x16x64, .f32⟩
  | .hbm, ⟨11, _⟩ => ⟨S4096x4x16x64, .f32⟩
  | .hbm, ⟨12, _⟩ => ⟨S4x4096x16x64, .f32⟩
  | .hbm, ⟨13, _⟩ => ⟨S4096x4x16x64, .f32⟩
  | .hbm, ⟨14, _⟩ => ⟨S4x4096x16x64, .f32⟩
  | .hbm, ⟨15, _⟩ => ⟨S4096x4x16x64, .f32⟩
  | .hbm, ⟨16, _⟩ => ⟨S4x4096x16x64, .f32⟩
  | .hbm, ⟨17, _⟩ => ⟨S4096x4x16x64, .f32⟩
  | .hbm, ⟨18, _⟩ => ⟨S4x4096x16x64, .f32⟩
  | .hbm, ⟨19, _⟩ => ⟨S4096x4x16x64, .f32⟩
  | .hbm, ⟨20, _⟩ => ⟨S_, .f32⟩
  | .hbm, ⟨21, _⟩ => ⟨S4096x4x16x64, .f32⟩
  | .hbm, ⟨22, _⟩ => ⟨S_, .i32⟩
  | .hbm, ⟨23, _⟩ => ⟨S4096x4x16x64, .f32⟩
  | .hbm, ⟨24, _⟩ => ⟨S4096x4x16x64, .f32⟩
  | .hbm, ⟨25, _⟩ => ⟨S4096x4x16x64, .f32⟩
  | .hbm, ⟨26, _⟩ => ⟨S4096x4x16x64, .f32⟩
  | .hbm, ⟨27, _⟩ => ⟨S4096x4x16x64, .f32⟩
  | .hbm, ⟨28, _⟩ => ⟨S4096x4x16x64, .f32⟩
  | .hbm, ⟨29, _⟩ => ⟨S_, .i32⟩
  | .hbm, ⟨30, _⟩ => ⟨S4x16x64x64, .f32⟩
  | .hbm, ⟨31, _⟩ => ⟨S4096x4x16x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x4x16x64, .f32⟩
  | .hbm, ⟨38, _⟩ => ⟨S4x16x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x4x16x64, .f32⟩
  | .hbm, ⟨43, _⟩ => ⟨S4x16x64, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x16x64, .f32⟩
  | .hbm, ⟨48, _⟩ => ⟨S4x16x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x4x16x64, .f32⟩
  | .hbm, ⟨53, _⟩ => ⟨S4x16x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x4x16x64, .f32⟩
  | .hbm, ⟨58, _⟩ => ⟨S4x16x64, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x4x16x64, .f32⟩
  | .hbm, ⟨63, _⟩ => ⟨S4x16x64, .f32⟩
  | .hbm, ⟨64, _⟩ => ⟨S4x16x64, .f32⟩
  | .hbm, ⟨65, _⟩ => ⟨S4x16x1x64, .f32⟩
  | .hbm, ⟨66, _⟩ => ⟨S4x16x64x64, .f32⟩
  | .hbm, ⟨67, _⟩ => ⟨S4x16x64x64, .f32⟩
  | .hbm, ⟨68, _⟩ => ⟨S4x16x64x1, .f32⟩
  | .hbm, ⟨69, _⟩ => ⟨S4x16x1x64, .f32⟩
  | .hbm, ⟨70, _⟩ => ⟨S4x16x64x64, .f32⟩
  | .hbm, ⟨71, _⟩ => ⟨S4x16x64x64, .f32⟩
  | .hbm, ⟨72, _⟩ => ⟨S4x16x64x64, .f32⟩
  | .hbm, ⟨73, _⟩ => ⟨S4x16x64x64, .f32⟩
  | .hbm, ⟨74, _⟩ => ⟨S4x16x64x1, .f32⟩
  | .hbm, ⟨75, _⟩ => ⟨S4x16x1x64, .f32⟩
  | .hbm, ⟨76, _⟩ => ⟨S4x16x64x64, .f32⟩
  | .hbm, ⟨77, _⟩ => ⟨S4x16x64x64, .f32⟩
  | .hbm, ⟨78, _⟩ => ⟨S4x16x64x64, .f32⟩
  | .hbm, ⟨79, _⟩ => ⟨S4x16x64x64, .f32⟩
  | .hbm, ⟨80, _⟩ => ⟨S4x16x64, .f32⟩
  | .hbm, ⟨81, _⟩ => ⟨S1x4x16x64, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S4096x4x16x64, .f32⟩
  | .hbm, ⟨86, _⟩ => ⟨S_, .i32⟩
  | .hbm, ⟨87, _⟩ => ⟨S_, .i32⟩
  | .hbm, ⟨88, _⟩ => ⟨S4x4096x16x64, .f32⟩
  | .hbm, ⟨89, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_c : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev main_v14_7 : Ref sig .tc := ⟨.hbm, 30, rfl⟩
abbrev main_v14_8 : Ref sig .tc := ⟨.hbm, 31, rfl⟩
abbrev main_while0c_c_8 : Ref sig .tc := ⟨.hbm, 32, rfl⟩
abbrev main_while0c_v17 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v17 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v18 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_v0 : Ref sig .tc := ⟨.hbm, 47, rfl⟩
abbrev main_while0b_v19 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_v0 : Ref sig .tc := ⟨.hbm, 52, rfl⟩
abbrev main_while0b_v20 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_v0 : Ref sig .tc := ⟨.hbm, 57, rfl⟩
abbrev main_while0b_v21 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_call5_c_1 : Ref sig .tc := ⟨.hbm, 61, rfl⟩
abbrev main_while0b_call5_v0 : Ref sig .tc := ⟨.hbm, 62, rfl⟩
abbrev main_while0b_v22 : Ref sig .tc := ⟨.hbm, 63, rfl⟩
abbrev main_while0b_v23 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_call6_v0 : Ref sig .tc := ⟨.hbm, 81, rfl⟩
abbrev main_while0b_call6_c : Ref sig .tc := ⟨.hbm, 82, rfl⟩
abbrev main_while0b_call6_c_0 : Ref sig .tc := ⟨.hbm, 83, rfl⟩
abbrev main_while0b_call6_c_1 : Ref sig .tc := ⟨.hbm, 84, rfl⟩
abbrev main_while0b_v40 : Ref sig .tc := ⟨.hbm, 85, rfl⟩
abbrev main_while0b_c_8 : Ref sig .tc := ⟨.hbm, 86, rfl⟩
abbrev main_while0b_v41 : Ref sig .tc := ⟨.hbm, 87, rfl⟩
abbrev main_v15 : Ref sig .tc := ⟨.hbm, 88, rfl⟩
abbrev main_v16 : Ref sig .tc := ⟨.hbm, 89, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x4096x1024 : Shape := ⟨3, ![4, 4096, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S1024x1024 : Shape := ⟨2, ![1024, 1024]⟩
abbrev S1024x4x4x64 : Shape := ⟨4, ![1024, 4, 4, 64]⟩
abbrev S1024x1536 : Shape := ⟨2, ![1024, 1536]⟩
abbrev S1024x48 : Shape := ⟨2, ![1024, 48]⟩
abbrev S1024x4x12 : Shape := ⟨3, ![1024, 4, 12]⟩
abbrev S_ : Shape := ⟨0, ![]⟩
abbrev S1024x4x128 : Shape := ⟨3, ![1024, 4, 128]⟩
abbrev S1024x512 : Shape := ⟨2, ![1024, 512]⟩
abbrev S8x1024 : Shape := ⟨2, ![8, 1024]⟩
abbrev S1x64 : Shape := ⟨2, ![1, 64]⟩
abbrev S16x64 : Shape := ⟨2, ![16, 64]⟩
abbrev S1 : Shape := ⟨1, ![1]⟩
abbrev S8x256 : Shape := ⟨2, ![8, 256]⟩
abbrev S4x64 : Shape := ⟨2, ![4, 64]⟩
abbrev S256 : Shape := ⟨1, ![256]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x128 : Shape := ⟨2, ![1024, 128]⟩
abbrev S128x1024 : Shape := ⟨2, ![128, 1024]⟩
abbrev S512x128 : Shape := ⟨2, ![512, 128]⟩
abbrev S16384x256 : Shape := ⟨2, ![16384, 256]⟩
abbrev S512x256 : Shape := ⟨2, ![512, 256]⟩
abbrev S512x1536 : Shape := ⟨2, ![512, 1536]⟩
abbrev S1x256 : Shape := ⟨2, ![1, 256]⟩
abbrev S256x128 : Shape := ⟨2, ![256, 128]⟩
abbrev S128x256 : Shape := ⟨2, ![128, 256]⟩
abbrev S16384x512 : Shape := ⟨2, ![16384, 512]⟩
abbrev S512x512 : Shape := ⟨2, ![512, 512]⟩
abbrev S4x4096x4x64 : Shape := ⟨4, ![4, 4096, 4, 64]⟩
abbrev S4x4096x4x128 : Shape := ⟨4, ![4, 4096, 4, 128]⟩
abbrev S4x4096x4x12 : Shape := ⟨4, ![4, 4096, 4, 12]⟩
abbrev S4x4096x16x3 : Shape := ⟨4, ![4, 4096, 16, 3]⟩
abbrev S4x4096x4x4x64 : Shape := ⟨5, ![4, 4096, 4, 4, 64]⟩
abbrev S4x4096x16x64 : Shape := ⟨4, ![4, 4096, 16, 64]⟩
abbrev S4x512x4x64 : Shape := ⟨4, ![4, 512, 4, 64]⟩

abbrev nBuf : Space → Nat
  | .hbm => 90
  | .vmem => 42
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3632, .f32⟩
  | .hbm, ⟨3, _⟩ => ⟨S64, .f32⟩
  | .hbm, ⟨4, _⟩ => ⟨S3x64, .f32⟩
  | .hbm, ⟨5, _⟩ => ⟨S1024x1024, .f32⟩
  | .hbm, ⟨6, _⟩ => ⟨S1024x4x4x64, .f32⟩
  | .hbm, ⟨7, _⟩ => ⟨S1024x4x4x64, .f32⟩
  | .hbm, ⟨8, _⟩ => ⟨S1024x1024, .f32⟩
  | .hbm, ⟨9, _⟩ => ⟨S1024x1536, .f32⟩
  | .hbm, ⟨10, _⟩ => ⟨S1024x1024, .f32⟩
  | .hbm, ⟨11, _⟩ => ⟨S1024x4x4x64, .f32⟩
  | .hbm, ⟨12, _⟩ => ⟨S1024x4x4x64, .f32⟩
  | .hbm, ⟨13, _⟩ => ⟨S1024x1024, .f32⟩
  | .hbm, ⟨14, _⟩ => ⟨S1024x48, .f32⟩
  | .hbm, ⟨15, _⟩ => ⟨S1024x4x12, .f32⟩
  | .hbm, ⟨16, _⟩ => ⟨S_, .i32⟩
  | .hbm, ⟨17, _⟩ => ⟨S_, .f32⟩
  | .hbm, ⟨18, _⟩ => ⟨S1024x4x128, .f32⟩
  | .hbm, ⟨19, _⟩ => ⟨S1024x512, .f32⟩
  | .hbm, ⟨20, _⟩ => ⟨S_, .f32⟩
  | .hbm, ⟨21, _⟩ => ⟨S8x1024, .f32⟩
  | .hbm, ⟨22, _⟩ => ⟨S1x64, .f32⟩
  | .hbm, ⟨23, _⟩ => ⟨S16x64, .f32⟩
  | .hbm, ⟨24, _⟩ => ⟨S1024, .f32⟩
  | .hbm, ⟨25, _⟩ => ⟨S_, .i32⟩
  | .hbm, ⟨26, _⟩ => ⟨S1, .i32⟩
  | .hbm, ⟨27, _⟩ => ⟨S8x1024, .f32⟩
  | .hbm, ⟨28, _⟩ => ⟨S_, .f32⟩
  | .hbm, ⟨29, _⟩ => ⟨S8x256, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S4x64, .f32⟩
  | .hbm, ⟨34, _⟩ => ⟨S256, .f32⟩
  | .hbm, ⟨35, _⟩ => ⟨S_, .i32⟩
  | .hbm, ⟨36, _⟩ => ⟨S1, .i32⟩
  | .hbm, ⟨37, _⟩ => ⟨S8x256, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S4x64, .f32⟩
  | .hbm, ⟨42, _⟩ => ⟨S256, .f32⟩
  | .hbm, ⟨43, _⟩ => ⟨S_, .i32⟩
  | .hbm, ⟨44, _⟩ => ⟨S1, .i32⟩
  | .hbm, ⟨45, _⟩ => ⟨S8x256, .f32⟩
  | .hbm, ⟨46, _⟩ => ⟨S16384x1024, .f32⟩
  | .hbm, ⟨47, _⟩ => ⟨S1x1024, .f32⟩
  | .hbm, ⟨48, _⟩ => ⟨S1024x1024, .bf16⟩
  | .hbm, ⟨49, _⟩ => ⟨S1024x1024, .f32⟩
  | .hbm, ⟨50, _⟩ => ⟨S1024x1024, .f32⟩
  | .hbm, ⟨51, _⟩ => ⟨S1024x1024, .bf16⟩
  | .hbm, ⟨52, _⟩ => ⟨S16384x1024, .f32⟩
  | .hbm, ⟨53, _⟩ => ⟨S1024x1536, .bf16⟩
  | .hbm, ⟨54, _⟩ => ⟨S1024x1536, .f32⟩
  | .hbm, ⟨55, _⟩ => ⟨S1024x1536, .f32⟩
  | .hbm, ⟨56, _⟩ => ⟨S1024x1536, .bf16⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S16384x256, .f32⟩
  | .hbm, ⟨63, _⟩ => ⟨S1024x1024, .bf16⟩
  | .hbm, ⟨64, _⟩ => ⟨S1024x1024, .f32⟩
  | .hbm, ⟨65, _⟩ => ⟨S1024x1024, .f32⟩
  | .hbm, ⟨66, _⟩ => ⟨S1024x1024, .bf16⟩
  | .hbm, ⟨67, _⟩ => ⟨S16384x1024, .f32⟩
  | .hbm, ⟨68, _⟩ => ⟨S1024x512, .bf16⟩
  | .hbm, ⟨69, _⟩ => ⟨S1024x512, .f32⟩
  | .hbm, ⟨70, _⟩ => ⟨S1024x512, .f32⟩
  | .hbm, ⟨71, _⟩ => ⟨S1024x512, .bf16⟩
  | .hbm, ⟨72, _⟩ => ⟨S16384x512, .f32⟩
  | .hbm, ⟨73, _⟩ => ⟨S4x4096x4x64, .f32⟩
  | .hbm, ⟨74, _⟩ => ⟨S4x4096x4x64, .f32⟩
  | .hbm, ⟨75, _⟩ => ⟨S4x4096x4x64, .f32⟩
  | .hbm, ⟨76, _⟩ => ⟨S4x4096x4x64, .f32⟩
  | .hbm, ⟨77, _⟩ => ⟨S4x4096x4x64, .f32⟩
  | .hbm, ⟨78, _⟩ => ⟨S4x4096x4x64, .f32⟩
  | .hbm, ⟨79, _⟩ => ⟨S4x4096x4x128, .f32⟩
  | .hbm, ⟨80, _⟩ => ⟨S4x4096x4x12, .f32⟩
  | .hbm, ⟨81, _⟩ => ⟨S4x4096x16x3, .f32⟩
  | .hbm, ⟨82, _⟩ => ⟨S4x4096x4x4x64, .f32⟩
  | .hbm, ⟨83, _⟩ => ⟨S4x4096x4x4x64, .f32⟩
  | .hbm, ⟨84, _⟩ => ⟨S4x4096x16x64, .f32⟩
  | .hbm, ⟨85, _⟩ => ⟨S4x512x4x64, .f32⟩
  | .hbm, ⟨86, _⟩ => ⟨S4x512x4x64, .f32⟩
  | .hbm, ⟨87, _⟩ => ⟨S4x4096x4x4x64, .f32⟩
  | .hbm, ⟨88, _⟩ => ⟨S4x4096x4x4x64, .f32⟩
  | .hbm, ⟨89, _⟩ => ⟨S4x4096x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1536, .bf16⟩
  | .local _ .vmem, ⟨12, _⟩ => ⟨S1024x1536, .bf16⟩
  | .local _ .vmem, ⟨13, _⟩ => ⟨S8x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1024x1024, .bf16⟩
  | .local _ .vmem, ⟨30, _⟩ => ⟨S1024x1024, .bf16⟩
  | .local _ .vmem, ⟨31, _⟩ => ⟨S8x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S1x1024, .f32⟩
  | .local _ .vmem, ⟨37, _⟩ => ⟨S1024x512, .bf16⟩
  | .local _ .vmem, ⟨38, _⟩ => ⟨S1024x512, .bf16⟩
  | .local _ .vmem, ⟨39, _⟩ => ⟨S8x1024, .f32⟩
  | .local _ .vmem, ⟨40, _⟩ => ⟨S512x512, .f32⟩
  | .local _ .vmem, ⟨41, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev main_v45_3 : Ref sig .tc := ⟨.hbm, 60, rfl⟩
abbrev main_v45_4 : Ref sig .tc := ⟨.hbm, 61, rfl⟩
abbrev main_v45_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1536 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== Reference2Ideal.lean ====
abbrev S4x4096x1024 : Shape := ⟨3, ![4, 4096, 1024]⟩
abbrev S1024 : Shape := ⟨1, ![1024]⟩
abbrev S1024x3632 : Shape := ⟨2, ![1024, 3632]⟩
abbrev S64 : Shape := ⟨1, ![64]⟩
abbrev S3x64 : Shape := ⟨2, ![3, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3632 : Shape := ⟨3, ![4, 4096, 3632]⟩
abbrev S4x4096x256 : Shape := ⟨3, ![4, 4096, 256]⟩
abbrev S4x4096x48 : Shape := ⟨3, ![4, 4096, 48]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x4x64 : Shape := ⟨4, ![4, 4096, 4, 64]⟩
abbrev S1x64 : Shape := ⟨2, ![1, 64]⟩
abbrev S4x4096x4 : Shape := ⟨3, ![4, 4096, 4]⟩
abbrev S4x4096x4x1 : Shape := ⟨4, ![4, 4096, 4, 1]⟩
abbrev S4x4096x16x3 : Shape := ⟨4, ![4, 4096, 16, 3]⟩
abbrev S4x512x4x64 : Shape := ⟨4, ![4, 512, 4, 64]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3632, .f32⟩
  | .hbm, ⟨3, _⟩ => ⟨S64, .f32⟩
  | .hbm, ⟨4, _⟩ => ⟨S3x64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x3632, .f32⟩
  | .hbm, ⟨22, _⟩ => ⟨S4x4096x1024, .f32⟩
  | .hbm, ⟨23, _⟩ => ⟨S4x4096x256, .f32⟩
  | .hbm, ⟨24, _⟩ => ⟨S4x4096x256, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S4x4096x1024, .f32⟩
  | .hbm, ⟨30, _⟩ => ⟨S4x4096x48, .f32⟩
  | .hbm, ⟨31, _⟩ => ⟨S4x4096x16x64, .f32⟩
  | .hbm, ⟨32, _⟩ => ⟨S4x4096x16x64, .f32⟩
  | .hbm, ⟨33, _⟩ => ⟨S_, .f32⟩
  | .hbm, ⟨34, _⟩ => ⟨S4x4096x16, .f32⟩
  | .hbm, ⟨35, _⟩ => ⟨S4x4096x16x1, .f32⟩
  | .hbm, ⟨36, _⟩ => ⟨S_, .f32⟩
  | .hbm, ⟨37, _⟩ => ⟨S4x4096x16x1, .f32⟩
  | .hbm, ⟨38, _⟩ => ⟨S4x4096x16x1, .f32⟩
  | .hbm, ⟨39, _⟩ => ⟨S_, .f32⟩
  | .hbm, ⟨40, _⟩ => ⟨S4x4096x16x1, .f32⟩
  | .hbm, ⟨41, _⟩ => ⟨S4x4096x16x1, .f32⟩
  | .hbm, ⟨42, _⟩ => ⟨S4x4096x16x1, .f32⟩
  | .hbm, ⟨43, _⟩ => ⟨S4x4096x16x64, .f32⟩
  | .hbm, ⟨44, _⟩ => ⟨S4x4096x16x64, .f32⟩
  | .hbm, ⟨45, _⟩ => ⟨S1x1x1x64, .f32⟩
  | .hbm, ⟨46, _⟩ => ⟨S4x4096x16x64, .f32⟩
  | .hbm, ⟨47, _⟩ => ⟨S4x4096x16x64, .f32⟩
  | .hbm, ⟨48, _⟩ => ⟨S_, .f32⟩
  | .hbm, ⟨49, _⟩ => ⟨S4x4096x16x64, .f32⟩
  | .hbm, ⟨50, _⟩ => ⟨S4x4096x16x64, .f32⟩
  | .hbm, ⟨51, _⟩ => ⟨S4x4096x4x64, .f32⟩
  | .hbm, ⟨52, _⟩ => ⟨S4x4096x4x64, .f32⟩
  | .hbm, ⟨53, _⟩ => ⟨S4x4096x4x64, .f32⟩
  | .hbm, ⟨54, _⟩ => ⟨S4x4096x4x64, .f32⟩
  | .hbm, ⟨55, _⟩ => ⟨S4x4096x4x64, .f32⟩
  | .hbm, ⟨56, _⟩ => ⟨S1x64, .f32⟩
  | .hbm, ⟨57, _⟩ => ⟨S64, .f32⟩
  | .hbm, ⟨58, _⟩ => ⟨S4x4096x4x64, .f32⟩
  | .hbm, ⟨59, _⟩ => ⟨S_, .f32⟩
  | .hbm, ⟨60, _⟩ => ⟨S4x4096x4, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S_, .f32⟩
  | .hbm, ⟨66, _⟩ => ⟨S4x4096x4x1, .f32⟩
  | .hbm, ⟨67, _⟩ => ⟨S4x4096x4x1, .f32⟩
  | .hbm, ⟨68, _⟩ => ⟨S4x4096x4x1, .f32⟩
  | .hbm, ⟨69, _⟩ => ⟨S4x4096x4x64, .f32⟩
  | .hbm, ⟨70, _⟩ => ⟨S4x4096x4x64, .f32⟩
  | .hbm, ⟨71, _⟩ => ⟨S1x1x1x64, .f32⟩
  | .hbm, ⟨72, _⟩ => ⟨S4x4096x4x64, .f32⟩
  | .hbm, ⟨73, _⟩ => ⟨S4x4096x4x64, .f32⟩
  | .hbm, ⟨74, _⟩ => ⟨S4x4096x4x64, .f32⟩
  | .hbm, ⟨75, _⟩ => ⟨S1x64, .f32⟩
  | .hbm, ⟨76, _⟩ => ⟨S64, .f32⟩
  | .hbm, ⟨77, _⟩ => ⟨S4x4096x4x64, .f32⟩
  | .hbm, ⟨78, _⟩ => ⟨S_, .f32⟩
  | .hbm, ⟨79, _⟩ => ⟨S4x4096x4, .f32⟩
  | .hbm, ⟨80, _⟩ => ⟨S4x4096x4x1, .f32⟩
  | .hbm, ⟨81, _⟩ => ⟨S_, .f32⟩
  | .hbm, ⟨82, _⟩ => ⟨S4x4096x4x1, .f32⟩
  | .hbm, ⟨83, _⟩ => ⟨S4x4096x4x1, .f32⟩
  | .hbm, ⟨84, _⟩ => ⟨S_, .f32⟩
  | .hbm, ⟨85, _⟩ => ⟨S4x4096x4x1, .f32⟩
  | .hbm, ⟨86, _⟩ => ⟨S4x4096x4x1, .f32⟩
  | .hbm, ⟨87, _⟩ => ⟨S4x4096x4x1, .f32⟩
  | .hbm, ⟨88, _⟩ => ⟨S4x4096x4x64, .f32⟩
  | .hbm, ⟨89, _⟩ => ⟨S4x4096x4x64, .f32⟩
  | .hbm, ⟨90, _⟩ => ⟨S1x1x1x64, .f32⟩
  | .hbm, ⟨91, _⟩ => ⟨S4x4096x4x64, .f32⟩
  | .hbm, ⟨92, _⟩ => ⟨S4x4096x4x64, .f32⟩
  | .hbm, ⟨93, _⟩ => ⟨S4x4096x48, .f32⟩
  | .hbm, ⟨94, _⟩ => ⟨S4x4096x48, .f32⟩
  | .hbm, ⟨95, _⟩ => ⟨S_, .f32⟩
  | .hbm, ⟨96, _⟩ => ⟨S4x4096x48, .f32⟩
  | .hbm, ⟨97, _⟩ => ⟨S4x4096x48, .f32⟩
  | .hbm, ⟨98, _⟩ => ⟨S_, .f32⟩
  | .hbm, ⟨99, _⟩ => ⟨S4x4096x48, .f32⟩
  | .hbm, ⟨100, _⟩ => ⟨S4x4096x48, .f32⟩
  | .hbm, ⟨101, _⟩ => ⟨S4x4096x16x3, .f32⟩
  | .hbm, ⟨102, _⟩ => ⟨S4x4096x1024, .f32⟩
  | .hbm, ⟨103, _⟩ => ⟨S4x4096x1024, .f32⟩
  | .hbm, ⟨104, _⟩ => ⟨S_, .f32⟩
  | .hbm, ⟨105, _⟩ => ⟨S4x4096x1024, .f32⟩
  | .hbm, ⟨106, _⟩ => ⟨S4x4096x1024, .f32⟩
  | .hbm, ⟨107, _⟩ => ⟨S_, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | .hbm, ⟨111, _⟩ => ⟨S4x4096x16x64, .f32⟩
  | .hbm, ⟨112, _⟩ => ⟨S4x512x4x64, .f32⟩
  | .hbm, ⟨113, _⟩ => ⟨S4x512x4x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_12 : Ref sig .tc := ⟨.hbm, 95, rfl⟩
abbrev main_v77 : Ref sig .tc := ⟨.hbm, 96, rfl⟩
abbrev main_v78 : Ref sig .tc := ⟨.hbm, 97, rfl⟩
abbrev main_cst_13 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== Kernel3.lean ====
abbrev S4x4096x16x64 : Shape := ⟨4, ![4, 4096, 16, 64]⟩
abbrev S4x4096x1024 : Shape := ⟨3, ![4, 4096, 1024]⟩
abbrev S1024x1024 : Shape := ⟨2, ![1024, 1024]⟩
abbrev S4x4x64x1024 : Shape := ⟨4, ![4, 4, 64, 1024]⟩
abbrev S16384x4x4x64 : Shape := ⟨4, ![16384, 4, 4, 64]⟩
abbrev S16384x1024 : Shape := ⟨2, ![16384, 1024]⟩
abbrev S16384x256 : Shape := ⟨2, ![16384, 256]⟩
abbrev S512x256 : Shape := ⟨2, ![512, 256]⟩
abbrev S512x1024 : Shape := ⟨2, ![512, 1024]⟩

abbrev nBuf : Space → Nat
  | .hbm => 24
  | .vmem => 16
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x1024, .f32⟩
  | .hbm, ⟨3, _⟩ => ⟨S1024x1024, .f32⟩
  | .hbm, ⟨4, _⟩ => ⟨S4x4x64x1024, .f32⟩
  | .hbm, ⟨5, _⟩ => ⟨S4x4x64x1024, .f32⟩
  | .hbm, ⟨6, _⟩ => ⟨S1024x1024, .f32⟩
  | .hbm, ⟨7, _⟩ => ⟨S16384x4x4x64, .f32⟩
  | .hbm, ⟨8, _⟩ => ⟨S16384x4x4x64, .f32⟩
  | .hbm, ⟨9, _⟩ => ⟨S16384x1024, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x4x4x64, .f32⟩
  | .hbm, ⟨15, _⟩ => ⟨S16384x4x4x64, .f32⟩
  | .hbm, ⟨16, _⟩ => ⟨S16384x1024, .f32⟩
  | .hbm, ⟨17, _⟩ => ⟨S16384x1024, .f32⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S16384x1024, .f32⟩
  | .hbm, ⟨23, _⟩ => ⟨S4x4096x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x16x64 : Shape := ⟨4, ![4, 4096, 16, 64]⟩
abbrev S4x4096x1024 : Shape := ⟨3, ![4, 4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S4x4096x1024 : Shape := ⟨3, ![4, 4096, 1024]⟩
abbrev S16x64 : Shape := ⟨2, ![16, 64]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S8x1024 : Shape := ⟨2, ![8, 1024]⟩
abbrev S16384x1024 : Shape := ⟨2, ![16384, 1024]⟩
abbrev S512x1024 : Shape := ⟨2, ![512, 1024]⟩
abbrev S1024x128 : Shape := ⟨2, ![1024, 128]⟩
abbrev S128x1024 : Shape := ⟨2, ![128, 1024]⟩
abbrev S512x128 : Shape := ⟨2, ![512, 128]⟩

abbrev nBuf : Space → Nat
  | .hbm => 34
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S16x64, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x1024, .bf16⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S16384x1024, .f32⟩
  | .hbm, ⟨33, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x4096x1024 : Shape := ⟨3, ![4, 4096, 1024]⟩
abbrev S16x64 : Shape := ⟨2, ![16, 64]⟩
abbrev S1024 : Shape := ⟨1, ![1024]⟩
abbrev S1024x1024 : Shape := ⟨2, ![1024, 1024]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩
abbrev S1x1x1024 : Shape := ⟨3, ![1, 1, 1024]⟩
abbrev S1x1x16x64 : Shape := ⟨4, ![1, 1, 16, 64]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S16x64, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S4x4096x16x64, .f32⟩
  | .hbm, ⟨11, _⟩ => ⟨S4x4096x16x64, .f32⟩
  | .hbm, ⟨12, _⟩ => ⟨S4x4096x16x64, .f32⟩
  | .hbm, ⟨13, _⟩ => ⟨S4x4096x16x64, .f32⟩
  | .hbm, ⟨14, _⟩ => ⟨S_, .f32⟩
  | .hbm, ⟨15, _⟩ => ⟨S4x4096x16, .f32⟩
  | .hbm, ⟨16, _⟩ => ⟨S4x4096x16x1, .f32⟩
  | .hbm, ⟨17, _⟩ => ⟨S_, .f32⟩
  | .hbm, ⟨18, _⟩ => ⟨S4x4096x16x1, .f32⟩
  | .hbm, ⟨19, _⟩ => ⟨S4x4096x16x1, .f32⟩
  | .hbm, ⟨20, _⟩ => ⟨S4x4096x16x64, .f32⟩
  | .hbm, ⟨21, _⟩ => ⟨S4x4096x16x64, .f32⟩
  | .hbm, ⟨22, _⟩ => ⟨S4x4096x16x64, .f32⟩
  | .hbm, ⟨23, _⟩ => ⟨S_, .f32⟩
  | .hbm, ⟨24, _⟩ => ⟨S4x4096x16, .f32⟩
  | .hbm, ⟨25, _⟩ => ⟨S4x4096x16x1, .f32⟩
  | .hbm, ⟨26, _⟩ => ⟨S_, .f32⟩
  | .hbm, ⟨27, _⟩ => ⟨S4x4096x16x1, .f32⟩
  | .hbm, ⟨28, _⟩ => ⟨S4x4096x16x1, .f32⟩
  | .hbm, ⟨29, _⟩ => ⟨S4x4096x16x64, .f32⟩
  | .hbm, ⟨30, _⟩ => ⟨S4x4096x16x64, .f32⟩
  | .hbm, ⟨31, _⟩ => ⟨S_, .f32⟩
  | .hbm, ⟨32, _⟩ => ⟨S4x4096x16x1, .f32⟩
  | .hbm, ⟨33, _⟩ => ⟨S4x4096x16x1, .f32⟩
  | .hbm, ⟨34, _⟩ => ⟨S4x4096x16x1, .f32⟩
  | .hbm, ⟨35, _⟩ => ⟨S4x4096x16x64, .f32⟩
  | .hbm, ⟨36, _⟩ => ⟨S4x4096x16x64, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S4x4096x16x64, .f32⟩
  | .hbm, ⟨45, _⟩ => ⟨S1x1x16x64, .f32⟩
  | .hbm, ⟨46, _⟩ => ⟨S4x4096x16x64, .f32⟩
  | .hbm, ⟨47, _⟩ => ⟨S4x4096x16x64, .f32⟩
  | .hbm, ⟨48, _⟩ => ⟨S_, .f32⟩
  | .hbm, ⟨49, _⟩ => ⟨S4x4096x16, .f32⟩
  | .hbm, ⟨50, _⟩ => ⟨S4x4096x16x1, .f32⟩
  | .hbm, ⟨51, _⟩ => ⟨S4x4096x16x64, .f32⟩
  | .hbm, ⟨52, _⟩ => ⟨S4x4096x16x64, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S16384x1024 : Shape := ⟨2, ![16384, 1024]⟩
abbrev S4x1x1024 : Shape := ⟨3, ![4, 1, 1024]⟩
abbrev S_ : Shape := ⟨0, ![]⟩
abbrev S1x1024 : Shape := ⟨2, ![1, 1024]⟩
abbrev S16x1024 : Shape := ⟨2, ![16, 1024]⟩
abbrev S1024x128 : Shape := ⟨2, ![1024, 128]⟩
abbrev S128x1024 : Shape := ⟨2, ![128, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 65
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024, .f32⟩
  | .hbm, ⟨5, _⟩ => ⟨S1024x1024, .f32⟩
  | .hbm, ⟨6, _⟩ => ⟨S1024x64, .f32⟩
  | .hbm, ⟨7, _⟩ => ⟨S64x1024, .f32⟩
  | .hbm, ⟨8, _⟩ => ⟨S16384x1024, .f32⟩
  | .hbm, ⟨9, _⟩ => ⟨S4x1x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S16x1024, .f32⟩
  | .hbm, ⟨41, _⟩ => ⟨S1024x1024, .bf16⟩
  | .hbm, ⟨42, _⟩ => ⟨S1024x1024, .f32⟩
  | .hbm, ⟨43, _⟩ => ⟨S1024x1024, .f32⟩
  | .hbm, ⟨44, _⟩ => ⟨S1024x1024, .bf16⟩
  | .hbm, ⟨45, _⟩ => ⟨S_, .i32⟩
  | .hbm, ⟨46, _⟩ => ⟨S_, .f32⟩
  | .hbm, ⟨47, _⟩ => ⟨S1024x128, .f32⟩
  | .hbm, ⟨48, _⟩ => ⟨S1024x128, .bf16⟩
  | .hbm, ⟨49, _⟩ => ⟨S1024x128, .f32⟩
  | .hbm, ⟨50, _⟩ => ⟨S1024x128, .f32⟩
  | .hbm, ⟨51, _⟩ => ⟨S1024x128, .bf16⟩
  | .hbm, ⟨52, _⟩ => ⟨S_, .i32⟩
  | .hbm, ⟨53, _⟩ => ⟨S_, .f32⟩
  | .hbm, ⟨54, _⟩ => ⟨S128x1024, .f32⟩
  | .hbm, ⟨55, _⟩ => ⟨S128x1024, .bf16⟩
  | .hbm, ⟨56, _⟩ => ⟨S128x1024, .f32⟩
  | .hbm, ⟨57, _⟩ => ⟨S128x1024, .f32⟩
  | .hbm, ⟨58, _⟩ => ⟨S128x1024, .bf16⟩
  | .hbm, ⟨59, _⟩ => ⟨S16384x1024, .f32⟩
  | .hbm, ⟨60, _⟩ => ⟨S16384x1024, .f32⟩
  | .hbm, ⟨61, _⟩ => ⟨S4x1x1024, .f32⟩
  | .hbm, ⟨62, _⟩ => ⟨S4x4096x1024, .f32⟩
  | .hbm, ⟨63, _⟩ => ⟨S4x4096x1024, .f32⟩
  | .hbm, ⟨64, _⟩ => ⟨S4x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S16x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1024x128, .bf16⟩
  | .local _ .vmem, ⟨9, _⟩ => ⟨S128x1024, .bf16⟩
  | .local _ .vmem, ⟨10, _⟩ => ⟨S128x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_0 : Ref sig .tc := ⟨.hbm, 52, rfl⟩
abbrev main_call1_v0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S1x1024 : Shape := ⟨2, ![1, 1024]⟩
abbrev S4x4096x64 : Shape := ⟨3, ![4, 4096, 64]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024, .f32⟩
  | .hbm, ⟨5, _⟩ => ⟨S1024x1024, .f32⟩
  | .hbm, ⟨6, _⟩ => ⟨S1024x64, .f32⟩
  | .hbm, ⟨7, _⟩ => ⟨S64x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S4x4095x1024, .f32⟩
  | .hbm, ⟨26, _⟩ => ⟨S4x4096x1024, .f32⟩
  | .hbm, ⟨27, _⟩ => ⟨S4x4096x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x64, .f32⟩
  | .hbm, ⟨42, _⟩ => ⟨S4x4096x64, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .i1⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x1x1024, .f32⟩
  | .hbm, ⟨69, _⟩ => ⟨S4x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Kernel6.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x160 : Shape := ⟨2, ![1024, 160]⟩
abbrev S160x1024 : Shape := ⟨2, ![160, 1024]⟩
abbrev S16384x1024 : Shape := ⟨2, ![16384, 1024]⟩
abbrev S4x1x1024 : Shape := ⟨3, ![4, 1, 1024]⟩
abbrev S_ : Shape := ⟨0, ![]⟩
abbrev S1x1024 : Shape := ⟨2, ![1, 1024]⟩
abbrev S16x1024 : Shape := ⟨2, ![16, 1024]⟩
abbrev S1024x256 : Shape := ⟨2, ![1024, 256]⟩
abbrev S256x1024 : Shape := ⟨2, ![256, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩

abbrev nBuf : Space → Nat
  | .hbm => 60
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024x1024, .f32⟩
  | .hbm, ⟨5, _⟩ => ⟨S1024x160, .f32⟩
  | .hbm, ⟨6, _⟩ => ⟨S160x1024, .f32⟩
  | .hbm, ⟨7, _⟩ => ⟨S16384x1024, .f32⟩
  | .hbm, ⟨8, _⟩ => ⟨S4x1x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S16x1024, .f32⟩
  | .hbm, ⟨40, _⟩ => ⟨S1024x1024, .bf16⟩
  | .hbm, ⟨41, _⟩ => ⟨S1024x1024, .f32⟩
  | .hbm, ⟨42, _⟩ => ⟨S1024x1024, .f32⟩
  | .hbm, ⟨43, _⟩ => ⟨S1024x1024, .bf16⟩
  | .hbm, ⟨44, _⟩ => ⟨S_, .i32⟩
  | .hbm, ⟨45, _⟩ => ⟨S_, .f32⟩
  | .hbm, ⟨46, _⟩ => ⟨S1024x256, .f32⟩
  | .hbm, ⟨47, _⟩ => ⟨S1024x256, .bf16⟩
  | .hbm, ⟨48, _⟩ => ⟨S1024x256, .f32⟩
  | .hbm, ⟨49, _⟩ => ⟨S1024x256, .f32⟩
  | .hbm, ⟨50, _⟩ => ⟨S1024x256, .bf16⟩
  | .hbm, ⟨51, _⟩ => ⟨S_, .i32⟩
  | .hbm, ⟨52, _⟩ => ⟨S_, .f32⟩
  | .hbm, ⟨53, _⟩ => ⟨S256x1024, .f32⟩
  | .hbm, ⟨54, _⟩ => ⟨S256x1024, .bf16⟩
  | .hbm, ⟨55, _⟩ => ⟨S256x1024, .f32⟩
  | .hbm, ⟨56, _⟩ => ⟨S256x1024, .f32⟩
  | .hbm, ⟨57, _⟩ => ⟨S256x1024, .bf16⟩
  | .hbm, ⟨58, _⟩ => ⟨S16384x1024, .f32⟩
  | .hbm, ⟨59, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S16x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_call0_v0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_0 : Ref sig .tc := ⟨.hbm, 51, rfl⟩
abbrev main_call1_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x160 : Shape := ⟨2, ![1024, 160]⟩
abbrev S160x1024 : Shape := ⟨2, ![160, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S1x1024 : Shape := ⟨2, ![1, 1024]⟩
abbrev S4x4096x160 : Shape := ⟨3, ![4, 4096, 160]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024x1024, .f32⟩
  | .hbm, ⟨5, _⟩ => ⟨S1024x160, .f32⟩
  | .hbm, ⟨6, _⟩ => ⟨S160x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x1x1024, .f32⟩
  | .hbm, ⟨24, _⟩ => ⟨S4x4095x1024, .f32⟩
  | .hbm, ⟨25, _⟩ => ⟨S4x4096x1024, .f32⟩
  | .hbm, ⟨26, _⟩ => ⟨S4x4096x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x160, .f32⟩
  | .hbm, ⟨35, _⟩ => ⟨S4x4096x160, .f32⟩
  | .hbm, ⟨36, _⟩ => ⟨S4x4096x160, .f32⟩
  | .hbm, ⟨37, _⟩ => ⟨S_, .f32⟩
  | .hbm, ⟨38, _⟩ => ⟨S4x4096x160, .f32⟩
  | .hbm, ⟨39, _⟩ => ⟨S4x4096x160, .f32⟩
  | .hbm, ⟨40, _⟩ => ⟨S_, .f32⟩
  | .hbm, ⟨41, _⟩ => ⟨S4x4096x160, .f32⟩
  | .hbm, ⟨42, _⟩ => ⟨S4x4096x160, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel7.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x32 : Shape := ⟨2, ![1024, 32]⟩
abbrev S32x1024 : Shape := ⟨2, ![32, 1024]⟩
abbrev S16384x1024 : Shape := ⟨2, ![16384, 1024]⟩
abbrev S4x1x1024 : Shape := ⟨3, ![4, 1, 1024]⟩
abbrev S_ : Shape := ⟨0, ![]⟩
abbrev S1x1024 : Shape := ⟨2, ![1, 1024]⟩
abbrev S16x1024 : Shape := ⟨2, ![16, 1024]⟩
abbrev S1024x128 : Shape := ⟨2, ![1024, 128]⟩
abbrev S128x1024 : Shape := ⟨2, ![128, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 63
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024, .f32⟩
  | .hbm, ⟨5, _⟩ => ⟨S1024x1024, .f32⟩
  | .hbm, ⟨6, _⟩ => ⟨S1024x32, .f32⟩
  | .hbm, ⟨7, _⟩ => ⟨S32x1024, .f32⟩
  | .hbm, ⟨8, _⟩ => ⟨S4x4096x1024, .f32⟩
  | .hbm, ⟨9, _⟩ => ⟨S16384x1024, .f32⟩
  | .hbm, ⟨10, _⟩ => ⟨S4x1x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S16x1024, .f32⟩
  | .hbm, ⟨42, _⟩ => ⟨S1024x1024, .bf16⟩
  | .hbm, ⟨43, _⟩ => ⟨S1024x1024, .f32⟩
  | .hbm, ⟨44, _⟩ => ⟨S1024x1024, .f32⟩
  | .hbm, ⟨45, _⟩ => ⟨S1024x1024, .bf16⟩
  | .hbm, ⟨46, _⟩ => ⟨S_, .i32⟩
  | .hbm, ⟨47, _⟩ => ⟨S_, .f32⟩
  | .hbm, ⟨48, _⟩ => ⟨S1024x128, .f32⟩
  | .hbm, ⟨49, _⟩ => ⟨S1024x128, .bf16⟩
  | .hbm, ⟨50, _⟩ => ⟨S1024x128, .f32⟩
  | .hbm, ⟨51, _⟩ => ⟨S1024x128, .f32⟩
  | .hbm, ⟨52, _⟩ => ⟨S1024x128, .bf16⟩
  | .hbm, ⟨53, _⟩ => ⟨S_, .i32⟩
  | .hbm, ⟨54, _⟩ => ⟨S_, .f32⟩
  | .hbm, ⟨55, _⟩ => ⟨S128x1024, .f32⟩
  | .hbm, ⟨56, _⟩ => ⟨S128x1024, .bf16⟩
  | .hbm, ⟨57, _⟩ => ⟨S128x1024, .f32⟩
  | .hbm, ⟨58, _⟩ => ⟨S128x1024, .f32⟩
  | .hbm, ⟨59, _⟩ => ⟨S128x1024, .bf16⟩
  | .hbm, ⟨60, _⟩ => ⟨S16384x1024, .f32⟩
  | .hbm, ⟨61, _⟩ => ⟨S16384x1024, .f32⟩
  | .hbm, ⟨62, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S16x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1024x128, .bf16⟩
  | .local _ .vmem, ⟨9, _⟩ => ⟨S128x1024, .bf16⟩
  | .local _ .vmem, ⟨10, _⟩ => ⟨S128x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_0 : Ref sig .tc := ⟨.hbm, 53, rfl⟩
abbrev main_call1_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x32 : Shape := ⟨2, ![1024, 32]⟩
abbrev S32x1024 : Shape := ⟨2, ![32, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S1x1024 : Shape := ⟨2, ![1, 1024]⟩
abbrev S4x4096x32 : Shape := ⟨3, ![4, 4096, 32]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024, .f32⟩
  | .hbm, ⟨5, _⟩ => ⟨S1024x1024, .f32⟩
  | .hbm, ⟨6, _⟩ => ⟨S1024x32, .f32⟩
  | .hbm, ⟨7, _⟩ => ⟨S32x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x1x1024, .f32⟩
  | .hbm, ⟨26, _⟩ => ⟨S4x4095x1024, .f32⟩
  | .hbm, ⟨27, _⟩ => ⟨S4x4096x1024, .f32⟩
  | .hbm, ⟨28, _⟩ => ⟨S4x4096x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x32, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel8.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S16384x1024 : Shape := ⟨2, ![16384, 1024]⟩
abbrev S4x1x1024 : Shape := ⟨3, ![4, 1, 1024]⟩
abbrev S_ : Shape := ⟨0, ![]⟩
abbrev S1x1024 : Shape := ⟨2, ![1, 1024]⟩
abbrev S16x1024 : Shape := ⟨2, ![16, 1024]⟩
abbrev S1024x128 : Shape := ⟨2, ![1024, 128]⟩
abbrev S128x1024 : Shape := ⟨2, ![128, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩
abbrev S4x4096x16x64 : Shape := ⟨4, ![4, 4096, 16, 64]⟩

abbrev nBuf : Space → Nat
  | .hbm => 67
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024, .f32⟩
  | .hbm, ⟨5, _⟩ => ⟨S1024x1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S4x1x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S16x1024, .f32⟩
  | .hbm, ⟨43, _⟩ => ⟨S1024x1024, .bf16⟩
  | .hbm, ⟨44, _⟩ => ⟨S1024x1024, .f32⟩
  | .hbm, ⟨45, _⟩ => ⟨S1024x1024, .f32⟩
  | .hbm, ⟨46, _⟩ => ⟨S1024x1024, .bf16⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x128, .bf16⟩
  | .hbm, ⟨51, _⟩ => ⟨S1024x128, .f32⟩
  | .hbm, ⟨52, _⟩ => ⟨S1024x128, .f32⟩
  | .hbm, ⟨53, _⟩ => ⟨S1024x128, .bf16⟩
  | .hbm, ⟨54, _⟩ => ⟨S_, .i32⟩
  | .hbm, ⟨55, _⟩ => ⟨S_, .f32⟩
  | .hbm, ⟨56, _⟩ => ⟨S128x1024, .f32⟩
  | .hbm, ⟨57, _⟩ => ⟨S128x1024, .bf16⟩
  | .hbm, ⟨58, _⟩ => ⟨S128x1024, .f32⟩
  | .hbm, ⟨59, _⟩ => ⟨S128x1024, .f32⟩
  | .hbm, ⟨60, _⟩ => ⟨S128x1024, .bf16⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S4x4096x1024, .f32⟩
  | .hbm, ⟨65, _⟩ => ⟨S4x4096x16x64, .f32⟩
  | .hbm, ⟨66, _⟩ => ⟨S4x4096x16x64, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S16x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1024x128, .bf16⟩
  | .local _ .vmem, ⟨9, _⟩ => ⟨S128x1024, .bf16⟩
  | .local _ .vmem, ⟨10, _⟩ => ⟨S128x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_0 : Ref sig .tc := ⟨.hbm, 54, rfl⟩
abbrev main_call1_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S4x4096x1024 : Shape := ⟨3, ![4, 4096, 1024]⟩
abbrev S4x1024 : Shape := ⟨2, ![4, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S1x1024 : Shape := ⟨2, ![1, 1024]⟩
abbrev S4x4096x64 : Shape := ⟨3, ![4, 4096, 64]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S1024, .f32⟩
  | .hbm, ⟨3, _⟩ => ⟨S6x1024, .f32⟩
  | .hbm, ⟨4, _⟩ => ⟨S1024, .f32⟩
  | .hbm, ⟨5, _⟩ => ⟨S1024x1024, .f32⟩
  | .hbm, ⟨6, _⟩ => ⟨S1024x64, .f32⟩
  | .hbm, ⟨7, _⟩ => ⟨S64x1024, .f32⟩
  | .hbm, ⟨8, _⟩ => ⟨S1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x1x1024, .f32⟩
  | .hbm, ⟨27, _⟩ => ⟨S4x4095x1024, .f32⟩
  | .hbm, ⟨28, _⟩ => ⟨S4x4096x1024, .f32⟩
  | .hbm, ⟨29, _⟩ => ⟨S4x4096x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x64, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S4x4096x16x64, .f32⟩
  | .hbm, ⟨60, _⟩ => ⟨S4x4096x16x64, .f32⟩
  | .hbm, ⟨61, _⟩ => ⟨S_, .f32⟩
  | .hbm, ⟨62, _⟩ => ⟨S4x4096x16, .f32⟩
  | .hbm, ⟨63, _⟩ => ⟨S4x4096x16x1, .f32⟩
  | .hbm, ⟨64, _⟩ => ⟨S4x4096x16x1, .f32⟩
  | .hbm, ⟨65, _⟩ => ⟨S_, .f32⟩
  | .hbm, ⟨66, _⟩ => ⟨S4x4096x16x1, .f32⟩
  | .hbm, ⟨67, _⟩ => ⟨S4x4096x16x1, .f32⟩
  | .hbm, ⟨68, _⟩ => ⟨S4x4096x16x64, .f32⟩
  | .hbm, ⟨69, _⟩ => ⟨S4x4096x16x64, .f32⟩
  | .hbm, ⟨70, _⟩ => ⟨S_, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S4x4096x16x64, .f32⟩
  | .hbm, ⟨81, _⟩ => ⟨S4x4096x16x64, .f32⟩
  | .hbm, ⟨82, _⟩ => ⟨S4x4096x16x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Proof.RefRun.lean ====
module

public import proofs.«01_k».proof.Proof.Gen.ReferenceIdeal.Run
public import proofs.«01_k».proof.Proof.Gen.ReferenceIdeal.Step

@[expose] public section

set_option maxRecDepth 16384

noncomputable section

/-! The reference's token loop as a sequence of states. -/

namespace Cert.RefRun

open Idealize.ShloMosaic Idealize.ShloMosaic.TcCoe Idealize.SL.Sem Idealize.ShloMosaic.StableHlo
open Cert.ReferenceIdeal Cert.ReferenceIdeal.Value Cert.ReferenceIdeal.Step

variable {F : FTy → Type} [FloatOps F]

/-- The carried buffers of a valuation, the counter left out. -/
def carried (V : Valuation τ sig (Elt F)) : State F where
  main_v14_0 := V (Proc.devRef .tc main_v14_0)
  main_v14_1 := V (Proc.devRef .tc main_v14_1)
  main_v14_2 := V (Proc.devRef .tc main_v14_2)
  main_v14_3 := V (Proc.devRef .tc main_v14_3)
  main_v14_4 := V (Proc.devRef .tc main_v14_4)
  main_v14_5 := V (Proc.devRef .tc main_v14_5)
  main_v14_7 := V (Proc.devRef .tc main_v14_7)
  main_v14_8 := V (Proc.devRef .tc main_v14_8)

/-- The counter reads `j`. -/
def Counts (V : Valuation τ sig (Elt F)) (j : ℕ) : Prop :=
  V (Proc.devRef .tc main_v14_6) = constantI S_ 32 (BitVec.ofNat 32 j)

theorem counts_next {V : Valuation τ sig (Elt F)} {j : ℕ} (h : Counts V j) : Counts (STEP V) (j + 1) := by
  refine (STEP_main_v14_6 V).trans ?_
  unfold step_main_v14_6
  rw [h]
  funext i
  exact (BitVec.ofNat_add (n := 32) j 1).symm

theorem state_next {V : Valuation τ sig (Elt F)} {j : ℕ} (h : Counts V j) :
    Value.step_main_v14_7 V = b45 j (carried V) := by
  unfold Value.step_main_v14_7 res_main_while0b_v38
  rw [h]
  rfl

theorem outs_next {V : Valuation τ sig (Elt F)} {j : ℕ} (h : Counts V j) :
    Value.step_main_v14_8 V = b51 j (carried V) := by
  unfold Value.step_main_v14_8 res_main_while0b_v38
  rw [h]
  rfl

/-- One trip on the valuation is one trip on the carried state. -/
theorem carried_next {V : Valuation τ sig (Elt F)} {j : ℕ} (h : Counts V j) :
    carried (STEP V) = step j (carried V) := by
  unfold step
  have e7 := (STEP_main_v14_7 V).trans (state_next h)
  have e8 := (STEP_main_v14_8 V).trans (outs_next h)
  unfold carried
  rw [STEP_main_v14_0, STEP_main_v14_1, STEP_main_v14_2, STEP_main_v14_3, STEP_main_v14_4, STEP_main_v14_5, e7, e8]
  rfl

variable (m : (ℓ : Loc nD τ sig) → Buf (Elt F) ℓ) (c : Dev nD)

/-- The state before the first token. -/
def start : State F :=
  init (m ((c.tc : Thread nD τ).loc main_arg6)) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

set_option maxRecDepth 65536 in
set_option maxHeartbeats 400000 in
theorem carried_start : carried (entryContents preI m c) = start m c := by
  unfold carried start init
  congr 1 <;> (simp only [entryContents, afterL_cons, afterL_nil]; after_reads_simp) <;> rfl

set_option maxRecDepth 65536 in
set_option maxHeartbeats 400000 in
theorem counts_start : Counts (entryContents preI m c) 0 := by
  unfold Counts
  (simp only [entryContents, afterL_cons, afterL_nil]; after_reads_simp) <;> rfl

/-- The state after `n` tokens. -/
def iter : ℕ → State F
  | 0 => start m c
  | n + 1 => step n (iter n)

theorem at_iter : ∀ n, carried (STEP^[n] (entryContents preI m c)) = iter m c n ∧ Counts (STEP^[n] (entryContents preI m c)) n
  | 0 => ⟨carried_start m c, counts_start m c⟩
  | n + 1 => by
    rw [Function.iterate_succ_apply']
    have h := at_iter n
    exact ⟨(carried_next h.2).trans (congrArg (step n) h.1), counts_next h.2⟩

theorem results_of {V : Valuation τ sig (Elt F)} {s : State F} (e : carried V = s) :
    out_main_v16 V = R_main_v16 s ∧ V (Proc.devRef .tc main_v14_7) = s.main_v14_7 := by
  subst e; exact ⟨rfl, rfl⟩

/-- Every run of the reference ends with its results read off the state after the last token. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v16) = R_main_v16 (iter m c 4096)
      ∧ r.2.mem ((c.tc : Thread nD τ).loc main_v14_7) = (iter m c 4096).main_v14_7 :=
  (θ_run defs _ _).mono (fun _ h c =>
    have e := results_of (at_iter m c 4096).1
    ⟨(h c).1.trans e.1, (h c).2.1.trans e.2⟩) (run m ρ)

end Cert.RefRun

end
end
-- ==== Proof.WkvMath.lean ====
module

public import Mathlib.Data.Matrix.Mul
public import Mathlib.Analysis.SpecialFunctions.Exp
public import Mathlib.Tactic.NoncommRing
public import Mathlib.Tactic.LinearCombination
public import Mathlib.Tactic.IntervalCases

@[expose] public section

noncomputable section

/-! The chunked form of the wkv recurrence, over the real numbers: one pair of heads, one chunk of 64 tokens. Rows
    0–63 of a stacked matrix belong to the first head of the pair, rows 64–127 to the second; the same for lanes. -/

namespace Cert.Wkv

open Finset

/-- A matrix of the pair: 128 stacked rows, 128 lanes. -/
abbrev Mat := Matrix (Fin 128) (Fin 128) ℝ

/-- A sequence of rows of 128 lanes, one per token. -/
abbrev Row := ℕ → Fin 128 → ℝ

/-- Row `p` holds token `p % 64` on the lanes of its own head and zeros on the other's. -/
def stk (x : Row) : Mat := fun p l => if (p : ℕ) / 64 = (l : ℕ) / 64 then x (p % 64) l else 0

/-- The log decay summed over the tokens before `t`. -/
def pre (lw : Row) (t : ℕ) (l : Fin 128) : ℝ := ∑ s ∈ range t, lw s l

/-- One token's step of a pair's state. -/
def pstep (lw k v a b : Row) (t : ℕ) (S : Mat) : Mat := fun i j =>
  S i j * Real.exp (lw t j)
    + (if (i : ℕ) / 64 = (j : ℕ) / 64 then (∑ l, S i l * a t l) * b t j + v t i * k t j else 0)

/-- The state after the first `t` tokens. -/
def pst (lw k v a b : Row) (S : Mat) : ℕ → Mat
  | 0 => S
  | t + 1 => pstep lw k v a b t (pst lw k v a b S t)

/-- What the state before token `t` makes of that token's removal vector. -/
def uu (lw k v a b : Row) (S : Mat) (t : ℕ) (i : Fin 128) : ℝ := ∑ l, pst lw k v a b S t i l * a t l

/-- A state that never mixes the two heads. -/
def Blk (S : Mat) : Prop := ∀ i j : Fin 128, (i : ℕ) / 64 ≠ (j : ℕ) / 64 → S i j = 0

theorem pst_blk {lw k v a b : Row} {S : Mat} (hS : Blk S) (t : ℕ) : Blk (pst lw k v a b S t) := by
  induction t with
  | zero => exact hS
  | succ t ih =>
    intro i j h
    simp [pst, pstep, ih i j h, h]

/-- The state after `t` tokens, every token's contribution discounted by the decay since. -/
theorem pst_closed (lw k v a b : Row) (S : Mat) (t : ℕ) (i j : Fin 128) :
    pst lw k v a b S t i j = Real.exp (pre lw t j) * (S i j + (if (i : ℕ) / 64 = (j : ℕ) / 64 then
      ∑ s ∈ range t, (uu lw k v a b S s i * b s j + v s i * k s j) * Real.exp (-(pre lw (s + 1) j)) else 0)) := by
  induction t with
  | zero => simp [pst, pre]
  | succ t ih =>
    have e1 : Real.exp (pre lw (t + 1) j) = Real.exp (pre lw t j) * Real.exp (lw t j) := by
      rw [← Real.exp_add]; congr 1; simp [pre, sum_range_succ]
    have e2 : Real.exp (pre lw (t + 1) j) * Real.exp (-(pre lw (t + 1) j)) = 1 := by
      rw [← Real.exp_add]; simp
    rw [pst, pstep, ih]
    split_ifs with h
    · rw [sum_range_succ]
      have : (∑ l, pst lw k v a b S t i l * a t l) = uu lw k v a b S t i := rfl
      rw [this]
      generalize ∑ x ∈ range t, (uu lw k v a b S x i * b x j + v x i * k x j) * Real.exp (-pre lw (x + 1) j) = Z
      generalize uu lw k v a b S t i * b t j + v t i * k t j = W
      linear_combination (S i j + Z) * (-e1) - W * e2
    · rw [e1]; ring

/-- A sum over stacked rows of one head is a sum over the tokens. -/
theorem sum_rows (f : ℕ → ℝ) (h : ℕ) (hh : h < 2) :
    (∑ q : Fin 128, if h = (q : ℕ) / 64 then f (q % 64) else 0) = ∑ s ∈ range 64, f s := by
  rw [Fin.sum_univ_eq_sum_range (fun q => if h = q / 64 then f (q % 64) else 0) 128]
  rw [show (128 : ℕ) = 64 + 64 from rfl, sum_range_add]
  have a1 : ∀ s ∈ range 64, (if h = s / 64 then f (s % 64) else 0) = if h = 0 then f s else 0 := by
    intro s hs
    have := mem_range.mp hs
    rw [Nat.div_eq_of_lt this, Nat.mod_eq_of_lt this]
  have a2 : ∀ s ∈ range 64, (if h = (64 + s) / 64 then f ((64 + s) % 64) else 0) = if h = 1 then f s else 0 := by
    intro s hs
    have := mem_range.mp hs
    rw [show (64 + s) / 64 = 1 by omega, show (64 + s) % 64 = s by omega]
  rw [sum_congr rfl a1, sum_congr rfl a2]
  interval_cases h <;> simp

/-- A stacked matrix against the carried state. -/
theorem stk_state (w : Row) {S : Mat} (hS : Blk S) (p i : Fin 128) :
    (stk w * S.transpose) p i = if (p : ℕ) / 64 = (i : ℕ) / 64 then ∑ l, w (p % 64) l * S i l else 0 := by
  rw [Matrix.mul_apply]
  split_ifs with h
  · refine sum_congr rfl fun l _ => ?_
    by_cases hl : (p : ℕ) / 64 = (l : ℕ) / 64
    · simp [stk, hl]
    · rw [Matrix.transpose_apply, hS i l (by rw [← h]; exact hl)]; simp
  · refine sum_eq_zero fun l _ => ?_
    by_cases hl : (p : ℕ) / 64 = (l : ℕ) / 64
    · rw [Matrix.transpose_apply, hS i l (by rw [← hl]; exact fun e => h e.symm)]; simp
    · simp [stk, hl]

/-- The products of the stacked rows, kept where `Q` says. -/
def msk (Q : ℕ → ℕ → Prop) [∀ p q, Decidable (Q p q)] (X Y : Mat) : Mat := fun p q =>
  if Q q p then (X * Y.transpose) p q else 0

theorem stk_stk (w z : Row) (p q : Fin 128) :
    (stk w * (stk z).transpose) p q = if (p : ℕ) / 64 = (q : ℕ) / 64 then
      ∑ l : Fin 128, (if (p : ℕ) / 64 = (l : ℕ) / 64 then w (p % 64) l * z (q % 64) l else 0) else 0 := by
  rw [Matrix.mul_apply]
  split_ifs with h
  · refine sum_congr rfl fun l _ => ?_
    by_cases hl : (p : ℕ) / 64 = (l : ℕ) / 64
    · simp [stk, ← h, hl]
    · simp [stk, hl]
  · refine sum_eq_zero fun l _ => ?_
    by_cases hl : (p : ℕ) / 64 = (l : ℕ) / 64
    · have : ¬ ((q : ℕ) / 64 = (l : ℕ) / 64) := fun e => h (hl.trans e.symm)
      simp [stk, this]
    · simp [stk, hl]

/-- Masked products of stacked rows, applied to a stacked matrix: a sum over the tokens the mask keeps. -/
theorem msk_mul (Q : ℕ → ℕ → Prop) [∀ p q, Decidable (Q p q)]
    (hQ : ∀ p q : ℕ, p / 64 = q / 64 → (Q q p ↔ Q (q % 64) (p % 64)))
    (w z x : Row) (p i : Fin 128) :
    (msk Q (stk w) (stk z) * stk x) p i = if (p : ℕ) / 64 = (i : ℕ) / 64 then
      ∑ s ∈ range 64, (if Q s (p % 64) then
        (∑ l : Fin 128, if (i : ℕ) / 64 = (l : ℕ) / 64 then w (p % 64) l * z s l else 0) * x s i else 0) else 0 := by
  have hp := p.isLt
  rw [Matrix.mul_apply]
  split_ifs with h
  · rw [← sum_rows (fun s => if Q s (p % 64) then
        (∑ l : Fin 128, if (i : ℕ) / 64 = (l : ℕ) / 64 then w (p % 64) l * z s l else 0) * x s i else 0)
        ((p : ℕ) / 64) (by omega)]
    refine sum_congr rfl fun q _ => ?_
    unfold msk
    rw [stk_stk]
    by_cases hq : (p : ℕ) / 64 = (q : ℕ) / 64
    · have h2 : (q : ℕ) / 64 = (i : ℕ) / 64 := hq.symm.trans h
      rw [if_pos hq, if_pos hq, ← h]
      by_cases hs : Q q p
      · rw [if_pos hs, if_pos ((hQ p q hq).mp hs)]; simp [stk, h2]
      · rw [if_neg hs, if_neg (fun e => hs ((hQ p q hq).mpr e))]; simp
    · simp [hq]
  · refine sum_eq_zero fun q _ => ?_
    unfold msk
    rw [stk_stk]
    by_cases hq : (p : ℕ) / 64 = (q : ℕ) / 64
    · have : ¬ ((q : ℕ) / 64 = (i : ℕ) / 64) := fun e => h (hq.trans e)
      simp [stk, this]
    · simp [hq]

/-- A discounted state applied to a vector, term by term. -/
theorem apply_closed (S : Mat) (e a : Fin 128 → ℝ) (u v b k c : Row) (t : ℕ) (i : Fin 128) :
    (∑ l, (Real.exp (e l) * (S i l + (if (i : ℕ) / 64 = (l : ℕ) / 64 then
        ∑ s ∈ range t, (u s i * b s l + v s i * k s l) * Real.exp (-(c s l)) else 0))) * a l)
      = (∑ l, (a l * Real.exp (e l)) * S i l)
        + ((∑ s ∈ range t, (∑ l : Fin 128, if (i : ℕ) / 64 = (l : ℕ) / 64 then
              (a l * Real.exp (e l)) * (b s l * Real.exp (-(c s l))) else 0) * u s i)
          + (∑ s ∈ range t, (∑ l : Fin 128, if (i : ℕ) / 64 = (l : ℕ) / 64 then
              (a l * Real.exp (e l)) * (k s l * Real.exp (-(c s l))) else 0) * v s i)) := by
  rw [← sum_add_distrib]
  simp_rw [sum_mul]
  rw [← sum_congr rfl fun s _ => sum_add_distrib (f := fun l => (if (i : ℕ) / 64 = (l : ℕ) / 64 then
              (a l * Real.exp (e l)) * (b s l * Real.exp (-(c s l))) else 0) * u s i)
              (g := fun l => (if (i : ℕ) / 64 = (l : ℕ) / 64 then
              (a l * Real.exp (e l)) * (k s l * Real.exp (-(c s l))) else 0) * v s i) (s := (univ : Finset (Fin 128)))]
  rw [sum_comm, ← sum_add_distrib]
  refine sum_congr rfl fun l _ => ?_
  split_ifs with h
  · rw [mul_add, add_mul, mul_sum, sum_mul]
    congr 1
    · ring
    · exact sum_congr rfl fun s _ => by ring
  · simp; ring

/-- Summing over the tokens a bound keeps. -/
theorem sum_lt (f : ℕ → ℝ) (t : ℕ) (ht : t ≤ 64) :
    (∑ s ∈ range 64, if s < t then f s else 0) = ∑ s ∈ range t, f s := by
  rw [← sum_filter]
  refine sum_congr ?_ fun _ _ => rfl
  ext s; simp; omega

/-- A strictly lower triangular block matrix is nilpotent: its 64th power is zero. -/
theorem pow_zero_of (L : Mat) (h : ∀ p q : Fin 128, L p q ≠ 0 → (q : ℕ) % 64 < (p : ℕ) % 64) : L ^ 64 = 0 := by
  have key : ∀ n : ℕ, ∀ p q : Fin 128, (L ^ n) p q ≠ 0 → (q : ℕ) % 64 + n ≤ (p : ℕ) % 64 := by
    intro n
    induction n with
    | zero =>
      intro p q hpq
      rw [pow_zero, Matrix.one_apply] at hpq
      have : p = q := by by_contra hc; simp [hc] at hpq
      simp [this]
    | succ n ih =>
      intro p q hpq
      rw [pow_succ, Matrix.mul_apply] at hpq
      obtain ⟨m, -, hm⟩ := exists_ne_zero_of_sum_ne_zero hpq
      have h1 := ih p m (left_ne_zero_of_mul hm)
      have h2 := h m q (right_ne_zero_of_mul hm)
      omega
  ext p q
  by_contra hc
  have := key 64 p q hc
  have : (p : ℕ) % 64 < 64 := Nat.mod_lt _ (by norm_num)
  omega

/-- Six doublings of the powers of `L`, as the kernel runs them. -/
def solve6 (L X : Mat) : Mat :=
  let P1 := L * L
  let P2 := P1 * P1
  let P3 := P2 * P2
  let P4 := P3 * P3
  let P5 := P4 * P4
  let x1 := X + L * X
  let x2 := x1 + P1 * x1
  let x3 := x2 + P2 * x2
  let x4 := x3 + P3 * x3
  let x5 := x4 + P4 * x4
  x5 + P5 * x5

/-- The doublings solve `U = X + L U`. -/
theorem solve6_eq (L X U : Mat) (hL : L ^ 64 = 0) (hU : U = X + L * U) : solve6 L X = U := by
  have hX : X = U - L * U := by rw [eq_sub_iff_add_eq]; exact hU.symm
  have : solve6 L X = U - L ^ 64 * U := by
    unfold solve6
    simp only [hX]
    noncomm_ring
  rw [this, hL]; simp

end Cert.Wkv

end
end
-- ==== Proof.WkvChunk.lean ====
module

public import proofs.«01_k».proof.Proof.WkvMath

@[expose] public section

noncomputable section

/-! What the chunked form computes is what 64 steps of the recurrence compute. -/

namespace Cert.Wkv

open Finset

/-! The decays the kernel forms from the inclusive sums. -/

/-- The removal vectors, decayed up to (not through) their token. -/
def wA (lw a : Row) : Row := fun t l => a t l * Real.exp (pre lw (t + 1) l - lw t l)
/-- The receptance, decayed through its token. -/
def wR (lw r : Row) : Row := fun t l => r t l * Real.exp (pre lw (t + 1) l)
/-- A key with the decay through its token taken out. -/
def wK (lw k : Row) : Row := fun t l => k t l * Real.exp (-(pre lw (t + 1) l))
/-- A key with the decay still to come in the chunk. -/
def wH (lw k : Row) : Row := fun t l => k t l * Real.exp (pre lw 64 l - pre lw (t + 1) l)

/-- The right side of the chunk's triangular system. -/
def cX (lw k v a : Row) (S : Mat) : Mat :=
  stk (wA lw a) * S.transpose + msk (· < ·) (stk (wA lw a)) (stk (wK lw k)) * stk v
/-- The triangular matrix. -/
def cL (lw a b : Row) : Mat := msk (· < ·) (stk (wA lw a)) (stk (wK lw b))
/-- The solution. -/
def cU (lw k v a b : Row) (S : Mat) : Mat := solve6 (cL lw a b) (cX lw k v a S)
/-- The stacked outputs. -/
def cY (r lw k v a b : Row) (S : Mat) : Mat :=
  stk (wR lw r) * S.transpose + msk (· ≤ ·) (stk (wR lw r)) (stk (wK lw b)) * cU lw k v a b S
    + msk (· ≤ ·) (stk (wR lw r)) (stk (wK lw k)) * stk v
/-- The state the chunk hands on. -/
def cS (lw k v a b : Row) (S : Mat) : Mat := fun i j =>
  S i j * Real.exp (pre lw 64 j)
    + (((cU lw k v a b S).transpose * stk (wH lw b)) i j + ((stk v).transpose * stk (wH lw k)) i j)

theorem pre_ex (lw : Row) (t : ℕ) (l : Fin 128) : pre lw (t + 1) l - lw t l = pre lw t l := by
  simp [pre, sum_range_succ]

theorem lt_mod : ∀ p q : ℕ, p / 64 = q / 64 → (q < p ↔ q % 64 < p % 64) := by intro p q h; omega
theorem le_mod : ∀ p q : ℕ, p / 64 = q / 64 → (q ≤ p ↔ q % 64 ≤ p % 64) := by intro p q h; omega

/-- The removal terms solve the system. -/
theorem uu_solves (lw k v a b : Row) {S : Mat} (hS : Blk S) :
    stk (uu lw k v a b S) = cX lw k v a S + cL lw a b * stk (uu lw k v a b S) := by
  ext p i
  rw [Matrix.add_apply, cX, cL, Matrix.add_apply, stk_state _ hS, msk_mul (· < ·) lt_mod, msk_mul (· < ·) lt_mod]
  have ht : (p : ℕ) % 64 ≤ 64 := (Nat.mod_lt _ (by norm_num)).le
  unfold stk
  split_ifs with h
  · rw [sum_lt _ _ ht, sum_lt _ _ ht]
    have hu : uu lw k v a b S (p % 64) i = ∑ l, pst lw k v a b S (p % 64) i l * a (p % 64) l := rfl
    rw [hu, sum_congr rfl fun l _ => by rw [pst_closed]]
    rw [apply_closed S (pre lw (p % 64)) (a (p % 64)) (uu lw k v a b S) v b k (fun s => pre lw (s + 1))]
    simp only [wA, wK, pre_ex]
    ring
  · simp

theorem cL_nil (lw a b : Row) : cL lw a b ^ 64 = 0 := by
  refine pow_zero_of _ fun p q h => ?_
  unfold cL msk at h
  rw [stk_stk] at h
  by_cases h1 : (q : ℕ) < p
  · by_cases h2 : (p : ℕ) / 64 = (q : ℕ) / 64
    · exact (lt_mod p q h2).mp h1
    · simp [h2] at h
  · simp [h1] at h

theorem cU_eq (lw k v a b : Row) {S : Mat} (hS : Blk S) : cU lw k v a b S = stk (uu lw k v a b S) :=
  solve6_eq _ _ _ (cL_nil lw a b) (uu_solves lw k v a b hS)

/-- The chunk's outputs are the recurrence's. -/
theorem cY_eq (r lw k v a b : Row) {S : Mat} (hS : Blk S) (p i : Fin 128) :
    cY r lw k v a b S p i = if (p : ℕ) / 64 = (i : ℕ) / 64 then
      ∑ l, pst lw k v a b S (p % 64 + 1) i l * r (p % 64) l else 0 := by
  rw [cY, Matrix.add_apply, Matrix.add_apply, cU_eq _ _ _ _ _ hS, stk_state _ hS, msk_mul (· ≤ ·) le_mod,
    msk_mul (· ≤ ·) le_mod]
  have ht : (p : ℕ) % 64 + 1 ≤ 64 := Nat.mod_lt _ (by norm_num)
  split_ifs with h
  · simp only [← Nat.lt_succ_iff, Nat.succ_eq_add_one]
    rw [sum_lt _ _ ht, sum_lt _ _ ht]
    have e : (∑ l, pst lw k v a b S (p % 64 + 1) i l * r (p % 64) l) = _ :=
      (sum_congr rfl fun l _ => by rw [pst_closed]).trans
        (apply_closed S (pre lw (p % 64 + 1)) (r (p % 64)) (uu lw k v a b S) v b k (fun s => pre lw (s + 1)) _ i)
    rw [e]
    simp only [wR, wK]
    ring
  · simp

/-- A sum over stacked rows, both factors on their own head's lanes. -/
theorem stk_outer (x z : Row) (i j : Fin 128) :
    ((stk x).transpose * stk z) i j = if (i : ℕ) / 64 = (j : ℕ) / 64 then ∑ s ∈ range 64, x s i * z s j else 0 := by
  have hi := i.isLt
  rw [Matrix.mul_apply]
  split_ifs with h
  · rw [← sum_rows (fun s => x s i * z s j) ((i : ℕ) / 64) (by omega)]
    refine sum_congr rfl fun p _ => ?_
    by_cases hp : (i : ℕ) / 64 = (p : ℕ) / 64
    · simp [Matrix.transpose_apply, stk, hp.symm, ← h]
    · have : ¬ ((p : ℕ) / 64 = (i : ℕ) / 64) := fun e => hp e.symm
      simp [Matrix.transpose_apply, stk, hp, this]
  · refine sum_eq_zero fun p _ => ?_
    by_cases hp : (p : ℕ) / 64 = (i : ℕ) / 64
    · have : ¬ ((p : ℕ) / 64 = (j : ℕ) / 64) := fun e => h (hp.symm.trans e)
      simp [Matrix.transpose_apply, stk, this]
    · simp [Matrix.transpose_apply, stk, hp]

/-- The state the chunk hands on is the recurrence's after 64 tokens. -/
theorem cS_eq (lw k v a b : Row) {S : Mat} (hS : Blk S) : cS lw k v a b S = pst lw k v a b S 64 := by
  ext i j
  rw [cS, cU_eq _ _ _ _ _ hS, stk_outer, stk_outer, pst_closed]
  split_ifs with h
  · rw [mul_add, mul_sum, ← sum_add_distrib]
    congr 1
    · ring
    · refine sum_congr rfl fun s _ => ?_
      rw [wH, wH, sub_eq_add_neg, Real.exp_add]
      ring
  · ring

end Cert.Wkv

end
end
-- ==== Proof.WkvPair.lean ====
module

public import proofs.«01_k».proof.Proof.Gen.KernelIdeal.Skeleton
public import proofs.«01_k».proof.Proof.WkvChunk
public import Idealize.ShloMosaic.Lib.Pointwise

@[expose] public section

set_option maxRecDepth 16384

noncomputable section

/-! One pair of heads over one chunk, as the kernel computes it: the vector form, stage by stage. -/

namespace Cert.KernelIdeal.Gen

open Idealize.ShloMosaic Idealize.SL.Sem

/-- A chunk's rows of one pair. -/
abbrev Seq := FVec Ideal S64x128 .f32
/-- A stacked matrix. -/
abbrev Sq := FVec Ideal S128x128 .f32
/-- A stacked matrix in the narrow format. -/
abbrev Sq16 := FVec Ideal S128x128 .bf16

/-- Ones on and below the diagonal. -/
def pTri : FVec Ideal S64x64 .bf16 :=
  truncf .bf16 (select (cmpi .sle (iota .tc S64x64 32 [1] iota_S64x64_d1_w32) (iota .tc S64x64 32 [0] iota_S64x64_d0_w32))
    (broadcast S64x64 (Scalar.ofBits .f32 0x3F800000#32 : Ideal .f32)) (broadcast S64x64 (Scalar.ofBits .f32 0x00000000#32 : Ideal .f32)))
    bitsLt_bf16_f32
/-- Ones against a part of the log decays. -/
def pDot (x : FVec Ideal S64x128 .bf16) : Seq :=
  matmul dot_S64x64_S64x128_S64x128_1_0_0_1_n_n none pTri x (constant S64x128 .f32 0x00000000#32)
/-- The narrow part of a vector. -/
def pHi (x : Seq) : FVec Ideal S64x128 .bf16 := truncf .bf16 x bitsLt_bf16_f32
/-- What the narrow part leaves. -/
def pLo (x : Seq) : Seq := subf x (extf .f32 (pHi x) bitsLt_bf16_f32)
/-- The inclusive sums of the log decays, in three parts. -/
def pCum (lw : Seq) : Seq := addf (pDot (pHi lw)) (addf (pDot (pHi (pLo lw))) (pDot (pHi (pLo (pLo lw)))))
/-- The lanes of the first head. -/
def pLane : IVec S64x128 1 := cmpi .slt (iota .tc S64x128 32 [1] iota_S64x128_d1_w32) (broadcast S64x128 64#32)
/-- Zeros. -/
def pZero : Seq := broadcast S64x128 (Scalar.ofBits .f32 0x00000000#32 : Ideal .f32)
/-- The two heads' rows stacked. -/
def pStack (x : Seq) : Sq16 :=
  truncf .bf16 (concatenate S128x128 0 [⟨S64x128, select pLane x pZero⟩, ⟨S64x128, select pLane pZero x⟩]
    concatenates_S64x128_S64x128_S128x128_d0) bitsLt_bf16_f32
/-- Narrowing a stacked matrix. -/
def pT (x : Sq) : Sq16 := truncf .bf16 x bitsLt_bf16_f32
/-- Rows against rows. -/
def pNT (x y : Sq16) : Sq := matmul dot_S128x128_S128x128_S128x128_1_1_0_0_n_n none x y (constant S128x128 .f32 0x00000000#32)
/-- The matrix product. -/
def pNN (x y : Sq16) : Sq := matmul dot_S128x128_S128x128_S128x128_1_0_0_1_n_n none x y (constant S128x128 .f32 0x00000000#32)
/-- Columns against columns. -/
def pTN (x y : Sq16) : Sq := matmul dot_S128x128_S128x128_S128x128_0_0_1_1_n_n none x y (constant S128x128 .f32 0x00000000#32)
/-- Below the diagonal. -/
def pStrict (x : Sq) : Sq :=
  select (cmpi .slt (iota .tc S128x128 32 [1] iota_S128x128_d1_w32) (iota .tc S128x128 32 [0] iota_S128x128_d0_w32)) x
    (broadcast S128x128 (Scalar.ofBits .f32 0x00000000#32 : Ideal .f32))
/-- On and below the diagonal. -/
def pIncl (x : Sq) : Sq :=
  select (cmpi .sle (iota .tc S128x128 32 [1] iota_S128x128_d1_w32) (iota .tc S128x128 32 [0] iota_S128x128_d0_w32)) x
    (broadcast S128x128 (Scalar.ofBits .f32 0x00000000#32 : Ideal .f32))
/-- The last row of the sums. -/
def pTot (c : Seq) : FVec Ideal S1x128 .f32 := extractStridedSlice S1x128 ![63, 0] c slices_S64x128_o63_0_S1x128

/-- Removal vectors decayed up to their token. -/
def pA (lw na : Seq) : Sq16 := pStack (mulf na (exp (subf (pCum lw) lw)))
/-- Receptances decayed through their token. -/
def pR (lw r : Seq) : Sq16 := pStack (mulf r (exp (pCum lw)))
/-- Keys with the decay through their token taken out. -/
def pK (lw k : Seq) : Sq16 := pStack (mulf k (exp (subf pZero (pCum lw))))
/-- Keys with the decay still to come. -/
def pH (lw k : Seq) : Sq16 :=
  pStack (mulf k (exp (subf (broadcastTo S64x128 (pTot (pCum lw)) broadcasts_S1x128_S64x128) (pCum lw))))
/-- The system's right side. -/
def pX (lw k v na : Seq) (S : Sq) : Sq :=
  addf (pNT (pA lw na) (pT S)) (pNN (pT (pStrict (pNT (pA lw na) (pK lw k)))) (pStack v))
/-- The system's matrix. -/
def pL (lw na b : Seq) : Sq := pStrict (pNT (pA lw na) (pK lw b))
/-- One doubling of the solution. -/
def pGo (p : Sq16) (x : Sq) : Sq := addf x (pNN p (pT x))
/-- One doubling of the power. -/
def pSq (p : Sq16) : Sq16 := pT (pNN p p)
/-- Six doublings. -/
def pSolve (L X : Sq) : Sq :=
  pGo (pSq (pSq (pSq (pSq (pSq (pT L)))))) (pGo (pSq (pSq (pSq (pSq (pT L))))) (pGo (pSq (pSq (pSq (pT L))))
    (pGo (pSq (pSq (pT L))) (pGo (pSq (pT L)) (pGo (pT L) X)))))
/-- The solution, narrowed. -/
def pU (lw k v na b : Seq) (S : Sq) : Sq16 := pT (pSolve (pL lw na b) (pX lw k v na S))
/-- The stacked outputs. -/
def pYs (r lw k v na b : Seq) (S : Sq) : Sq :=
  addf (addf (pNT (pR lw r) (pT S)) (pNN (pT (pIncl (pNT (pR lw r) (pK lw b)))) (pU lw k v na b S)))
    (pNN (pT (pIncl (pNT (pR lw r) (pK lw k)))) (pStack v))
/-- The outputs, the two heads folded together. -/
def pY (r lw k v na b : Seq) (S : Sq) : Seq :=
  addf (extractStridedSlice S64x128 ![0, 0] (pYs r lw k v na b S) slices_S128x128_o0_0_S64x128)
    (extractStridedSlice S64x128 ![64, 0] (pYs r lw k v na b S) slices_S128x128_o64_0_S64x128)
/-- The next state. -/
def pS (lw k v na b : Seq) (S : Sq) : Sq :=
  addf (mulf S (broadcastTo S128x128 (exp (pTot (pCum lw))) broadcasts_S1x128_S128x128))
    (addf (pTN (pU lw k v na b S) (pH lw b)) (pTN (pStack v) (pH lw k)))

/-! What the stages are worth on finite inputs. -/

/-- A stacked matrix that is a real one. -/
def IsM {φ : FTy} (X : FVec Ideal S128x128 φ) (M : Cert.Wkv.Mat) : Prop := ∀ i j : Fin 128, X (ix2 i j) = ((M i j : ℝ) : EReal)
/-- A chunk's rows that are real ones. -/
def IsR {φ : FTy} (X : FVec Ideal S64x128 φ) (x : Cert.Wkv.Row) : Prop := ∀ (i : Fin 64) (j : Fin 128), X (ix2 i j) = ((x i j : ℝ) : EReal)

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem isM_T {X : Sq} {M} (h : IsM X M) : IsM (pT X) M := h

theorem isM_add {X Y : Sq} {M N} (h : IsM X M) (g : IsM Y N) : IsM (addf X Y) (M + N) := fun i j => by
  pointwise; rw [h i j, g i j]; rfl

theorem isM_NN {X Y : Sq16} {M N} (h : IsM X M) (g : IsM Y N) : IsM (pNN X Y) (M * N) := fun i j => by
  pointwise [pNN]
  rw [Matrix.mul_apply, ← coe_sum]
  exact Finset.sum_congr rfl fun k _ => by rw [h i k, g k j, EReal.coe_mul]

theorem isM_NT {X Y : Sq16} {M N} (h : IsM X M) (g : IsM Y N) : IsM (pNT X Y) (M * N.transpose) := fun i j => by
  pointwise [pNT]
  rw [Matrix.mul_apply, ← coe_sum]
  exact Finset.sum_congr rfl fun k _ => by rw [h i k, g j k, EReal.coe_mul, Matrix.transpose_apply]

theorem isM_TN {X Y : Sq16} {M N} (h : IsM X M) (g : IsM Y N) : IsM (pTN X Y) (M.transpose * N) := fun i j => by
  pointwise [pTN]
  rw [Matrix.mul_apply, ← coe_sum]
  exact Finset.sum_congr rfl fun k _ => by rw [h k i, g k j, EReal.coe_mul, Matrix.transpose_apply]

theorem toInt_lane : ∀ a : Fin 128, (BitVec.ofNat 32 (a : ℕ)).toInt = (a : ℕ) := by decide +kernel

theorem sel_lt (a b : Fin 128) (x y : EReal) :
    Scalar.select (IntOp.cmpi CmpIPredicate.slt (BitVec.ofNat 32 ↑a) (BitVec.ofNat 32 ↑b)) x y = if a < b then x else y := by
  have e : (BitVec.ofNat 32 (a : ℕ)).slt (BitVec.ofNat 32 (b : ℕ)) = decide (a < b) := by
    rw [BitVec.slt_eq_decide, toInt_lane, toInt_lane]
    exact decide_eq_decide.2 (by rw [Fin.lt_def]; omega)
  by_cases h : a < b <;> simp [Scalar.select, IntOp.cmpi, e, h]

theorem sel_le (a b : Fin 128) (x y : EReal) :
    Scalar.select (IntOp.cmpi CmpIPredicate.sle (BitVec.ofNat 32 ↑a) (BitVec.ofNat 32 ↑b)) x y = if a ≤ b then x else y := by
  have e : (BitVec.ofNat 32 (a : ℕ)).sle (BitVec.ofNat 32 (b : ℕ)) = decide (a ≤ b) := by
    rw [BitVec.sle_eq_decide, toInt_lane, toInt_lane]
    exact decide_eq_decide.2 (by rw [Fin.le_def]; omega)
  by_cases h : a ≤ b <;> simp [Scalar.select, IntOp.cmpi, e, h]

theorem isM_strict {X : Sq} {M : Cert.Wkv.Mat} (h : IsM X M) : IsM (pStrict X) (fun i j => if (j : ℕ) < i then M i j else 0) := fun i j => by
  pointwise [pStrict]
  rw [sel_lt, h i j]
  by_cases e : j < i
  · rw [if_pos e, if_pos (Fin.lt_def.1 e)]
  · rw [if_neg e, if_neg (fun c => e (Fin.lt_def.2 c))]; rfl

theorem isM_incl {X : Sq} {M : Cert.Wkv.Mat} (h : IsM X M) : IsM (pIncl X) (fun i j => if (j : ℕ) ≤ i then M i j else 0) := fun i j => by
  pointwise [pIncl]
  rw [sel_le, h i j]
  by_cases e : j ≤ i
  · rw [if_pos e, if_pos (Fin.le_def.1 e)]
  · rw [if_neg e, if_neg (fun c => e (Fin.le_def.2 c))]; rfl

theorem isM_stack {X : Seq} {x} (h : IsR X x) : IsM (pStack X) (Cert.Wkv.stk x) := fun i j => by
  pointwise [pStack, pLane, pZero]
  have s := fun x y => sel_lt j 64 x y
  rw [show (BitVec.ofNat 32 ((64 : Fin 128) : ℕ)) = 64#32 from rfl] at s
  have i2 := i.2
  have j2 := j.2
  have lt : j < 64 ↔ (j : ℕ) < 64 := Fin.lt_def
  unfold Cert.Wkv.stk
  by_cases a : (i : ℕ) < 64
  · rw [dif_pos a, s]
    by_cases b : (j : ℕ) < 64
    · rw [if_pos (lt.2 b), if_pos (by omega), h]; simp only [Nat.mod_eq_of_lt a]
    · rw [if_neg (fun c => b (lt.1 c)), if_neg (by omega)]; rfl
  · rw [dif_neg a, s]
    by_cases b : (j : ℕ) < 64
    · rw [if_pos (lt.2 b), if_neg (by omega)]; rfl
    · rw [if_neg (fun c => b (lt.1 c))]
      exact (h ⟨(i : ℕ) - 64, by omega⟩ j).trans
        (by rw [if_pos (by omega), show (i : ℕ) % 64 = i - 64 by omega])

theorem pTri_at (i k : Fin 64) : pTri (ix2 i k) = if k ≤ i then 1 else 0 := by
  pointwise [pTri]
  exact sel_le ⟨k, by omega⟩ ⟨i, by omega⟩ 1 0

theorem pDot_at (X : FVec Ideal S64x128 .bf16) (i : Fin 64) (j : Fin 128) :
    pDot X (ix2 i j) = ∑ k : Fin 64, pTri (ix2 i k) * X (ix2 k j) := by
  pointwise [pDot]

theorem pTot_at (c : Seq) (i : Fin 1) (j : Fin 128) : pTot c (ix2 i j) = c (ix2 63 j) := by
  pointwise [pTot]

theorem isR_exp {X : Seq} {x} (h : IsR X x) : IsR (exp X) (fun i j => Real.exp (x i j)) := fun i j => by
  pointwise; rw [h i j]; rfl
theorem isR_mul {X Y : Seq} {x y} (h : IsR X x) (g : IsR Y y) : IsR (mulf X Y) (fun i j => x i j * y i j) := fun i j => by
  pointwise; rw [h i j, g i j]; rfl
theorem isR_sub {X Y : Seq} {x y} (h : IsR X x) (g : IsR Y y) : IsR (subf X Y) (fun i j => x i j - y i j) := fun i j => by
  pointwise; rw [h i j, g i j]; rfl
theorem isR_add {X Y : Seq} {x y} (h : IsR X x) (g : IsR Y y) : IsR (addf X Y) (fun i j => x i j + y i j) := fun i j => by
  pointwise; rw [h i j, g i j]; rfl
theorem isR_zero : IsR pZero (fun i j => 0) := fun i j => by
  pointwise [pZero]; rfl
theorem isR_bc {X : Seq} {x : Cert.Wkv.Row} (h : IsR X x) :
    IsR (broadcastTo S64x128 (pTot X) broadcasts_S1x128_S64x128) (fun i j => x 63 j) := fun i j => by
  pointwise
  rw [pTot_at]; exact h 63 j

theorem isR_hi {X : Seq} {x} (h : IsR X x) : IsR (pHi X) x := h
theorem isR_lo {X : Seq} {x} (h : IsR X x) : IsR (pLo X) (fun i j => 0) := fun i j => by
  have e : pLo X (ix2 i j) = X (ix2 i j) - X (ix2 i j) := rfl
  rw [e, h i j, ← EReal.coe_sub, sub_self]

theorem isR_dot {X : FVec Ideal S64x128 .bf16} {x : Cert.Wkv.Row} (h : IsR X x) :
    IsR (pDot X) (fun i j => Cert.Wkv.pre x (i + 1) j) := fun i j => by
  have e : (∑ k : Fin 64, pTri (ix2 i k) * X (ix2 k j))
      = ∑ k : Fin 64, (((if (k : ℕ) ≤ i then x k j else 0 : ℝ)) : EReal) := by
    refine Finset.sum_congr rfl fun k _ => ?_
    rw [pTri_at, h k j]
    by_cases c : k ≤ i
    · rw [if_pos c, if_pos (Fin.le_def.1 c), one_mul]
    · rw [if_neg c, if_neg (fun d => c (Fin.le_def.2 d)), zero_mul]; rfl
  rw [pDot_at, e, coe_sum]
  refine congrArg (fun z : ℝ => (z : EReal)) ?_
  show _ = ∑ s ∈ Finset.range (i + 1), x s j
  rw [Fin.sum_univ_eq_sum_range (fun k => if k ≤ (i : ℕ) then x k j else 0) 64, ← Finset.sum_filter]
  refine Finset.sum_congr ?_ fun _ _ => rfl
  ext k
  simp only [Finset.mem_filter, Finset.mem_range]
  omega

theorem pre_zero (i : ℕ) (j : Fin 128) : Cert.Wkv.pre (fun _ _ => 0) i j = 0 := by simp [Cert.Wkv.pre]

theorem isR_cum {X : Seq} {x : Cert.Wkv.Row} (h : IsR X x) : IsR (pCum X) (fun i j => Cert.Wkv.pre x (i + 1) j) := fun i j => by
  refine (isR_add (isR_dot (isR_hi h)) (isR_add (isR_dot (isR_hi (isR_lo h))) (isR_dot (isR_hi (isR_lo (isR_lo h)))))
    i j).trans ?_
  simp only [pre_zero, add_zero]

section
variable {r lw k v na b : Seq} {xr xl xk xv xa xb : Cert.Wkv.Row} {S : Sq} {M : Cert.Wkv.Mat}
  (hr : IsR r xr) (hl : IsR lw xl) (hk : IsR k xk) (hv : IsR v xv) (ha : IsR na xa) (hb : IsR b xb) (hS : IsM S M)
include hl

theorem isM_A (ha : IsR na xa) : IsM (pA lw na) (Cert.Wkv.stk (Cert.Wkv.wA xl xa)) :=
  isM_stack (isR_mul ha (isR_exp (isR_sub (isR_cum hl) hl)))
theorem isM_R (hr : IsR r xr) : IsM (pR lw r) (Cert.Wkv.stk (Cert.Wkv.wR xl xr)) :=
  isM_stack (isR_mul hr (isR_exp (isR_cum hl)))
theorem isM_K (hk : IsR k xk) : IsM (pK lw k) (Cert.Wkv.stk (Cert.Wkv.wK xl xk)) := by
  have h := isM_stack (isR_mul hk (isR_exp (isR_sub isR_zero (isR_cum hl))))
  simp only [zero_sub] at h
  exact h
theorem isM_H (hk : IsR k xk) : IsM (pH lw k) (Cert.Wkv.stk (Cert.Wkv.wH xl xk)) :=
  isM_stack (isR_mul hk (isR_exp (isR_sub (isR_bc (isR_cum hl)) (isR_cum hl))))

theorem isM_X (hk : IsR k xk) (hv : IsR v xv) (ha : IsR na xa) (hS : IsM S M) :
    IsM (pX lw k v na S) (Cert.Wkv.cX xl xk xv xa M) :=
  isM_add (isM_NT (isM_A hl ha) (isM_T hS)) (isM_NN (isM_T (isM_strict (isM_NT (isM_A hl ha) (isM_K hl hk)))) (isM_stack hv))

theorem isM_L (ha : IsR na xa) (hb : IsR b xb) : IsM (pL lw na b) (Cert.Wkv.cL xl xa xb) :=
  isM_strict (isM_NT (isM_A hl ha) (isM_K hl hb))
end

theorem isM_go {P : Sq16} {X : Sq} {M N} (h : IsM P M) (g : IsM X N) : IsM (pGo P X) (N + M * N) := isM_add g (isM_NN h (isM_T g))
theorem isM_sq {P : Sq16} {M} (h : IsM P M) : IsM (pSq P) (M * M) := isM_T (isM_NN h h)

theorem isM_solve {L X : Sq} {M N} (h : IsM L M) (g : IsM X N) : IsM (pSolve L X) (Cert.Wkv.solve6 M N) := by
  have h0 := isM_T h
  have h1 := isM_sq h0
  have h2 := isM_sq h1
  have h3 := isM_sq h2
  have h4 := isM_sq h3
  have h5 := isM_sq h4
  exact isM_go h5 (isM_go h4 (isM_go h3 (isM_go h2 (isM_go h1 (isM_go h0 g)))))

section
variable {r lw k v na b : Seq} {xr xl xk xv xa xb : Cert.Wkv.Row} {S : Sq} {M : Cert.Wkv.Mat}

theorem isM_U (hl : IsR lw xl) (hk : IsR k xk) (hv : IsR v xv) (ha : IsR na xa) (hb : IsR b xb) (hS : IsM S M) :
    IsM (pU lw k v na b S) (Cert.Wkv.cU xl xk xv xa xb M) :=
  isM_T (isM_solve (isM_L hl ha hb) (isM_X hl hk hv ha hS))

theorem isM_Ys (hr : IsR r xr) (hl : IsR lw xl) (hk : IsR k xk) (hv : IsR v xv) (ha : IsR na xa) (hb : IsR b xb)
    (hS : IsM S M) : IsM (pYs r lw k v na b S) (Cert.Wkv.cY xr xl xk xv xa xb M) :=
  isM_add (isM_add (isM_NT (isM_R hl hr) (isM_T hS))
    (isM_NN (isM_T (isM_incl (isM_NT (isM_R hl hr) (isM_K hl hb)))) (isM_U hl hk hv ha hb hS)))
    (isM_NN (isM_T (isM_incl (isM_NT (isM_R hl hr) (isM_K hl hk)))) (isM_stack hv))

/-- The pair's next state, on finite inputs, is the recurrence's state after the chunk. -/
theorem pS_eq (hl : IsR lw xl) (hk : IsR k xk) (hv : IsR v xv) (ha : IsR na xa) (hb : IsR b xb)
    (hS : IsM S M) (hM : Cert.Wkv.Blk M) : IsM (pS lw k v na b S) (Cert.Wkv.pst xl xk xv xa xb M 64) := by
  rw [← Cert.Wkv.cS_eq _ _ _ _ _ hM]
  refine isM_add (M := fun i j => M i j * Real.exp (Cert.Wkv.pre xl 64 j)) (fun i j => ?_)
    (isM_add (isM_TN (isM_U hl hk hv ha hb hS) (isM_H hl hb)) (isM_TN (isM_stack hv) (isM_H hl hk)))
  pointwise
  rw [hS i j, pTot_at, isR_cum hl 63 j]; rfl

/-- The pair's outputs, on finite inputs, are the recurrence's. -/
theorem pY_eq (hr : IsR r xr) (hl : IsR lw xl) (hk : IsR k xk) (hv : IsR v xv) (ha : IsR na xa) (hb : IsR b xb)
    (hS : IsM S M) (hM : Cert.Wkv.Blk M) :
    IsR (pY r lw k v na b S) (fun t i => ∑ l, Cert.Wkv.pst xl xk xv xa xb M (t + 1) i l * xr t l) := fun t i => by
  have e : pY r lw k v na b S (ix2 t i) = pYs r lw k v na b S (ix2 ⟨t, by omega⟩ i) + pYs r lw k v na b S (ix2 ⟨64 + t, by omega⟩ i) := by
    pointwise [pY]
  have h := isM_Ys hr hl hk hv ha hb hS
  have t2 := t.2
  have i2 := i.2
  rw [e, h, h, ← EReal.coe_add, Cert.Wkv.cY_eq _ _ _ _ _ _ hM, Cert.Wkv.cY_eq _ _ _ _ _ _ hM]
  congr 1
  simp only [Nat.add_mod_left, Nat.mod_eq_of_lt t2]
  by_cases c : (i : ℕ) < 64
  · rw [if_pos (by omega), if_neg (by omega), add_zero]
  · rw [if_neg (by omega), if_pos (by omega), zero_add]

end

end Cert.KernelIdeal.Gen

end
end
-- ==== Proof.WkvPieces.lean ====
module

public import proofs.«01_k».proof.Proof.WkvPair
public import Idealize.ShloMosaic.Lib.Tactic

@[expose] public section

set_option maxRecDepth 16384

noncomputable section

/-! Each pair's stored values are the pair's vector form of what the pair loads. -/

namespace Cert.KernelIdeal.Gen

open Idealize.ShloMosaic Idealize.SL.Sem

/-- A loaded state of one pair. -/
abbrev LSq := Vec Ideal S1x128x128 .f32

theorem pairY0 (r lw k v na b : Seq) (S : LSq) :
    (k0_pay357 (k0_pay332 (k0_pay155 v k0_pay115) (k0_pay219 k0_pay191 (k0_pay218 (k0_pay126 r (k0_pay82 (k0_pay64 lw (k0_pay61 (F := Ideal)) (k0_pay62 lw) (k0_pay63 lw))) k0_pay115) (k0_pay147 k (k0_pay98 (k0_pay64 lw (k0_pay61 (F := Ideal)) (k0_pay62 lw) (k0_pay63 lw))) k0_pay115))) (k0_pay331 (k0_pay126 r (k0_pay82 (k0_pay64 lw (k0_pay61 (F := Ideal)) (k0_pay62 lw) (k0_pay63 lw))) k0_pay115) (k0_pay182 (k0_pay53 S)) (k0_pay210 (k0_pay126 r (k0_pay82 (k0_pay64 lw (k0_pay61 (F := Ideal)) (k0_pay62 lw) (k0_pay63 lw))) k0_pay115) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))) k0_pay191) (k0_pay310 (k0_pay291 (k0_pay274 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))))) (k0_pay258 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal)))))) (k0_pay242 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))) (k0_pay227 (k0_pay116 na (k0_pay90 lw (k0_pay64 lw (k0_pay61 (F := Ideal)) (k0_pay62 lw) (k0_pay63 lw)))) (k0_pay155 v k0_pay115) (k0_pay182 (k0_pay53 S)) (k0_pay201 (k0_pay116 na (k0_pay90 lw (k0_pay64 lw (k0_pay61 (F := Ideal)) (k0_pay62 lw) (k0_pay63 lw)))) (k0_pay147 k (k0_pay98 (k0_pay64 lw (k0_pay61 (F := Ideal)) (k0_pay62 lw) (k0_pay63 lw))) k0_pay115) k0_pay190))))) (k0_pay282 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))))))) (k0_pay299 (k0_pay282 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal)))))))))) (k0_pay318 (k0_pay299 (k0_pay282 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))))))))))) = k0_pay1 (pY r lw k v na b (k0_pay53 S)) := by sl_kernel_rfl

theorem pairS0 (lw k v na b : Seq) (S : LSq) :
    (k0_pay358 (k0_pay341 (k0_pay53 S) (k0_pay74 (k0_pay64 lw (k0_pay61 (F := Ideal)) (k0_pay62 lw) (k0_pay63 lw))) (k0_pay155 v k0_pay115) (k0_pay164 b (k0_pay107 (k0_pay64 lw (k0_pay61 (F := Ideal)) (k0_pay62 lw) (k0_pay63 lw)) (k0_pay74 (k0_pay64 lw (k0_pay61 (F := Ideal)) (k0_pay62 lw) (k0_pay63 lw)))) k0_pay115) (k0_pay173 k (k0_pay107 (k0_pay64 lw (k0_pay61 (F := Ideal)) (k0_pay62 lw) (k0_pay63 lw)) (k0_pay74 (k0_pay64 lw (k0_pay61 (F := Ideal)) (k0_pay62 lw) (k0_pay63 lw)))) k0_pay115) (k0_pay323 (k0_pay310 (k0_pay291 (k0_pay274 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))))) (k0_pay258 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal)))))) (k0_pay242 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))) (k0_pay227 (k0_pay116 na (k0_pay90 lw (k0_pay64 lw (k0_pay61 (F := Ideal)) (k0_pay62 lw) (k0_pay63 lw)))) (k0_pay155 v k0_pay115) (k0_pay182 (k0_pay53 S)) (k0_pay201 (k0_pay116 na (k0_pay90 lw (k0_pay64 lw (k0_pay61 (F := Ideal)) (k0_pay62 lw) (k0_pay63 lw)))) (k0_pay147 k (k0_pay98 (k0_pay64 lw (k0_pay61 (F := Ideal)) (k0_pay62 lw) (k0_pay63 lw))) k0_pay115) k0_pay190))))) (k0_pay282 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))))))) (k0_pay299 (k0_pay282 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal)))))))))) (k0_pay318 (k0_pay299 (k0_pay282 (k0_pay250 (k0_pay234 (k0_pay193 k0_pay190 (k0_pay192 (k0_pay116 na (k0_pay90 lw (k0_pay64 lw (k0_pay61 (F := Ideal)) (k0_pay62 lw) (k0_pay63 lw)))) (k0_pay137 k0_pay115 (k0_pay134 b (k0_pay98 (k0_pay64 lw (k0_pay61 (F := Ideal)) (k0_pay62 lw) (k0_pay63 lw)))) (k0_pay135 b (k0_pay98 (k0_pay64 lw (k0_pay61 (F := Ideal)) (k0_pay62 lw) (k0_pay63 lw))) k0_pay115) (k0_pay136 (F := Ideal))))))))))))) = k0_pay2 (pS lw k v na b (k0_pay53 S)) := by sl_kernel_rfl

theorem pairY1 (r lw k v na b : Seq) (S : LSq) :
    (k0_pay359 (k0_pay350 (k0_pay333 (k0_pay127 r (k0_pay83 (k0_pay65 lw (k0_pay61 (F := Ideal)))) k0_pay115) (k0_pay156 v k0_pay115) (k0_pay183 (k0_pay54 S)) (k0_pay211 (k0_pay127 r (k0_pay83 (k0_pay65 lw (k0_pay61 (F := Ideal)))) k0_pay115) (k0_pay138 b (k0_pay99 (k0_pay65 lw (k0_pay61 (F := Ideal)))) k0_pay115) k0_pay191) (k0_pay220 (k0_pay127 r (k0_pay83 (k0_pay65 lw (k0_pay61 (F := Ideal)))) k0_pay115) (k0_pay148 k (k0_pay99 (k0_pay65 lw (k0_pay61 (F := Ideal)))) k0_pay115) k0_pay191) (k0_pay324 (k0_pay311 (k0_pay292 (k0_pay267 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190)))) (k0_pay275 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190))) (k0_pay259 (k0_pay235 (k0_pay194 (k0_pay117 na (k0_pay91 lw (k0_pay65 lw (k0_pay61 (F := Ideal))))) (k0_pay138 b (k0_pay99 (k0_pay65 lw (k0_pay61 (F := Ideal)))) k0_pay115) k0_pay190)) (k0_pay243 (k0_pay194 (k0_pay117 na (k0_pay91 lw (k0_pay65 lw (k0_pay61 (F := Ideal))))) (k0_pay138 b (k0_pay99 (k0_pay65 lw (k0_pay61 (F := Ideal)))) k0_pay115) k0_pay190) (k0_pay228 (k0_pay117 na (k0_pay91 lw (k0_pay65 lw (k0_pay61 (F := Ideal))))) (k0_pay156 v k0_pay115) (k0_pay183 (k0_pay54 S)) (k0_pay202 (k0_pay117 na (k0_pay91 lw (k0_pay65 lw (k0_pay61 (F := Ideal))))) (k0_pay148 k (k0_pay99 (k0_pay65 lw (k0_pay61 (F := Ideal)))) k0_pay115) k0_pay190)))))) (k0_pay300 (k0_pay267 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190)))))) (k0_pay319 (k0_pay300 (k0_pay267 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190)))))))))) = k0_pay1 (pY r lw k v na b (k0_pay53 S)) := by sl_kernel_rfl

theorem pairS1 (lw k v na b : Seq) (S : LSq) :
    (k0_pay360 (k0_pay342 (k0_pay54 S) (k0_pay75 (k0_pay65 lw (k0_pay61 (F := Ideal)))) (k0_pay156 v k0_pay115) (k0_pay165 b (k0_pay108 (k0_pay65 lw (k0_pay61 (F := Ideal))) (k0_pay75 (k0_pay65 lw (k0_pay61 (F := Ideal))))) k0_pay115) (k0_pay174 k (k0_pay108 (k0_pay65 lw (k0_pay61 (F := Ideal))) (k0_pay75 (k0_pay65 lw (k0_pay61 (F := Ideal))))) k0_pay115) (k0_pay324 (k0_pay311 (k0_pay292 (k0_pay267 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190)))) (k0_pay275 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190))) (k0_pay259 (k0_pay235 (k0_pay194 (k0_pay117 na (k0_pay91 lw (k0_pay65 lw (k0_pay61 (F := Ideal))))) (k0_pay138 b (k0_pay99 (k0_pay65 lw (k0_pay61 (F := Ideal)))) k0_pay115) k0_pay190)) (k0_pay243 (k0_pay194 (k0_pay117 na (k0_pay91 lw (k0_pay65 lw (k0_pay61 (F := Ideal))))) (k0_pay138 b (k0_pay99 (k0_pay65 lw (k0_pay61 (F := Ideal)))) k0_pay115) k0_pay190) (k0_pay228 (k0_pay117 na (k0_pay91 lw (k0_pay65 lw (k0_pay61 (F := Ideal))))) (k0_pay156 v k0_pay115) (k0_pay183 (k0_pay54 S)) (k0_pay202 (k0_pay117 na (k0_pay91 lw (k0_pay65 lw (k0_pay61 (F := Ideal))))) (k0_pay148 k (k0_pay99 (k0_pay65 lw (k0_pay61 (F := Ideal)))) k0_pay115) k0_pay190)))))) (k0_pay300 (k0_pay267 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190)))))) (k0_pay319 (k0_pay300 (k0_pay267 (k0_pay251 (k0_pay235 (k0_pay194 (k0_pay117 na (k0_pay91 lw (k0_pay65 lw (k0_pay61 (F := Ideal))))) (k0_pay138 b (k0_pay99 (k0_pay65 lw (k0_pay61 (F := Ideal)))) k0_pay115) k0_pay190))))))))) = k0_pay2 (pS lw k v na b (k0_pay53 S)) := by sl_kernel_rfl

theorem pairY2 (r lw k v na b : Seq) (S : LSq) :
    (k0_pay361 (k0_pay351 (k0_pay334 (k0_pay128 r (k0_pay84 (k0_pay66 lw (k0_pay61 (F := Ideal)))) k0_pay115) (k0_pay157 v k0_pay115) (k0_pay184 (k0_pay55 S)) (k0_pay212 (k0_pay128 r (k0_pay84 (k0_pay66 lw (k0_pay61 (F := Ideal)))) k0_pay115) (k0_pay139 b (k0_pay100 (k0_pay66 lw (k0_pay61 (F := Ideal)))) k0_pay115) k0_pay191) (k0_pay221 (k0_pay128 r (k0_pay84 (k0_pay66 lw (k0_pay61 (F := Ideal)))) k0_pay115) (k0_pay149 k (k0_pay100 (k0_pay66 lw (k0_pay61 (F := Ideal)))) k0_pay115) k0_pay191) (k0_pay325 (k0_pay312 (k0_pay293 (k0_pay268 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190)))) (k0_pay276 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190))) (k0_pay260 (k0_pay236 (k0_pay195 (k0_pay118 na (k0_pay92 lw (k0_pay66 lw (k0_pay61 (F := Ideal))))) (k0_pay139 b (k0_pay100 (k0_pay66 lw (k0_pay61 (F := Ideal)))) k0_pay115) k0_pay190)) (k0_pay244 (k0_pay195 (k0_pay118 na (k0_pay92 lw (k0_pay66 lw (k0_pay61 (F := Ideal))))) (k0_pay139 b (k0_pay100 (k0_pay66 lw (k0_pay61 (F := Ideal)))) k0_pay115) k0_pay190) (k0_pay229 (k0_pay118 na (k0_pay92 lw (k0_pay66 lw (k0_pay61 (F := Ideal))))) (k0_pay157 v k0_pay115) (k0_pay184 (k0_pay55 S)) (k0_pay203 (k0_pay118 na (k0_pay92 lw (k0_pay66 lw (k0_pay61 (F := Ideal))))) (k0_pay149 k (k0_pay100 (k0_pay66 lw (k0_pay61 (F := Ideal)))) k0_pay115) k0_pay190)))))) (k0_pay301 (k0_pay268 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190)))))) (k0_pay320 (k0_pay301 (k0_pay268 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190)))))))))) = k0_pay1 (pY r lw k v na b (k0_pay53 S)) := by sl_kernel_rfl

theorem pairS2 (lw k v na b : Seq) (S : LSq) :
    (k0_pay362 (k0_pay343 (k0_pay55 S) (k0_pay76 (k0_pay66 lw (k0_pay61 (F := Ideal)))) (k0_pay157 v k0_pay115) (k0_pay166 b (k0_pay109 (k0_pay66 lw (k0_pay61 (F := Ideal))) (k0_pay76 (k0_pay66 lw (k0_pay61 (F := Ideal))))) k0_pay115) (k0_pay176 (k0_pay175 k (k0_pay109 (k0_pay66 lw (k0_pay61 (F := Ideal))) (k0_pay76 (k0_pay66 lw (k0_pay61 (F := Ideal))))) k0_pay115)) (k0_pay325 (k0_pay312 (k0_pay293 (k0_pay268 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190)))) (k0_pay276 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190))) (k0_pay260 (k0_pay236 (k0_pay195 (k0_pay118 na (k0_pay92 lw (k0_pay66 lw (k0_pay61 (F := Ideal))))) (k0_pay139 b (k0_pay100 (k0_pay66 lw (k0_pay61 (F := Ideal)))) k0_pay115) k0_pay190)) (k0_pay244 (k0_pay195 (k0_pay118 na (k0_pay92 lw (k0_pay66 lw (k0_pay61 (F := Ideal))))) (k0_pay139 b (k0_pay100 (k0_pay66 lw (k0_pay61 (F := Ideal)))) k0_pay115) k0_pay190) (k0_pay229 (k0_pay118 na (k0_pay92 lw (k0_pay66 lw (k0_pay61 (F := Ideal))))) (k0_pay157 v k0_pay115) (k0_pay184 (k0_pay55 S)) (k0_pay203 (k0_pay118 na (k0_pay92 lw (k0_pay66 lw (k0_pay61 (F := Ideal))))) (k0_pay149 k (k0_pay100 (k0_pay66 lw (k0_pay61 (F := Ideal)))) k0_pay115) k0_pay190)))))) (k0_pay301 (k0_pay268 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190)))))) (k0_pay320 (k0_pay301 (k0_pay268 (k0_pay252 (k0_pay236 (k0_pay195 (k0_pay118 na (k0_pay92 lw (k0_pay66 lw (k0_pay61 (F := Ideal))))) (k0_pay139 b (k0_pay100 (k0_pay66 lw (k0_pay61 (F := Ideal)))) k0_pay115) k0_pay190))))))))) = k0_pay2 (pS lw k v na b (k0_pay53 S)) := by sl_kernel_rfl

theorem pairY3 (r lw k v na b : Seq) (S : LSq) :
    (k0_pay363 (k0_pay352 (k0_pay335 (k0_pay129 r (k0_pay85 (k0_pay67 lw (k0_pay61 (F := Ideal)))) k0_pay115) (k0_pay158 v k0_pay115) (k0_pay185 (k0_pay56 S)) (k0_pay213 (k0_pay129 r (k0_pay85 (k0_pay67 lw (k0_pay61 (F := Ideal)))) k0_pay115) (k0_pay140 b (k0_pay101 (k0_pay67 lw (k0_pay61 (F := Ideal)))) k0_pay115) k0_pay191) (k0_pay222 (k0_pay129 r (k0_pay85 (k0_pay67 lw (k0_pay61 (F := Ideal)))) k0_pay115) (k0_pay150 k (k0_pay101 (k0_pay67 lw (k0_pay61 (F := Ideal)))) k0_pay115) k0_pay191) (k0_pay326 (k0_pay313 (k0_pay286 (k0_pay269 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190))))) (k0_pay294 (k0_pay269 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190)))) (k0_pay277 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190))) (k0_pay261 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190)) (k0_pay245 (k0_pay158 v k0_pay115) (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190) (k0_pay230 (k0_pay121 k0_pay115 (k0_pay119 na (k0_pay93 lw (k0_pay67 lw (k0_pay61 (F := Ideal))))) (k0_pay120 (F := Ideal))) (k0_pay185 (k0_pay56 S))) (k0_pay231 (k0_pay204 (k0_pay121 k0_pay115 (k0_pay119 na (k0_pay93 lw (k0_pay67 lw (k0_pay61 (F := Ideal))))) (k0_pay120 (F := Ideal))) (k0_pay150 k (k0_pay101 (k0_pay67 lw (k0_pay61 (F := Ideal)))) k0_pay115) k0_pay190)) (constant S128x128 .f32 0x00000000#32)))))) (k0_pay321 (k0_pay286 (k0_pay269 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190)))))))))) = k0_pay1 (pY r lw k v na b (k0_pay53 S)) := by sl_kernel_rfl

theorem pairS3 (lw k v na b : Seq) (S : LSq) :
    (k0_pay364 (k0_pay344 (k0_pay56 S) (k0_pay77 (k0_pay67 lw (k0_pay61 (F := Ideal)))) (k0_pay158 v k0_pay115) (k0_pay167 b (k0_pay110 (k0_pay67 lw (k0_pay61 (F := Ideal))) (k0_pay77 (k0_pay67 lw (k0_pay61 (F := Ideal))))) k0_pay115) (k0_pay177 k (k0_pay110 (k0_pay67 lw (k0_pay61 (F := Ideal))) (k0_pay77 (k0_pay67 lw (k0_pay61 (F := Ideal))))) k0_pay115) (k0_pay326 (k0_pay313 (k0_pay286 (k0_pay269 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190))))) (k0_pay294 (k0_pay269 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190)))) (k0_pay277 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190))) (k0_pay261 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190)) (k0_pay245 (k0_pay158 v k0_pay115) (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190) (k0_pay230 (k0_pay121 k0_pay115 (k0_pay119 na (k0_pay93 lw (k0_pay67 lw (k0_pay61 (F := Ideal))))) (k0_pay120 (F := Ideal))) (k0_pay185 (k0_pay56 S))) (k0_pay231 (k0_pay204 (k0_pay121 k0_pay115 (k0_pay119 na (k0_pay93 lw (k0_pay67 lw (k0_pay61 (F := Ideal))))) (k0_pay120 (F := Ideal))) (k0_pay150 k (k0_pay101 (k0_pay67 lw (k0_pay61 (F := Ideal)))) k0_pay115) k0_pay190)) (constant S128x128 .f32 0x00000000#32)))))) (k0_pay321 (k0_pay286 (k0_pay269 (k0_pay253 (k0_pay237 (k0_pay196 (k0_pay121 k0_pay115 (k0_pay119 na (k0_pay93 lw (k0_pay67 lw (k0_pay61 (F := Ideal))))) (k0_pay120 (F := Ideal))) (k0_pay140 b (k0_pay101 (k0_pay67 lw (k0_pay61 (F := Ideal)))) k0_pay115) k0_pay190))))))))) = k0_pay2 (pS lw k v na b (k0_pay53 S)) := by sl_kernel_rfl

theorem pairY4 (r lw k v na b : Seq) (S : LSq) :
    (k0_pay365 (k0_pay353 (k0_pay336 (k0_pay130 r (k0_pay86 (k0_pay70 lw (k0_pay61 (F := Ideal)) (k0_pay68 lw) (k0_pay69 lw))) k0_pay115) (k0_pay159 v k0_pay115) (k0_pay186 (k0_pay57 S)) (k0_pay214 (k0_pay130 r (k0_pay86 (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay191) (k0_pay223 (k0_pay130 r (k0_pay86 (k0_pay70 lw (k0_pay61 (F := Ideal)) (k0_pay68 lw) (k0_pay69 lw))) k0_pay115) (k0_pay151 k (k0_pay102 (k0_pay70 lw (k0_pay61 (F := Ideal)) (k0_pay68 lw) (k0_pay69 lw))) k0_pay115) k0_pay191) (k0_pay327 (k0_pay314 (k0_pay287 (k0_pay270 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190))))) (k0_pay295 (k0_pay270 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190)))) (k0_pay278 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190))) (k0_pay262 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190)) (k0_pay246 (k0_pay122 na (k0_pay94 lw (k0_pay70 lw (k0_pay61 (F := Ideal)) (k0_pay68 lw) (k0_pay69 lw))) k0_pay115) (k0_pay159 v k0_pay115) (k0_pay186 (k0_pay57 S)) (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190) (k0_pay206 k0_pay190 (k0_pay205 (k0_pay122 na (k0_pay94 lw (k0_pay70 lw (k0_pay61 (F := Ideal)) (k0_pay68 lw) (k0_pay69 lw))) k0_pay115) (k0_pay151 k (k0_pay102 (k0_pay70 lw (k0_pay61 (F := Ideal)) (k0_pay68 lw) (k0_pay69 lw))) k0_pay115)))))))) (k0_pay322 (k0_pay287 (k0_pay270 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190)))))))))) = k0_pay1 (pY r lw k v na b (k0_pay53 S)) := by sl_kernel_rfl

theorem pairS4 (lw k v na b : Seq) (S : LSq) :
    (k0_pay366 (k0_pay345 (k0_pay57 S) (k0_pay78 (k0_pay70 lw (k0_pay61 (F := Ideal)) (k0_pay68 lw) (k0_pay69 lw))) (k0_pay159 v k0_pay115) (k0_pay169 k0_pay115 (k0_pay168 b (k0_pay111 (k0_pay70 lw (k0_pay61 (F := Ideal)) (k0_pay68 lw) (k0_pay69 lw)) (k0_pay78 (k0_pay70 lw (k0_pay61 (F := Ideal)) (k0_pay68 lw) (k0_pay69 lw))))) (Scalar.ofBits .f32 0x00000000#32)) (k0_pay178 k (k0_pay111 (k0_pay70 lw (k0_pay61 (F := Ideal)) (k0_pay68 lw) (k0_pay69 lw)) (k0_pay78 (k0_pay70 lw (k0_pay61 (F := Ideal)) (k0_pay68 lw) (k0_pay69 lw)))) k0_pay115) (k0_pay327 (k0_pay314 (k0_pay287 (k0_pay270 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190))))) (k0_pay295 (k0_pay270 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190)))) (k0_pay278 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190))) (k0_pay262 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190)) (k0_pay246 (k0_pay122 na (k0_pay94 lw (k0_pay70 lw (k0_pay61 (F := Ideal)) (k0_pay68 lw) (k0_pay69 lw))) k0_pay115) (k0_pay159 v k0_pay115) (k0_pay186 (k0_pay57 S)) (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190) (k0_pay206 k0_pay190 (k0_pay205 (k0_pay122 na (k0_pay94 lw (k0_pay70 lw (k0_pay61 (F := Ideal)) (k0_pay68 lw) (k0_pay69 lw))) k0_pay115) (k0_pay151 k (k0_pay102 (k0_pay70 lw (k0_pay61 (F := Ideal)) (k0_pay68 lw) (k0_pay69 lw))) k0_pay115)))))))) (k0_pay322 (k0_pay287 (k0_pay270 (k0_pay254 (k0_pay238 (k0_pay197 (k0_pay122 na (k0_pay94 lw (k0_pay70 lw (k0_pay61 (F := Ideal)) (k0_pay68 lw) (k0_pay69 lw))) k0_pay115) (k0_pay141 b (k0_pay102 (k0_pay70 lw (k0_pay61 (F := Ideal)) (k0_pay68 lw) (k0_pay69 lw))) k0_pay115) k0_pay190))))))))) = k0_pay2 (pS lw k v na b (k0_pay53 S)) := by sl_kernel_rfl

theorem pairY5 (r lw k v na b : Seq) (S : LSq) :
    (k0_pay367 (k0_pay354 (k0_pay337 (k0_pay131 r (k0_pay87 (k0_pay71 lw (k0_pay61 (F := Ideal)))) k0_pay115) (k0_pay161 v k0_pay115 (k0_pay160 (F := Ideal))) (k0_pay187 (k0_pay58 S)) (k0_pay215 (k0_pay131 r (k0_pay87 (k0_pay71 lw (k0_pay61 (F := Ideal)))) k0_pay115) (k0_pay142 b (k0_pay103 (k0_pay71 lw (k0_pay61 (F := Ideal)))) k0_pay115) k0_pay191) (k0_pay224 (k0_pay131 r (k0_pay87 (k0_pay71 lw (k0_pay61 (F := Ideal)))) k0_pay115) (k0_pay152 k (k0_pay103 (k0_pay71 lw (k0_pay61 (F := Ideal)))) k0_pay115) k0_pay191) (k0_pay328 (k0_pay307 (k0_pay288 (k0_pay271 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190)))))) (k0_pay315 (k0_pay288 (k0_pay271 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190))))) (k0_pay296 (k0_pay271 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190)))) (k0_pay279 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190))) (k0_pay263 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190)) (k0_pay247 (k0_pay123 na (k0_pay95 lw (k0_pay71 lw (k0_pay61 (F := Ideal)))) k0_pay115) (k0_pay161 v k0_pay115 (k0_pay160 (F := Ideal))) (k0_pay187 (k0_pay58 S)) (k0_pay198 (k0_pay123 na (k0_pay95 lw (k0_pay71 lw (k0_pay61 (F := Ideal)))) k0_pay115) (k0_pay142 b (k0_pay103 (k0_pay71 lw (k0_pay61 (F := Ideal)))) k0_pay115) k0_pay190) (k0_pay207 (k0_pay123 na (k0_pay95 lw (k0_pay71 lw (k0_pay61 (F := Ideal)))) k0_pay115) (k0_pay152 k (k0_pay103 (k0_pay71 lw (k0_pay61 (F := Ideal)))) k0_pay115) k0_pay190)))))))))) = k0_pay1 (pY r lw k v na b (k0_pay53 S)) := by sl_kernel_rfl

theorem pairS5 (lw k v na b : Seq) (S : LSq) :
    (k0_pay368 (k0_pay347 (k0_pay58 S) (k0_pay161 v k0_pay115 (k0_pay160 (F := Ideal))) (k0_pay170 b (k0_pay112 (k0_pay71 lw (k0_pay61 (F := Ideal))) (k0_pay79 (k0_pay71 lw (k0_pay61 (F := Ideal))))) k0_pay115) (k0_pay179 k (k0_pay112 (k0_pay71 lw (k0_pay61 (F := Ideal))) (k0_pay79 (k0_pay71 lw (k0_pay61 (F := Ideal))))) k0_pay115) (k0_pay328 (k0_pay307 (k0_pay288 (k0_pay271 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190)))))) (k0_pay315 (k0_pay288 (k0_pay271 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190))))) (k0_pay296 (k0_pay271 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190)))) (k0_pay279 (k0_pay255 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190))) (k0_pay263 (k0_pay239 (k0_pay198 (k0_pay123 na (k0_pay95 lw (k0_pay71 lw (k0_pay61 (F := Ideal)))) k0_pay115) (k0_pay142 b (k0_pay103 (k0_pay71 lw (k0_pay61 (F := Ideal)))) k0_pay115) k0_pay190)) (k0_pay247 (k0_pay123 na (k0_pay95 lw (k0_pay71 lw (k0_pay61 (F := Ideal)))) k0_pay115) (k0_pay161 v k0_pay115 (k0_pay160 (F := Ideal))) (k0_pay187 (k0_pay58 S)) (k0_pay198 (k0_pay123 na (k0_pay95 lw (k0_pay71 lw (k0_pay61 (F := Ideal)))) k0_pay115) (k0_pay142 b (k0_pay103 (k0_pay71 lw (k0_pay61 (F := Ideal)))) k0_pay115) k0_pay190) (k0_pay207 (k0_pay123 na (k0_pay95 lw (k0_pay71 lw (k0_pay61 (F := Ideal)))) k0_pay115) (k0_pay152 k (k0_pay103 (k0_pay71 lw (k0_pay61 (F := Ideal)))) k0_pay115) k0_pay190))))))) (k0_pay346 (k0_pay79 (k0_pay71 lw (k0_pay61 (F := Ideal))))))) = k0_pay2 (pS lw k v na b (k0_pay53 S)) := by sl_kernel_rfl

theorem pairY6 (r lw k v na b : Seq) (S : LSq) :
    (k0_pay369 (k0_pay355 (k0_pay339 (k0_pay162 v k0_pay115) (k0_pay225 (k0_pay132 r (k0_pay88 (k0_pay72 lw (k0_pay61 (F := Ideal)))) k0_pay115) (k0_pay153 k (k0_pay104 (k0_pay72 lw (k0_pay61 (F := Ideal)))) k0_pay115) k0_pay191) (k0_pay338 (k0_pay132 r (k0_pay88 (k0_pay72 lw (k0_pay61 (F := Ideal)))) k0_pay115) (k0_pay188 (k0_pay59 S)) (k0_pay216 (k0_pay132 r (k0_pay88 (k0_pay72 lw (k0_pay61 (F := Ideal)))) k0_pay115) (k0_pay143 b (k0_pay104 (k0_pay72 lw (k0_pay61 (F := Ideal)))) k0_pay115) k0_pay191) (k0_pay329 (k0_pay308 (k0_pay289 (k0_pay272 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190)))))) (k0_pay316 (k0_pay289 (k0_pay272 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190))))) (k0_pay297 (k0_pay272 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190)))) (k0_pay280 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190))) (k0_pay264 (k0_pay232 (k0_pay124 na (k0_pay96 lw (k0_pay72 lw (k0_pay61 (F := Ideal)))) k0_pay115) (k0_pay162 v k0_pay115) (k0_pay188 (k0_pay59 S)) (k0_pay208 (k0_pay124 na (k0_pay96 lw (k0_pay72 lw (k0_pay61 (F := Ideal)))) k0_pay115) (k0_pay153 k (k0_pay104 (k0_pay72 lw (k0_pay61 (F := Ideal)))) k0_pay115) k0_pay190)) (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190)) (k0_pay248 (k0_pay124 na (k0_pay96 lw (k0_pay72 lw (k0_pay61 (F := Ideal)))) k0_pay115) (k0_pay162 v k0_pay115) (k0_pay188 (k0_pay59 S)) (k0_pay208 (k0_pay124 na (k0_pay96 lw (k0_pay72 lw (k0_pay61 (F := Ideal)))) k0_pay115) (k0_pay153 k (k0_pay104 (k0_pay72 lw (k0_pay61 (F := Ideal)))) k0_pay115) k0_pay190)) (constant S128x128 .f32 0x00000000#32)))))))))) = k0_pay1 (pY r lw k v na b (k0_pay53 S)) := by sl_kernel_rfl

theorem pairS6 (lw k v na b : Seq) (S : LSq) :
    (k0_pay370 (k0_pay348 (k0_pay59 S) (k0_pay80 (k0_pay72 lw (k0_pay61 (F := Ideal)))) (k0_pay162 v k0_pay115) (k0_pay171 b (k0_pay113 (k0_pay72 lw (k0_pay61 (F := Ideal))) (k0_pay80 (k0_pay72 lw (k0_pay61 (F := Ideal))))) k0_pay115) (k0_pay180 k (k0_pay113 (k0_pay72 lw (k0_pay61 (F := Ideal))) (k0_pay80 (k0_pay72 lw (k0_pay61 (F := Ideal))))) k0_pay115) (k0_pay329 (k0_pay308 (k0_pay289 (k0_pay272 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190)))))) (k0_pay316 (k0_pay289 (k0_pay272 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190))))) (k0_pay297 (k0_pay272 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190)))) (k0_pay280 (k0_pay256 (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190))) (k0_pay264 (k0_pay232 (k0_pay124 na (k0_pay96 lw (k0_pay72 lw (k0_pay61 (F := Ideal)))) k0_pay115) (k0_pay162 v k0_pay115) (k0_pay188 (k0_pay59 S)) (k0_pay208 (k0_pay124 na (k0_pay96 lw (k0_pay72 lw (k0_pay61 (F := Ideal)))) k0_pay115) (k0_pay153 k (k0_pay104 (k0_pay72 lw (k0_pay61 (F := Ideal)))) k0_pay115) k0_pay190)) (k0_pay240 (k0_pay199 (k0_pay124 na (k0_pay96 lw (k0_pay72 lw (k0_pay61 (F := Ideal)))) k0_pay115) (k0_pay143 b (k0_pay104 (k0_pay72 lw (k0_pay61 (F := Ideal)))) k0_pay115) k0_pay190)) (k0_pay248 (k0_pay124 na (k0_pay96 lw (k0_pay72 lw (k0_pay61 (F := Ideal)))) k0_pay115) (k0_pay162 v k0_pay115) (k0_pay188 (k0_pay59 S)) (k0_pay208 (k0_pay124 na (k0_pay96 lw (k0_pay72 lw (k0_pay61 (F := Ideal)))) k0_pay115) (k0_pay153 k (k0_pay104 (k0_pay72 lw (k0_pay61 (F := Ideal)))) k0_pay115) k0_pay190)) (constant S128x128 .f32 0x00000000#32)))))))) = k0_pay2 (pS lw k v na b (k0_pay53 S)) := by sl_kernel_rfl

theorem pairY7 (r lw k v na b : Seq) (S : LSq) :
    (k0_pay1 (k0_pay356 (k0_pay340 (k0_pay133 r (k0_pay89 (k0_pay73 lw (k0_pay61 (F := Ideal)))) k0_pay115) (k0_pay163 v k0_pay115) (k0_pay189 (k0_pay60 S)) (k0_pay217 (k0_pay133 r (k0_pay89 (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay191) (k0_pay226 (k0_pay133 r (k0_pay89 (k0_pay73 lw (k0_pay61 (F := Ideal)))) k0_pay115) (k0_pay154 k (k0_pay106 (k0_pay73 lw (k0_pay61 (F := Ideal))) (k0_pay105 (F := Ideal))) k0_pay115) k0_pay191) (k0_pay330 (k0_pay309 (k0_pay290 (k0_pay273 (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190)))))) (k0_pay317 (k0_pay290 (k0_pay273 (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))))) (k0_pay298 (k0_pay273 (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190)))) (k0_pay281 (k0_pay249 (k0_pay233 (k0_pay125 na (k0_pay97 lw (k0_pay73 lw (k0_pay61 (F := Ideal)))) k0_pay115) (k0_pay163 v k0_pay115) (k0_pay189 (k0_pay60 S)) (k0_pay209 (k0_pay125 na (k0_pay97 lw (k0_pay73 lw (k0_pay61 (F := Ideal)))) k0_pay115) (k0_pay154 k (k0_pay106 (k0_pay73 lw (k0_pay61 (F := Ideal))) (k0_pay105 (F := Ideal))) k0_pay115) k0_pay190)) (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))) (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))) (k0_pay265 (k0_pay233 (k0_pay125 na (k0_pay97 lw (k0_pay73 lw (k0_pay61 (F := Ideal)))) k0_pay115) (k0_pay163 v k0_pay115) (k0_pay189 (k0_pay60 S)) (k0_pay209 (k0_pay125 na (k0_pay97 lw (k0_pay73 lw (k0_pay61 (F := Ideal)))) k0_pay115) (k0_pay154 k (k0_pay106 (k0_pay73 lw (k0_pay61 (F := Ideal))) (k0_pay105 (F := Ideal))) k0_pay115) k0_pay190)) (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))) (constant S128x128 .f32 0x00000000#32)))))))) = k0_pay1 (pY r lw k v na b (k0_pay53 S)) := by sl_kernel_rfl

theorem pairS7 (lw k v na b : Seq) (S : LSq) :
    (k0_pay2 (k0_pay349 (k0_pay60 S) (k0_pay81 (k0_pay73 lw (k0_pay61 (F := Ideal)))) (k0_pay163 v k0_pay115) (k0_pay172 b (k0_pay114 (k0_pay73 lw (k0_pay61 (F := Ideal))) (k0_pay81 (k0_pay73 lw (k0_pay61 (F := Ideal))))) k0_pay115) (k0_pay181 k (k0_pay114 (k0_pay73 lw (k0_pay61 (F := Ideal))) (k0_pay81 (k0_pay73 lw (k0_pay61 (F := Ideal))))) k0_pay115) (k0_pay330 (k0_pay309 (k0_pay290 (k0_pay273 (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190)))))) (k0_pay317 (k0_pay290 (k0_pay273 (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))))) (k0_pay298 (k0_pay273 (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190)))) (k0_pay281 (k0_pay249 (k0_pay233 (k0_pay125 na (k0_pay97 lw (k0_pay73 lw (k0_pay61 (F := Ideal)))) k0_pay115) (k0_pay163 v k0_pay115) (k0_pay189 (k0_pay60 S)) (k0_pay209 (k0_pay125 na (k0_pay97 lw (k0_pay73 lw (k0_pay61 (F := Ideal)))) k0_pay115) (k0_pay154 k (k0_pay106 (k0_pay73 lw (k0_pay61 (F := Ideal))) (k0_pay105 (F := Ideal))) k0_pay115) k0_pay190)) (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))) (k0_pay257 (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))) (k0_pay265 (k0_pay233 (k0_pay125 na (k0_pay97 lw (k0_pay73 lw (k0_pay61 (F := Ideal)))) k0_pay115) (k0_pay163 v k0_pay115) (k0_pay189 (k0_pay60 S)) (k0_pay209 (k0_pay125 na (k0_pay97 lw (k0_pay73 lw (k0_pay61 (F := Ideal)))) k0_pay115) (k0_pay154 k (k0_pay106 (k0_pay73 lw (k0_pay61 (F := Ideal))) (k0_pay105 (F := Ideal))) k0_pay115) k0_pay190)) (k0_pay241 (k0_pay200 (k0_pay125 na (k0_pay97 lw (k0_pay73 lw (k0_pay61 (F := Ideal)))) k0_pay115) (k0_pay146 k0_pay115 (k0_pay144 b (k0_pay106 (k0_pay73 lw (k0_pay61 (F := Ideal))) (k0_pay105 (F := Ideal)))) (k0_pay145 (F := Ideal))) k0_pay190))) (constant S128x128 .f32 0x00000000#32))))))) = k0_pay2 (pS lw k v na b (k0_pay53 S)) := by sl_kernel_rfl

end Cert.KernelIdeal.Gen

end
end
-- ==== Proof.WkvOuts.lean ====
module

public import proofs.«01_k».proof.Proof.Gen.KernelIdeal.Frame
public import proofs.«01_k».proof.Proof.WkvPieces
public import Idealize.ShloMosaic.Lib.Pipeline.ValueKit
public import Idealize.ShloMosaic.Lib.Pipeline.ReadBack

@[expose] public section

set_option maxRecDepth 16384

noncomputable section

/-! What one grid point leaves: every pair's outputs and next state. -/

namespace Cert.KernelIdeal.Gen

open Idealize.ShloMosaic Idealize.ShloMosaic.TcCoe Idealize.SL.Sem
open Idealize.ShloMosaic.Pipeline (Dat)

/-- The lanes of pair `p` of a block of rows. -/
def chunkOf (x : Vec Ideal S1x64x1024 .f32) (p : Fin 8) : Seq := fun i => x (ix3 0 (i 0) ⟨128 * p + (i 1).1, by have := (i 1).2; have : (i 1).1 < 128 := this; omega⟩)
/-- The state of pair `p`. -/
def stOf (s : Vec Ideal S8x128x128 .f32) (p : Fin 8) : Sq := fun i => s (ix3 p (i 0) (i 1))

/-- The pair a lane belongs to. -/
def lanePair (j : Fin 1024) : Fin 8 := ⟨j / 128, by omega⟩
/-- The lane inside its pair. -/
def laneIn (j : Fin 1024) : Fin 128 := ⟨j % 128, by omega⟩

/-- A point's outputs. -/
def blkY (r lw k v na b : Vec Ideal S1x64x1024 .f32) (s : Vec Ideal S8x128x128 .f32) : Vec Ideal S1x64x1024 .f32 := fun x =>
  pY (chunkOf r (lanePair (x 2))) (chunkOf lw (lanePair (x 2))) (chunkOf k (lanePair (x 2))) (chunkOf v (lanePair (x 2)))
    (chunkOf na (lanePair (x 2))) (chunkOf b (lanePair (x 2))) (stOf s (lanePair (x 2))) (ix2 (x 1) (laneIn (x 2)))
/-- A point's next state. -/
def blkS (lw k v na b : Vec Ideal S1x64x1024 .f32) (s : Vec Ideal S8x128x128 .f32) : Vec Ideal S8x128x128 .f32 := fun x =>
  pS (chunkOf lw (x 0)) (chunkOf k (x 0)) (chunkOf v (x 0)) (chunkOf na (x 0)) (chunkOf b (x 0)) (stOf s (x 0)) (ix2 (x 1) (x 2))

theorem pay1_at (w : Seq) (z : S1x64x128.Idx) : k0_pay1 w z = w (ix2 (z 1) (z 2)) := by
  obtain ⟨a, b, c, rfl⟩ : ∃ a b c, z = ix3 a b c := ⟨_, _, _, eq_ix3 z⟩
  pointwise [k0_pay1]
theorem pay2_at (w : Sq) (z : S1x128x128.Idx) : k0_pay2 w z = w (ix2 (z 1) (z 2)) := by
  obtain ⟨a, b, c, rfl⟩ : ∃ a b c, z = ix3 a b c := ⟨_, _, _, eq_ix3 z⟩
  pointwise [k0_pay2]

theorem pieceY {X0 X1 X2 X3 X4 X5 : Vec Ideal S1x64x1024 .f32} {s : Vec Ideal S8x128x128 .f32} (p : Fin 8)
    {r lw k v na b : Seq} {S : Sq} {x : S1x64x1024.Idx} {z : S1x64x128.Idx}
    (h1 : ((x 1 : Fin _) : ℕ) = ((z 1 : Fin _) : ℕ)) (h2 : ((x 2 : Fin _) : ℕ) = 128 * p + ((z 2 : Fin _) : ℕ))
    (e0 : r = chunkOf X0 p) (e1 : lw = chunkOf X1 p) (e2 : k = chunkOf X2 p) (e3 : v = chunkOf X3 p) (e4 : na = chunkOf X4 p)
    (e5 : b = chunkOf X5 p) (es : S = stOf s p) : k0_pay1 (pY r lw k v na b S) z = blkY X0 X1 X2 X3 X4 X5 s x := by
  have z2 : ((z 2 : Fin _) : ℕ) < 128 := (z 2).2
  have hp : lanePair (x 2) = p := Fin.ext (by show ((x 2 : Fin _) : ℕ) / 128 = p; omega)
  have hl : laneIn (x 2) = z 2 := Fin.ext (by show ((x 2 : Fin _) : ℕ) % 128 = _; omega)
  have hx : x 1 = z 1 := Fin.ext h1
  rw [pay1_at, blkY, hp, hl, hx, e0, e1, e2, e3, e4, e5, es]

theorem pieceS {X1 X2 X3 X4 X5 : Vec Ideal S1x64x1024 .f32} {s : Vec Ideal S8x128x128 .f32} (p : Fin 8)
    {lw k v na b : Seq} {S : Sq} {x : S8x128x128.Idx} {z : S1x128x128.Idx}
    (h0 : ((x 0 : Fin _) : ℕ) = (p : ℕ) + ((z 0 : Fin _) : ℕ)) (h1 : ((x 1 : Fin _) : ℕ) = ((z 1 : Fin _) : ℕ))
    (h2 : ((x 2 : Fin _) : ℕ) = ((z 2 : Fin _) : ℕ))
    (e1 : lw = chunkOf X1 p) (e2 : k = chunkOf X2 p) (e3 : v = chunkOf X3 p) (e4 : na = chunkOf X4 p)
    (e5 : b = chunkOf X5 p) (es : S = stOf s p) : k0_pay2 (pS lw k v na b S) z = blkS X1 X2 X3 X4 X5 s x := by
  have z0 : ((z 0 : Fin _) : ℕ) < 1 := (z 0).2
  have hp : x 0 = p := Fin.ext (by omega)
  have h1 : x 1 = z 1 := Fin.ext h1
  have h2 : x 2 = z 2 := Fin.ext h2
  rw [pay2_at, blkS, hp, h1, h2, e1, e2, e3, e4, e5, es]

theorem canon_drop {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq
      · exact absurd hyq hm
      · exact canon_drop L' L y ⟨q, hq, hyq⟩

/-- The state a batch row begins with. -/
def st6 (x : Vec Ideal S1x8x128x128 .f32) : Vec Ideal S8x128x128 .f32 := fun i => x (ix4 0 (i 0) (i 1) (i 2))

variable (m : (ℓ : Loc nD τ sig) → Buf (Elt Ideal) ℓ)

set_option maxHeartbeats 4000000 in
theorem outsAY (c : Dev nD) (t : Fin cfg0.N) (h0 : t.val % 64 = 0) (h1 : ¬t.val % 64 = 63) :
    (outsAt0 m c t.val t.isLt).1 = blkY (iblk m c 0 t) (iblk m c 1 t) (iblk m c 2 t) (iblk m c 3 t) (iblk m c 4 t) (iblk m c 5 t) (st6 (iblk m c 6 t)) := by
  funext x
  rw [outsAt0_A m c t h0 h1]
  frame_out
  canon_tiles z h
  · refine (congrFun (pairY7 _ _ _ _ _ _ _ ) z).trans (pieceY 7 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay12, k0_pay20, k0_pay28, k0_pay36, k0_pay44, k0_pay52])
  · refine (congrFun (pairY6 _ _ _ _ _ _ _ ) z).trans (pieceY 6 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay11, k0_pay19, k0_pay27, k0_pay35, k0_pay43, k0_pay51])
  · refine (congrFun (pairY5 _ _ _ _ _ _ _ ) z).trans (pieceY 5 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay10, k0_pay18, k0_pay26, k0_pay34, k0_pay42, k0_pay50])
  · refine (congrFun (pairY4 _ _ _ _ _ _ _ ) z).trans (pieceY 4 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay9, k0_pay17, k0_pay25, k0_pay33, k0_pay41, k0_pay49])
  · refine (congrFun (pairY3 _ _ _ _ _ _ _ ) z).trans (pieceY 3 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay8, k0_pay16, k0_pay24, k0_pay32, k0_pay40, k0_pay48])
  · refine (congrFun (pairY2 _ _ _ _ _ _ _ ) z).trans (pieceY 2 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay7, k0_pay15, k0_pay23, k0_pay31, k0_pay39, k0_pay47])
  · refine (congrFun (pairY1 _ _ _ _ _ _ _ ) z).trans (pieceY 1 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay6, k0_pay14, k0_pay22, k0_pay30, k0_pay38, k0_pay46])
  · refine (congrFun (pairY0 _ _ _ _ _ _ _ ) z).trans (pieceY 0 (by omega) (by omega) ?_ ?_ ?_ ?_ ?_ ?_ ?_)
    pick_goal 7
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay5, k0_pay13, k0_pay21, k0_pay29, k0_pay37, k0_pay45])

set_option maxHeartbeats 4000000 in
theorem outsAS (c : Dev nD) (t : Fin cfg0.N) (h0 : t.val % 64 = 0) (h1 : ¬t.val % 64 = 63) :
    (outsAt0 m c t.val t.isLt).2.2 = blkS (iblk m c 1 t) (iblk m c 2 t) (iblk m c 3 t) (iblk m c 4 t) (iblk m c 5 t) (st6 (iblk m c 6 t)) := by
  funext x
  rw [outsAt0_A m c t h0 h1]
  frame_out
  refine (canon_drop [_] [_, _, _, _, _, _, _, _] x ?_).trans ?_
  · exact View.cover_of_tiledL (s := S8x128x128) _ S1x128x128.size (by sl_kernel_rfl) x
  canon_tiles z h
  · refine (congrFun (pairS7 _ _ _ _ _ _ ) z).trans (pieceS 7 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay12, k0_pay20, k0_pay28, k0_pay36, k0_pay44, k0_pay52])
  · refine (congrFun (pairS6 _ _ _ _ _ _ ) z).trans (pieceS 6 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay11, k0_pay19, k0_pay27, k0_pay35, k0_pay43, k0_pay51])
  · refine (congrFun (pairS5 _ _ _ _ _ _ ) z).trans (pieceS 5 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay10, k0_pay18, k0_pay26, k0_pay34, k0_pay42, k0_pay50])
  · refine (congrFun (pairS4 _ _ _ _ _ _ ) z).trans (pieceS 4 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay9, k0_pay17, k0_pay25, k0_pay33, k0_pay41, k0_pay49])
  · refine (congrFun (pairS3 _ _ _ _ _ _ ) z).trans (pieceS 3 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay8, k0_pay16, k0_pay24, k0_pay32, k0_pay40, k0_pay48])
  · refine (congrFun (pairS2 _ _ _ _ _ _ ) z).trans (pieceS 2 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay7, k0_pay15, k0_pay23, k0_pay31, k0_pay39, k0_pay47])
  · refine (congrFun (pairS1 _ _ _ _ _ _ ) z).trans (pieceS 1 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay6, k0_pay14, k0_pay22, k0_pay30, k0_pay38, k0_pay46])
  · refine (congrFun (pairS0 _ _ _ _ _ _ ) z).trans (pieceS 0 (by omega) (by omega) (by omega) ?_ ?_ ?_ ?_ ?_ ?_)
    pick_goal 6
    · refine funext fun i => ?_; rw [eq_ix2 i]; pointwise [stOf, k0_pay53]; refine congrFun (View.readCov_fill _ _ _ [] _ (by decide)) _ |>.trans ?_; pointwise [st6]
    all_goals (refine funext fun  i => ?_; rw [eq_ix2 i]; pointwise [chunkOf, stOf, st6, k0_pay53, k0_pay5, k0_pay13, k0_pay21, k0_pay29, k0_pay37, k0_pay45])

set_option maxHeartbeats 4000000 in
theorem outsBY (c : Dev nD) (t : Fin cfg0.N) (h0 : ¬t.val % 64 = 0) (h1 : ¬t.val % 64 = 63) :
    (outsAt0 m c t.val t.isLt).1 = blkY (iblk m c 0 t) (iblk m c 1 t) (iblk m c 2 t) (iblk m c 3 t) (iblk m c 4 t) (iblk m c 5 t) ((outsAt0 m c (t.val - 1) (lt_of_le_of_lt (Nat.sub_le _ _) t.isLt)).2.2) := by
  funext x
  rw [outsAt0_B m c t h0 h1]
  frame_out
  canon_tiles z h
  · refine (congrFun (pairY7 _ _ _ _ _ _ _ ) z).trans (pieceY 7 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay12, k0_pay20, k0_pay28, k0_pay36, k0_pay44, k0_pay52])
  · refine (congrFun (pairY6 _ _ _ _ _ _ _ ) z).trans (pieceY 6 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay11, k0_pay19, k0_pay27, k0_pay35, k0_pay43, k0_pay51])
  · refine (congrFun (pairY5 _ _ _ _ _ _ _ ) z).trans (pieceY 5 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay10, k0_pay18, k0_pay26, k0_pay34, k0_pay42, k0_pay50])
  · refine (congrFun (pairY4 _ _ _ _ _ _ _ ) z).trans (pieceY 4 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay9, k0_pay17, k0_pay25, k0_pay33, k0_pay41, k0_pay49])
  · refine (congrFun (pairY3 _ _ _ _ _ _ _ ) z).trans (pieceY 3 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay8, k0_pay16, k0_pay24, k0_pay32, k0_pay40, k0_pay48])
  · refine (congrFun (pairY2 _ _ _ _ _ _ _ ) z).trans (pieceY 2 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay7, k0_pay15, k0_pay23, k0_pay31, k0_pay39, k0_pay47])
  · refine (congrFun (pairY1 _ _ _ _ _ _ _ ) z).trans (pieceY 1 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay6, k0_pay14, k0_pay22, k0_pay30, k0_pay38, k0_pay46])
  · refine (congrFun (pairY0 _ _ _ _ _ _ _ ) z).trans (pieceY 0 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay5, k0_pay13, k0_pay21, k0_pay29, k0_pay37, k0_pay45])

set_option maxHeartbeats 4000000 in
theorem outsBS (c : Dev nD) (t : Fin cfg0.N) (h0 : ¬t.val % 64 = 0) (h1 : ¬t.val % 64 = 63) :
    (outsAt0 m c t.val t.isLt).2.2 = blkS (iblk m c 1 t) (iblk m c 2 t) (iblk m c 3 t) (iblk m c 4 t) (iblk m c 5 t) ((outsAt0 m c (t.val - 1) (lt_of_le_of_lt (Nat.sub_le _ _) t.isLt)).2.2) := by
  funext x
  rw [outsAt0_B m c t h0 h1]
  frame_out
  canon_tiles z h
  · refine (congrFun (pairS7 _ _ _ _ _ _ ) z).trans (pieceS 7 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay12, k0_pay20, k0_pay28, k0_pay36, k0_pay44, k0_pay52])
  · refine (congrFun (pairS6 _ _ _ _ _ _ ) z).trans (pieceS 6 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay11, k0_pay19, k0_pay27, k0_pay35, k0_pay43, k0_pay51])
  · refine (congrFun (pairS5 _ _ _ _ _ _ ) z).trans (pieceS 5 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay10, k0_pay18, k0_pay26, k0_pay34, k0_pay42, k0_pay50])
  · refine (congrFun (pairS4 _ _ _ _ _ _ ) z).trans (pieceS 4 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay9, k0_pay17, k0_pay25, k0_pay33, k0_pay41, k0_pay49])
  · refine (congrFun (pairS3 _ _ _ _ _ _ ) z).trans (pieceS 3 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay8, k0_pay16, k0_pay24, k0_pay32, k0_pay40, k0_pay48])
  · refine (congrFun (pairS2 _ _ _ _ _ _ ) z).trans (pieceS 2 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay7, k0_pay15, k0_pay23, k0_pay31, k0_pay39, k0_pay47])
  · refine (congrFun (pairS1 _ _ _ _ _ _ ) z).trans (pieceS 1 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay6, k0_pay14, k0_pay22, k0_pay30, k0_pay38, k0_pay46])
  · refine (congrFun (pairS0 _ _ _ _ _ _ ) z).trans (pieceS 0 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay5, k0_pay13, k0_pay21, k0_pay29, k0_pay37, k0_pay45])

set_option maxHeartbeats 4000000 in
theorem outsCY (c : Dev nD) (t : Fin cfg0.N) (h0 : ¬t.val % 64 = 0) (h1 : t.val % 64 = 63) :
    (outsAt0 m c t.val t.isLt).1 = blkY (iblk m c 0 t) (iblk m c 1 t) (iblk m c 2 t) (iblk m c 3 t) (iblk m c 4 t) (iblk m c 5 t) ((outsAt0 m c (t.val - 1) (lt_of_le_of_lt (Nat.sub_le _ _) t.isLt)).2.2) := by
  funext x
  rw [outsAt0_C m c t h0 h1]
  frame_out
  canon_tiles z h
  · refine (congrFun (pairY7 _ _ _ _ _ _ _ ) z).trans (pieceY 7 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay12, k0_pay20, k0_pay28, k0_pay36, k0_pay44, k0_pay52])
  · refine (congrFun (pairY6 _ _ _ _ _ _ _ ) z).trans (pieceY 6 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay11, k0_pay19, k0_pay27, k0_pay35, k0_pay43, k0_pay51])
  · refine (congrFun (pairY5 _ _ _ _ _ _ _ ) z).trans (pieceY 5 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay10, k0_pay18, k0_pay26, k0_pay34, k0_pay42, k0_pay50])
  · refine (congrFun (pairY4 _ _ _ _ _ _ _ ) z).trans (pieceY 4 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay9, k0_pay17, k0_pay25, k0_pay33, k0_pay41, k0_pay49])
  · refine (congrFun (pairY3 _ _ _ _ _ _ _ ) z).trans (pieceY 3 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay8, k0_pay16, k0_pay24, k0_pay32, k0_pay40, k0_pay48])
  · refine (congrFun (pairY2 _ _ _ _ _ _ _ ) z).trans (pieceY 2 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay7, k0_pay15, k0_pay23, k0_pay31, k0_pay39, k0_pay47])
  · refine (congrFun (pairY1 _ _ _ _ _ _ _ ) z).trans (pieceY 1 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay6, k0_pay14, k0_pay22, k0_pay30, k0_pay38, k0_pay46])
  · refine (congrFun (pairY0 _ _ _ _ _ _ _ ) z).trans (pieceY 0 (by omega) (by omega) ?_ ?_ ?_ ?_ ?_ ?_ ?_)
    pick_goal 7
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay5, k0_pay13, k0_pay21, k0_pay29, k0_pay37, k0_pay45])

set_option maxHeartbeats 4000000 in
theorem outsCS (c : Dev nD) (t : Fin cfg0.N) (h0 : ¬t.val % 64 = 0) (h1 : t.val % 64 = 63) :
    (outsAt0 m c t.val t.isLt).2.2 = blkS (iblk m c 1 t) (iblk m c 2 t) (iblk m c 3 t) (iblk m c 4 t) (iblk m c 5 t) ((outsAt0 m c (t.val - 1) (lt_of_le_of_lt (Nat.sub_le _ _) t.isLt)).2.2) := by
  funext x
  rw [outsAt0_C m c t h0 h1]
  frame_out
  canon_tiles z h
  · refine (congrFun (pairS7 _ _ _ _ _ _ ) z).trans (pieceS 7 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay12, k0_pay20, k0_pay28, k0_pay36, k0_pay44, k0_pay52])
  · refine (congrFun (pairS6 _ _ _ _ _ _ ) z).trans (pieceS 6 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay11, k0_pay19, k0_pay27, k0_pay35, k0_pay43, k0_pay51])
  · refine (congrFun (pairS5 _ _ _ _ _ _ ) z).trans (pieceS 5 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay10, k0_pay18, k0_pay26, k0_pay34, k0_pay42, k0_pay50])
  · refine (congrFun (pairS4 _ _ _ _ _ _ ) z).trans (pieceS 4 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay9, k0_pay17, k0_pay25, k0_pay33, k0_pay41, k0_pay49])
  · refine (congrFun (pairS3 _ _ _ _ _ _ ) z).trans (pieceS 3 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay8, k0_pay16, k0_pay24, k0_pay32, k0_pay40, k0_pay48])
  · refine (congrFun (pairS2 _ _ _ _ _ _ ) z).trans (pieceS 2 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay7, k0_pay15, k0_pay23, k0_pay31, k0_pay39, k0_pay47])
  · refine (congrFun (pairS1 _ _ _ _ _ _ ) z).trans (pieceS 1 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay6, k0_pay14, k0_pay22, k0_pay30, k0_pay38, k0_pay46])
  · refine (congrFun (pairS0 _ _ _ _ _ _ ) z).trans (pieceS 0 (by omega) (by omega) (by omega) ?_ ?_ ?_ ?_ ?_ ?_)
    pick_goal 6
    · refine funext fun i => ?_; rw [eq_ix2 i]; pointwise [stOf, k0_pay53]; exact congrFun (read_unread_whole _ _ _) _
    all_goals (refine funext fun  i => ?_; rw [eq_ix2 i]; pointwise [chunkOf, stOf, st6, k0_pay53, k0_pay5, k0_pay13, k0_pay21, k0_pay29, k0_pay37, k0_pay45])

end Cert.KernelIdeal.Gen

end
end
-- ==== Proof.WkvOut8.lean ====
module

public import proofs.«01_k».proof.Proof.WkvOuts

@[expose] public section

set_option maxRecDepth 16384

noncomputable section

/-! What the last point of a batch row writes out. -/

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ)

theorem pay3_at (w : Vec Ideal S8x128x128 .f32) (x : S1x8x128x128.Idx) : k0_pay3 w x = w (ix3 (x 1) (x 2) (x 3)) := by
  obtain ⟨a, b, d, e, rfl⟩ : ∃ a b d e, x = ix4 a b d e := ⟨_, _, _, _, eq_ix4 x⟩
  pointwise [k0_pay3]

set_option maxHeartbeats 4000000 in
/-- The last point of a batch row writes the state out. -/
theorem outsC8 (c : Dev nD) (t : Fin cfg0.N) (h0 : ¬t.val % 64 = 0) (h1 : t.val % 64 = 63) (x : S1x8x128x128.Idx) :
    (outsAt0 m c t.val t.isLt).2.1 x = (outsAt0 m c t.val t.isLt).2.2 (ix3 (x 1) (x 2) (x 3)) := by
  rw [outsAt0_C m c t h0 h1]
  frame_out
  refine (pay3_at _ x).trans ?_
  refine (congrFun (View.readCov_eq_canon' _ _ _) _).trans ?_
  refine congrArg (View.canon _) ?_
  funext a
  refine Fin.ext ?_
  fin_cases a
  · exact (Nat.zero_add _).trans (Nat.one_mul _)
  · exact (Nat.zero_add _).trans (Nat.one_mul _)
  · exact (Nat.zero_add _).trans (Nat.one_mul _)

end Cert.KernelIdeal.Gen

end
end
-- ==== Proof.WkvFold.lean ====
module

public import proofs.«01_k».proof.Proof.WkvOut8

@[expose] public section

set_option maxRecDepth 16384

noncomputable section

/-! The whole scan: the state carried over the chunks of a batch row, and the arrays it leaves. -/

namespace Cert.Wkv

/-- A real array, by batch row, token and feature. -/
abbrev Arr := ℕ → ℕ → ℕ → ℝ

/-- The rows of pair `p` from token `o` on. -/
def rowAt (A : Arr) (g p o : ℕ) : Row := fun s l => A g (o + s) (128 * p + l)

/-- The rows from a token on, as the rows from the beginning shifted. -/
theorem pst_shift (W K V A B : Arr) (g p o : ℕ) (S : Mat) (n : ℕ) :
    pst (rowAt W g p o) (rowAt K g p o) (rowAt V g p o) (rowAt A g p o) (rowAt B g p o)
        (pst (rowAt W g p 0) (rowAt K g p 0) (rowAt V g p 0) (rowAt A g p 0) (rowAt B g p 0) S o) n
      = pst (rowAt W g p 0) (rowAt K g p 0) (rowAt V g p 0) (rowAt A g p 0) (rowAt B g p 0) S (o + n) := by
  induction n with
  | zero => rfl
  | succ n ih =>
    rw [pst, ih, ← Nat.add_assoc, pst]
    funext i j
    simp only [pstep, rowAt, Nat.zero_add]

end Cert.Wkv

namespace Cert.KernelIdeal.Gen

open Idealize.ShloMosaic Idealize.ShloMosaic.TcCoe Idealize.SL.Sem
open Idealize.ShloMosaic.Pipeline (Dat)
open Cert.Wkv (Arr rowAt)

variable (m : (ℓ : Loc nD τ sig) → Buf (Elt Ideal) ℓ)

/-- An array argument that is a real one. -/
def IsA (x : Vec Ideal S4x4096x1024 .f32) (A : Arr) : Prop :=
  ∀ (g : Fin 4) (t : Fin 4096) (j : Fin 1024), x (ix3 g t j) = ((A g t j : ℝ) : EReal)

/-- The batch row of a point. -/
def rowOf (t : Fin cfg0.N) : Fin 4 := ⟨t.val / 64, by have := t.2; have : t.val < 256 := this; omega⟩
/-- The token of a row of a point's block. -/
def tokOf (t : Fin cfg0.N) (i : Fin 64) : Fin 4096 := ⟨64 * (t.val % 64) + i, by omega⟩

theorem idx0 : ∀ t : Fin grid0.N, win0_0.index t 0 = t.val / 64 ∧ win0_0.index t 1 = t.val % 64 ∧ win0_0.index t 2 = 0 := by decide +kernel
theorem idx1 : ∀ t : Fin grid0.N, win0_1.index t 0 = t.val / 64 ∧ win0_1.index t 1 = t.val % 64 ∧ win0_1.index t 2 = 0 := by decide +kernel
theorem idx2 : ∀ t : Fin grid0.N, win0_2.index t 0 = t.val / 64 ∧ win0_2.index t 1 = t.val % 64 ∧ win0_2.index t 2 = 0 := by decide +kernel
theorem idx3 : ∀ t : Fin grid0.N, win0_3.index t 0 = t.val / 64 ∧ win0_3.index t 1 = t.val % 64 ∧ win0_3.index t 2 = 0 := by decide +kernel
theorem idx4 : ∀ t : Fin grid0.N, win0_4.index t 0 = t.val / 64 ∧ win0_4.index t 1 = t.val % 64 ∧ win0_4.index t 2 = 0 := by decide +kernel
theorem idx5 : ∀ t : Fin grid0.N, win0_5.index t 0 = t.val / 64 ∧ win0_5.index t 1 = t.val % 64 ∧ win0_5.index t 2 = 0 := by decide +kernel
theorem idx7 : ∀ t : Fin grid0.N, win0_7.index t 0 = t.val / 64 ∧ win0_7.index t 1 = t.val % 64 ∧ win0_7.index t 2 = 0 := by decide +kernel
theorem idx6 : ∀ t : Fin grid0.N, win0_6.index t 0 = t.val / 64 ∧ win0_6.index t 1 = 0 ∧ win0_6.index t 2 = 0 ∧ win0_6.index t 3 = 0 := by decide +kernel
theorem idx8 : ∀ t : Fin grid0.N, win0_8.index t 0 = t.val / 64 ∧ win0_8.index t 1 = 0 ∧ win0_8.index t 2 = 0 ∧ win0_8.index t 3 = 0 := by decide +kernel
theorem blk0 (c : Dev nD) (t : Fin cfg0.N) (i : Fin 64) (j : Fin 1024) :
    iblk m c 0 t (ix3 0 i j) = m ((c : Thread nD τ).loc main_arg0) (ix3 (rowOf t) (tokOf t i) j) := by
  obtain ⟨e0, e1, e2⟩ := idx0 t
  blk_simp [iblk]
  refine (congrFun (V_main_arg0 m c) _).trans ?_
  blk_ext [e0, e1, e2, rowOf, tokOf]

theorem blk1 (c : Dev nD) (t : Fin cfg0.N) (i : Fin 64) (j : Fin 1024) :
    iblk m c 1 t (ix3 0 i j) = m ((c : Thread nD τ).loc main_arg1) (ix3 (rowOf t) (tokOf t i) j) := by
  obtain ⟨e0, e1, e2⟩ := idx1 t
  blk_simp [iblk]
  refine (congrFun (V_main_arg1 m c) _).trans ?_
  blk_ext [e0, e1, e2, rowOf, tokOf]

theorem blk2 (c : Dev nD) (t : Fin cfg0.N) (i : Fin 64) (j : Fin 1024) :
    iblk m c 2 t (ix3 0 i j) = m ((c : Thread nD τ).loc main_arg2) (ix3 (rowOf t) (tokOf t i) j) := by
  obtain ⟨e0, e1, e2⟩ := idx2 t
  blk_simp [iblk]
  refine (congrFun (V_main_arg2 m c) _).trans ?_
  blk_ext [e0, e1, e2, rowOf, tokOf]

theorem blk3 (c : Dev nD) (t : Fin cfg0.N) (i : Fin 64) (j : Fin 1024) :
    iblk m c 3 t (ix3 0 i j) = m ((c : Thread nD τ).loc main_arg3) (ix3 (rowOf t) (tokOf t i) j) := by
  obtain ⟨e0, e1, e2⟩ := idx3 t
  blk_simp [iblk]
  refine (congrFun (V_main_arg3 m c) _).trans ?_
  blk_ext [e0, e1, e2, rowOf, tokOf]

theorem blk4 (c : Dev nD) (t : Fin cfg0.N) (i : Fin 64) (j : Fin 1024) :
    iblk m c 4 t (ix3 0 i j) = m ((c : Thread nD τ).loc main_arg4) (ix3 (rowOf t) (tokOf t i) j) := by
  obtain ⟨e0, e1, e2⟩ := idx4 t
  blk_simp [iblk]
  refine (congrFun (V_main_arg4 m c) _).trans ?_
  blk_ext [e0, e1, e2, rowOf, tokOf]

theorem blk5 (c : Dev nD) (t : Fin cfg0.N) (i : Fin 64) (j : Fin 1024) :
    iblk m c 5 t (ix3 0 i j) = m ((c : Thread nD τ).loc main_arg5) (ix3 (rowOf t) (tokOf t i) j) := by
  obtain ⟨e0, e1, e2⟩ := idx5 t
  blk_simp [iblk]
  refine (congrFun (V_main_arg5 m c) _).trans ?_
  blk_ext [e0, e1, e2, rowOf, tokOf]

theorem blk6 (c : Dev nD) (t : Fin cfg0.N) (p : Fin 8) (i j : Fin 128) :
    iblk m c 6 t (ix4 0 p i j) = V m c main_v10 (ix4 (rowOf t) p i j) := by
  obtain ⟨e0, e1, e2, e3⟩ := idx6 t
  blk_simp [iblk]
  blk_ext [e0, e1, e2, e3, rowOf]

/-- Finite inputs: the arguments are the real arrays, the packed state real and block diagonal. -/
structure Ins (c : Dev nD) (R W K V A B : Arr) (S0 : ℕ → ℕ → Cert.Wkv.Mat) : Prop where
  r : IsA (m ((c : Thread nD τ).loc main_arg0)) R
  w : IsA (m ((c : Thread nD τ).loc main_arg1)) W
  k : IsA (m ((c : Thread nD τ).loc main_arg2)) K
  v : IsA (m ((c : Thread nD τ).loc main_arg3)) V
  a : IsA (m ((c : Thread nD τ).loc main_arg4)) A
  b : IsA (m ((c : Thread nD τ).loc main_arg5)) B
  s : ∀ (g : Fin 4) (p : Fin 8) (i j : Fin 128), Gen.V m c main_v10 (ix4 g p i j) = ((S0 g p i j : ℝ) : EReal)
  d : ∀ g p, Cert.Wkv.Blk (S0 g p)

/-- The pair's state after `n` tokens. -/
def stt (W K V A B : Arr) (S0 : ℕ → ℕ → Cert.Wkv.Mat) (g p n : ℕ) : Cert.Wkv.Mat :=
  Cert.Wkv.pst (rowAt W g p 0) (rowAt K g p 0) (rowAt V g p 0) (rowAt A g p 0) (rowAt B g p 0) (S0 g p) n

theorem isR_chunk {x : Vec Ideal S1x64x1024 .f32} {X : Vec Ideal S4x4096x1024 .f32} {A : Arr} (h : IsA X A) (t : Fin cfg0.N)
    (e : ∀ (i : Fin 64) (j : Fin 1024), x (ix3 0 i j) = X (ix3 (rowOf t) (tokOf t i) j)) (p : Fin 8) :
    IsR (chunkOf x p) (rowAt A (rowOf t) p (64 * (t.val % 64))) := fun i l =>
  (e i ⟨128 * p + l, by omega⟩).trans (h _ _ _)

theorem stOf_blkS (lw k v na b : Vec Ideal S1x64x1024 .f32) (s : Vec Ideal S8x128x128 .f32) (p : Fin 8) :
    stOf (blkS lw k v na b s) p = pS (chunkOf lw p) (chunkOf k p) (chunkOf v p) (chunkOf na p) (chunkOf b p) (stOf s p) :=
  funext fun i => congrArg (pS (chunkOf lw p) (chunkOf k p) (chunkOf v p) (chunkOf na p) (chunkOf b p) (stOf s p)) (eq_ix2 i).symm

/-- The output array of the recurrence. -/
def yArr (R W K V A B : Arr) (S0 : ℕ → ℕ → Cert.Wkv.Mat) (x : S4x4096x1024.Idx) : EReal :=
  ((∑ l : Fin 128, stt W K V A B S0 (x 0 : Fin 4) (lanePair (x 2)) (((x 1 : Fin 4096) : ℕ) + 1) (laneIn (x 2)) l
    * R (x 0 : Fin 4) (x 1 : Fin 4096) (128 * (lanePair (x 2) : ℕ) + l) : ℝ) : EReal)

/-- The packed state array of the recurrence. -/
def sArr (W K V A B : Arr) (S0 : ℕ → ℕ → Cert.Wkv.Mat) (x : S4x8x128x128.Idx) : EReal :=
  ((stt W K V A B S0 (x 0 : Fin 4) (x 1 : Fin 8) 4096 (x 2) (x 3) : ℝ) : EReal)

section
variable {m} {c : Dev nD} {R W K V A B : Arr} {S0 : ℕ → ℕ → Cert.Wkv.Mat} (h : Ins m c R W K V A B S0)
include h

/-- One chunk from a state that is the recurrence's. -/
theorem step_chunk (t : Fin cfg0.N) (s : Vec Ideal S8x128x128 .f32) (p : Fin 8)
    (hs : IsM (stOf s p) (stt W K V A B S0 (rowOf t) p (64 * (t.val % 64)))) :
    IsM (stOf (blkS (iblk m c 1 t) (iblk m c 2 t) (iblk m c 3 t) (iblk m c 4 t) (iblk m c 5 t) s) p)
      (stt W K V A B S0 (rowOf t) p (64 * (t.val % 64) + 64)) := by
  rw [stOf_blkS, stt, ← Cert.Wkv.pst_shift]
  exact pS_eq (isR_chunk h.w t (blk1 m c t) p) (isR_chunk h.k t (blk2 m c t) p) (isR_chunk h.v t (blk3 m c t) p)
    (isR_chunk h.a t (blk4 m c t) p) (isR_chunk h.b t (blk5 m c t) p) hs (Cert.Wkv.pst_blk (h.d _ _) _)

theorem y_chunk (t : Fin cfg0.N) (s : Vec Ideal S8x128x128 .f32)
    (hs : ∀ p : Fin 8, IsM (stOf s p) (stt W K V A B S0 (rowOf t) p (64 * (t.val % 64)))) (i : Fin 64) (j : Fin 1024) :
    blkY (iblk m c 0 t) (iblk m c 1 t) (iblk m c 2 t) (iblk m c 3 t) (iblk m c 4 t) (iblk m c 5 t) s (ix3 0 i j)
      = ((∑ l : Fin 128, stt W K V A B S0 (rowOf t) (lanePair j) (64 * (t.val % 64) + (i + 1)) (laneIn j) l
          * R (rowOf t) (tokOf t i) (128 * (lanePair j : ℕ) + l) : ℝ) : EReal) := by
  unfold stt
  simp only [← Cert.Wkv.pst_shift]
  exact pY_eq (isR_chunk h.r t (blk0 m c t) (lanePair j)) (isR_chunk h.w t (blk1 m c t) _) (isR_chunk h.k t (blk2 m c t) _) (isR_chunk h.v t (blk3 m c t) _)
    (isR_chunk h.a t (blk4 m c t) _) (isR_chunk h.b t (blk5 m c t) _) (hs _) (Cert.Wkv.pst_blk (h.d _ _) _) i (laneIn j)

theorem st6_is (t : Fin cfg0.N) (h0 : t.val % 64 = 0) (p : Fin 8) :
    IsM (stOf (st6 (iblk m c 6 t)) p) (stt W K V A B S0 (rowOf t) p (64 * (t.val % 64))) := fun i j => by
  rw [h0]
  exact (blk6 m c t p i j).trans (h.s _ _ _ _)

/-- After a point the carried state is the recurrence's. -/
theorem state_is : ∀ (n : ℕ) (t : Fin cfg0.N), t.val % 64 = n → ∀ p : Fin 8,
    IsM (stOf (outsAt0 m c t.val t.isLt).2.2 p) (stt W K V A B S0 (rowOf t) p (64 * (t.val % 64) + 64))
  | 0, t, hn, p => by
    rw [outsAS m c t hn (by omega)]
    exact step_chunk h t _ p (st6_is h t hn p)
  | n + 1, t, hn, p => by
    have tl : t.val - 1 < cfg0.N := lt_of_le_of_lt (Nat.sub_le _ _) t.isLt
    have e := state_is n ⟨t.val - 1, tl⟩ (by show (t.val - 1) % 64 = n; omega) p
    have er : rowOf ⟨t.val - 1, tl⟩ = rowOf t := Fin.ext (by show (t.val - 1) / 64 = t.val / 64; omega)
    rw [er, show 64 * ((⟨t.val - 1, tl⟩ : Fin cfg0.N).val % 64) + 64 = 64 * (t.val % 64) by show 64 * ((t.val - 1) % 64) + 64 = _; omega] at e
    by_cases h1 : t.val % 64 = 63
    · rw [outsCS m c t (by omega) h1]; exact step_chunk h t _ p e
    · rw [outsBS m c t (by omega) h1]; exact step_chunk h t _ p e

/-- A point's outputs are the recurrence's. -/
theorem out_is (t : Fin cfg0.N) (i : Fin 64) (j : Fin 1024) :
    (outsAt0 m c t.val t.isLt).1 (ix3 0 i j)
      = ((∑ l : Fin 128, stt W K V A B S0 (rowOf t) (lanePair j) (64 * (t.val % 64) + (i + 1)) (laneIn j) l
          * R (rowOf t) (tokOf t i) (128 * (lanePair j : ℕ) + l) : ℝ) : EReal) := by
  by_cases h0 : t.val % 64 = 0
  · rw [outsAY m c t h0 (by omega)]; exact y_chunk h t _ (st6_is h t h0) i j
  · have tl : t.val - 1 < cfg0.N := lt_of_le_of_lt (Nat.sub_le _ _) t.isLt
    have er : rowOf ⟨t.val - 1, tl⟩ = rowOf t := Fin.ext (by show (t.val - 1) / 64 = t.val / 64; omega)
    have e := state_is h _ ⟨t.val - 1, tl⟩ rfl
    rw [er, show 64 * ((⟨t.val - 1, tl⟩ : Fin cfg0.N).val % 64) + 64 = 64 * (t.val % 64) by show 64 * ((t.val - 1) % 64) + 64 = _; omega] at e
    by_cases h1 : t.val % 64 = 63
    · rw [outsCY m c t h0 h1]; exact y_chunk h t _ e i j
    · rw [outsBY m c t h0 h1]; exact y_chunk h t _ e i j

/-- The output array. -/
theorem arr7 : (dats m 0 c).arrAt 7 cfg0.N = yArr R W K V A B S0 := by
  refine (dats m 0 c).arrAt_eq_of_covers 7 (yArr R W K V A B S0) (by decide +kernel) fun t hf y => ?_
  obtain ⟨e0, e1, e2⟩ := idx7 t
  obtain ⟨z, i, j, rfl⟩ : ∃ (z : Fin 1) (i : Fin 64) (j : Fin 1024), y = ix3 z i j := ⟨_, _, _, eq_ix3 y⟩
  refine Eq.trans ?_ (congrArg (yArr R W K V A B S0) (show ix3 (rowOf t) (tokOf t i) j = _ by blk_ext [e0, e1, e2, rowOf, tokOf]))
  blk_simp
  rw [after0_7]
  obtain rfl : z = 0 := Subsingleton.elim _ _
  exact out_is h t i j

omit h in
theorem flush8 : ∀ t : Fin grid0.N, win0_8.flush t = true → t.val % 64 = 63 := by decide +kernel

/-- The state array. -/
theorem arr8 : (dats m 0 c).arrAt 8 cfg0.N = sArr W K V A B S0 := by
  refine (dats m 0 c).arrAt_eq_of_covers 8 (sArr W K V A B S0) (by decide +kernel) fun t hf y => ?_
  obtain ⟨e0, e1, e2, e3⟩ := idx8 t
  have h1 := flush8 t hf
  obtain ⟨z, p, i, j, rfl⟩ : ∃ (z : Fin 1) (p : Fin 8) (i j : Fin 128), y = ix4 z p i j := ⟨_, _, _, _, eq_ix4 y⟩
  refine Eq.trans ?_ (congrArg (sArr W K V A B S0) (show ix4 (rowOf t) p i j = _ by blk_ext [e0, e1, e2, e3, rowOf]))
  blk_simp
  rw [after0_8]
  refine (outsC8 m c t (by omega) h1 _).trans ?_
  have e := state_is h _ t rfl p i j
  rw [h1] at e
  exact e

end

end Cert.KernelIdeal.Gen

end
end
-- ==== Proof.WkvTail.lean ====
module

public import proofs.«01_k».proof.Proof.WkvFold

@[expose] public section

set_option maxRecDepth 16384

noncomputable section

/-! The host operations around the launch: two heads packed on a diagonal, and unpacked again. -/

open Idealize.ShloMosaic Idealize.ShloMosaic.TcCoe Idealize.SL.Sem
open Idealize.ShloMosaic.Pipeline (Dat)

namespace Cert.KernelIdeal.Gen

/-- One head of each pair. -/
def headOf (o : Nat) (ho : S4x8x2x64x64.Slices ![0, 0, o, 0, 0] S4x8x1x64x64) (s : Vec Ideal S4x16x64x64 .f32) : Vec Ideal S4x8x64x64 .f32 :=
  shapeCast S4x8x64x64 (extractStridedSlice S4x8x1x64x64 ![0, 0, o, 0, 0] (shapeCast S4x8x2x64x64 s shapeCasts_S4x16x64x64_S4x8x2x64x64) ho) shapeCasts_S4x8x1x64x64_S4x8x64x64

def zeroHead : FVec Ideal S4x8x64x64 .f32 := broadcastInDim S4x8x64x64 ![] bcast_S_S4x8x64x64 (constant (F := Ideal) S_ .f32 0x00000000#32)

theorem zeroHead_at (x) : zeroHead x = 0 := by
  pointwise [zeroHead]

/-- The two heads on the diagonal. -/
def packS (s : Vec Ideal S4x16x64x64 .f32) : Vec Ideal S4x8x128x128 .f32 :=
  concatenate S4x8x128x128 2 [⟨S4x8x64x128, concatenate S4x8x64x128 3 [⟨S4x8x64x64, headOf 0 slices_S4x8x2x64x64_S4x8x1x64x64_0_0_0_0_0 s⟩, ⟨S4x8x64x64, zeroHead⟩] concatenates_S4x8x64x64_S4x8x64x64_S4x8x64x128_d3⟩,
    ⟨S4x8x64x128, concatenate S4x8x64x128 3 [⟨S4x8x64x64, zeroHead⟩, ⟨S4x8x64x64, headOf 1 slices_S4x8x2x64x64_S4x8x1x64x64_0_0_1_0_0 s⟩] concatenates_S4x8x64x64_S4x8x64x64_S4x8x64x128_d3⟩] concatenates_S4x8x64x128_S4x8x64x128_S4x8x128x128_d2

/-- The diagonal blocks as heads. -/
def unpackS (s : Vec Ideal S4x8x128x128 .f32) : Vec Ideal S4x16x64x64 .f32 :=
  shapeCast S4x16x64x64 (concatenate S4x8x2x64x64 2 [⟨S4x8x1x64x64, broadcastInDim S4x8x1x64x64 ![0, 1, 3, 4] bcast_S4x8x64x64_S4x8x1x64x64_0_1_3_4 (extractStridedSlice S4x8x64x64 ![0, 0, 0, 0] s slices_S4x8x128x128_S4x8x64x64_0_0_0_0)⟩,
    ⟨S4x8x1x64x64, broadcastInDim S4x8x1x64x64 ![0, 1, 3, 4] bcast_S4x8x64x64_S4x8x1x64x64_0_1_3_4 (extractStridedSlice S4x8x64x64 ![0, 0, 64, 64] s slices_S4x8x128x128_S4x8x64x64_0_0_64_64)⟩] concatenates_S4x8x1x64x64_S4x8x1x64x64_S4x8x2x64x64_d2) shapeCasts_S4x8x2x64x64_S4x16x64x64

theorem headOf_at (o : Nat) (ho : S4x8x2x64x64.Slices ![0, 0, o, 0, 0] S4x8x1x64x64) (h2 : o < 2) (s : Vec Ideal S4x16x64x64 .f32) (g : Fin 4) (p : Fin 8) (i j : Fin 64) :
    headOf o ho s (ix4 g p i j) = s (ix4 g ⟨2 * p + o, by omega⟩ i j) := by
  pointwise [headOf]
  blk_ext

theorem packS_at (s : Vec Ideal S4x16x64x64 .f32) (g : Fin 4) (p : Fin 8) (i j : Fin 128) :
    packS s (ix4 g p i j) = if i.val / 64 = j.val / 64 then s (ix4 g ⟨2 * p + i / 64, by omega⟩ ⟨i % 64, by omega⟩ ⟨j % 64, by omega⟩) else 0 := by
  pointwise [packS]
  simp only [zeroHead_at]
  have hi := i.2
  have hj := j.2
  by_cases h1 : i.val < 64
  · refine (dif_pos h1).trans ?_
    by_cases h2 : j.val < 64
    · refine (dif_pos h2).trans (Eq.trans ?_ (if_pos (by omega)).symm)
      refine (headOf_at 0 _ (by omega) _ _ _ _ _).trans ?_
      refine congrArg s ?_
      blk_ext
    · exact (dif_neg h2).trans (if_neg (by omega)).symm
  · refine (dif_neg h1).trans ?_
    by_cases h2 : j.val < 64
    · exact (dif_pos h2).trans (if_neg (by omega)).symm
    · refine (dif_neg h2).trans (Eq.trans ?_ (if_pos (by omega)).symm)
      refine (headOf_at 1 _ (by omega) _ _ _ _ _).trans ?_
      refine congrArg s ?_
      blk_ext

theorem unpackS_at (s : Vec Ideal S4x8x128x128 .f32) (g : Fin 4) (h : Fin 16) (i j : Fin 64) :
    unpackS s (ix4 g h i j) = s (ix4 g ⟨h / 2, by omega⟩ ⟨64 * (h % 2) + i, by omega⟩ ⟨64 * (h % 2) + j, by omega⟩) := by
  pointwise [unpackS]
  by_cases h1 : h.val % 2 < 1
  · rw [dif_pos h1]
    refine congrArg s ?_
    blk_ext
  · rw [dif_neg h1]
    refine congrArg s ?_
    blk_ext

variable (m : (ℓ : Loc nD τ sig) → Buf (Elt Ideal) ℓ)

theorem V_main_v10 (c : Dev nD) : Gen.V m c main_v10 = packS (m ((c : Thread nD τ).loc main_arg6)) := by
  unfold Gen.V V0
  simp only [hostOps0, List.flatten_cons, List.flatten_nil, List.append_nil]
  after_results
  rfl

theorem tail_v17 (W : Valuation τ sig (Elt Ideal)) : StableHlo.after hostOps1 W (Proc.devRef .tc main_v17) = unpackS (W (Proc.devRef .tc main_v11_1)) := by
  unfold hostOps1
  after_results
  rfl

theorem W_main_v17 (c : Dev nD) :
    Pipeline.afterTail₀ cfgs (dats m) 0 (V0 m) [hostOps1] c main_v17 = unpackS ((dats m 0 c).arrAt 8 cfg0.N) := by
  unfold Pipeline.afterTail₀
  refine (tail_v17 _).trans (congrArg unpackS ?_)
  exact Pipeline.withArrays_arr (cfgs 0).spec launch0.win.arr_inj c _ (fun w => (dats m 0 c).arrAt w (cfgs 0).N) 8

end Cert.KernelIdeal.Gen
-- ==== Proof.WkvRef.lean ====
module

public import proofs.«01_k».proof.Proof.RefRun
public import proofs.«01_k».proof.Proof.WkvChunk
public import Idealize.ShloMosaic.Lib.Pointwise
public import Idealize.ShloMosaic.Lib.DynamicIndex
public import Idealize.ShloMosaic.Lib.Pipeline.ValueKit

@[expose] public section

set_option maxRecDepth 16384

noncomputable section

/-! One token of the reference over the reals. -/

namespace Cert.RefRun

open Idealize.ShloMosaic Idealize.ShloMosaic.TcCoe Idealize.SL.Sem Idealize.ShloMosaic.StableHlo
open Cert.ReferenceIdeal Cert.ReferenceIdeal.Value Cert.ReferenceIdeal.Step Cert.ReferenceIdeal.Gen

variable (s : State Ideal)

theorem slice_at (j : Fin 4096) : S4096x4x16x64.Slices ![j.val, 0, 0, 0] S1x4x16x64 :=
  ⟨rfl, fun a => by
    fin_cases a
    · show j.val + 1 ≤ 4096; omega
    · show 0 + 4 ≤ 4; omega
    · show 0 + 16 ≤ 16; omega
    · show 0 + 64 ≤ 64; omega⟩

/-- The loop's start words are the token's number and zeros. -/
theorem start_at (j : Fin 4096) (a : Fin 4) :
    ((![(constantI S_ 32 (BitVec.ofNat 32 j) : (⟨S_, .i32⟩ : BufTy).Contents (Elt Ideal)), constantI S_ 32 0#32, constantI S_ 32 0#32, constantI S_ 32 0#32] : Fin 4 → (⟨S_, .i32⟩ : BufTy).Contents (Elt Ideal)) a (Shape.Idx.first h_S_)).toInt
      = ((![j.val, 0, 0, 0] : Fin 4 → ℕ) a : ℤ) := by
  fin_cases a
  · exact toInt_ofNat_of_lt (by omega)
  · exact toInt_ofNat_of_lt (k := 0) (by omega)
  · exact toInt_ofNat_of_lt (k := 0) (by omega)
  · exact toInt_ofNat_of_lt (k := 0) (by omega)

/-- A token's slice. -/
theorem token_at (X : (⟨S4096x4x16x64, .f32⟩ : BufTy).Contents (Elt Ideal)) (j : Fin 4096) (st : Fin S4096x4x16x64.rank → ℤ)
    (hs : ∀ a : Fin 4, st a = ((![j.val, 0, 0, 0] : Fin 4 → ℕ) a : ℤ)) (h) (g : Fin 4) (h' : Fin 16) (i : Fin 64) :
    shapeCast S4x16x64 (Host.dynamicSlice S1x4x16x64 X st h) shapeCasts_S1x4x16x64_S4x16x64 (ix3 g h' i) = X (ix4 j g h' i) := by
  rw [Host.dynamicSlice_eq_extractStridedSlice S1x4x16x64 X st ![j.val, 0, 0, 0] h (slice_at j) hs]
  pointwise []
  blk_ext

theorem b4_at (j : Fin 4096) (g : Fin 4) (h : Fin 16) (i : Fin 64) : b4 (F := Ideal) j s (ix3 g h i) = s.main_v14_0 (ix4 j g h i) := by
  unfold b4; exact token_at _ j _ (start_at j) _ g h i
theorem b9_at (j : Fin 4096) (g : Fin 4) (h : Fin 16) (i : Fin 64) : b9 (F := Ideal) j s (ix3 g h i) = s.main_v14_1 (ix4 j g h i) := by
  unfold b9; exact token_at _ j _ (start_at j) _ g h i
theorem b14_at (j : Fin 4096) (g : Fin 4) (h : Fin 16) (i : Fin 64) : b14 (F := Ideal) j s (ix3 g h i) = s.main_v14_2 (ix4 j g h i) := by
  unfold b14; exact token_at _ j _ (start_at j) _ g h i
theorem b19_at (j : Fin 4096) (g : Fin 4) (h : Fin 16) (i : Fin 64) : b19 (F := Ideal) j s (ix3 g h i) = s.main_v14_3 (ix4 j g h i) := by
  unfold b19; exact token_at _ j _ (start_at j) _ g h i
theorem b24_at (j : Fin 4096) (g : Fin 4) (h : Fin 16) (i : Fin 64) : b24 (F := Ideal) j s (ix3 g h i) = s.main_v14_4 (ix4 j g h i) := by
  unfold b24; exact token_at _ j _ (start_at j) _ g h i
theorem b29_at (j : Fin 4096) (g : Fin 4) (h : Fin 16) (i : Fin 64) : b29 (F := Ideal) j s (ix3 g h i) = s.main_v14_5 (ix4 j g h i) := by
  unfold b29; exact token_at _ j _ (start_at j) _ g h i

theorem b30_at (j : ℕ) (g : Fin 4) (h : Fin 16) (i : Fin 64) : b30 (F := Ideal) j s (ix3 g h i) = ∑ l : Fin 64, s.main_v14_7 (ix4 g h i l) * b24 (F := Ideal) j s (ix3 g h l) := by
  pointwise [b30]
theorem b46_at (j : ℕ) (g : Fin 4) (h : Fin 16) (i : Fin 64) : b46 (F := Ideal) j s (ix3 g h i) = ∑ l : Fin 64, b45 (F := Ideal) j s (ix4 g h i l) * b4 (F := Ideal) j s (ix3 g h l) := by
  pointwise [b46]

theorem b45_at (j : ℕ) (g : Fin 4) (h : Fin 16) (i l : Fin 64) : b45 (F := Ideal) j s (ix4 g h i l) = (s.main_v14_7 (ix4 g h i l) * b9 (F := Ideal) j s (ix3 g h l)
    + b30 (F := Ideal) j s (ix3 g h i) * b29 (F := Ideal) j s (ix3 g h l)) + b19 (F := Ideal) j s (ix3 g h i) * b14 (F := Ideal) j s (ix3 g h l) := by
  pointwise [b45, b44, b43, b42, b41, b40, b39, b38, b37, b36, b35, b34, b33, b32, b31]

theorem b47_at (j : ℕ) (o : Fin 1) (g : Fin 4) (h : Fin 16) (i : Fin 64) : b47 (F := Ideal) j s (ix4 o g h i) = b46 (F := Ideal) j s (ix3 g h i) := by
  pointwise [b47]

theorem b51_at (j : Fin 4096) (q : Fin 4096) (g : Fin 4) (h : Fin 16) (i : Fin 64) : b51 (F := Ideal) j s (ix4 q g h i) = if q.val = j.val then b46 (F := Ideal) j s (ix3 g h i) else s.main_v14_8 (ix4 q g h i) := by
  unfold b51
  rw [Host.dynamicUpdateSlice_eq_updateSlice _ _ _ _ ![j.val, 0, 0, 0] (fun a => by
    have e := (slice_at j).2 a
    refine Eq.trans (congrArg (fun z : ℤ => (min (max z 0) ((S4096x4x16x64.size a - S1x4x16x64.size (a.cast (slice_at j).1.symm) : ℕ) : ℤ)).toNat) (start_at j a)) ?_
    have e' : (![j.val, 0, 0, 0] : Fin 4 → ℕ) a + S1x4x16x64.size (a.cast (slice_at j).1.symm) ≤ S4096x4x16x64.size a := e
    generalize (![j.val, 0, 0, 0] : Fin 4 → ℕ) a = y at *
    generalize S1x4x16x64.size (a.cast (slice_at j).1.symm) = u at *
    generalize S4096x4x16x64.size a = w at *
    omega) (slice_at j)]
  pointwise []
  by_cases e : q.val = j.val
  · refine (dif_pos ⟨by omega, by omega⟩).trans (Eq.trans ?_ (if_pos e).symm)
    exact b47_at s j _ g h i
  · exact (dif_neg (by omega)).trans (if_neg e).symm

theorem R_at (g : Fin 4) (q : Fin 4096) (j : Fin 1024) : R_main_v16 s (ix3 g q j) = s.main_v14_8 (ix4 q g ⟨j / 64, by omega⟩ ⟨j % 64, by omega⟩) := by
  pointwise [R_main_v16]

variable (x0 x1 x2 x3 x4 x5 : (⟨S4x4096x1024, .f32⟩ : BufTy).Contents (Elt Ideal))

theorem A2_at (q : Fin 4096) (g : Fin 4) (h : Fin 16) (i : Fin 64) : A_main_v2 x0 x1 x2 x3 x4 x5 (ix4 q g h i) = x0 (ix3 g q ⟨64 * h + i, by omega⟩) := by
  pointwise [A_main_v2, A_main_v1, A_main_v0]
  blk_ext
theorem A4_at (q : Fin 4096) (g : Fin 4) (h : Fin 16) (i : Fin 64) : A_main_v4 x0 x1 x2 x3 x4 x5 (ix4 q g h i) = Ideal.exp (x1 (ix3 g q ⟨64 * h + i, by omega⟩)) := by
  pointwise [A_main_v4, A_main_v3, A_main_v0]
  refine congrArg (fun i => Ideal.exp (x1 i)) ?_
  blk_ext
theorem A6_at (q : Fin 4096) (g : Fin 4) (h : Fin 16) (i : Fin 64) : A_main_v6 x0 x1 x2 x3 x4 x5 (ix4 q g h i) = x2 (ix3 g q ⟨64 * h + i, by omega⟩) := by
  pointwise [A_main_v6, A_main_v5, A_main_v0]
  blk_ext
theorem A8_at (q : Fin 4096) (g : Fin 4) (h : Fin 16) (i : Fin 64) : A_main_v8 x0 x1 x2 x3 x4 x5 (ix4 q g h i) = x3 (ix3 g q ⟨64 * h + i, by omega⟩) := by
  pointwise [A_main_v8, A_main_v7, A_main_v0]
  blk_ext
theorem A10_at (q : Fin 4096) (g : Fin 4) (h : Fin 16) (i : Fin 64) : A_main_v10 x0 x1 x2 x3 x4 x5 (ix4 q g h i) = x4 (ix3 g q ⟨64 * h + i, by omega⟩) := by
  pointwise [A_main_v10, A_main_v9, A_main_v0]
  blk_ext
theorem A12_at (q : Fin 4096) (g : Fin 4) (h : Fin 16) (i : Fin 64) : A_main_v12 x0 x1 x2 x3 x4 x5 (ix4 q g h i) = x5 (ix3 g q ⟨64 * h + i, by omega⟩) := by
  pointwise [A_main_v12, A_main_v11, A_main_v0]
  blk_ext

end Cert.RefRun
-- ==== Proof.WkvIter.lean ====
module

public import proofs.«01_k».proof.Proof.WkvRef
public import proofs.«01_k».proof.Proof.WkvFold

@[expose] public section

set_option maxRecDepth 16384

noncomputable section

/-! The reference's loop over the reals: its states are the recurrence's, a head a diagonal block of its pair. -/

namespace Cert.RefRun

open Idealize.ShloMosaic Idealize.ShloMosaic.TcCoe Idealize.SL.Sem Idealize.ShloMosaic.StableHlo
open Cert.ReferenceIdeal Cert.ReferenceIdeal.Value Cert.ReferenceIdeal.Step Cert.ReferenceIdeal.Gen
open Cert.Wkv (Arr rowAt Mat Blk)
open Cert.KernelIdeal.Gen (stt IsA)

/-- A head's lane of its pair. -/
def lane (h : Fin 16) (i : Fin 64) : Fin 128 := ⟨64 * (h % 2) + i, by omega⟩

/-- A block-diagonal row meets only the lanes of its own head. -/
theorem sum_half {M : Mat} (hM : Blk M) (h : Fin 16) (i : Fin 64) (f : Fin 128 → ℝ) :
    ∑ l, M (lane h i) l * f l = ∑ l : Fin 64, M (lane h i) (lane h l) * f (lane h l) := by
  have e : ∑ l, M (lane h i) l * f l = _ := Fin.sum_univ_add (a := 64) (b := 64) (fun l : Fin (64 + 64) => M (lane h i) l * f l)
  rw [e]
  rcases (show h.val % 2 = 0 ∨ h.val % 2 = 1 by omega) with h0 | h1
  · rw [Finset.sum_eq_zero (s := Finset.univ) (f := fun x : Fin 64 => M (lane h i) (Fin.natAdd 64 x) * f (Fin.natAdd 64 x))
      (fun x _ => by rw [hM _ _ (by show (64 * (h.val % 2) + i.val) / 64 ≠ (64 + x.val) / 64; omega), zero_mul]), add_zero]
    exact Finset.sum_congr rfl fun x _ => by
      rw [show (Fin.castAdd 64 x : Fin (64 + 64)) = lane h x from Fin.ext (by show x.val = 64 * (h.val % 2) + x.val; omega)]
  · rw [Finset.sum_eq_zero (s := Finset.univ) (f := fun x : Fin 64 => M (lane h i) (Fin.castAdd 64 x) * f (Fin.castAdd 64 x))
      (fun x _ => by rw [hM _ _ (by show (64 * (h.val % 2) + i.val) / 64 ≠ x.val / 64; omega), zero_mul]), zero_add]
    exact Finset.sum_congr rfl fun x _ => by
      rw [show (Fin.natAdd 64 x : Fin (64 + 64)) = lane h x from Fin.ext (by show 64 + x.val = 64 * (h.val % 2) + x.val; omega)]

/-- The loop's inputs are the real arrays. -/
structure Feeds (s : State Ideal) (R W K V A B : Arr) : Prop where
  r : ∀ q g h i, s.main_v14_0 (ix4 q g h i) = ((R (g : Fin 4) (q : Fin 4096) (64 * (h : Fin 16) + (i : Fin 64)) : ℝ) : EReal)
  w : ∀ q g h i, s.main_v14_1 (ix4 q g h i) = ((Real.exp (W (g : Fin 4) (q : Fin 4096) (64 * (h : Fin 16) + (i : Fin 64))) : ℝ) : EReal)
  k : ∀ q g h i, s.main_v14_2 (ix4 q g h i) = ((K (g : Fin 4) (q : Fin 4096) (64 * (h : Fin 16) + (i : Fin 64)) : ℝ) : EReal)
  v : ∀ q g h i, s.main_v14_3 (ix4 q g h i) = ((V (g : Fin 4) (q : Fin 4096) (64 * (h : Fin 16) + (i : Fin 64)) : ℝ) : EReal)
  a : ∀ q g h i, s.main_v14_4 (ix4 q g h i) = ((A (g : Fin 4) (q : Fin 4096) (64 * (h : Fin 16) + (i : Fin 64)) : ℝ) : EReal)
  b : ∀ q g h i, s.main_v14_5 (ix4 q g h i) = ((B (g : Fin 4) (q : Fin 4096) (64 * (h : Fin 16) + (i : Fin 64)) : ℝ) : EReal)

section
variable {s : State Ideal} {R W K V A B : Arr} {S0 : ℕ → ℕ → Mat} (H : Feeds s R W K V A B) (hB : ∀ g p, Blk (S0 g p))

theorem row_lane (X : Arr) (g n : ℕ) (h : Fin 16) (i : Fin 64) : X g n (64 * h + i) = rowAt X g (h / 2) 0 n (lane h i) := by
  show _ = X g (0 + n) (128 * (h / 2) + (64 * (h % 2) + i))
  rw [show 128 * (h.val / 2) + (64 * (h.val % 2) + i.val) = 64 * h + i by omega, Nat.zero_add]

include hB in
theorem stt_blk (g p n : ℕ) : Blk (stt W K V A B S0 g p n) := Cert.Wkv.pst_blk (hB _ _) _

include H hB in
theorem next_state (n : Fin 4096) (hs : ∀ g h i l, s.main_v14_7 (ix4 g h i l) = ((stt W K V A B S0 (g : Fin 4) ((h : Fin 16) / 2) n (lane h i) (lane h l) : ℝ) : EReal))
    (g : Fin 4) (h : Fin 16) (i l : Fin 64) :
    b45 (F := Ideal) n s (ix4 g h i l) = ((stt W K V A B S0 g (h / 2) (n + 1) (lane h i) (lane h l) : ℝ) : EReal) := by
  rw [b45_at, b30_at]
  simp only [b9_at, b24_at, b29_at, b19_at, b14_at, hs, H.w, H.k, H.v, H.a, H.b]
  simp only [row_lane]
  have e : stt W K V A B S0 g (h / 2) (n + 1) (lane h i) (lane h l)
      = stt W K V A B S0 g (h / 2) n (lane h i) (lane h l) * Real.exp (rowAt W g (h / 2) 0 n (lane h l))
        + ((∑ x, stt W K V A B S0 g (h / 2) n (lane h i) (lane h x) * rowAt A g (h / 2) 0 n (lane h x)) * rowAt B g (h / 2) 0 n (lane h l)
          + rowAt V g (h / 2) 0 n (lane h i) * rowAt K g (h / 2) 0 n (lane h l)) := by
    rw [← sum_half (stt_blk hB g (h / 2) n) h i]
    show Cert.Wkv.pstep _ _ _ _ _ _ _ _ _ = _
    unfold Cert.Wkv.pstep
    rw [if_pos (by show (64 * (h.val % 2) + i.val) / 64 = (64 * (h.val % 2) + l.val) / 64; omega)]
    rfl
  rw [e]
  simp only [← EReal.coe_mul, Cert.KernelIdeal.Gen.coe_sum, ← EReal.coe_add]
  rw [add_assoc]

include H hB in
theorem next_y (n : Fin 4096) (hs : ∀ g h i l, b45 (F := Ideal) n s (ix4 g h i l) = ((stt W K V A B S0 (g : Fin 4) ((h : Fin 16) / 2) (n + 1) (lane h i) (lane h l) : ℝ) : EReal))
    (g : Fin 4) (h : Fin 16) (i : Fin 64) :
    b46 (F := Ideal) n s (ix3 g h i) = ((∑ l, stt W K V A B S0 g (h / 2) (n + 1) (lane h i) l * rowAt R g (h / 2) 0 n l : ℝ) : EReal) := by
  rw [b46_at, sum_half (stt_blk hB g (h / 2) (n + 1)) h i]
  simp only [b4_at, hs, H.r]
  simp only [row_lane]
  simp only [← EReal.coe_mul, ← Cert.KernelIdeal.Gen.coe_sum]

end

/-- What the loop holds after `n` tokens. -/
structure After (s : State Ideal) (R W K V A B : Arr) (S0 : ℕ → ℕ → Mat) (n : ℕ) : Prop where
  feeds : Feeds s R W K V A B
  st : ∀ g h i l, s.main_v14_7 (ix4 g h i l) = ((stt W K V A B S0 (g : Fin 4) ((h : Fin 16) / 2) n (lane h i) (lane h l) : ℝ) : EReal)
  ys : ∀ q g h i, (q : Fin 4096).val < n → s.main_v14_8 (ix4 q g h i)
    = ((∑ l, stt W K V A B S0 (g : Fin 4) ((h : Fin 16) / 2) (q + 1) (lane h i) l * rowAt R g (h / 2) 0 q l : ℝ) : EReal)

theorem after_step {s : State Ideal} {R W K V A B : Arr} {S0 : ℕ → ℕ → Mat} (hB : ∀ g p, Blk (S0 g p)) (n : Fin 4096)
    (h : After s R W K V A B S0 n) : After (step n s) R W K V A B S0 (n + 1) where
  feeds := ⟨h.feeds.r, h.feeds.w, h.feeds.k, h.feeds.v, h.feeds.a, h.feeds.b⟩
  st := next_state h.feeds hB n h.st
  ys q g h' i hq := by
    refine (b51_at s n q g h' i).trans ?_
    by_cases e : q.val = n.val
    · rw [if_pos e, next_y h.feeds hB n (next_state h.feeds hB n h.st), e]
    · rw [if_neg e]
      exact h.ys q g h' i (by omega)

theorem after_iter (m : (ℓ : Loc nD τ sig) → Buf (Elt Ideal) ℓ) (c : Dev nD) {R W K V A B : Arr} {S0 : ℕ → ℕ → Mat} (hB : ∀ g p, Blk (S0 g p))
    (h0 : After (start m c) R W K V A B S0 0) : ∀ n, n ≤ 4096 → After (iter m c n) R W K V A B S0 n
  | 0, _ => h0
  | n + 1, hn => after_step hB ⟨n, by omega⟩ (after_iter m c hB h0 n (by omega))

/-- At the start. -/
theorem after_start (m : (ℓ : Loc nD τ sig) → Buf (Elt Ideal) ℓ) (c : Dev nD) {R W K V A B : Arr} {S0 : ℕ → ℕ → Mat}
    (hr : IsA (m ((c : Thread nD τ).loc main_arg0)) R) (hw : IsA (m ((c : Thread nD τ).loc main_arg1)) W) (hk : IsA (m ((c : Thread nD τ).loc main_arg2)) K)
    (hv : IsA (m ((c : Thread nD τ).loc main_arg3)) V) (ha : IsA (m ((c : Thread nD τ).loc main_arg4)) A) (hb : IsA (m ((c : Thread nD τ).loc main_arg5)) B)
    (hs : ∀ (g : Fin 4) (h : Fin 16) (i l : Fin 64), m ((c : Thread nD τ).loc main_arg6) (ix4 g h i l) = ((S0 g (h / 2) (lane h i) (lane h l) : ℝ) : EReal)) :
    After (start m c) R W K V A B S0 0 where
  feeds := ⟨fun q g h i => (A2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q g h i).trans (hr _ _ _), fun q g h i => (A4_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q g h i).trans (congrArg Ideal.exp (hw _ _ _)),
    fun q g h i => (A6_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q g h i).trans (hk _ _ _), fun q g h i => (A8_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q g h i).trans (hv _ _ _),
    fun q g h i => (A10_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q g h i).trans (ha _ _ _), fun q g h i => (A12_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q g h i).trans (hb _ _ _)⟩
  st := hs
  ys := fun q g h i hq => absurd hq (Nat.not_lt_zero _)

end Cert.RefRun
-- ==== Proof.WkvFinite.lean ====
module

public import proofs.«01_k».proof.Proof.Gen.Pre_finite
public import proofs.«01_k».proof.Pre_finite
public import Idealize.ShloMosaic.Lib.Pointwise
public import Idealize.ShloMosaic.Lib.ReduceAll
public import Idealize.ShloMosaic.Lib.Affine

@[expose] public section

set_option maxRecDepth 16384

noncomputable section

/-! The precondition: every entry is a real number. -/

namespace Cert.Pre_finite

open Idealize.ShloMosaic
open Facts

/-- An entry below the infinite bound in absolute value is a real. -/
theorem real_of {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    x i = ((EReal.toReal (x i) : ℝ) : EReal) := by
  revert h
  pointwise []
  induction x i using EReal.rec with
  | bot =>
    intro h
    exact absurd h (by
      rw [show FloatOps.absf (F := Ideal) (φ := .f32) (⊥ : EReal) = (⊤ : EReal) from rfl]
      simp)
  | coe r => exact fun _ => rfl
  | top =>
    intro h
    exact absurd h (by
      rw [show FloatOps.absf (F := Ideal) (φ := .f32) (⊤ : EReal) = (⊤ : EReal) from rfl]
      simp)

theorem finite_at [Facts] (x0 x1 x2 x3 x4 x5 : FVec Ideal S4x4096x1024 .f32) (x6 : FVec Ideal S4x16x64x64 .f32)
    (h : ∀ j, fn (F := Ideal) x0 x1 x2 x3 x4 x5 x6 j = 1#1) :
    (∀ i, x0 i = ((EReal.toReal (x0 i) : ℝ) : EReal)) ∧ (∀ i, x1 i = ((EReal.toReal (x1 i) : ℝ) : EReal)) ∧ (∀ i, x2 i = ((EReal.toReal (x2 i) : ℝ) : EReal))
      ∧ (∀ i, x3 i = ((EReal.toReal (x3 i) : ℝ) : EReal)) ∧ (∀ i, x4 i = ((EReal.toReal (x4 i) : ℝ) : EReal)) ∧ (∀ i, x5 i = ((EReal.toReal (x5 i) : ℝ) : EReal))
      ∧ (∀ i, x6 i = ((EReal.toReal (x6 i) : ℝ) : EReal)) := by
  have e := h (Shape.Idx.first h_S_)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => funext fun k => k.elim0⟩
  exact ⟨fun i => real_of x0 _ i (Host.reduce_andi_all _ _ _ _ _ e0 i), fun i => real_of x1 _ i (Host.reduce_andi_all _ _ _ _ _ e1 i),
    fun i => real_of x2 _ i (Host.reduce_andi_all _ _ _ _ _ e2 i), fun i => real_of x3 _ i (Host.reduce_andi_all _ _ _ _ _ e3 i),
    fun i => real_of x4 _ i (Host.reduce_andi_all _ _ _ _ _ e4 i), fun i => real_of x5 _ i (Host.reduce_andi_all _ _ _ _ _ e5 i),
    fun i => real_of x6 _ i (Host.reduce_andi_all _ _ _ _ _ e6 i)⟩

end Cert.Pre_finite
-- ==== Proof.WkvValue.lean ====
module

public import proofs.«01_k».proof.Defs
public import proofs.«01_k».proof.Proof.WkvTail
public import proofs.«01_k».proof.Proof.WkvIter
public import proofs.«01_k».proof.Proof.WkvFinite
public import Idealize.ShloMosaic.Lib.Claim

@[expose] public section

set_option maxRecDepth 16384

noncomputable section

/-! The launch computes the reference's outputs and final state. -/

namespace Cert.WkvValue

open Idealize.ShloMosaic Idealize.ShloMosaic.TcCoe Idealize.SL.Sem
open Cert.Wkv (Arr rowAt Mat Blk)
open Cert.KernelIdeal (nD τ sig S4x4096x1024 S4x16x64x64 S4x8x128x128)
open Cert.KernelIdeal.Gen
open Cert.RefRun (lane After after_iter after_start iter run_states R_at)

/-- An array argument's real entries. -/
def realArr (x : Vec Ideal S4x4096x1024 .f32) : Arr := fun g t j =>
  if h : g < 4 ∧ t < 4096 ∧ j < 1024 then EReal.toReal (x (ix3 ⟨g, h.1⟩ ⟨t, h.2.1⟩ ⟨j, h.2.2⟩)) else 0

theorem isA_real {x : Vec Ideal S4x4096x1024 .f32} (h : ∀ i, x i = ((EReal.toReal (x i) : ℝ) : EReal)) : IsA x (realArr x) := fun g t j =>
  (h _).trans (congrArg (fun r : ℝ => (r : EReal)) (by
    unfold realArr
    rw [dif_pos (⟨g.2, t.2, j.2⟩ : g.val < 4 ∧ t.val < 4096 ∧ j.val < 1024)]))

/-- The state argument's real entries, two heads on a diagonal. -/
def realSt (x : Vec Ideal S4x16x64x64 .f32) (g p : ℕ) : Mat := fun i j =>
  if h : g < 4 ∧ p < 8 then
    if i.val / 64 = j.val / 64 then EReal.toReal (x (ix4 ⟨g, h.1⟩ ⟨2 * p + i / 64, by omega⟩ ⟨i % 64, by omega⟩ ⟨j % 64, by omega⟩)) else 0
  else 0

theorem realSt_blk (x : Vec Ideal S4x16x64x64 .f32) (g p : ℕ) : Blk (realSt x g p) := fun i j h => by
  unfold realSt
  by_cases hg : g < 4 ∧ p < 8
  · exact (dif_pos hg).trans (if_neg h)
  · exact dif_neg hg

theorem realSt_lane {x : Vec Ideal S4x16x64x64 .f32} (hx : ∀ i, x i = ((EReal.toReal (x i) : ℝ) : EReal)) (g : Fin 4) (h : Fin 16) (i l : Fin 64) :
    x (ix4 g h i l) = ((realSt x g (h / 2) (lane h i) (lane h l) : ℝ) : EReal) := by
  refine (hx _).trans (congrArg (fun r : ℝ => (r : EReal)) ?_)
  refine Eq.trans ?_ (dif_pos (⟨g.2, by omega⟩ : g.val < 4 ∧ h.val / 2 < 8)).symm
  refine Eq.trans ?_ (if_pos (by show (64 * (h.val % 2) + i.val) / 64 = (64 * (h.val % 2) + l.val) / 64; omega)).symm
  refine congrArg (fun z => EReal.toReal (x z)) ?_
  blk_ext [lane]

theorem packed_real {x : Vec Ideal S4x16x64x64 .f32} (hx : ∀ i, x i = ((EReal.toReal (x i) : ℝ) : EReal)) (g : Fin 4) (p : Fin 8) (i j : Fin 128) :
    packS x (ix4 g p i j) = ((realSt x g p i j : ℝ) : EReal) := by
  refine (packS_at x g p i j).trans ?_
  refine Eq.trans ?_ (congrArg (fun r : ℝ => (r : EReal)) (dif_pos (⟨g.2, p.2⟩ : g.val < 4 ∧ p.val < 8)).symm)
  by_cases h : i.val / 64 = j.val / 64
  · exact (if_pos h).trans ((hx _).trans (congrArg (fun r : ℝ => (r : EReal)) (if_pos h).symm))
  · exact (if_neg h).trans (congrArg (fun r : ℝ => (r : EReal)) (if_neg h).symm)

/-- The output array at a feature, by its head. -/
theorem out_eq {R W K V A B : Arr} {S0 : ℕ → ℕ → Mat} {s : Cert.ReferenceIdeal.Step.State Ideal} (h : After s R W K V A B S0 4096) :
    Cert.ReferenceIdeal.Step.R_main_v16 s = yArr R W K V A B S0 := by
  funext z
  obtain ⟨g, q, j, rfl⟩ : ∃ (g : Fin 4) (q : Fin 4096) (j : Fin 1024), z = ix3 g q j := ⟨_, _, _, eq_ix3 z⟩
  refine (R_at s g q j).trans ((h.ys _ _ _ _ q.2).trans (congrArg (fun r : ℝ => (r : EReal)) ?_))
  have e1 : lane ⟨j / 64, by omega⟩ ⟨j % 64, by omega⟩ = laneIn j := Fin.ext (by show 64 * (j.val / 64 % 2) + j.val % 64 = j.val % 128; omega)
  have e2 : j.val / 64 / 2 = (lanePair j : ℕ) := by show j.val / 64 / 2 = j.val / 128; omega
  refine Finset.sum_congr rfl fun l _ => ?_
  refine congrArg₂ (· * ·) ?_ ?_
  · exact (congrArg (fun p => stt W K V A B S0 g p (q + 1) _ l) e2).trans (congrArg (fun a => stt W K V A B S0 g (lanePair j) (q + 1) a l) e1)
  · show R g (0 + q.val) (128 * (j.val / 64 / 2) + l.val) = _
    rw [e2, Nat.zero_add]
    rfl

/-- The final state, by head. -/
theorem state_eq {R W K V A B : Arr} {S0 : ℕ → ℕ → Mat} {s : Cert.ReferenceIdeal.Step.State Ideal} (h : After s R W K V A B S0 4096) :
    s.main_v14_7 = unpackS (sArr W K V A B S0) := by
  funext z
  obtain ⟨g, q, i, j, rfl⟩ : ∃ (g : Fin 4) (q : Fin 16) (i j : Fin 64), z = ix4 g q i j := ⟨_, _, _, _, eq_ix4 z⟩
  exact (h.st g q i j).trans (unpackS_at (sArr W K V A B S0) g q i j).symm

theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hin
  have hf := fun c => Cert.Pre_finite.finite_at _ _ _ _ _ _ _ (fun j => congrFun (hpre c) j)
  refine ⟨fun c => yArr (realArr (m ((c.tc : Thread nD τ).loc Cert.KernelIdeal.main_arg0))) (realArr (m ((c.tc : Thread nD τ).loc Cert.KernelIdeal.main_arg1)))
      (realArr (m ((c.tc : Thread nD τ).loc Cert.KernelIdeal.main_arg2))) (realArr (m ((c.tc : Thread nD τ).loc Cert.KernelIdeal.main_arg3)))
      (realArr (m ((c.tc : Thread nD τ).loc Cert.KernelIdeal.main_arg4))) (realArr (m ((c.tc : Thread nD τ).loc Cert.KernelIdeal.main_arg5)))
      (realSt (m ((c.tc : Thread nD τ).loc Cert.KernelIdeal.main_arg6))),
    fun c => unpackS (sArr (realArr (m ((c.tc : Thread nD τ).loc Cert.KernelIdeal.main_arg1)))
      (realArr (m ((c.tc : Thread nD τ).loc Cert.KernelIdeal.main_arg2))) (realArr (m ((c.tc : Thread nD τ).loc Cert.KernelIdeal.main_arg3)))
      (realArr (m ((c.tc : Thread nD τ).loc Cert.KernelIdeal.main_arg4))) (realArr (m ((c.tc : Thread nD τ).loc Cert.KernelIdeal.main_arg5)))
      (realSt (m ((c.tc : Thread nD τ).loc Cert.KernelIdeal.main_arg6)))), ?_, ?_⟩
  · have hI : ∀ c : Dev nD, Ins m c _ _ _ _ _ _ _ := fun c =>
      { r := isA_real (hf c).1, w := isA_real (hf c).2.1, k := isA_real (hf c).2.2.1, v := isA_real (hf c).2.2.2.1,
        a := isA_real (hf c).2.2.2.2.1, b := isA_real (hf c).2.2.2.2.2.1,
        s := fun g p i j => (congrFun (V_main_v10 m c) _).trans (packed_real (hf c).2.2.2.2.2.2 g p i j), d := realSt_blk _ }
    refine (θ_run _ _ _).mono (fun r h c => ?_) (θ_run_and (run_main (F := Ideal) m ρ) (unchanged (F := Ideal) m ρ))
    exact ⟨((h.1 c).1 7).trans (arr7 (hI c)),
      ((h.1 c).2 Cert.KernelIdeal.main_v17 (Pipeline.mem_restRefs_of _ (by decide) (by decide))).trans
        ((W_main_v17 m c).trans (congrArg unpackS (arr8 (hI c)))), h.2 c⟩
  · have hA : ∀ c, After (iter m' c 4096) _ _ _ _ _ _ _ 4096 := fun c =>
      after_iter m' c (realSt_blk (m ((c.tc : Thread nD τ).loc Cert.KernelIdeal.main_arg6)))
        (after_start m' c (by rw [(hin c).1]; exact isA_real (hf c).1) (by rw [(hin c).2.1]; exact isA_real (hf c).2.1)
          (by rw [(hin c).2.2.1]; exact isA_real (hf c).2.2.1) (by rw [(hin c).2.2.2.1]; exact isA_real (hf c).2.2.2.1)
          (by rw [(hin c).2.2.2.2.1]; exact isA_real (hf c).2.2.2.2.1) (by rw [(hin c).2.2.2.2.2.1]; exact isA_real (hf c).2.2.2.2.2.1)
          (by rw [(hin c).2.2.2.2.2.2]; exact realSt_lane (hf c).2.2.2.2.2.2)) 4096 le_rfl
    refine (θ_run _ _ _).mono (fun r h c => ?_) (θ_run_and (run_states (F := Ideal) m' ρ') (Cert.ReferenceIdeal.Value.run (F := Ideal) m' ρ'))
    exact ⟨(h.1 c).1.trans (out_eq (hA c)), (h.1 c).2.trans (state_eq (hA c)), (h.2 c).2.2⟩

end Cert.WkvValue
-- ==== Proof.NsaRun.lean ====
module

public import proofs.«01_k».proof.Proof.Gen.Kernel2Ideal.Frame

@[expose] public section

set_option maxRecDepth 16384

noncomputable section

/-! The launch once more, stating what every array holds at the end. -/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel2Ideal.Gen

variable {F : FTy → Type} [FloatOps F]
variable (m : (ℓ : Loc nD τ sig) → Buf (Elt F) ℓ) (ρ : Dev nD → PrngReg)

set_option backward.isDefEq.respectTransparency.types false in
/-- Every array of a device ends with the contents the last segment leaves. -/
theorem runs : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.Kernel2Ideal.Gen
-- ==== Proof.NsaMath.lean ====
module

public import Idealize.ShloMosaic.Lib.Pointwise
public import Idealize.ShloMosaic.Lib.Pipeline.ValueKit
public import Idealize.ShloMosaic.Lib.IdealHost

@[expose] public section

set_option maxRecDepth 16384

noncomputable section

/-! The projections of the sparse-attention layer, one token at a time: the normed row, a column's product,
the norm over a head, and the kernel's way to a head's sum (products with a 0/1 matrix there and back). -/

open Idealize.ShloMosaic Idealize.ShloMosaic.TcCoe Idealize.SL.Sem

namespace Cert.Nsa

/-- The constant under the roots. -/
def eps : EReal := Ideal.ofBits FTy.f32 897988541#32

/-- The normed row. -/
def hid (x w : Fin 1024 → EReal) (k : Fin 1024) : EReal :=
  x k * Ideal.rsqrt (Ideal.div (∑ j, x j * x j) (Ideal.ofBits FTy.f32 1149239296#32) + eps) * w k

/-- One column of the projection. -/
def proj (x w W : Fin 1024 → EReal) : EReal := ∑ k, hid x w k * W k

/-- The logistic function. -/
def sigm (y : EReal) : EReal := Ideal.div 1 (1 + Ideal.exp (-y))

/-- A value normed by the mean square of its head. -/
def hnorm (y : Fin 64 → EReal) (d : Fin 64) (a : EReal) : EReal :=
  y d * Ideal.rsqrt (Ideal.div (∑ e, y e * y e) (Ideal.ofBits FTy.f32 1115684864#32) + eps) * a

/-- Being a real number. -/
def IsR (v : EReal) : Prop := ∃ r : ℝ, v = r

theorem IsR.mul {a b : EReal} (ha : IsR a) (hb : IsR b) : IsR (a * b) := by
  obtain ⟨x, rfl⟩ := ha; obtain ⟨y, rfl⟩ := hb; exact ⟨x * y, by norm_cast⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} {s : Finset ι} {f : ι → EReal} (h : ∀ i, IsR (f i)) : IsR (∑ i ∈ s, f i) := by
  choose g hg using h
  exact ⟨∑ i ∈ s, g i, by rw [← coe_sum]; exact Finset.sum_congr rfl fun i _ => hg i⟩

theorem eps_pos : ∃ r : ℝ, 0 < r ∧ eps = r := by
  refine ⟨(1 + 407485 / 8388608) / 2 ^ 20, by norm_num, ?_⟩
  simp [eps, Ideal.ofBits, Ideal.ieee, -EReal.coe_mul]; norm_num

theorem c1024 : Ideal.ofBits FTy.f32 1149239296#32 = ((1024 : ℝ) : EReal) := by
  simp [Ideal.ofBits, Ideal.ieee, -EReal.coe_mul]; norm_num

theorem c64 : Ideal.ofBits FTy.f32 1115684864#32 = ((64 : ℝ) : EReal) := by
  simp [Ideal.ofBits, Ideal.ieee, -EReal.coe_mul]; norm_num

theorem c64i : Ideal.ofBits FTy.f32 1015021568#32 = ((64⁻¹ : ℝ) : EReal) := by
  simp [Ideal.ofBits, Ideal.ieee, -EReal.coe_mul]; norm_num

/-- The kernel multiplies by the reciprocal of the head's width. -/
theorem mul64 (v : EReal) : v * Ideal.ofBits FTy.f32 1015021568#32 = Ideal.div v (Ideal.ofBits FTy.f32 1115684864#32) := by
  rw [c64, c64i, Ideal.div, if_neg (by norm_cast), ← EReal.coe_inv]

theorem hid_real {x w : Fin 1024 → EReal} (hx : ∀ k, IsR (x k)) (hw : ∀ k, IsR (w k)) (k : Fin 1024) : IsR (hid x w k) := by
  refine ((hx k).mul ?_).mul (hw k)
  choose f hf using hx
  obtain ⟨e, he, hee⟩ := eps_pos
  rw [hee, c1024, show (fun j => x j * x j) = fun j => ((f j * f j : ℝ) : EReal) from funext fun j => by rw [hf j]; norm_cast,
    coe_sum, Ideal.div, if_neg (by norm_cast), ← EReal.coe_inv, ← EReal.coe_mul, ← EReal.coe_add]
  have hp : 0 < (∑ j, f j * f j) * (1024 : ℝ)⁻¹ + e :=
    add_pos_of_nonneg_of_pos (mul_nonneg (Finset.sum_nonneg fun j _ => mul_self_nonneg _) (by norm_num)) he
  refine ⟨(Real.sqrt ((∑ j, f j * f j) * (1024 : ℝ)⁻¹ + e))⁻¹, ?_⟩
  show (if _ < 0 then _ else if _ = 0 then _ else _) = _
  rw [if_neg (not_lt.2 hp.le), if_neg hp.ne']

theorem proj_real {x w W : Fin 1024 → EReal} (hx : ∀ k, IsR (x k)) (hw : ∀ k, IsR (w k)) (hW : ∀ k, IsR (W k)) : IsR (proj x w W) :=
  IsR.sum fun k => (hid_real hx hw k).mul (hW k)

theorem IsR.sub_self {a : EReal} (ha : IsR a) : a - a = 0 := by
  obtain ⟨x, rfl⟩ := ha; rw [← EReal.coe_sub, _root_.sub_self]; rfl

/-- The kernel's comparison of a column's head with a number. -/
theorem sel_eq {α : Type} (r l : ℕ) (hr : r < 1024) (hl : l < 1024) (x y : α) :
    Scalar.select (IntOp.cmpi CmpIPredicate.eq (IntOp.shrui ArithUnit.vector (BitVec.ofNat 32 r) 6#32) (BitVec.ofNat 32 l)) x y
      = if r / 64 = l then x else y := by
  have e : IntOp.shrui ArithUnit.vector (BitVec.ofNat 32 r) 6#32 = BitVec.ofNat 32 (r / 64) := by
    refine BitVec.eq_of_toNat_eq ?_
    simp [IntOp.shrui, Nat.shiftRight_eq_div_pow]
    omega
  rw [e]
  by_cases h : r / 64 = l
  · subst h; simp [Scalar.select, IntOp.cmpi]
  · have : BitVec.ofNat 32 (r / 64) ≠ BitVec.ofNat 32 l := fun q => h (by
      have := congrArg BitVec.toNat q
      simp at this
      omega)
    simp [Scalar.select, IntOp.cmpi, h, beq_eq_false_iff_ne.2 this]

/-- There and back, each time with the part lost to rounding (none here), is the sum over the head. -/
theorem seg_two {n : ℕ} (q : Fin n → EReal) (hq : ∀ r, IsR (q r)) (h : ℕ) (hh : h < 128) :
    (∑ l : Fin 128, if h = (l : ℕ) then ((∑ r : Fin n, if (r : ℕ) / 64 = (l : ℕ) then q r else 0) + ∑ r : Fin n, if (r : ℕ) / 64 = (l : ℕ) then q r - q r else 0) else 0)
      + (∑ l : Fin 128, if h = (l : ℕ) then ((∑ r : Fin n, if (r : ℕ) / 64 = (l : ℕ) then q r else 0) + ∑ r : Fin n, if (r : ℕ) / 64 = (l : ℕ) then q r - q r else 0)
          - ((∑ r : Fin n, if (r : ℕ) / 64 = (l : ℕ) then q r else 0) + ∑ r : Fin n, if (r : ℕ) / 64 = (l : ℕ) then q r - q r else 0) else 0)
      = ∑ r : Fin n, if (r : ℕ) / 64 = h then q r else 0 := by
  have z : ∀ l : ℕ, ((∑ r : Fin n, if (r : ℕ) / 64 = l then q r else 0) + ∑ r : Fin n, if (r : ℕ) / 64 = l then q r - q r else 0)
      = ∑ r : Fin n, if (r : ℕ) / 64 = l then q r else 0 := fun l => by
    rw [show (fun r : Fin n => if (r : ℕ) / 64 = l then q r - q r else 0) = fun _ => (0 : EReal) from funext fun r => by
      rw [(hq r).sub_self, ite_self], Finset.sum_const_zero, add_zero]
  have s : ∀ f : ℕ → EReal, (∑ l : Fin 128, if h = (l : ℕ) then f l else 0) = f h := fun f => by
    rw [Finset.sum_eq_single (⟨h, hh⟩ : Fin 128)]
    · simp
    · exact fun b _ hb => if_neg fun e => hb (Fin.ext e.symm)
    · exact fun e => absurd (Finset.mem_univ _) e
  simp only [z]
  rw [s fun l => ∑ r : Fin n, if (r : ℕ) / 64 = l then q r else 0,
    s fun l => (∑ r : Fin n, if (r : ℕ) / 64 = l then q r else 0) - ∑ r : Fin n, if (r : ℕ) / 64 = l then q r else 0, IsR.sub_self, add_zero]
  refine IsR.sum fun r => ?_
  split
  · exact hq r
  · exact ⟨0, rfl⟩

/-- The sum over a head, by the place in the head. -/
theorem seg_fold {n : ℕ} (q : Fin n → EReal) (h : ℕ) (hn : 64 * h + 64 ≤ n) :
    (∑ r : Fin n, if (r : ℕ) / 64 = h then q r else 0) = ∑ d : Fin 64, q ⟨64 * h + d, by omega⟩ := by
  rw [← Finset.sum_filter]
  refine (Finset.sum_nbij' (fun d : Fin 64 => (⟨64 * h + d, by omega⟩ : Fin n)) (fun r : Fin n => (⟨(r : ℕ) % 64, Nat.mod_lt _ (by decide)⟩ : Fin 64))
    ?_ ?_ ?_ ?_ ?_).symm
  · intro d _; simp; omega
  · intro r _; exact Finset.mem_univ _
  · intro d _; ext; simp
  · intro r hr; simp at hr; ext; simp only []; omega
  · intro d _; rfl

/-- A value normed by the mean square of the columns of its head. -/
def snorm {n : ℕ} (y : Fin n → EReal) (j : Fin n) (a : EReal) : EReal :=
  y j * Ideal.rsqrt (Ideal.div (∑ r : Fin n, if (r : ℕ) / 64 = (j : ℕ) / 64 then y r * y r else 0) (Ideal.ofBits FTy.f32 1115684864#32) + eps) * a

theorem snorm_head {n : ℕ} (y : Fin n → EReal) (j : Fin n) (a : EReal) (h : ℕ) (d : Fin 64) (hn : 64 * h + 64 ≤ n) (hj : (j : ℕ) = 64 * h + d) :
    snorm y j a = hnorm (fun e => y ⟨64 * h + e, by omega⟩) d a := by
  obtain ⟨j, q⟩ := j
  have hj : j = 64 * h + d := hj
  subst hj
  have e : (64 * h + (d : ℕ)) / 64 = h := by omega
  simp only [snorm, hnorm, e]
  rw [seg_fold (fun r => y r * y r) h hn]

end Cert.Nsa
-- ==== Proof.NsaHost.lean ====
module

public import proofs.«01_k».proof.Proof.NsaRun
public import proofs.«01_k».proof.Proof.NsaMath
public import Idealize.ShloMosaic.Lib.Routing.OpsOne

@[expose] public section

set_option maxRecDepth 16384

noncomputable section

/-! The host's steps around the calls: what they lay out before, and what they read out after. -/

open Idealize.ShloMosaic Idealize.ShloMosaic.TcCoe Idealize.SL.Sem

namespace Cert.Kernel2Ideal.Gen

section Scatter
open Idealize.ShloMosaic.Routing

/-- Where the entries of a row land that is written at one index. -/
theorem lands_row {A N : Nat} (d : ScatterDims (shape2 A N) (shape1 1) (shape1 N)) (hiw : d.insertedWindowDims = [0]) (hsd : d.scatterDimsToOperandDims = [0])
    (idx : IVec (shape1 1) 32) (p : Fin A) (hidx : (idx (ValueIdx.ix1 0)).toInt = (p.val : Int)) (e' : Fin N) (r : Fin A) (e : Fin N) :
    d.resultIdx? (ValueIdx.ix1 e') idx = some (ValueIdx.ix2 r e) ↔ e' = e ∧ r = p := by
  have hm : (0 : Fin 2) ∈ d.scatterDimsToOperandDims := by rw [hsd]; exact List.mem_singleton.2 rfl
  have hk : d.sKept = [1] := by
    show (shape2 A N).kept d.insertedWindowDims = _
    rw [hiw]
    rfl
  have w0 : d.window (ValueIdx.ix1 e') 0 = 0 := by
    unfold ScatterDims.window
    rw [dif_neg fun h => (of_decide_eq_true (List.mem_filter.1 h).2) (by rw [hiw]; exact List.mem_singleton.2 rfl)]
  have w1 : d.window (ValueIdx.ix1 e') 1 = e'.val := by
    unfold ScatterDims.window
    rw [dif_pos (by rw [hk]; exact List.mem_singleton.2 rfl)]
    have q : ∀ X : Fin 1, (ValueIdx.ix1 e' X).val = e'.val := fun X => by
      obtain rfl : X = 0 := Subsingleton.elim _ _
      rfl
    exact q _
  have s1 : d.start (ValueIdx.ix1 e') idx 1 = 0 := by
    unfold ScatterDims.start
    rw [dif_neg fun h => by rw [hsd] at h; exact absurd (List.mem_singleton.1 h) (by decide : (1 : Fin 2) ≠ 0)]
  have s0 : d.start (ValueIdx.ix1 e') idx 0 = (p.val : Int) := by
    unfold ScatterDims.start
    rw [dif_pos hm]
    have hsi : d.siIdx (ValueIdx.ix1 e') ⟨d.scatterDimsToOperandDims.idxOf 0, List.idxOf_lt_length_iff.2 hm⟩ = ValueIdx.ix1 (0 : Fin 1) := by
      funext b'
      match b' with
      | ⟨0, _⟩ => exact Subsingleton.elim (α := Fin 1) _ _
    rw [hsi, hidx]
  rw [Fin.ext_iff, Fin.ext_iff, resultIdx?_ix2, s0, w0, s1, w1]
  omega

/-- A row written at one index, read back. -/
theorem row_set {α : Type} {A N : Nat} (d : ScatterDims (shape2 A N) (shape1 1) (shape1 N)) (hiw : d.insertedWindowDims = [0]) (hsd : d.scatterDimsToOperandDims = [0])
    (x0 : (shape2 A N).Idx → α) (idx : IVec (shape1 1) 32) (upd : (shape1 N).Idx → α) (p : Fin A) (hidx : (idx (ValueIdx.ix1 0)).toInt = (p.val : Int)) (r : Fin A) (e : Fin N) :
    Host.scatter d (fun _ b => b) x0 idx upd (ValueIdx.ix2 r e) = if r = p then upd (ValueIdx.ix1 e) else x0 (ValueIdx.ix2 r e) := by
  have lands : ∀ j : (shape1 N).Idx, d.resultIdx? j idx = some (ValueIdx.ix2 r e) → j 0 = e ∧ r = p := fun j hj =>
    (lands_row d hiw hsd idx p hidx (j 0) r e).1 ((congrArg (fun t => d.resultIdx? t idx) (ValueIdx.eq_ix1 j).symm).trans hj)
  by_cases h : r = p
  · rw [if_pos h]
    exact scatter_set_hit d x0 idx upd _ _ (fun j hj => (congrArg upd (ValueIdx.eq_ix1 j)).trans (congrArg (fun t => upd (ValueIdx.ix1 t)) (lands j hj).1)) (ValueIdx.ix1 e)
      ((lands_row d hiw hsd idx p hidx e r e).2 ⟨rfl, h⟩)
  · rw [if_neg h]
    exact scatter_set_miss d x0 idx upd _ fun j hj => h (lands j hj).2

end Scatter

/-- The queries' columns of the weights, in the kernel's order. -/
def colsQ (W : FVec Ideal S1024x3632 .f32) : FVec Ideal S1024x1024 .f32 :=
  shapeCast S1024x1024 (transpose S1024x4x4x64 [0, 2, 1, 3] (shapeCast S1024x4x4x64 (extractStridedSlice S1024x1024 ![0, 0] W slices_S1024x3632_S1024x1024_0_0)
    shapeCasts_S1024x1024_S1024x4x4x64) transposes_S1024x4x4x64_S1024x4x4x64_0_2_1_3) shapeCasts_S1024x4x4x64_S1024x1024

/-- The output gate's columns, in the kernel's order. -/
def colsZ (W : FVec Ideal S1024x3632 .f32) : FVec Ideal S1024x1024 .f32 :=
  shapeCast S1024x1024 (transpose S1024x4x4x64 [0, 2, 1, 3] (shapeCast S1024x4x4x64 (extractStridedSlice S1024x1024 ![0, 2560] W slices_S1024x3632_S1024x1024_0_2560)
    shapeCasts_S1024x1024_S1024x4x4x64) transposes_S1024x4x4x64_S1024x4x4x64_0_2_1_3) shapeCasts_S1024x4x4x64_S1024x1024

/-- The keys' and values' columns. -/
def colsK (W : FVec Ideal S1024x3632 .f32) : FVec Ideal S1024x1536 .f32 := extractStridedSlice S1024x1536 ![0, 1024] W slices_S1024x3632_S1024x1536_0_1024

/-- The branch gates' columns, each group of twelve filled up with zeros. -/
def colsG (W : FVec Ideal S1024x3632 .f32) : FVec Ideal S1024x512 .f32 :=
  shapeCast S1024x512 (pad S1024x4x128 ![0, 0, 0] ![0, 0, 116] ![0, 0, 0]
    (shapeCast S1024x4x12 (extractStridedSlice S1024x48 ![0, 3584] W slices_S1024x3632_S1024x48_0_3584) shapeCasts_S1024x48_S1024x4x12)
    (sitofp .f32 (constantI S_ 32 0#32)) pads_S1024x4x12_S1024x4x128_000_000_01160 h_S_) shapeCasts_S1024x4x128_S1024x512

/-- The queries' norm, repeated for each head, in row 0. -/
def auxQ (q : FVec Ideal S64 .f32) : FVec Ideal S8x1024 .f32 :=
  Host.scatter scatter_S8x1024_S1_S1024_0_0_0_0 (fun _ b => b) (broadcastInDim S8x1024 ![] bcast_S_S8x1024 (constant (F := Ideal) S_ .f32 0x00000000#32))
    (broadcastInDim S1 ![] bcast_S_S1 (constantI S_ 32 0#32))
    (shapeCast S1024 (broadcastInDim S16x64 ![0, 1] bcast_S1x64_S16x64_0_1 (shapeCast S1x64 q shapeCasts_S64_S1x64)) shapeCasts_S16x64_S1024)

/-- One of the keys' norms, repeated for each head. -/
def tileK (o : FVec Ideal S1x64 .f32) : FVec Ideal S256 .f32 :=
  shapeCast S256 (broadcastInDim S4x64 ![0, 1] bcast_S1x64_S4x64_0_1 (shapeCast S1x64 (shapeCast S64 o shapeCasts_S1x64_S64) shapeCasts_S64_S1x64)) shapeCasts_S4x64_S256

/-- The keys' norms in rows 0 and 1. -/
def auxK (k : FVec Ideal S3x64 .f32) : FVec Ideal S8x256 .f32 :=
  Host.scatter scatter_S8x256_S1_S256_0_0_0_0 (fun _ b => b)
    (Host.scatter scatter_S8x256_S1_S256_0_0_0_0 (fun _ b => b) (broadcastInDim S8x256 ![] bcast_S_S8x256 (constant (F := Ideal) S_ .f32 0x00000000#32))
      (broadcastInDim S1 ![] bcast_S_S1 (constantI S_ 32 0#32)) (tileK (extractStridedSlice S1x64 ![0, 0] k slices_S3x64_S1x64_0_0)))
    (broadcastInDim S1 ![] bcast_S_S1 (constantI S_ 32 1#32)) (tileK (extractStridedSlice S1x64 ![1, 0] k slices_S3x64_S1x64_1_0))

/-- The token rows. -/
def rowsX (x : FVec Ideal S4x4096x1024 .f32) : FVec Ideal S16384x1024 .f32 := shapeCast S16384x1024 x shapeCasts_S4x4096x1024_S16384x1024

/-- The norm's weights as a row. -/
def rowN (w : FVec Ideal S1024 .f32) : FVec Ideal S1x1024 .f32 := broadcastInDim S1x1024 ![1] bcast_S1024_S1x1024_1 w

/-- Heads back in the model's order. -/
def heads (y : FVec Ideal S16384x1024 .f32) : FVec Ideal S4x4096x16x64 .f32 :=
  shapeCast S4x4096x16x64 (transpose S4x4096x4x4x64 [0, 1, 3, 2, 4] (shapeCast S4x4096x4x4x64 y shapeCasts_S16384x1024_S4x4096x4x4x64)
    transposes_S4x4096x4x4x64_S4x4096x4x4x64_0_1_3_2_4) shapeCasts_S4x4096x4x4x64_S4x4096x16x64

def heads4 (y : FVec Ideal S16384x256 .f32) : FVec Ideal S4x4096x4x64 .f32 := shapeCast S4x4096x4x64 y shapeCasts_S16384x256_S4x4096x4x64

def last (y : FVec Ideal S4x4096x4x64 .f32) : FVec Ideal S4x512x4x64 .f32 := extractStridedSlice S4x512x4x64 ![0, 3584, 0, 0] y slices_S4x4096x4x64_S4x512x4x64_0_3584_0_0

def gatesOf (y : FVec Ideal S16384x512 .f32) : FVec Ideal S4x4096x16x3 .f32 :=
  shapeCast S4x4096x16x3 (extractStridedSlice S4x4096x4x12 ![0, 0, 0, 0] (shapeCast S4x4096x4x128 y shapeCasts_S16384x512_S4x4096x4x128)
    slices_S4x4096x4x128_S4x4096x4x12_0_0_0_0) shapeCasts_S4x4096x4x12_S4x4096x16x3

section Runs
variable (W : Valuation τ sig (Elt Ideal))

theorem ops0 : StableHlo.after hostOps0 W (Proc.devRef .tc main_v3) = colsQ (W (Proc.devRef .tc main_arg2))
    ∧ StableHlo.after hostOps0 W (Proc.devRef .tc main_v4) = colsK (W (Proc.devRef .tc main_arg2))
    ∧ StableHlo.after hostOps0 W (Proc.devRef .tc main_v8) = colsZ (W (Proc.devRef .tc main_arg2)) := by
  refine ⟨?_, ?_, ?_⟩ <;> (unfold hostOps0; after_results; rfl)

theorem ops0g : StableHlo.after hostOps0_2 (StableHlo.after hostOps0_1 (StableHlo.after hostOps0 W)) (Proc.devRef .tc main_v12) = colsG (W (Proc.devRef .tc main_arg2)) := by
  unfold hostOps0 hostOps0_1 hostOps0_2; after_results; rfl

theorem ops2 : StableHlo.after hostOps0_2 W (Proc.devRef .tc main_v18) = auxQ (W (Proc.devRef .tc main_arg3))
    ∧ StableHlo.after hostOps0_2 W (Proc.devRef .tc main_v33) = auxK (W (Proc.devRef .tc main_arg4))
    ∧ StableHlo.after hostOps0_2 W (Proc.devRef .tc main_v34) = rowsX (W (Proc.devRef .tc main_arg0))
    ∧ StableHlo.after hostOps0_2 W (Proc.devRef .tc main_v35) = rowN (W (Proc.devRef .tc main_arg1))
    ∧ StableHlo.after hostOps0_2 W (Proc.devRef .tc main_v36) = (W (Proc.devRef .tc main_v3) : FVec Ideal S1024x1024 .f32) := by
  refine ⟨?_, ?_, ?_, ?_, ?_⟩ <;> (unfold hostOps0_2; after_results; rfl)

theorem opsW : StableHlo.after hostOps1 W (Proc.devRef .tc main_v41) = (W (Proc.devRef .tc main_v4) : FVec Ideal S1024x1536 .f32)
    ∧ StableHlo.after hostOps2 W (Proc.devRef .tc main_v46) = (W (Proc.devRef .tc main_v8) : FVec Ideal S1024x1024 .f32)
    ∧ StableHlo.after hostOps3 W (Proc.devRef .tc main_v51) = (W (Proc.devRef .tc main_v12) : FVec Ideal S1024x512 .f32) := by
  refine ⟨?_, ?_, ?_⟩
  · unfold hostOps1; after_results; rfl
  · unfold hostOps2; after_results; rfl
  · unfold hostOps3; after_results; rfl

theorem ops4 : StableHlo.after hostOps4 W (Proc.devRef .tc main_v67) = heads (W (Proc.devRef .tc main_v40))
    ∧ StableHlo.after hostOps4 W (Proc.devRef .tc main_v56) = heads4 (W (Proc.devRef .tc main_v45_0))
    ∧ StableHlo.after hostOps4 W (Proc.devRef .tc main_v57) = heads4 (W (Proc.devRef .tc main_v45_1))
    ∧ StableHlo.after hostOps4 W (Proc.devRef .tc main_v58) = heads4 (W (Proc.devRef .tc main_v45_2))
    ∧ StableHlo.after hostOps4 W (Proc.devRef .tc main_v59) = heads4 (W (Proc.devRef .tc main_v45_3))
    ∧ StableHlo.after hostOps4 W (Proc.devRef .tc main_v60) = heads4 (W (Proc.devRef .tc main_v45_4))
    ∧ StableHlo.after hostOps4 W (Proc.devRef .tc main_v61) = heads4 (W (Proc.devRef .tc main_v45_5))
    ∧ StableHlo.after hostOps4 W (Proc.devRef .tc main_v68) = last (heads4 (W (Proc.devRef .tc main_v45_4)))
    ∧ StableHlo.after hostOps4 W (Proc.devRef .tc main_v69) = last (heads4 (W (Proc.devRef .tc main_v45_5)))
    ∧ StableHlo.after hostOps4 W (Proc.devRef .tc main_v72) = heads (W (Proc.devRef .tc main_v50))
    ∧ StableHlo.after hostOps4 W (Proc.devRef .tc main_v64) = gatesOf (W (Proc.devRef .tc main_v55)) := by
  refine ⟨?_, ?_, ?_, ?_, ?_, ?_, ?_, ?_, ?_, ?_, ?_⟩ <;> (unfold hostOps4; after_results; rfl)

end Runs

end Cert.Kernel2Ideal.Gen
-- ==== Proof.NsaAt.lean ====
module

public import proofs.«01_k».proof.Proof.NsaHost

@[expose] public section

set_option maxRecDepth 16384

noncomputable section

/-! The host's layouts, entry by entry. -/

open Idealize.ShloMosaic Idealize.ShloMosaic.TcCoe Idealize.SL.Sem

namespace Cert.Kernel2Ideal.Gen

theorem colsQ_at (W : FVec Ideal S1024x3632 .f32) (k : Fin 1024) (a b : Fin 4) (d : Fin 64) :
    colsQ W (ix2 k ⟨256 * b + 64 * a + d, by omega⟩) = W (ix2 k ⟨256 * a + 64 * b + d, by omega⟩) := by
  pointwise [colsQ]
  refine congrArg W ?_
  blk_ext

theorem colsZ_at (W : FVec Ideal S1024x3632 .f32) (k : Fin 1024) (a b : Fin 4) (d : Fin 64) :
    colsZ W (ix2 k ⟨256 * b + 64 * a + d, by omega⟩) = W (ix2 k ⟨2560 + (256 * a + 64 * b + d), by omega⟩) := by
  pointwise [colsZ]
  refine congrArg W ?_
  blk_ext

theorem colsK_at (W : FVec Ideal S1024x3632 .f32) (k : Fin 1024) (j : Fin 1536) : colsK W (ix2 k j) = W (ix2 k ⟨1024 + j, by omega⟩) := by
  pointwise [colsK]

theorem colsG_at (W : FVec Ideal S1024x3632 .f32) (k : Fin 1024) (a : Fin 4) (e : Fin 12) :
    colsG W (ix2 k ⟨128 * a + e, by omega⟩) = W (ix2 k ⟨3584 + (12 * a + e), by omega⟩) := by
  pointwise [colsG]
  refine (dif_pos (by omega)).trans (congrArg W ?_)
  blk_ext

theorem auxQ_at (q : FVec Ideal S64 .f32) (j : Fin 1024) : auxQ q (ix2 0 j) = q (ix1 ⟨(j : ℕ) % 64, Nat.mod_lt _ (by decide)⟩) := by
  refine (row_set _ rfl rfl _ _ _ 0 rfl 0 j).trans ?_
  rw [if_pos rfl]
  show shapeCast S1024 _ _ (ix1 j) = _
  pointwise []

theorem tileK_at (o : FVec Ideal S1x64 .f32) (j : Fin 256) : tileK o (ix1 j) = o (ix2 0 ⟨(j : ℕ) % 64, Nat.mod_lt _ (by decide)⟩) := by
  pointwise [tileK]

theorem auxK_at0 (k : FVec Ideal S3x64 .f32) (j : Fin 256) : auxK k (ix2 0 j) = k (ix2 0 ⟨(j : ℕ) % 64, Nat.mod_lt _ (by decide)⟩) := by
  refine (row_set _ rfl rfl _ _ _ 1 rfl 0 j).trans ?_
  rw [if_neg (by decide)]
  refine (row_set _ rfl rfl _ _ _ 0 rfl 0 j).trans ?_
  rw [if_pos rfl]
  refine (tileK_at _ j).trans ?_
  pointwise []

theorem auxK_at1 (k : FVec Ideal S3x64 .f32) (j : Fin 256) : auxK k (ix2 1 j) = k (ix2 1 ⟨(j : ℕ) % 64, Nat.mod_lt _ (by decide)⟩) := by
  refine (row_set _ rfl rfl _ _ _ 1 rfl 1 j).trans ?_
  rw [if_pos rfl]
  refine (tileK_at _ j).trans ?_
  pointwise []

theorem rowsX_at (x : FVec Ideal S4x4096x1024 .f32) (g : Fin 4) (t : Fin 4096) (k : Fin 1024) :
    rowsX x (ix2 ⟨4096 * g + t, by omega⟩ k) = x (ix3 g t k) := by
  pointwise [rowsX]

theorem rowN_at (w : FVec Ideal S1024 .f32) (k : Fin 1024) : rowN w (ix2 0 k) = w (ix1 k) := by
  pointwise [rowN]

theorem heads_at (y : FVec Ideal S16384x1024 .f32) (g : Fin 4) (t : Fin 4096) (a b : Fin 4) (d : Fin 64) :
    heads y (ix4 g t ⟨4 * a + b, by omega⟩ d) = y (ix2 ⟨4096 * g + t, by omega⟩ ⟨256 * b + 64 * a + d, by omega⟩) := by
  pointwise [heads]
  refine congrArg y ?_
  blk_ext

theorem heads4_at (y : FVec Ideal S16384x256 .f32) (g : Fin 4) (t : Fin 4096) (a : Fin 4) (d : Fin 64) :
    heads4 y (ix4 g t a d) = y (ix2 ⟨4096 * g + t, by omega⟩ ⟨64 * a + d, by omega⟩) := by
  pointwise [heads4]
  refine congrArg y ?_
  blk_ext

theorem gatesOf_at (y : FVec Ideal S16384x512 .f32) (g : Fin 4) (t : Fin 4096) (a b : Fin 4) (e : Fin 3) :
    gatesOf y (ix4 g t ⟨4 * a + b, by omega⟩ e) = y (ix2 ⟨4096 * g + t, by omega⟩ ⟨128 * a + (3 * b + e), by omega⟩) := by
  pointwise [gatesOf]
  refine congrArg y ?_
  blk_ext

end Cert.Kernel2Ideal.Gen
-- ==== Proof.NsaPay.lean ====
module

public import proofs.«01_k».proof.Proof.Gen.Kernel2Ideal.Frame
public import proofs.«01_k».proof.Proof.NsaMath

@[expose] public section

set_option maxRecDepth 16384

noncomputable section

/-! What a block of each call computes, entry by entry. -/

open Idealize.ShloMosaic Idealize.ShloMosaic.TcCoe Idealize.SL.Sem
open Cert.Nsa

namespace Cert.Kernel2Ideal.Gen

theorem pay0 (x : Vec Ideal S512x1024 .f32) (w : Vec Ideal S1x1024 .f32) (W : Vec Ideal S1024x1024 .bf16) (i : Fin 512) (j : Fin 1024) :
    k0_pay2 x w W (ix2 i j) = proj (fun k => x (ix2 i k)) (fun k => w (ix2 0 k)) (fun k => W (ix2 k j)) := by
  pointwise [k0_pay2]
  rfl

theorem pay1 (x : Vec Ideal S512x1024 .f32) (w : Vec Ideal S1x1024 .f32) (W : Vec Ideal S1024x1536 .bf16) (i : Fin 512) (j : Fin 1536) :
    k1_pay2 x w W (ix2 i j) = proj (fun k => x (ix2 i k)) (fun k => w (ix2 0 k)) (fun k => W (ix2 k j)) := by
  pointwise [k1_pay2]
  rfl

theorem pay2 (x : Vec Ideal S512x1024 .f32) (w : Vec Ideal S1x1024 .f32) (W : Vec Ideal S1024x1024 .bf16) (i : Fin 512) (j : Fin 1024) :
    k2_pay1 x w W (ix2 i j) = proj (fun k => x (ix2 i k)) (fun k => w (ix2 0 k)) (fun k => W (ix2 k j))
      * sigm (proj (fun k => x (ix2 i k)) (fun k => w (ix2 0 k)) (fun k => W (ix2 k j))) := by
  pointwise [k2_pay1]
  simp only [zero_sub]
  rfl

theorem pay3 (x : Vec Ideal S512x1024 .f32) (w : Vec Ideal S1x1024 .f32) (W : Vec Ideal S1024x512 .bf16) (i : Fin 512) (j : Fin 512) :
    k3_pay1 x w W (ix2 i j) = sigm (proj (fun k => x (ix2 i k)) (fun k => w (ix2 0 k)) (fun k => W (ix2 k j))) := by
  pointwise [k3_pay1]
  simp only [zero_sub]
  rfl

theorem norm0 (y : FVec Ideal S512x1024 .f32) (a : FVec Ideal S1x1024 .f32) (i : Fin 512) (j : Fin 1024) (hy : ∀ j, IsR (y (ix2 i j))) :
    k0_pay1 y a (k0_pay4 (F := Ideal)) (k0_pay5 (F := Ideal)) (mulf y y) (ix2 i j)
      = snorm (fun r => y (ix2 i r)) j (a (ix2 0 j)) * Ideal.ofBits FTy.f32 1040187392#32 := by
  have s := seg_two (fun r => y (ix2 i r) * y (ix2 i r)) (fun r => (hy r).mul (hy r)) ((j : ℕ) / 64) (by omega)
  pointwise [k0_pay1, k0_pay4, k0_pay5]
  have e : ∀ (r : Fin 1024) (l : Fin 128) (u v : EReal), Scalar.select (IntOp.cmpi CmpIPredicate.eq (IntOp.shrui ArithUnit.vector (BitVec.ofNat 32 r) 6#32) (BitVec.ofNat 32 l)) u v
      = if (r : ℕ) / 64 = (l : ℕ) then u else v := fun r l u v => sel_eq r l (by omega) (by omega) _ _
  simp only [e]
  rw [s, mul64]
  rfl

theorem norm1 (y : FVec Ideal S512x256 .f32) (a : FVec Ideal S1x256 .f32) (i : Fin 512) (j : Fin 256) (hy : ∀ j, IsR (y (ix2 i j))) :
    k1_pay11 y a (k1_pay10 (F := Ideal)) (ix2 i j) = snorm (fun r => y (ix2 i r)) j (a (ix2 0 j)) := by
  have s := seg_two (fun r => y (ix2 i r) * y (ix2 i r)) (fun r => (hy r).mul (hy r)) ((j : ℕ) / 64) (by omega)
  pointwise [k1_pay11, k1_pay10]
  have e : ∀ (r : Fin 256) (l : Fin 128) (u v : EReal), Scalar.select (IntOp.cmpi CmpIPredicate.eq (IntOp.shrui ArithUnit.vector (BitVec.ofNat 32 r) 6#32) (BitVec.ofNat 32 l)) u v
      = if (r : ℕ) / 64 = (l : ℕ) then u else v := fun r l u v => sel_eq r l (by omega) (by omega) _ _
  simp only [e, mul_ite, mul_one, mul_zero]
  rw [s, mul64]
  rfl

theorem norm2 (y : FVec Ideal S512x256 .f32) (a : FVec Ideal S1x256 .f32) (i : Fin 512) (j : Fin 256) (hy : ∀ j, IsR (y (ix2 i j))) :
    k1_pay1 y a k1_pay13 (ix2 i j) = snorm (fun r => y (ix2 i r)) j (a (ix2 0 j)) := by
  have s := seg_two (fun r => y (ix2 i r) * y (ix2 i r)) (fun r => (hy r).mul (hy r)) ((j : ℕ) / 64) (by omega)
  pointwise [k1_pay1, k1_pay13]
  have e : ∀ (r : Fin 256) (l : Fin 128) (u v : EReal), Scalar.select (IntOp.cmpi CmpIPredicate.eq (IntOp.shrui ArithUnit.vector (BitVec.ofNat 32 r) 6#32) (BitVec.ofNat 32 l)) u v
      = if (r : ℕ) / 64 = (l : ℕ) then u else v := fun r l u v => sel_eq r l (by omega) (by omega) _ _
  simp only [e, mul_ite, mul_one, mul_zero]
  rw [s, mul64]
  rfl

theorem out2_is (x0 : Vec Ideal S512x1024 .f32) (x1 : Vec Ideal S1x1024 .f32) (x2 x3 : Vec Ideal S1024x1024 .bf16) (x4 : Vec Ideal S8x1024 .f32) :
    out2_5 x0 x1 x2 x3 x4 = k2_pay1 x0 x1 x2 := by
  unfold out2_5
  frame_out

theorem out3_is (x0 : Vec Ideal S512x1024 .f32) (x1 : Vec Ideal S1x1024 .f32) (x2 x3 : Vec Ideal S1024x512 .bf16) (x4 : Vec Ideal S8x1024 .f32) :
    out3_5 x0 x1 x2 x3 x4 = k3_pay1 x0 x1 x2 := by
  unfold out3_5
  frame_out

theorem out1_is (x0 : Vec Ideal S512x1024 .f32) (x1 : Vec Ideal S1x1024 .f32) (x2 x3 : Vec Ideal S1024x1536 .bf16) (x4 : Vec Ideal S8x256 .f32) :
    out1_5 x0 x1 x2 x3 x4 = k1_pay3 x0 x1 x2 ∧ out1_6 x0 x1 x2 x3 x4 = k1_pay4 x0 x1 x2 ∧ out1_8 x0 x1 x2 x3 x4 = k1_pay6 x0 x1 x2
      ∧ out1_10 x0 x1 x2 x3 x4 = k1_pay8 x0 x1 x2 := by
  refine ⟨?_, ?_, ?_, ?_⟩
  · unfold out1_5; frame_out
  · unfold out1_6; frame_out
  · unfold out1_8; frame_out
  · unfold out1_10; frame_out

theorem out0_is (x0 : Vec Ideal S512x1024 .f32) (x1 : Vec Ideal S1x1024 .f32) (x2 x3 : Vec Ideal S1024x1024 .bf16) (x4 : Vec Ideal S8x1024 .f32) :
    out0_5 x0 x1 x2 x3 x4 = k0_pay1 (k0_pay2 x0 x1 x2) (k0_pay3 (View.ld x4 r0_3)) (k0_pay4 (F := Ideal)) (k0_pay5 (F := Ideal)) (k0_pay6 x0 x1 x2) := by
  unfold out0_5
  frame_out

theorem out1n_is (x0 : Vec Ideal S512x1024 .f32) (x1 : Vec Ideal S1x1024 .f32) (x2 x3 : Vec Ideal S1024x1536 .bf16) (x4 : Vec Ideal S8x256 .f32) :
    out1_7 x0 x1 x2 x3 x4 = k1_pay11 (k1_pay5 x0 x1 x2) (k1_pay9 (View.ld x4 r1_4)) (k1_pay10 (F := Ideal))
      ∧ out1_9 x0 x1 x2 x3 x4 = k1_pay1 (k1_pay7 x0 x1 x2) (k1_pay12 (View.ld x4 r1_5)) k1_pay13 := by
  refine ⟨?_, ?_⟩
  · unfold out1_7; frame_out
  · unfold out1_9; frame_out

theorem aux0 (x4 : Vec Ideal S8x1024 .f32) (j : Fin 1024) : k0_pay3 (View.ld x4 r0_3) (ix2 0 j) = x4 (ix2 0 j) := by
  pointwise [k0_pay3]

theorem aux1 (x4 : Vec Ideal S8x256 .f32) (j : Fin 256) : k1_pay9 (View.ld x4 r1_4) (ix2 0 j) = x4 (ix2 0 j) := by
  pointwise [k1_pay9]

theorem aux2 (x4 : Vec Ideal S8x256 .f32) (j : Fin 256) : k1_pay12 (View.ld x4 r1_5) (ix2 0 j) = x4 (ix2 1 j) := by
  pointwise [k1_pay12]

end Cert.Kernel2Ideal.Gen
-- ==== Proof.NsaBlocks.lean ====
module

public import proofs.«01_k».proof.Proof.NsaPay

@[expose] public section

set_option maxRecDepth 16384

noncomputable section

/-! The arrays each call leaves, from the arrays it is entered with. -/

open Idealize.ShloMosaic Idealize.ShloMosaic.TcCoe Idealize.SL.Sem
open Idealize.ShloMosaic.Pipeline (Dat)
open Cert.Nsa

namespace Cert.Kernel2Ideal.Gen

/-- A row of the tokens, the norm's weights, a column of the projection's weights. -/
def prj {R C : ℕ} (X : (⟨2, ![R, 1024]⟩ : Shape).Idx → EReal) (N : (⟨2, ![1, 1024]⟩ : Shape).Idx → EReal)
    (W : (⟨2, ![1024, C]⟩ : Shape).Idx → EReal) (r : Fin R) (j : Fin C) : EReal :=
  proj (fun k => X (ix2 r k)) (fun k => N (ix2 0 k)) (fun k => W (ix2 k j))

/-- The queries' call: the product normed by head and scaled. -/
def arr0 (X : FVec Ideal S16384x1024 .f32) (N : FVec Ideal S1x1024 .f32) (W : FVec Ideal S1024x1024 .bf16) (A : FVec Ideal S8x1024 .f32) :
    FVec Ideal S16384x1024 .f32 :=
  fun i => snorm (fun r => prj X N W (i 0) r) (i 1) (A (ix2 0 (i 1))) * Ideal.ofBits FTy.f32 1040187392#32

/-- One of the keys' and values' arrays as multiplied: the product's columns from an offset on. -/
def arr1 (o : ℕ) (ho : o + 256 ≤ 1536) (X : FVec Ideal S16384x1024 .f32) (N : FVec Ideal S1x1024 .f32) (W : FVec Ideal S1024x1536 .bf16) : FVec Ideal S16384x256 .f32 :=
  fun i => prj X N W (i 0) ⟨o + (i 1 : Fin 256), by have : ((i 1 : Fin 256) : ℕ) < 256 := (i 1 : Fin 256).2; omega⟩

/-- One of the normed keys' arrays. -/
def arr1n (o : ℕ) (ho : o + 256 ≤ 1536) (p : Fin 8) (X : FVec Ideal S16384x1024 .f32) (N : FVec Ideal S1x1024 .f32) (W : FVec Ideal S1024x1536 .bf16)
    (A : FVec Ideal S8x256 .f32) : FVec Ideal S16384x256 .f32 :=
  fun i => snorm (fun r : Fin 256 => arr1 o ho X N W (ix2 (i 0) r)) (i 1) (A (ix2 p (i 1)))

/-- The gate of the output. -/
def arr2 (X : FVec Ideal S16384x1024 .f32) (N : FVec Ideal S1x1024 .f32) (W : FVec Ideal S1024x1024 .bf16) : FVec Ideal S16384x1024 .f32 :=
  fun i => prj X N W (i 0) (i 1) * sigm (prj X N W (i 0) (i 1))

/-- The gates of the branches. -/
def arr3 (X : FVec Ideal S16384x1024 .f32) (N : FVec Ideal S1x1024 .f32) (W : FVec Ideal S1024x512 .bf16) : FVec Ideal S16384x512 .f32 :=
  fun i => sigm (prj X N W (i 0) (i 1))

/-- The token of a row of a point's block. -/
def tok (t : ℕ) (ht : t < 32) (i : Fin 512) : Fin 16384 := ⟨512 * t + i, by omega⟩

variable (V : (c : Dev nD) → (b : Ref sig .tc) → Buf (Elt Ideal) ((c : Thread nD τ).loc b)) (c : Dev nD)

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = 0 ∧ win0_2.index t 1 = 0 := by decide +kernel
theorem idx0_4 : ∀ t : Fin grid0.N, win0_4.index t 0 = 0 ∧ win0_4.index t 1 = 0 := by decide +kernel
theorem idx0_5 : ∀ t : Fin grid0.N, win0_5.index t 0 = t.val ∧ win0_5.index t 1 = 0 := by decide +kernel

theorem blk0_0 (t : Fin cfg0.N) (i : Fin 512) (j : Fin 1024) :
    iblk0 V c 0 t (ix2 i j) = V c main_v34 (ix2 (tok t (show t.val < 32 from t.2) i) j) := by
  obtain ⟨e0, e1⟩ := idx0_0 t
  blk_simp [iblk0]
  blk_ext [e0, e1, tok]

theorem blk0_1 (t : Fin cfg0.N) (j : Fin 1024) : iblk0 V c 1 t (ix2 0 j) = V c main_v35 (ix2 0 j) := by
  obtain ⟨e0, e1⟩ := idx0_1 t
  blk_simp [iblk0]
  blk_ext [e0, e1]

theorem blk0_2 (t : Fin cfg0.N) (i : Fin 1024) (j : Fin 1024) : iblk0 V c 2 t (ix2 i j) = V c main_v36 (ix2 i j) := by
  obtain ⟨e0, e1⟩ := idx0_2 t
  blk_simp [iblk0]
  blk_ext [e0, e1]

theorem blk0_4 (t : Fin cfg0.N) (i : Fin 8) (j : Fin 1024) : iblk0 V c 4 t (ix2 i j) = V c main_v18 (ix2 i j) := by
  obtain ⟨e0, e1⟩ := idx0_4 t
  blk_simp [iblk0]
  blk_ext [e0, e1]

/-- A token's projection in call 0's block. -/
theorem prj0 (t : Fin cfg0.N) (i : Fin 512) (j : Fin 1024) :
    prj (iblk0 V c 0 t) (iblk0 V c 1 t) (iblk0 V c 2 t) i j = prj (V c main_v34) (V c main_v35) (V c main_v36) (tok t (show t.val < 32 from t.2) i) j := by
  unfold prj
  rw [show (fun k => iblk0 V c 0 t (ix2 i k)) = _ from funext fun k => blk0_0 V c t i k,
    show (fun k => iblk0 V c 1 t (ix2 0 k)) = _ from funext fun k => blk0_1 V c t k,
    show (fun k => iblk0 V c 2 t (ix2 k j)) = _ from funext fun k => blk0_2 V c t k j]

theorem val0 (h : ∀ i j, IsR (prj (V c main_v34) (V c main_v35) (V c main_v36) i j)) (t : Fin cfg0.N) (i : Fin 512) (j : Fin 1024) :
    out0_5 (iblk0 V c 0 t) (iblk0 V c 1 t) (iblk0 V c 2 t) (iblk0 V c 3 t) (iblk0 V c 4 t) (ix2 i j)
      = arr0 (V c main_v34) (V c main_v35) (V c main_v36) (V c main_v18) (ix2 (tok t (show t.val < 32 from t.2) i) j) := by
  rw [out0_is]
  have e : ∀ j, k0_pay2 (iblk0 V c 0 t) (iblk0 V c 1 t) (iblk0 V c 2 t) (ix2 i j) = prj (V c main_v34) (V c main_v35) (V c main_v36) (tok t (show t.val < 32 from t.2) i) j :=
    fun j => (pay0 _ _ _ i j).trans (prj0 V c t i j)
  refine (norm0 _ _ i j fun j => (e j).symm ▸ h _ j).trans ?_
  simp only [e, aux0, blk0_4]
  rfl

theorem left0 (h : ∀ i j, IsR (prj (V c main_v34) (V c main_v35) (V c main_v36) i j)) : (dat0 V c).arrAt 5 cfg0.N = arr0 (V c main_v34) (V c main_v35) (V c main_v36) (V c main_v18) := by
  refine (dat0 V c).arrAt_eq_of_covers 5 _ (by decide +kernel) fun t hf y => ?_
  obtain ⟨e0, e1⟩ := idx0_5 t
  obtain ⟨i, j, rfl⟩ : ∃ (i : Fin 512) (j : Fin 1024), y = ix2 i j := ⟨_, _, eq_ix2 y⟩
  refine Eq.trans ?_ (congrArg (arr0 (V c main_v34) (V c main_v35) (V c main_v36) (V c main_v18)) (show ix2 (tok t (show t.val < 32 from t.2) i) j = _ by blk_ext [e0, e1, tok]))
  blk_simp
  rw [after0_5]
  exact val0 V c h t i j

theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = 0 ∧ win1_2.index t 1 = 0 := by decide +kernel
theorem idx1_4 : ∀ t : Fin grid1.N, win1_4.index t 0 = 0 ∧ win1_4.index t 1 = 0 := by decide +kernel
theorem idx1_5 : ∀ t : Fin grid1.N, win1_5.index t 0 = t.val ∧ win1_5.index t 1 = 0 := by decide +kernel
theorem idx1_6 : ∀ t : Fin grid1.N, win1_6.index t 0 = t.val ∧ win1_6.index t 1 = 0 := by decide +kernel
theorem idx1_7 : ∀ t : Fin grid1.N, win1_7.index t 0 = t.val ∧ win1_7.index t 1 = 0 := by decide +kernel
theorem idx1_8 : ∀ t : Fin grid1.N, win1_8.index t 0 = t.val ∧ win1_8.index t 1 = 0 := by decide +kernel
theorem idx1_9 : ∀ t : Fin grid1.N, win1_9.index t 0 = t.val ∧ win1_9.index t 1 = 0 := by decide +kernel
theorem idx1_10 : ∀ t : Fin grid1.N, win1_10.index t 0 = t.val ∧ win1_10.index t 1 = 0 := by decide +kernel

theorem blk1_0 (t : Fin cfg1.N) (i : Fin 512) (j : Fin 1024) :
    iblk1 V c 0 t (ix2 i j) = V c main_v34 (ix2 (tok t (show t.val < 32 from t.2) i) j) := by
  obtain ⟨e0, e1⟩ := idx1_0 t
  blk_simp [iblk1]
  blk_ext [e0, e1, tok]

theorem blk1_1 (t : Fin cfg1.N) (j : Fin 1024) : iblk1 V c 1 t (ix2 0 j) = V c main_v35 (ix2 0 j) := by
  obtain ⟨e0, e1⟩ := idx1_1 t
  blk_simp [iblk1]
  blk_ext [e0, e1]

theorem blk1_2 (t : Fin cfg1.N) (i : Fin 1024) (j : Fin 1536) : iblk1 V c 2 t (ix2 i j) = V c main_v41 (ix2 i j) := by
  obtain ⟨e0, e1⟩ := idx1_2 t
  blk_simp [iblk1]
  blk_ext [e0, e1]

theorem blk1_4 (t : Fin cfg1.N) (i : Fin 8) (j : Fin 256) : iblk1 V c 4 t (ix2 i j) = V c main_v33 (ix2 i j) := by
  obtain ⟨e0, e1⟩ := idx1_4 t
  blk_simp [iblk1]
  blk_ext [e0, e1]

/-- A token's projection in call 1's block. -/
theorem prj1 (t : Fin cfg1.N) (i : Fin 512) (j : Fin 1536) :
    prj (iblk1 V c 0 t) (iblk1 V c 1 t) (iblk1 V c 2 t) i j = prj (V c main_v34) (V c main_v35) (V c main_v41) (tok t (show t.val < 32 from t.2) i) j := by
  unfold prj
  rw [show (fun k => iblk1 V c 0 t (ix2 i k)) = _ from funext fun k => blk1_0 V c t i k,
    show (fun k => iblk1 V c 1 t (ix2 0 k)) = _ from funext fun k => blk1_1 V c t k,
    show (fun k => iblk1 V c 2 t (ix2 k j)) = _ from funext fun k => blk1_2 V c t k j]

theorem val1_5 (t : Fin cfg1.N) (i : Fin 512) (j : Fin 256) :
    out1_5 (iblk1 V c 0 t) (iblk1 V c 1 t) (iblk1 V c 2 t) (iblk1 V c 3 t) (iblk1 V c 4 t) (ix2 i j)
      = arr1 0 (by decide) (V c main_v34) (V c main_v35) (V c main_v41) (ix2 (tok t (show t.val < 32 from t.2) i) j) := by
  rw [(out1_is _ _ _ _ _).1]
  pointwise [k1_pay3]
  exact (pay1 _ _ _ i _).trans ((prj1 V c t i _).trans (congrArg (prj _ _ _ _) (Fin.ext (Nat.zero_add _).symm)))

theorem left1_5 : (dat1 V c).arrAt 5 cfg1.N = arr1 0 (by decide) (V c main_v34) (V c main_v35) (V c main_v41) := by
  refine (dat1 V c).arrAt_eq_of_covers 5 _ (by decide +kernel) fun t hf y => ?_
  obtain ⟨e0, e1⟩ := idx1_5 t
  obtain ⟨i, j, rfl⟩ : ∃ (i : Fin 512) (j : Fin 256), y = ix2 i j := ⟨_, _, eq_ix2 y⟩
  refine Eq.trans ?_ (congrArg (arr1 0 (by decide) (V c main_v34) (V c main_v35) (V c main_v41)) (show ix2 (tok t (show t.val < 32 from t.2) i) j = _ by blk_ext [e0, e1, tok]))
  blk_simp
  rw [after1_5]
  exact val1_5 V c t i j

theorem val1_6 (t : Fin cfg1.N) (i : Fin 512) (j : Fin 256) :
    out1_6 (iblk1 V c 0 t) (iblk1 V c 1 t) (iblk1 V c 2 t) (iblk1 V c 3 t) (iblk1 V c 4 t) (ix2 i j)
      = arr1 256 (by decide) (V c main_v34) (V c main_v35) (V c main_v41) (ix2 (tok t (show t.val < 32 from t.2) i) j) := by
  rw [(out1_is _ _ _ _ _).2.1]
  pointwise [k1_pay4]
  exact (pay1 _ _ _ i _).trans (prj1 V c t i _)

theorem left1_6 : (dat1 V c).arrAt 6 cfg1.N = arr1 256 (by decide) (V c main_v34) (V c main_v35) (V c main_v41) := by
  refine (dat1 V c).arrAt_eq_of_covers 6 _ (by decide +kernel) fun t hf y => ?_
  obtain ⟨e0, e1⟩ := idx1_6 t
  obtain ⟨i, j, rfl⟩ : ∃ (i : Fin 512) (j : Fin 256), y = ix2 i j := ⟨_, _, eq_ix2 y⟩
  refine Eq.trans ?_ (congrArg (arr1 256 (by decide) (V c main_v34) (V c main_v35) (V c main_v41)) (show ix2 (tok t (show t.val < 32 from t.2) i) j = _ by blk_ext [e0, e1, tok]))
  blk_simp
  rw [after1_6]
  exact val1_6 V c t i j

theorem val1_8 (t : Fin cfg1.N) (i : Fin 512) (j : Fin 256) :
    out1_8 (iblk1 V c 0 t) (iblk1 V c 1 t) (iblk1 V c 2 t) (iblk1 V c 3 t) (iblk1 V c 4 t) (ix2 i j)
      = arr1 768 (by decide) (V c main_v34) (V c main_v35) (V c main_v41) (ix2 (tok t (show t.val < 32 from t.2) i) j) := by
  rw [(out1_is _ _ _ _ _).2.2.1]
  pointwise [k1_pay6]
  exact (pay1 _ _ _ i _).trans (prj1 V c t i _)

theorem left1_8 : (dat1 V c).arrAt 8 cfg1.N = arr1 768 (by decide) (V c main_v34) (V c main_v35) (V c main_v41) := by
  refine (dat1 V c).arrAt_eq_of_covers 8 _ (by decide +kernel) fun t hf y => ?_
  obtain ⟨e0, e1⟩ := idx1_8 t
  obtain ⟨i, j, rfl⟩ : ∃ (i : Fin 512) (j : Fin 256), y = ix2 i j := ⟨_, _, eq_ix2 y⟩
  refine Eq.trans ?_ (congrArg (arr1 768 (by decide) (V c main_v34) (V c main_v35) (V c main_v41)) (show ix2 (tok t (show t.val < 32 from t.2) i) j = _ by blk_ext [e0, e1, tok]))
  blk_simp
  rw [after1_8]
  exact val1_8 V c t i j

theorem val1_10 (t : Fin cfg1.N) (i : Fin 512) (j : Fin 256) :
    out1_10 (iblk1 V c 0 t) (iblk1 V c 1 t) (iblk1 V c 2 t) (iblk1 V c 3 t) (iblk1 V c 4 t) (ix2 i j)
      = arr1 1280 (by decide) (V c main_v34) (V c main_v35) (V c main_v41) (ix2 (tok t (show t.val < 32 from t.2) i) j) := by
  rw [(out1_is _ _ _ _ _).2.2.2]
  pointwise [k1_pay8]
  exact (pay1 _ _ _ i _).trans (prj1 V c t i _)

theorem left1_10 : (dat1 V c).arrAt 10 cfg1.N = arr1 1280 (by decide) (V c main_v34) (V c main_v35) (V c main_v41) := by
  refine (dat1 V c).arrAt_eq_of_covers 10 _ (by decide +kernel) fun t hf y => ?_
  obtain ⟨e0, e1⟩ := idx1_10 t
  obtain ⟨i, j, rfl⟩ : ∃ (i : Fin 512) (j : Fin 256), y = ix2 i j := ⟨_, _, eq_ix2 y⟩
  refine Eq.trans ?_ (congrArg (arr1 1280 (by decide) (V c main_v34) (V c main_v35) (V c main_v41)) (show ix2 (tok t (show t.val < 32 from t.2) i) j = _ by blk_ext [e0, e1, tok]))
  blk_simp
  rw [after1_10]
  exact val1_10 V c t i j

theorem val1_7 (h : ∀ i j, IsR (prj (V c main_v34) (V c main_v35) (V c main_v41) i j)) (t : Fin cfg1.N) (i : Fin 512) (j : Fin 256) :
    out1_7 (iblk1 V c 0 t) (iblk1 V c 1 t) (iblk1 V c 2 t) (iblk1 V c 3 t) (iblk1 V c 4 t) (ix2 i j)
      = arr1n 512 (by decide) 0 (V c main_v34) (V c main_v35) (V c main_v41) (V c main_v33) (ix2 (tok t (show t.val < 32 from t.2) i) j) := by
  rw [(out1n_is _ _ _ _ _).1]
  have e : ∀ j : Fin 256, k1_pay5 (iblk1 V c 0 t) (iblk1 V c 1 t) (iblk1 V c 2 t) (ix2 i j)
      = arr1 512 (by decide) (V c main_v34) (V c main_v35) (V c main_v41) (ix2 (tok t (show t.val < 32 from t.2) i) j) := fun j => by
    pointwise [k1_pay5]
    exact (pay1 _ _ _ i _).trans (prj1 V c t i _)
  refine (norm1 _ _ i j fun j => (e j).symm ▸ h _ _).trans ?_
  simp only [e, aux1, blk1_4]
  rfl

theorem left1_7 (h : ∀ i j, IsR (prj (V c main_v34) (V c main_v35) (V c main_v41) i j)) : (dat1 V c).arrAt 7 cfg1.N = arr1n 512 (by decide) 0 (V c main_v34) (V c main_v35) (V c main_v41) (V c main_v33) := by
  refine (dat1 V c).arrAt_eq_of_covers 7 _ (by decide +kernel) fun t hf y => ?_
  obtain ⟨e0, e1⟩ := idx1_7 t
  obtain ⟨i, j, rfl⟩ : ∃ (i : Fin 512) (j : Fin 256), y = ix2 i j := ⟨_, _, eq_ix2 y⟩
  refine Eq.trans ?_ (congrArg (arr1n 512 (by decide) 0 (V c main_v34) (V c main_v35) (V c main_v41) (V c main_v33)) (show ix2 (tok t (show t.val < 32 from t.2) i) j = _ by blk_ext [e0, e1, tok]))
  blk_simp
  rw [after1_7]
  exact val1_7 V c h t i j

theorem val1_9 (h : ∀ i j, IsR (prj (V c main_v34) (V c main_v35) (V c main_v41) i j)) (t : Fin cfg1.N) (i : Fin 512) (j : Fin 256) :
    out1_9 (iblk1 V c 0 t) (iblk1 V c 1 t) (iblk1 V c 2 t) (iblk1 V c 3 t) (iblk1 V c 4 t) (ix2 i j)
      = arr1n 1024 (by decide) 1 (V c main_v34) (V c main_v35) (V c main_v41) (V c main_v33) (ix2 (tok t (show t.val < 32 from t.2) i) j) := by
  rw [(out1n_is _ _ _ _ _).2]
  have e : ∀ j : Fin 256, k1_pay7 (iblk1 V c 0 t) (iblk1 V c 1 t) (iblk1 V c 2 t) (ix2 i j)
      = arr1 1024 (by decide) (V c main_v34) (V c main_v35) (V c main_v41) (ix2 (tok t (show t.val < 32 from t.2) i) j) := fun j => by
    pointwise [k1_pay7]
    exact (pay1 _ _ _ i _).trans (prj1 V c t i _)
  refine (norm2 _ _ i j fun j => (e j).symm ▸ h _ _).trans ?_
  simp only [e, aux2, blk1_4]
  rfl

theorem left1_9 (h : ∀ i j, IsR (prj (V c main_v34) (V c main_v35) (V c main_v41) i j)) : (dat1 V c).arrAt 9 cfg1.N = arr1n 1024 (by decide) 1 (V c main_v34) (V c main_v35) (V c main_v41) (V c main_v33) := by
  refine (dat1 V c).arrAt_eq_of_covers 9 _ (by decide +kernel) fun t hf y => ?_
  obtain ⟨e0, e1⟩ := idx1_9 t
  obtain ⟨i, j, rfl⟩ : ∃ (i : Fin 512) (j : Fin 256), y = ix2 i j := ⟨_, _, eq_ix2 y⟩
  refine Eq.trans ?_ (congrArg (arr1n 1024 (by decide) 1 (V c main_v34) (V c main_v35) (V c main_v41) (V c main_v33)) (show ix2 (tok t (show t.val < 32 from t.2) i) j = _ by blk_ext [e0, e1, tok]))
  blk_simp
  rw [after1_9]
  exact val1_9 V c h t i j

theorem idx2_0 : ∀ t : Fin grid2.N, win2_0.index t 0 = t.val ∧ win2_0.index t 1 = 0 := by decide +kernel
theorem idx2_1 : ∀ t : Fin grid2.N, win2_1.index t 0 = 0 ∧ win2_1.index t 1 = 0 := by decide +kernel
theorem idx2_2 : ∀ t : Fin grid2.N, win2_2.index t 0 = 0 ∧ win2_2.index t 1 = 0 := by decide +kernel
theorem idx2_5 : ∀ t : Fin grid2.N, win2_5.index t 0 = t.val ∧ win2_5.index t 1 = 0 := by decide +kernel

theorem blk2_0 (t : Fin cfg2.N) (i : Fin 512) (j : Fin 1024) :
    iblk2 V c 0 t (ix2 i j) = V c main_v34 (ix2 (tok t (show t.val < 32 from t.2) i) j) := by
  obtain ⟨e0, e1⟩ := idx2_0 t
  blk_simp [iblk2]
  blk_ext [e0, e1, tok]

theorem blk2_1 (t : Fin cfg2.N) (j : Fin 1024) : iblk2 V c 1 t (ix2 0 j) = V c main_v35 (ix2 0 j) := by
  obtain ⟨e0, e1⟩ := idx2_1 t
  blk_simp [iblk2]
  blk_ext [e0, e1]

theorem blk2_2 (t : Fin cfg2.N) (i : Fin 1024) (j : Fin 1024) : iblk2 V c 2 t (ix2 i j) = V c main_v46 (ix2 i j) := by
  obtain ⟨e0, e1⟩ := idx2_2 t
  blk_simp [iblk2]
  blk_ext [e0, e1]

/-- A token's projection in call 2's block. -/
theorem prj2 (t : Fin cfg2.N) (i : Fin 512) (j : Fin 1024) :
    prj (iblk2 V c 0 t) (iblk2 V c 1 t) (iblk2 V c 2 t) i j = prj (V c main_v34) (V c main_v35) (V c main_v46) (tok t (show t.val < 32 from t.2) i) j := by
  unfold prj
  rw [show (fun k => iblk2 V c 0 t (ix2 i k)) = _ from funext fun k => blk2_0 V c t i k,
    show (fun k => iblk2 V c 1 t (ix2 0 k)) = _ from funext fun k => blk2_1 V c t k,
    show (fun k => iblk2 V c 2 t (ix2 k j)) = _ from funext fun k => blk2_2 V c t k j]

theorem val2 (t : Fin cfg2.N) (i : Fin 512) (j : Fin 1024) :
    out2_5 (iblk2 V c 0 t) (iblk2 V c 1 t) (iblk2 V c 2 t) (iblk2 V c 3 t) (iblk2 V c 4 t) (ix2 i j)
      = arr2 (V c main_v34) (V c main_v35) (V c main_v46) (ix2 (tok t (show t.val < 32 from t.2) i) j) := by
  rw [out2_is]
  refine (pay2 _ _ _ i j).trans ?_
  exact congrArg (fun y => y * sigm y) (prj2 V c t i j)

theorem left2 : (dat2 V c).arrAt 5 cfg2.N = arr2 (V c main_v34) (V c main_v35) (V c main_v46) := by
  refine (dat2 V c).arrAt_eq_of_covers 5 _ (by decide +kernel) fun t hf y => ?_
  obtain ⟨e0, e1⟩ := idx2_5 t
  obtain ⟨i, j, rfl⟩ : ∃ (i : Fin 512) (j : Fin 1024), y = ix2 i j := ⟨_, _, eq_ix2 y⟩
  refine Eq.trans ?_ (congrArg (arr2 (V c main_v34) (V c main_v35) (V c main_v46)) (show ix2 (tok t (show t.val < 32 from t.2) i) j = _ by blk_ext [e0, e1, tok]))
  blk_simp
  rw [after2_5]
  exact val2 V c t i j

theorem idx3_0 : ∀ t : Fin grid3.N, win3_0.index t 0 = t.val ∧ win3_0.index t 1 = 0 := by decide +kernel
theorem idx3_1 : ∀ t : Fin grid3.N, win3_1.index t 0 = 0 ∧ win3_1.index t 1 = 0 := by decide +kernel
theorem idx3_2 : ∀ t : Fin grid3.N, win3_2.index t 0 = 0 ∧ win3_2.index t 1 = 0 := by decide +kernel
theorem idx3_5 : ∀ t : Fin grid3.N, win3_5.index t 0 = t.val ∧ win3_5.index t 1 = 0 := by decide +kernel

theorem blk3_0 (t : Fin cfg3.N) (i : Fin 512) (j : Fin 1024) :
    iblk3 V c 0 t (ix2 i j) = V c main_v34 (ix2 (tok t (show t.val < 32 from t.2) i) j) := by
  obtain ⟨e0, e1⟩ := idx3_0 t
  blk_simp [iblk3]
  blk_ext [e0, e1, tok]

theorem blk3_1 (t : Fin cfg3.N) (j : Fin 1024) : iblk3 V c 1 t (ix2 0 j) = V c main_v35 (ix2 0 j) := by
  obtain ⟨e0, e1⟩ := idx3_1 t
  blk_simp [iblk3]
  blk_ext [e0, e1]

theorem blk3_2 (t : Fin cfg3.N) (i : Fin 1024) (j : Fin 512) : iblk3 V c 2 t (ix2 i j) = V c main_v51 (ix2 i j) := by
  obtain ⟨e0, e1⟩ := idx3_2 t
  blk_simp [iblk3]
  blk_ext [e0, e1]

/-- A token's projection in call 3's block. -/
theorem prj3 (t : Fin cfg3.N) (i : Fin 512) (j : Fin 512) :
    prj (iblk3 V c 0 t) (iblk3 V c 1 t) (iblk3 V c 2 t) i j = prj (V c main_v34) (V c main_v35) (V c main_v51) (tok t (show t.val < 32 from t.2) i) j := by
  unfold prj
  rw [show (fun k => iblk3 V c 0 t (ix2 i k)) = _ from funext fun k => blk3_0 V c t i k,
    show (fun k => iblk3 V c 1 t (ix2 0 k)) = _ from funext fun k => blk3_1 V c t k,
    show (fun k => iblk3 V c 2 t (ix2 k j)) = _ from funext fun k => blk3_2 V c t k j]

theorem val3 (t : Fin cfg3.N) (i : Fin 512) (j : Fin 512) :
    out3_5 (iblk3 V c 0 t) (iblk3 V c 1 t) (iblk3 V c 2 t) (iblk3 V c 3 t) (iblk3 V c 4 t) (ix2 i j)
      = arr3 (V c main_v34) (V c main_v35) (V c main_v51) (ix2 (tok t (show t.val < 32 from t.2) i) j) := by
  rw [out3_is]
  refine (pay3 _ _ _ i j).trans ?_
  exact congrArg sigm (prj3 V c t i j)

theorem left3 : (dat3 V c).arrAt 5 cfg3.N = arr3 (V c main_v34) (V c main_v35) (V c main_v51) := by
  refine (dat3 V c).arrAt_eq_of_covers 5 _ (by decide +kernel) fun t hf y => ?_
  obtain ⟨e0, e1⟩ := idx3_5 t
  obtain ⟨i, j, rfl⟩ : ∃ (i : Fin 512) (j : Fin 512), y = ix2 i j := ⟨_, _, eq_ix2 y⟩
  refine Eq.trans ?_ (congrArg (arr3 (V c main_v34) (V c main_v35) (V c main_v51)) (show ix2 (tok t (show t.val < 32 from t.2) i) j = _ by blk_ext [e0, e1, tok]))
  blk_simp
  rw [after3_5]
  exact val3 V c t i j

end Cert.Kernel2Ideal.Gen
-- ==== Proof.NsaChain.lean ====
module

public import proofs.«01_k».proof.Proof.NsaAt
public import proofs.«01_k».proof.Proof.NsaBlocks
public import proofs.«01_k».proof.Proof.NsaRun

@[expose] public section

set_option maxRecDepth 16384

noncomputable section

/-! What each region reads, and what each result holds at the end, from the launch memory. -/

open Idealize.ShloMosaic Idealize.ShloMosaic.TcCoe Idealize.SL.Sem
open Cert.Nsa

namespace Cert.Kernel2Ideal.Gen

variable (m : (ℓ : Loc nD τ sig) → Buf (Elt Ideal) ℓ) (ρ : Dev nD → PrngReg) (c : Dev nD)

abbrev a0 : FVec Ideal S4x4096x1024 .f32 := m ((c : Thread nD τ).loc main_arg0)
abbrev a1 : FVec Ideal S1024 .f32 := m ((c : Thread nD τ).loc main_arg1)
abbrev a2 : FVec Ideal S1024x3632 .f32 := m ((c : Thread nD τ).loc main_arg2)
abbrev a3 : FVec Ideal S64 .f32 := m ((c : Thread nD τ).loc main_arg3)
abbrev a4 : FVec Ideal S3x64 .f32 := m ((c : Thread nD τ).loc main_arg4)

theorem v34_3 : V3 m ρ c main_v34 = rowsX (a0 m c) := (ops2 (W2 m ρ c)).2.2.1.trans (congrArg rowsX (W2_args m ρ c main_arg0 (by decide)))
theorem v35_3 : V3 m ρ c main_v35 = rowN (a1 m c) := (ops2 (W2 m ρ c)).2.2.2.1.trans (congrArg rowN (W2_args m ρ c main_arg1 (by decide)))
theorem v18_3 : V3 m ρ c main_v18 = auxQ (a3 m c) := (ops2 (W2 m ρ c)).1.trans (congrArg auxQ (W2_args m ρ c main_arg3 (by decide)))
theorem v33_3 : V3 m ρ c main_v33 = auxK (a4 m c) := (ops2 (W2 m ρ c)).2.1.trans (congrArg auxK (W2_args m ρ c main_arg4 (by decide)))
theorem v36_3 : V3 m ρ c main_v36 = colsQ (a2 m c) := (ops2 (W2 m ρ c)).2.2.2.2.trans ((W2_of m ρ c main_v3 (by decide)).trans (ops0 (W0 m ρ c)).1)

theorem keep5 (r : Ref sig .tc) (h1 : r ∉ hostOps1_W) (h0 : ∀ w : Fin cfg0.W, Pipeline.arrRef spec0 w = r → (cfg0.win w).isOut = false) :
    V5 m ρ c r = V3 m ρ c r := (W5_of m ρ c r h1).trans (W4_of m ρ c r h0)
theorem keep7 (r : Ref sig .tc) (h1 : r ∉ hostOps2_W) (h0 : ∀ w : Fin cfg1.W, Pipeline.arrRef spec1 w = r → (cfg1.win w).isOut = false) :
    V7 m ρ c r = V5 m ρ c r := (W7_of m ρ c r h1).trans (W6_of m ρ c r h0)
theorem keep9 (r : Ref sig .tc) (h1 : r ∉ hostOps3_W) (h0 : ∀ w : Fin cfg2.W, Pipeline.arrRef spec2 w = r → (cfg2.win w).isOut = false) :
    V9 m ρ c r = V7 m ρ c r := (W9_of m ρ c r h1).trans (W8_of m ρ c r h0)

theorem v34_5 : V5 m ρ c main_v34 = rowsX (a0 m c) := (keep5 m ρ c _ (by decide) (by decide)).trans (v34_3 m ρ c)
theorem v35_5 : V5 m ρ c main_v35 = rowN (a1 m c) := (keep5 m ρ c _ (by decide) (by decide)).trans (v35_3 m ρ c)
theorem v33_5 : V5 m ρ c main_v33 = auxK (a4 m c) := (keep5 m ρ c _ (by decide) (by decide)).trans (v33_3 m ρ c)
theorem v41_5 : V5 m ρ c main_v41 = colsK (a2 m c) :=
  (opsW (W4 m ρ c)).1.trans ((W4_of m ρ c main_v4 (by decide)).trans ((W3_of m ρ c main_v4 (by decide)).trans
    ((W2_of m ρ c main_v4 (by decide)).trans (ops0 (W0 m ρ c)).2.1)))

theorem v34_7 : V7 m ρ c main_v34 = rowsX (a0 m c) := (keep7 m ρ c _ (by decide) (by decide)).trans (v34_5 m ρ c)
theorem v35_7 : V7 m ρ c main_v35 = rowN (a1 m c) := (keep7 m ρ c _ (by decide) (by decide)).trans (v35_5 m ρ c)
theorem v46_7 : V7 m ρ c main_v46 = colsZ (a2 m c) :=
  (opsW (W6 m ρ c)).2.1.trans ((W6_of m ρ c main_v8 (by decide)).trans ((keep5 m ρ c main_v8 (by decide) (by decide)).trans
    ((W3_of m ρ c main_v8 (by decide)).trans ((W2_of m ρ c main_v8 (by decide)).trans (ops0 (W0 m ρ c)).2.2))))

theorem v34_9 : V9 m ρ c main_v34 = rowsX (a0 m c) := (keep9 m ρ c _ (by decide) (by decide)).trans (v34_7 m ρ c)
theorem v35_9 : V9 m ρ c main_v35 = rowN (a1 m c) := (keep9 m ρ c _ (by decide) (by decide)).trans (v35_7 m ρ c)
theorem v51_9 : V9 m ρ c main_v51 = colsG (a2 m c) :=
  (opsW (W8 m ρ c)).2.2.trans ((W8_of m ρ c main_v12 (by decide)).trans ((keep7 m ρ c main_v12 (by decide) (by decide)).trans
    ((keep5 m ρ c main_v12 (by decide) (by decide)).trans (ops0g (W0 m ρ c)))))

/-! The four regions' arrays. -/

theorem got0 (h : ∀ i j, IsR (prj (rowsX (a0 m c)) (rowN (a1 m c)) (colsQ (a2 m c)) i j)) :
    W10 m ρ c (Proc.devRef .tc main_v40) = arr0 (rowsX (a0 m c)) (rowN (a1 m c)) (colsQ (a2 m c)) (auxQ (a3 m c)) := by
  refine (W10_of m ρ c main_v40 (by decide)).trans ((keep9 m ρ c main_v40 (by decide) (by decide)).trans ((keep7 m ρ c main_v40 (by decide) (by decide)).trans
    ((W5_of m ρ c main_v40 (by decide)).trans ((W4_arr m ρ c 5).trans ?_))))
  have e := left0 (V3 m ρ) c (by rw [v34_3, v35_3, v36_3]; exact h)
  rw [v34_3, v35_3, v36_3, v18_3] at e
  exact e

theorem keep10 (r : Ref sig .tc) (h9 : r ∉ hostOps3_W) (h7 : r ∉ hostOps2_W)
    (h2 : ∀ w : Fin cfg2.W, Pipeline.arrRef spec2 w = r → (cfg2.win w).isOut = false)
    (h3 : ∀ w : Fin cfg3.W, Pipeline.arrRef spec3 w = r → (cfg3.win w).isOut = false) :
    W10 m ρ c (Proc.devRef .tc r) = W6 m ρ c (Proc.devRef .tc r) :=
  (W10_of m ρ c r h3).trans ((keep9 m ρ c r h9 h2).trans (W7_of m ρ c r h7))

theorem got1_0 : W10 m ρ c (Proc.devRef .tc main_v45_0) = arr1 0 (by decide) (rowsX (a0 m c)) (rowN (a1 m c)) (colsK (a2 m c)) := by
  refine (keep10 m ρ c main_v45_0 (by decide) (by decide) (by decide) (by decide)).trans ((W6_arr m ρ c 5).trans ?_)
  have e := left1_5 (V5 m ρ) c
  rw [v34_5, v35_5, v41_5] at e
  exact e

theorem got1_1 : W10 m ρ c (Proc.devRef .tc main_v45_1) = arr1 256 (by decide) (rowsX (a0 m c)) (rowN (a1 m c)) (colsK (a2 m c)) := by
  refine (keep10 m ρ c main_v45_1 (by decide) (by decide) (by decide) (by decide)).trans ((W6_arr m ρ c 6).trans ?_)
  have e := left1_6 (V5 m ρ) c
  rw [v34_5, v35_5, v41_5] at e
  exact e

theorem got1_2 (h : ∀ i j, IsR (prj (rowsX (a0 m c)) (rowN (a1 m c)) (colsK (a2 m c)) i j)) :
    W10 m ρ c (Proc.devRef .tc main_v45_2) = arr1n 512 (by decide) 0 (rowsX (a0 m c)) (rowN (a1 m c)) (colsK (a2 m c)) (auxK (a4 m c)) := by
  refine (keep10 m ρ c main_v45_2 (by decide) (by decide) (by decide) (by decide)).trans ((W6_arr m ρ c 7).trans ?_)
  have e := left1_7 (V5 m ρ) c (by rw [v34_5, v35_5, v41_5]; exact h)
  rw [v34_5, v35_5, v41_5, v33_5] at e
  exact e

theorem got1_3 : W10 m ρ c (Proc.devRef .tc main_v45_3) = arr1 768 (by decide) (rowsX (a0 m c)) (rowN (a1 m c)) (colsK (a2 m c)) := by
  refine (keep10 m ρ c main_v45_3 (by decide) (by decide) (by decide) (by decide)).trans ((W6_arr m ρ c 8).trans ?_)
  have e := left1_8 (V5 m ρ) c
  rw [v34_5, v35_5, v41_5] at e
  exact e

theorem got1_4 (h : ∀ i j, IsR (prj (rowsX (a0 m c)) (rowN (a1 m c)) (colsK (a2 m c)) i j)) :
    W10 m ρ c (Proc.devRef .tc main_v45_4) = arr1n 1024 (by decide) 1 (rowsX (a0 m c)) (rowN (a1 m c)) (colsK (a2 m c)) (auxK (a4 m c)) := by
  refine (keep10 m ρ c main_v45_4 (by decide) (by decide) (by decide) (by decide)).trans ((W6_arr m ρ c 9).trans ?_)
  have e := left1_9 (V5 m ρ) c (by rw [v34_5, v35_5, v41_5]; exact h)
  rw [v34_5, v35_5, v41_5, v33_5] at e
  exact e

theorem got1_5 : W10 m ρ c (Proc.devRef .tc main_v45_5) = arr1 1280 (by decide) (rowsX (a0 m c)) (rowN (a1 m c)) (colsK (a2 m c)) := by
  refine (keep10 m ρ c main_v45_5 (by decide) (by decide) (by decide) (by decide)).trans ((W6_arr m ρ c 10).trans ?_)
  have e := left1_10 (V5 m ρ) c
  rw [v34_5, v35_5, v41_5] at e
  exact e

theorem got2 : W10 m ρ c (Proc.devRef .tc main_v50) = arr2 (rowsX (a0 m c)) (rowN (a1 m c)) (colsZ (a2 m c)) := by
  refine (W10_of m ρ c main_v50 (by decide)).trans ((W9_of m ρ c main_v50 (by decide)).trans ((W8_arr m ρ c 5).trans ?_))
  have e := left2 (V7 m ρ) c
  rw [v34_7, v35_7, v46_7] at e
  exact e

theorem got3 : W10 m ρ c (Proc.devRef .tc main_v55) = arr3 (rowsX (a0 m c)) (rowN (a1 m c)) (colsG (a2 m c)) := by
  refine (W10_arr m ρ c 5).trans ?_
  have e := left3 (V9 m ρ) c
  rw [v34_9, v35_9, v51_9] at e
  exact e

end Cert.Kernel2Ideal.Gen
-- ==== Proof.NsaRef.lean ====
module

public import proofs.«01_k».proof.Proof.Gen.Reference2Ideal.Run
public import proofs.«01_k».proof.Proof.NsaMath

@[expose] public section

set_option maxRecDepth 16384

noncomputable section

/-! The reference's results, entry by entry. -/

open Idealize.ShloMosaic Idealize.ShloMosaic.TcCoe Idealize.SL.Sem
open Cert.Nsa Cert.Reference2Ideal.Gen

namespace Cert.Reference2Ideal.Value

/-- All columns of the projection. -/
def prod (x : FVec Ideal S4x4096x1024 .f32) (w : FVec Ideal S1024 .f32) (W : FVec Ideal S1024x3632 .f32) : FVec Ideal S4x4096x3632 .f32 :=
  Host.dotGeneral dot_S4x4096x1024_S1024x3632_S4x4096x3632_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 w))) W

theorem prod_at (x : FVec Ideal S4x4096x1024 .f32) (w : FVec Ideal S1024 .f32) (W : FVec Ideal S1024x3632 .f32) (g : Fin 4) (t : Fin 4096) (j : Fin 3632) :
    prod x w W (ix3 g t j) = proj (fun k => x (ix3 g t k)) (fun k => w (ix1 k)) (fun k => W (ix2 k j)) := by
  pointwise [prod]
  rfl

def normQ (z : FVec Ideal S4x4096x16x64 .f32) (n : FVec Ideal S64 .f32) : FVec Ideal S4x4096x16x64 .f32 :=
  mulf (mulf z (broadcastInDim S4x4096x16x64 ![0, 1, 2, 3] bcast_S4x4096x16x1_S4x4096x16x64_0_1_2_3 (Host.rsqrt (addf (Host.divf (broadcastInDim S4x4096x16x1 ![0, 1, 2] bcast_S4x4096x16_S4x4096x16x1_0_1_2 (Host.reduceAdd (mulf z z) (constant S_ .f32 0x00000000#32) reducesTo_S4x4096x16x64_S4x4096x16_d3 h_S_)) (broadcastInDim S4x4096x16x1 ![] bcast_S_S4x4096x16x1 (constant S_ .f32 0x42800000#32))) (broadcastInDim S4x4096x16x1 ![] bcast_S_S4x4096x16x1 (constant S_ .f32 0x358637BD#32)))))) (broadcastInDim S4x4096x16x64 ![0, 1, 2, 3] bcast_S1x1x1x64_S4x4096x16x64_0_1_2_3 (broadcastInDim S1x1x1x64 ![3] bcast_S64_S1x1x1x64_3 n))

theorem normQ_at (z : FVec Ideal S4x4096x16x64 .f32) (n : FVec Ideal S64 .f32) (g : Fin 4) (t : Fin 4096) (h : Fin 16) (d : Fin 64) :
    normQ z n (ix4 g t h d) = hnorm (fun e => z (ix4 g t h e)) d (n (ix1 d)) := by
  pointwise [normQ]
  rfl

def normK (z : FVec Ideal S4x4096x4x64 .f32) (n : FVec Ideal S64 .f32) : FVec Ideal S4x4096x4x64 .f32 :=
  mulf (mulf z (broadcastInDim S4x4096x4x64 ![0, 1, 2, 3] bcast_S4x4096x4x1_S4x4096x4x64_0_1_2_3 (Host.rsqrt (addf (Host.divf (broadcastInDim S4x4096x4x1 ![0, 1, 2] bcast_S4x4096x4_S4x4096x4x1_0_1_2 (Host.reduceAdd (mulf z z) (constant S_ .f32 0x00000000#32) reducesTo_S4x4096x4x64_S4x4096x4_d3 h_S_)) (broadcastInDim S4x4096x4x1 ![] bcast_S_S4x4096x4x1 (constant S_ .f32 0x42800000#32))) (broadcastInDim S4x4096x4x1 ![] bcast_S_S4x4096x4x1 (constant S_ .f32 0x358637BD#32)))))) (broadcastInDim S4x4096x4x64 ![0, 1, 2, 3] bcast_S1x1x1x64_S4x4096x4x64_0_1_2_3 (broadcastInDim S1x1x1x64 ![3] bcast_S64_S1x1x1x64_3 n))

theorem normK_at (z : FVec Ideal S4x4096x4x64 .f32) (n : FVec Ideal S64 .f32) (g : Fin 4) (t : Fin 4096) (h : Fin 4) (d : Fin 64) :
    normK z n (ix4 g t h d) = hnorm (fun e => z (ix4 g t h e)) d (n (ix1 d)) := by
  pointwise [normK]
  rfl

def qOf (y : FVec Ideal S4x4096x3632 .f32) : FVec Ideal S4x4096x16x64 .f32 :=
  shapeCast _ (extractStridedSlice S4x4096x1024 ![0, 0, 0] y slices_S4x4096x3632_S4x4096x1024_0_0_0) shapeCasts_S4x4096x1024_S4x4096x16x64

theorem qOf_at (y : FVec Ideal S4x4096x3632 .f32) (g : Fin 4) (t : Fin 4096) (h : Fin 16) (d : Fin 64) :
    qOf y (ix4 g t h d) = y (ix3 g t ⟨64 * h + d, by omega⟩) := by
  pointwise [qOf]
  refine congrArg y ?_
  blk_ext

/-- One of the keys' and values' parts. -/
def kOf (o : ℕ) (hs : S4x4096x3632.Slices ![0, 0, o] S4x4096x256) (y : FVec Ideal S4x4096x3632 .f32) : FVec Ideal S4x4096x4x64 .f32 :=
  shapeCast _ (extractStridedSlice S4x4096x256 ![0, 0, o] y hs) shapeCasts_S4x4096x256_S4x4096x4x64

theorem kOf_at (o : ℕ) (ho : o + 256 ≤ 3632) (hs : S4x4096x3632.Slices ![0, 0, o] S4x4096x256) (y : FVec Ideal S4x4096x3632 .f32) (g : Fin 4) (t : Fin 4096) (h : Fin 4) (d : Fin 64) :
    kOf o hs y (ix4 g t h d) = y (ix3 g t ⟨o + (64 * h + d), by omega⟩) := by
  pointwise [kOf]
  refine congrArg y ?_
  blk_ext

def qRes (y : FVec Ideal S4x4096x3632 .f32) (n : FVec Ideal S64 .f32) : FVec Ideal S4x4096x16x64 .f32 :=
  mulf (normQ (qOf y) n) (broadcastInDim S4x4096x16x64 ![] bcast_S_S4x4096x16x64 (constant S_ .f32 0x3E000000#32))

theorem qRes_at (y : FVec Ideal S4x4096x3632 .f32) (n : FVec Ideal S64 .f32) (g : Fin 4) (t : Fin 4096) (h : Fin 16) (d : Fin 64) :
    qRes y n (ix4 g t h d) = hnorm (fun e => y (ix3 g t ⟨64 * h + e, by omega⟩)) d (n (ix1 d)) * Ideal.ofBits FTy.f32 1040187392#32 := by
  pointwise [qRes]
  rw [normQ_at]
  simp only [qOf_at]

def zRes (y : FVec Ideal S4x4096x3632 .f32) : FVec Ideal S4x4096x16x64 .f32 :=
  shapeCast _ (mulf (extractStridedSlice S4x4096x1024 ![0, 0, 2560] y slices_S4x4096x3632_S4x4096x1024_0_0_2560) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 2560] y slices_S4x4096x3632_S4x4096x1024_0_0_2560)))))) shapeCasts_S4x4096x1024_S4x4096x16x64

theorem zRes_at (y : FVec Ideal S4x4096x3632 .f32) (g : Fin 4) (t : Fin 4096) (h : Fin 16) (d : Fin 64) :
    zRes y (ix4 g t h d) = y (ix3 g t ⟨2560 + (64 * h + d), by omega⟩) * sigm (y (ix3 g t ⟨2560 + (64 * h + d), by omega⟩)) := by
  have e : ∀ z : Fin 3632, z = ⟨2560 + (64 * h + d), by omega⟩ → y (ix3 g t z) * Ideal.div 1 (1 + Ideal.exp (-y (ix3 g t z)))
      = y (ix3 g t ⟨2560 + (64 * h + d), by omega⟩) * sigm (y (ix3 g t ⟨2560 + (64 * h + d), by omega⟩)) := fun z hz => by rw [hz]; rfl
  pointwise [zRes]
  refine e _ (Fin.ext ?_)
  simp
  try omega

def gRes (y : FVec Ideal S4x4096x3632 .f32) : FVec Ideal S4x4096x16x3 .f32 :=
  shapeCast _ (Host.divf (broadcastInDim S4x4096x48 ![] bcast_S_S4x4096x48 (constant S_ .f32 0x3F800000#32)) (addf (broadcastInDim S4x4096x48 ![] bcast_S_S4x4096x48 (constant S_ .f32 0x3F800000#32)) (Host.exp (Host.negf (extractStridedSlice S4x4096x48 ![0, 0, 3584] y slices_S4x4096x3632_S4x4096x48_0_0_3584))))) shapeCasts_S4x4096x48_S4x4096x16x3

theorem gRes_at (y : FVec Ideal S4x4096x3632 .f32) (g : Fin 4) (t : Fin 4096) (h : Fin 16) (d : Fin 3) :
    gRes y (ix4 g t h d) = sigm (y (ix3 g t ⟨3584 + (3 * h + d), by omega⟩)) := by
  have e : ∀ z : Fin 3632, z = ⟨3584 + (3 * h + d), by omega⟩ → Ideal.div 1 (1 + Ideal.exp (-y (ix3 g t z)))
      = sigm (y (ix3 g t ⟨3584 + (3 * h + d), by omega⟩)) := fun z hz => by rw [hz]; rfl
  pointwise [gRes]
  refine e _ (Fin.ext ?_)
  simp
  try omega

def lastOf (y : FVec Ideal S4x4096x4x64 .f32) : FVec Ideal S4x512x4x64 .f32 := extractStridedSlice S4x512x4x64 ![0, 3584, 0, 0] y slices_S4x4096x4x64_S4x512x4x64_0_3584_0_0

def nrm0 (k : FVec Ideal S3x64 .f32) : FVec Ideal S64 .f32 := shapeCast _ (extractStridedSlice S1x64 ![0, 0] k slices_S3x64_S1x64_0_0) shapeCasts_S1x64_S64
def nrm1 (k : FVec Ideal S3x64 .f32) : FVec Ideal S64 .f32 := shapeCast _ (extractStridedSlice S1x64 ![1, 0] k slices_S3x64_S1x64_1_0) shapeCasts_S1x64_S64

theorem nrm0_at (k : FVec Ideal S3x64 .f32) (d : Fin 64) : nrm0 k (ix1 d) = k (ix2 0 d) := by pointwise [nrm0]
theorem nrm1_at (k : FVec Ideal S3x64 .f32) (d : Fin 64) : nrm1 k (ix1 d) = k (ix2 1 d) := by pointwise [nrm1]

/-- The reference's run, in these words. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let M := fun b : Ref sig .tc => m ((c.tc : Thread nD τ).loc b)
      let y := prod (M main_arg0) (M main_arg1) (M main_arg2)
      let R := fun b : Ref sig .tc => r.2.mem ((c.tc : Thread nD τ).loc b)
      R main_v38 = qRes y (M main_arg3) ∧ R main_v39 = kOf 1024 slices_S4x4096x3632_S4x4096x256_0_0_1024 y
      ∧ R main_v40 = kOf 1280 slices_S4x4096x3632_S4x4096x256_0_0_1280 y
      ∧ R main_v58 = normK (kOf 1536 slices_S4x4096x3632_S4x4096x256_0_0_1536 y) (nrm0 (M main_arg4))
      ∧ R main_v41 = kOf 1792 slices_S4x4096x3632_S4x4096x256_0_0_1792 y
      ∧ R main_v74 = normK (kOf 2048 slices_S4x4096x3632_S4x4096x256_0_0_2048 y) (nrm1 (M main_arg4))
      ∧ R main_v42 = kOf 2304 slices_S4x4096x3632_S4x4096x256_0_0_2304 y
      ∧ R main_v84 = lastOf (normK (kOf 2048 slices_S4x4096x3632_S4x4096x256_0_0_2048 y) (nrm1 (M main_arg4)))
      ∧ R main_v85 = lastOf (kOf 2304 slices_S4x4096x3632_S4x4096x256_0_0_2304 y)
      ∧ R main_v83 = zRes y ∧ R main_v81 = gRes y :=
  (θ_run defs _ _).mono (fun r h c => ⟨(h c).1, (h c).2.1, (h c).2.2.1, (h c).2.2.2.1, (h c).2.2.2.2.1, (h c).2.2.2.2.2.1, (h c).2.2.2.2.2.2.1,
    (h c).2.2.2.2.2.2.2.1, (h c).2.2.2.2.2.2.2.2.1, (h c).2.2.2.2.2.2.2.2.2.1, (h c).2.2.2.2.2.2.2.2.2.2.1⟩) (run m ρ)

end Cert.Reference2Ideal.Value
-- ==== Proof.NsaJoin.lean ====
module

public import proofs.«01_k».proof.Proof.NsaAt
public import proofs.«01_k».proof.Proof.NsaBlocks
public import proofs.«01_k».proof.Proof.NsaRef

@[expose] public section

set_option maxRecDepth 16384

noncomputable section

/-! The kernel's arrays, laid out by heads, are the reference's results. -/

open Idealize.ShloMosaic Idealize.ShloMosaic.TcCoe Idealize.SL.Sem
open Cert.Nsa

namespace Cert.Kernel2Ideal.Gen

open Cert.Reference2Ideal.Value (prod prod_at qRes qRes_at kOf kOf_at normK normK_at nrm0 nrm1 nrm0_at nrm1_at zRes zRes_at gRes gRes_at)

variable (x : FVec Ideal S4x4096x1024 .f32) (w : FVec Ideal S1024 .f32) (W : FVec Ideal S1024x3632 .f32)

theorem prjQ (g : Fin 4) (t : Fin 4096) (a b : Fin 4) (d : Fin 64) :
    prj (rowsX x) (rowN w) (colsQ W) ⟨4096 * g + t, by omega⟩ ⟨256 * b + 64 * a + d, by omega⟩ = prod x w W (ix3 g t ⟨256 * a + 64 * b + d, by omega⟩) := by
  rw [prod_at]
  simp only [prj, rowsX_at, rowN_at, colsQ_at]

theorem prjZ (g : Fin 4) (t : Fin 4096) (a b : Fin 4) (d : Fin 64) :
    prj (rowsX x) (rowN w) (colsZ W) ⟨4096 * g + t, by omega⟩ ⟨256 * b + 64 * a + d, by omega⟩
      = prod x w W (ix3 g t ⟨2560 + (256 * a + 64 * b + d), by omega⟩) := by
  rw [prod_at]
  simp only [prj, rowsX_at, rowN_at, colsZ_at]

theorem prjK (g : Fin 4) (t : Fin 4096) (j : Fin 1536) :
    prj (rowsX x) (rowN w) (colsK W) ⟨4096 * g + t, by omega⟩ j = prod x w W (ix3 g t ⟨1024 + j, by omega⟩) := by
  rw [prod_at]
  simp only [prj, rowsX_at, rowN_at, colsK_at]

theorem prjG (g : Fin 4) (t : Fin 4096) (a : Fin 4) (e : Fin 12) :
    prj (rowsX x) (rowN w) (colsG W) ⟨4096 * g + t, by omega⟩ ⟨128 * a + e, by omega⟩ = prod x w W (ix3 g t ⟨3584 + (12 * a + e), by omega⟩) := by
  rw [prod_at]
  simp only [prj, rowsX_at, rowN_at, colsG_at]

/-- A head is four times a group plus a place. -/
theorem head_split (h : Fin 16) : ∃ a b : Fin 4, h = ⟨4 * a + b, by omega⟩ :=
  ⟨⟨h / 4, by omega⟩, ⟨h % 4, by omega⟩, Fin.ext (by show h.val = 4 * (h.val / 4) + h.val % 4; omega)⟩

theorem joinQ (q : FVec Ideal S64 .f32) : heads (arr0 (rowsX x) (rowN w) (colsQ W) (auxQ q)) = qRes (prod x w W) q := by
  funext z
  obtain ⟨g, t, h, d, rfl⟩ : ∃ (g : Fin 4) (t : Fin 4096) (h : Fin 16) (d : Fin 64), z = ix4 g t h d := ⟨_, _, _, _, eq_ix4 z⟩
  obtain ⟨a, b, rfl⟩ := head_split h
  refine (heads_at _ g t a b d).trans ((?_ : _ = _).trans (qRes_at _ q g t _ d).symm)
  refine congrArg (· * Ideal.ofBits FTy.f32 1040187392#32) ?_
  refine (snorm_head _ _ _ (4 * b + a) d (by omega) (by show 256 * (b : ℕ) + 64 * a + d = 64 * (4 * b + a) + d; omega)).trans ?_
  refine congrArg₂ (fun y n => hnorm y d n) (funext fun e => ?_) ?_
  · refine (congrArg (prj (rowsX x) (rowN w) (colsQ W) ⟨4096 * g + t, by omega⟩)
      (Fin.ext (by show 64 * (4 * (b : ℕ) + a) + e = 256 * b + 64 * a + e; omega))).trans ((prjQ x w W g t a b e).trans ?_)
    exact congrArg (fun j => prod x w W (ix3 g t j)) (Fin.ext (by show 256 * (a : ℕ) + 64 * b + e = 64 * (4 * a + b) + e; omega))
  · refine (auxQ_at q _).trans (congrArg (fun j => q (ix1 j)) (Fin.ext ?_))
    show (256 * (b : ℕ) + 64 * a + d) % 64 = d
    omega

theorem joinZ : heads (arr2 (rowsX x) (rowN w) (colsZ W)) = zRes (prod x w W) := by
  funext z
  obtain ⟨g, t, h, d, rfl⟩ : ∃ (g : Fin 4) (t : Fin 4096) (h : Fin 16) (d : Fin 64), z = ix4 g t h d := ⟨_, _, _, _, eq_ix4 z⟩
  obtain ⟨a, b, rfl⟩ := head_split h
  refine (heads_at _ g t a b d).trans ((?_ : _ = _).trans (zRes_at _ g t _ d).symm)
  refine congrArg (fun y => y * sigm y) ((prjZ x w W g t a b d).trans ?_)
  exact congrArg (fun j => prod x w W (ix3 g t j)) (Fin.ext (by show 2560 + (256 * (a : ℕ) + 64 * b + d) = 2560 + (64 * (4 * a + b) + d); omega))

theorem joinG : gatesOf (arr3 (rowsX x) (rowN w) (colsG W)) = gRes (prod x w W) := by
  funext z
  obtain ⟨g, t, h, e, rfl⟩ : ∃ (g : Fin 4) (t : Fin 4096) (h : Fin 16) (e : Fin 3), z = ix4 g t h e := ⟨_, _, _, _, eq_ix4 z⟩
  obtain ⟨a, b, rfl⟩ := head_split h
  refine (gatesOf_at _ g t a b e).trans ((?_ : _ = _).trans (gRes_at _ g t _ e).symm)
  refine congrArg sigm ((prjG x w W g t a ⟨3 * b + e, by omega⟩).trans ?_)
  exact congrArg (fun j => prod x w W (ix3 g t j)) (Fin.ext (by show 3584 + (12 * (a : ℕ) + (3 * b + e)) = 3584 + (3 * (4 * a + b) + e); omega))

theorem joinK (o : ℕ) (ho : o + 256 ≤ 1536) (p : ℕ) (hp : p = 1024 + o) (hs : Cert.Reference2Ideal.S4x4096x3632.Slices ![0, 0, p] Cert.Reference2Ideal.S4x4096x256) :
    heads4 (arr1 o ho (rowsX x) (rowN w) (colsK W)) = kOf p hs (prod x w W) := by
  subst hp
  funext z
  obtain ⟨g, t, h, d, rfl⟩ : ∃ (g : Fin 4) (t : Fin 4096) (h : Fin 4) (d : Fin 64), z = ix4 g t h d := ⟨_, _, _, _, eq_ix4 z⟩
  refine (heads4_at _ g t h d).trans ((?_ : _ = _).trans (kOf_at _ (by omega) hs _ g t h d).symm)
  refine (prjK x w W g t ⟨o + (64 * h + d), by omega⟩).trans ?_
  exact congrArg (fun j => prod x w W (ix3 g t j)) (Fin.ext (by show 1024 + (o + (64 * (h : ℕ) + d)) = 1024 + o + (64 * h + d); omega))

theorem joinN (o : ℕ) (ho : o + 256 ≤ 1536) (p : ℕ) (hp : p = 1024 + o) (hs : Cert.Reference2Ideal.S4x4096x3632.Slices ![0, 0, p] Cert.Reference2Ideal.S4x4096x256)
    (r : Fin 8) (A : FVec Ideal S8x256 .f32) (n : FVec Ideal S64 .f32) (hA : ∀ j : Fin 256, A (ix2 r j) = n (ix1 ⟨(j : ℕ) % 64, Nat.mod_lt _ (by decide)⟩)) :
    heads4 (arr1n o ho r (rowsX x) (rowN w) (colsK W) A) = normK (kOf p hs (prod x w W)) n := by
  funext z
  obtain ⟨g, t, h, d, rfl⟩ : ∃ (g : Fin 4) (t : Fin 4096) (h : Fin 4) (d : Fin 64), z = ix4 g t h d := ⟨_, _, _, _, eq_ix4 z⟩
  refine (heads4_at _ g t h d).trans ((?_ : _ = _).trans (normK_at _ n g t h d).symm)
  refine (snorm_head _ _ _ h d (by omega) rfl).trans (congrArg₂ (fun y n => hnorm y d n) (funext fun e => ?_) ?_)
  · exact (heads4_at _ g t h e).symm.trans (congrFun (joinK x w W o ho p hp hs) _)
  · refine (hA _).trans (congrArg (fun j => n (ix1 j)) (Fin.ext ?_))
    show (64 * (h : ℕ) + d) % 64 = d
    omega

theorem joinN0 (k : FVec Ideal S3x64 .f32) (hs : Cert.Reference2Ideal.S4x4096x3632.Slices ![0, 0, 1536] Cert.Reference2Ideal.S4x4096x256) :
    heads4 (arr1n 512 (by decide) 0 (rowsX x) (rowN w) (colsK W) (auxK k)) = normK (kOf 1536 hs (prod x w W)) (nrm0 k) :=
  joinN x w W 512 (by decide) 1536 rfl hs 0 _ _ fun j => (auxK_at0 k j).trans (nrm0_at k _).symm

theorem joinN1 (k : FVec Ideal S3x64 .f32) (hs : Cert.Reference2Ideal.S4x4096x3632.Slices ![0, 0, 2048] Cert.Reference2Ideal.S4x4096x256) :
    heads4 (arr1n 1024 (by decide) 1 (rowsX x) (rowN w) (colsK W) (auxK k)) = normK (kOf 2048 hs (prod x w W)) (nrm1 k) :=
  joinN x w W 1024 (by decide) 2048 rfl hs 1 _ _ fun j => (auxK_at1 k j).trans (nrm1_at k _).symm

/-! The products of real rows and weights are real. -/

section Reals
variable {x w W} (hx : ∀ i, IsR (x i)) (hw : ∀ i, IsR (w i)) (hW : ∀ i, IsR (W i))
include hx hw hW

theorem prod_real (g : Fin 4) (t : Fin 4096) (j : Fin 3632) : IsR (prod x w W (ix3 g t j)) := by
  rw [prod_at]
  exact proj_real (fun _ => hx _) (fun _ => hw _) (fun _ => hW _)

/-- A row is a batch's token. -/
theorem row_split (i : Fin 16384) : ∃ (g : Fin 4) (t : Fin 4096), i = ⟨4096 * g + t, by omega⟩ :=
  ⟨⟨i / 4096, by omega⟩, ⟨i % 4096, by omega⟩, Fin.ext (by show i.val = 4096 * (i.val / 4096) + i.val % 4096; omega)⟩

theorem prjQ_real (i : Fin 16384) (j : Fin 1024) : IsR (prj (rowsX x) (rowN w) (colsQ W) i j) := by
  obtain ⟨g, t, rfl⟩ := row_split hx hw hW i
  obtain ⟨a, b, d, rfl⟩ : ∃ (a b : Fin 4) (d : Fin 64), j = ⟨256 * b + 64 * a + d, by omega⟩ :=
    ⟨⟨j / 64 % 4, by omega⟩, ⟨j / 256, by omega⟩, ⟨j % 64, by omega⟩, Fin.ext (by show j.val = 256 * (j.val / 256) + 64 * (j.val / 64 % 4) + j.val % 64; omega)⟩
  rw [prjQ]
  exact prod_real hx hw hW g t _

theorem prjK_real (i : Fin 16384) (j : Fin 1536) : IsR (prj (rowsX x) (rowN w) (colsK W) i j) := by
  obtain ⟨g, t, rfl⟩ := row_split hx hw hW i
  rw [prjK]
  exact prod_real hx hw hW g t _

end Reals

end Cert.Kernel2Ideal.Gen
-- ==== Proof.NsaFinite.lean ====
module

public import proofs.«01_k».proof.Proof.Gen.Pre_finite2
public import proofs.«01_k».proof.Pre_finite2
public import proofs.«01_k».proof.Proof.WkvFinite

@[expose] public section

set_option maxRecDepth 16384

noncomputable section

/-! The second precondition: the rows, the norm's weights and the product's weights are real numbers. -/

namespace Cert.Pre_finite2

open Idealize.ShloMosaic
open Facts

theorem finite_at [Facts] (x0 : FVec Ideal S4x4096x1024 .f32) (x1 : FVec Ideal S1024 .f32) (x2 : FVec Ideal S1024x3632 .f32) (x3 : FVec Ideal S64 .f32)
    (x4 : FVec Ideal S3x64 .f32) (h : ∀ j, fn (F := Ideal) x0 x1 x2 x3 x4 j = 1#1) :
    (∀ i, x0 i = ((EReal.toReal (x0 i) : ℝ) : EReal)) ∧ (∀ i, x1 i = ((EReal.toReal (x1 i) : ℝ) : EReal)) ∧ (∀ i, x2 i = ((EReal.toReal (x2 i) : ℝ) : EReal)) := by
  obtain ⟨e, e2⟩ := IntOp.andi_eq_one.1 (h (Shape.Idx.first h_S_))
  obtain ⟨e0, e1⟩ := IntOp.andi_eq_one.1 e
  haveI : Subsingleton S_.Idx := ⟨fun a b => funext fun k => k.elim0⟩
  exact ⟨fun i => Cert.Pre_finite.real_of x0 _ i (Host.reduce_andi_all _ _ _ _ _ e0 i), fun i => Cert.Pre_finite.real_of x1 _ i (Host.reduce_andi_all _ _ _ _ _ e1 i),
    fun i => Cert.Pre_finite.real_of x2 _ i (Host.reduce_andi_all _ _ _ _ _ e2 i)⟩

end Cert.Pre_finite2
-- ==== Proof.NsaValue.lean ====
module

public import proofs.«01_k».proof.Defs
public import proofs.«01_k».proof.Proof.NsaChain
public import proofs.«01_k».proof.Proof.NsaJoin
public import proofs.«01_k».proof.Proof.NsaFinite

@[expose] public section

set_option maxRecDepth 16384

noncomputable section

/-! The projections: the kernel's results are the reference's. -/

open Idealize.ShloMosaic Idealize.ShloMosaic.TcCoe Idealize.SL.Sem
open Cert.Nsa

namespace Cert.Kernel2Ideal.Gen

open Cert.Reference2Ideal.Value (prod qRes kOf normK nrm0 nrm1 zRes gRes lastOf)
open Cert.Reference2Ideal.Gen (slices_S4x4096x3632_S4x4096x256_0_0_1024 slices_S4x4096x3632_S4x4096x256_0_0_1280 slices_S4x4096x3632_S4x4096x256_0_0_1536
  slices_S4x4096x3632_S4x4096x256_0_0_1792 slices_S4x4096x3632_S4x4096x256_0_0_2048 slices_S4x4096x3632_S4x4096x256_0_0_2304)

variable (m : (ℓ : Loc nD τ sig) → Buf (Elt Ideal) ℓ) (ρ : Dev nD → PrngReg) (c : Dev nD)

/-- The product the results are parts of. -/
abbrev yy : FVec Ideal Cert.Reference2Ideal.S4x4096x3632 .f32 := prod (a0 m c) (a1 m c) (a2 m c)

section Ends
variable {m c}
variable (hx : ∀ i, IsR (a0 m c i)) (hw : ∀ i, IsR (a1 m c i)) (hW : ∀ i, IsR (a2 m c i))
include hx hw hW

theorem end_q : W11 m ρ c (Proc.devRef .tc main_v67) = qRes (yy m c) (a3 m c) :=
  (ops4 (W10 m ρ c)).1.trans ((congrArg heads (got0 m ρ c (prjQ_real hx hw hW))).trans (joinQ (a0 m c) (a1 m c) (a2 m c) (a3 m c)))
theorem end_0 : W11 m ρ c (Proc.devRef .tc main_v56) = kOf 1024 slices_S4x4096x3632_S4x4096x256_0_0_1024 (yy m c) :=
  (ops4 (W10 m ρ c)).2.1.trans ((congrArg heads4 (got1_0 m ρ c)).trans (joinK (a0 m c) (a1 m c) (a2 m c) 0 (by decide) 1024 rfl _))
theorem end_1 : W11 m ρ c (Proc.devRef .tc main_v57) = kOf 1280 slices_S4x4096x3632_S4x4096x256_0_0_1280 (yy m c) :=
  (ops4 (W10 m ρ c)).2.2.1.trans ((congrArg heads4 (got1_1 m ρ c)).trans (joinK (a0 m c) (a1 m c) (a2 m c) 256 (by decide) 1280 rfl _))
theorem end_2 : W11 m ρ c (Proc.devRef .tc main_v58) = normK (kOf 1536 slices_S4x4096x3632_S4x4096x256_0_0_1536 (yy m c)) (nrm0 (a4 m c)) :=
  (ops4 (W10 m ρ c)).2.2.2.1.trans ((congrArg heads4 (got1_2 m ρ c (prjK_real hx hw hW))).trans (joinN0 (a0 m c) (a1 m c) (a2 m c) (a4 m c) _))
theorem end_3 : W11 m ρ c (Proc.devRef .tc main_v59) = kOf 1792 slices_S4x4096x3632_S4x4096x256_0_0_1792 (yy m c) :=
  (ops4 (W10 m ρ c)).2.2.2.2.1.trans ((congrArg heads4 (got1_3 m ρ c)).trans (joinK (a0 m c) (a1 m c) (a2 m c) 768 (by decide) 1792 rfl _))
theorem end_4 : W11 m ρ c (Proc.devRef .tc main_v60) = normK (kOf 2048 slices_S4x4096x3632_S4x4096x256_0_0_2048 (yy m c)) (nrm1 (a4 m c)) :=
  (ops4 (W10 m ρ c)).2.2.2.2.2.1.trans ((congrArg heads4 (got1_4 m ρ c (prjK_real hx hw hW))).trans (joinN1 (a0 m c) (a1 m c) (a2 m c) (a4 m c) _))
theorem end_5 : W11 m ρ c (Proc.devRef .tc main_v61) = kOf 2304 slices_S4x4096x3632_S4x4096x256_0_0_2304 (yy m c) :=
  (ops4 (W10 m ρ c)).2.2.2.2.2.2.1.trans ((congrArg heads4 (got1_5 m ρ c)).trans (joinK (a0 m c) (a1 m c) (a2 m c) 1280 (by decide) 2304 rfl _))
theorem end_6 : W11 m ρ c (Proc.devRef .tc main_v68) = lastOf (normK (kOf 2048 slices_S4x4096x3632_S4x4096x256_0_0_2048 (yy m c)) (nrm1 (a4 m c))) :=
  (ops4 (W10 m ρ c)).2.2.2.2.2.2.2.1.trans
    (congrArg last ((congrArg heads4 (got1_4 m ρ c (prjK_real hx hw hW))).trans (joinN1 (a0 m c) (a1 m c) (a2 m c) (a4 m c) _)))
theorem end_7 : W11 m ρ c (Proc.devRef .tc main_v69) = lastOf (kOf 2304 slices_S4x4096x3632_S4x4096x256_0_0_2304 (yy m c)) :=
  (ops4 (W10 m ρ c)).2.2.2.2.2.2.2.2.1.trans
    (congrArg last ((congrArg heads4 (got1_5 m ρ c)).trans (joinK (a0 m c) (a1 m c) (a2 m c) 1280 (by decide) 2304 rfl _)))
theorem end_z : W11 m ρ c (Proc.devRef .tc main_v72) = zRes (yy m c) :=
  (ops4 (W10 m ρ c)).2.2.2.2.2.2.2.2.2.1.trans ((congrArg heads (got2 m ρ c)).trans (joinZ (a0 m c) (a1 m c) (a2 m c)))
theorem end_g : W11 m ρ c (Proc.devRef .tc main_v64) = gRes (yy m c) :=
  (ops4 (W10 m ρ c)).2.2.2.2.2.2.2.2.2.2.trans ((congrArg gatesOf (got3 m ρ c)).trans (joinG (a0 m c) (a1 m c) (a2 m c)))

end Ends

theorem value : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hpre hin
  have hf := fun c => Cert.Pre_finite2.finite_at _ _ _ _ _ (fun j => congrFun (hpre c) j)
  have hx : ∀ c i, IsR (a0 m c i) := fun c i => ⟨_, (hf c).1 i⟩
  have hw : ∀ c i, IsR (a1 m c i) := fun c i => ⟨_, (hf c).2.1 i⟩
  have hW : ∀ c i, IsR (a2 m c i) := fun c i => ⟨_, (hf c).2.2 i⟩
  refine ⟨fun c => qRes (yy m c) (a3 m c), fun c => kOf 1024 slices_S4x4096x3632_S4x4096x256_0_0_1024 (yy m c),
    fun c => kOf 1280 slices_S4x4096x3632_S4x4096x256_0_0_1280 (yy m c),
    fun c => normK (kOf 1536 slices_S4x4096x3632_S4x4096x256_0_0_1536 (yy m c)) (nrm0 (a4 m c)),
    fun c => kOf 1792 slices_S4x4096x3632_S4x4096x256_0_0_1792 (yy m c),
    fun c => normK (kOf 2048 slices_S4x4096x3632_S4x4096x256_0_0_2048 (yy m c)) (nrm1 (a4 m c)),
    fun c => kOf 2304 slices_S4x4096x3632_S4x4096x256_0_0_2304 (yy m c),
    fun c => lastOf (normK (kOf 2048 slices_S4x4096x3632_S4x4096x256_0_0_2048 (yy m c)) (nrm1 (a4 m c))),
    fun c => lastOf (kOf 2304 slices_S4x4096x3632_S4x4096x256_0_0_2304 (yy m c)), fun c => zRes (yy m c), fun c => gRes (yy m c), ?_, ?_⟩
  · refine (θ_run _ _ _).mono (fun r h c => ?_) (runs m ρ)
    exact ⟨(h c _ (mem_uc main_v67 (by decide))).trans (end_q ρ (hx c) (hw c) (hW c)), (h c _ (mem_uc main_v56 (by decide))).trans (end_0 ρ (hx c) (hw c) (hW c)),
      (h c _ (mem_uc main_v57 (by decide))).trans (end_1 ρ (hx c) (hw c) (hW c)), (h c _ (mem_uc main_v58 (by decide))).trans (end_2 ρ (hx c) (hw c) (hW c)),
      (h c _ (mem_uc main_v59 (by decide))).trans (end_3 ρ (hx c) (hw c) (hW c)), (h c _ (mem_uc main_v60 (by decide))).trans (end_4 ρ (hx c) (hw c) (hW c)),
      (h c _ (mem_uc main_v61 (by decide))).trans (end_5 ρ (hx c) (hw c) (hW c)), (h c _ (mem_uc main_v68 (by decide))).trans (end_6 ρ (hx c) (hw c) (hW c)),
      (h c _ (mem_uc main_v69 (by decide))).trans (end_7 ρ (hx c) (hw c) (hW c)), (h c _ (mem_uc main_v72 (by decide))).trans (end_z ρ (hx c) (hw c) (hW c)),
      (h c _ (mem_uc main_v64 (by decide))).trans (end_g ρ (hx c) (hw c) (hW c)),
      (h c _ (mem_uc main_arg0 (by decide))).trans (W11_args m ρ c main_arg0 (by decide)), (h c _ (mem_uc main_arg1 (by decide))).trans (W11_args m ρ c main_arg1 (by decide)),
      (h c _ (mem_uc main_arg2 (by decide))).trans (W11_args m ρ c main_arg2 (by decide)), (h c _ (mem_uc main_arg3 (by decide))).trans (W11_args m ρ c main_arg3 (by decide)),
      (h c _ (mem_uc main_arg4 (by decide))).trans (W11_args m ρ c main_arg4 (by decide))⟩
  · refine (θ_run _ _ _).mono (fun r h c => ?_) (θ_run_and (Cert.Reference2Ideal.Value.ran m' ρ') (Cert.Reference2Ideal.Value.run (F := Ideal) m' ρ'))
    obtain ⟨e0, e1, e2, e3, e4⟩ := hin c
    have k := h.1 c
    dsimp only at k
    rw [e0, e1, e2, e3, e4] at k
    obtain ⟨k0, k1, k2, k3, k4, k5, k6, k7, k8, k9, k10⟩ := k
    exact ⟨k0, k1, k2, k3, k4, k5, k6, k7, k8, k9, k10, (h.2 c).2.2.2.2.2.2.2.2.2.2.2⟩

end Cert.Kernel2Ideal.Gen
-- ==== Proof.OutPay.lean ====
module

public import proofs.«01_k».proof.Proof.Gen.Kernel3Ideal.Frame
public import proofs.«01_k».proof.Proof.NsaMath

@[expose] public section

set_option maxRecDepth 16384

noncomputable section

/-! The sparse-attention layer's output projection: a block, and the array the call leaves. -/

open Idealize.ShloMosaic Idealize.ShloMosaic.TcCoe Idealize.SL.Sem
open Idealize.ShloMosaic.Pipeline (Dat)
open Cert.Nsa

namespace Cert.Kernel3Ideal.Gen

/-- Four parts of a row, side by side. -/
def side (a b c d : Fin 256 → EReal) (k : Fin 1024) : EReal :=
  if h : k.val < 256 then a ⟨k, h⟩ else if h : k.val - 256 < 256 then b ⟨k - 256, h⟩
    else if h : k.val - 256 - 256 < 256 then c ⟨k - 256 - 256, h⟩ else d ⟨k - 256 - 256 - 256, by omega⟩

/-- The parts of one row side by side are the row. -/
theorem side_cut (f : Fin 1024 → EReal) (k : Fin 1024) :
    side (fun q => f ⟨q, by omega⟩) (fun q => f ⟨256 + q, by omega⟩) (fun q => f ⟨512 + q, by omega⟩) (fun q => f ⟨768 + q, by omega⟩) k = f k := by
  have hk := k.2
  unfold side
  split
  · rfl
  · split
    · exact congrArg f (Fin.ext (by simp only []; omega))
    · split
      · exact congrArg f (Fin.ext (by simp only []; omega))
      · exact congrArg f (Fin.ext (by simp only []; omega))

theorem pay (a b c d : Vec Ideal S512x256 .f32) (z x : Vec Ideal S512x1024 .f32) (W : Vec Ideal S1024x1024 .bf16) (i : Fin 512) (j : Fin 1024) :
    k0_pay1 a b c d z x W (ix2 i j)
      = x (ix2 i j) + ∑ k : Fin 1024, side (fun q => a (ix2 i q)) (fun q => b (ix2 i q)) (fun q => c (ix2 i q)) (fun q => d (ix2 i q)) k * z (ix2 i k) * W (ix2 k j) := by
  pointwise [k0_pay1]
  rfl

theorem out_is (a b c d : Vec Ideal S512x256 .f32) (z x : Vec Ideal S512x1024 .f32) (W W' : Vec Ideal S1024x1024 .bf16) :
    out0_8 a b c d z x W W' = k0_pay1 a b c d z x W := by
  unfold out0_8
  frame_out

/-- What the call leaves, from the arrays it is entered with. -/
def outArr (A B C D : FVec Ideal S16384x256 .f32) (Z X : FVec Ideal S16384x1024 .f32) (W : FVec Ideal S1024x1024 .bf16) : FVec Ideal S16384x1024 .f32 :=
  fun i => X i + ∑ k : Fin 1024, side (fun q => A (ix2 (i 0) q)) (fun q => B (ix2 (i 0) q)) (fun q => C (ix2 (i 0) q)) (fun q => D (ix2 (i 0) q)) k
    * Z (ix2 (i 0) k) * W (ix2 k (i 1))

/-- The token of a row of a point's block. -/
def tok (t : ℕ) (ht : t < 32) (i : Fin 512) : Fin 16384 := ⟨512 * t + i, by omega⟩

variable (m : (ℓ : Loc nD τ sig) → Buf (Elt Ideal) ℓ) (c : Dev nD)

theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel
theorem idx_4 : ∀ t : Fin grid0.N, win0_4.index t 0 = t.val ∧ win0_4.index t 1 = 0 := by decide +kernel
theorem idx_5 : ∀ t : Fin grid0.N, win0_5.index t 0 = t.val ∧ win0_5.index t 1 = 0 := by decide +kernel
theorem idx_6 : ∀ t : Fin grid0.N, win0_6.index t 0 = 0 ∧ win0_6.index t 1 = 0 := by decide +kernel
theorem idx_8 : ∀ t : Fin grid0.N, win0_8.index t 0 = t.val ∧ win0_8.index t 1 = 0 := by decide +kernel

theorem blk_0 (t : Fin cfg0.N) (i : Fin 512) (j : Fin 256) :
    iblk m c 0 t (ix2 i j) = Gen.V m c main_v6 (ix2 (tok t (show t.val < 32 from t.2) i) j) := by
  obtain ⟨e0, e1⟩ := idx_0 t
  blk_simp [iblk]
  blk_ext [e0, e1, tok]

theorem blk_1 (t : Fin cfg0.N) (i : Fin 512) (j : Fin 256) :
    iblk m c 1 t (ix2 i j) = Gen.V m c main_v7 (ix2 (tok t (show t.val < 32 from t.2) i) j) := by
  obtain ⟨e0, e1⟩ := idx_1 t
  blk_simp [iblk]
  blk_ext [e0, e1, tok]

theorem blk_2 (t : Fin cfg0.N) (i : Fin 512) (j : Fin 256) :
    iblk m c 2 t (ix2 i j) = Gen.V m c main_v8 (ix2 (tok t (show t.val < 32 from t.2) i) j) := by
  obtain ⟨e0, e1⟩ := idx_2 t
  blk_simp [iblk]
  blk_ext [e0, e1, tok]

theorem blk_3 (t : Fin cfg0.N) (i : Fin 512) (j : Fin 256) :
    iblk m c 3 t (ix2 i j) = Gen.V m c main_v9 (ix2 (tok t (show t.val < 32 from t.2) i) j) := by
  obtain ⟨e0, e1⟩ := idx_3 t
  blk_simp [iblk]
  blk_ext [e0, e1, tok]

theorem blk_4 (t : Fin cfg0.N) (i : Fin 512) (j : Fin 1024) :
    iblk m c 4 t (ix2 i j) = Gen.V m c main_v12 (ix2 (tok t (show t.val < 32 from t.2) i) j) := by
  obtain ⟨e0, e1⟩ := idx_4 t
  blk_simp [iblk]
  blk_ext [e0, e1, tok]

theorem blk_5 (t : Fin cfg0.N) (i : Fin 512) (j : Fin 1024) :
    iblk m c 5 t (ix2 i j) = Gen.V m c main_v13 (ix2 (tok t (show t.val < 32 from t.2) i) j) := by
  obtain ⟨e0, e1⟩ := idx_5 t
  blk_simp [iblk]
  blk_ext [e0, e1, tok]

theorem blk_6 (t : Fin cfg0.N) (i j : Fin 1024) : iblk m c 6 t (ix2 i j) = Gen.V m c main_v14 (ix2 i j) := by
  obtain ⟨e0, e1⟩ := idx_6 t
  blk_simp [iblk]
  blk_ext [e0, e1]

theorem val8 (t : Fin cfg0.N) (i : Fin 512) (j : Fin 1024) :
    out0_8 (iblk m c 0 t) (iblk m c 1 t) (iblk m c 2 t) (iblk m c 3 t) (iblk m c 4 t) (iblk m c 5 t) (iblk m c 6 t) (iblk m c 7 t) (ix2 i j)
      = outArr (Gen.V m c main_v6) (Gen.V m c main_v7) (Gen.V m c main_v8) (Gen.V m c main_v9) (Gen.V m c main_v12) (Gen.V m c main_v13) (Gen.V m c main_v14)
          (ix2 (tok t (show t.val < 32 from t.2) i) j) := by
  rw [out_is]
  refine (pay _ _ _ _ _ _ _ i j).trans ?_
  simp only [blk_0, blk_1, blk_2, blk_3, blk_4, blk_5, blk_6]
  rfl

theorem left8 : (dats m 0 c).arrAt 8 cfg0.N
    = outArr (Gen.V m c main_v6) (Gen.V m c main_v7) (Gen.V m c main_v8) (Gen.V m c main_v9) (Gen.V m c main_v12) (Gen.V m c main_v13) (Gen.V m c main_v14) := by
  refine (dats m 0 c).arrAt_eq_of_covers 8 _ (by decide +kernel) fun t hf y => ?_
  obtain ⟨e0, e1⟩ := idx_8 t
  obtain ⟨i, j, rfl⟩ : ∃ (i : Fin 512) (j : Fin 1024), y = ix2 i j := ⟨_, _, eq_ix2 y⟩
  refine Eq.trans ?_ (congrArg (outArr (Gen.V m c main_v6) (Gen.V m c main_v7) (Gen.V m c main_v8) (Gen.V m c main_v9) (Gen.V m c main_v12) (Gen.V m c main_v13)
    (Gen.V m c main_v14)) (show ix2 (tok t (show t.val < 32 from t.2) i) j = _ by blk_ext [e0, e1, tok]))
  blk_simp
  rw [after0_8]
  exact val8 m c t i j

end Cert.Kernel3Ideal.Gen
-- ==== Proof.OutValue.lean ====
module

public import proofs.«01_k».proof.Defs
public import proofs.«01_k».proof.Proof.Gen.Reference3Ideal.Run
public import proofs.«01_k».proof.Proof.OutPay

@[expose] public section

set_option maxRecDepth 16384

noncomputable section

/-! The sparse-attention layer's output projection: the host's reordering of the heads around the call, and the
kernel's result as the reference's. -/

open Idealize.ShloMosaic Idealize.ShloMosaic.TcCoe Idealize.SL.Sem
open Idealize.ShloMosaic.Pipeline (Dat)
open Cert.Nsa

namespace Cert.Kernel3Ideal.Gen

/-- Token rows, heads in the kernel's order (the place in the group first). -/
def rowsO (o : FVec Ideal S4x4096x16x64 .f32) : FVec Ideal S16384x1024 .f32 :=
  shapeCast S16384x1024 (transpose S16384x4x4x64 [0, 2, 1, 3] (shapeCast S16384x4x4x64 o shapeCasts_S4x4096x16x64_S16384x4x4x64)
    transposes_S16384x4x4x64_S16384x4x4x64_0_2_1_3) shapeCasts_S16384x4x4x64_S16384x1024

/-- The weights' rows in the same order. -/
def rowsW (w : FVec Ideal S1024x1024 .f32) : FVec Ideal S1024x1024 .f32 :=
  shapeCast S1024x1024 (transpose S4x4x64x1024 [1, 0, 2, 3] (shapeCast S4x4x64x1024 w shapeCasts_S1024x1024_S4x4x64x1024)
    transposes_S4x4x64x1024_S4x4x64x1024_1_0_2_3) shapeCasts_S4x4x64x1024_S1024x1024

/-- The column a column is taken from: the head's two places exchanged. -/
def swap (k : Fin 1024) : Fin 1024 := ⟨256 * (k / 64 % 4) + 64 * (k / 256) + k % 64, by omega⟩

theorem swap_swap (k : Fin 1024) : swap (swap k) = k := by
  have hk := k.2
  have h1 : (256 * (k.val / 64 % 4) + 64 * (k.val / 256) + k.val % 64) / 64 % 4 = k.val / 256 := by
    rw [show 256 * (k.val / 64 % 4) + 64 * (k.val / 256) + k.val % 64 = 64 * (4 * (k.val / 64 % 4) + k.val / 256) + k.val % 64 by omega]
    omega
  have h2 : (256 * (k.val / 64 % 4) + 64 * (k.val / 256) + k.val % 64) / 256 = k.val / 64 % 4 := by omega
  have h3 : (256 * (k.val / 64 % 4) + 64 * (k.val / 256) + k.val % 64) % 64 = k.val % 64 := by omega
  refine Fin.ext ?_
  simp only [swap]
  rw [h1, h2, h3]
  omega

theorem rowsO_at (o : FVec Ideal S4x4096x16x64 .f32) (b : Fin 4) (t : Fin 4096) (k : Fin 1024) :
    rowsO o (ix2 ⟨4096 * b + t, by omega⟩ k) = o (ix4 b t ⟨swap k / 64, by omega⟩ ⟨swap k % 64, by omega⟩) := by
  pointwise [rowsO]
  refine congrArg o ?_
  blk_ext [swap]

theorem rowsW_at (w : FVec Ideal S1024x1024 .f32) (k j : Fin 1024) : rowsW w (ix2 k j) = w (ix2 (swap k) j) := by
  pointwise [rowsW]
  refine congrArg w ?_
  blk_ext [swap]

section Launch
variable (m : (ℓ : Loc nD τ sig) → Buf (Elt Ideal) ℓ) (c : Dev nD)

/-- The arguments. -/
abbrev a0 : FVec Ideal S4x4096x16x64 .f32 := m ((c : Thread nD τ).loc main_arg0)
abbrev a1 : FVec Ideal S4x4096x16x64 .f32 := m ((c : Thread nD τ).loc main_arg1)
abbrev a2 : FVec Ideal S4x4096x1024 .f32 := m ((c : Thread nD τ).loc main_arg2)
abbrev a3 : FVec Ideal S1024x1024 .f32 := m ((c : Thread nD τ).loc main_arg3)

theorem in_o : Gen.V m c main_v6 = extractStridedSlice S16384x256 ![0, 0] (rowsO (a0 m c)) slices_S16384x1024_S16384x256_0_0
    ∧ Gen.V m c main_v7 = extractStridedSlice S16384x256 ![0, 256] (rowsO (a0 m c)) slices_S16384x1024_S16384x256_0_256
    ∧ Gen.V m c main_v8 = extractStridedSlice S16384x256 ![0, 512] (rowsO (a0 m c)) slices_S16384x1024_S16384x256_0_512
    ∧ Gen.V m c main_v9 = extractStridedSlice S16384x256 ![0, 768] (rowsO (a0 m c)) slices_S16384x1024_S16384x256_0_768 := by
  refine ⟨?_, ?_, ?_, ?_⟩ <;>
  · unfold Gen.V V0
    simp only [hostOps0, List.flatten_cons, List.flatten_nil, List.append_nil]
    after_results
    rfl

theorem in_z : Gen.V m c main_v12 = rowsO (a1 m c) ∧ Gen.V m c main_v13 = shapeCast S16384x1024 (a2 m c) shapeCasts_S4x4096x1024_S16384x1024
    ∧ Gen.V m c main_v14 = (rowsW (a3 m c) : FVec Ideal S1024x1024 .f32) := by
  refine ⟨?_, ?_, ?_⟩ <;>
  · unfold Gen.V V0
    simp only [hostOps0, List.flatten_cons, List.flatten_nil, List.append_nil]
    after_results
    rfl

theorem tail_v19 (W : Valuation τ sig (Elt Ideal)) :
    StableHlo.after hostOps1 W (Proc.devRef .tc main_v19) = shapeCast S4x4096x1024 (W (Proc.devRef .tc main_v18)) shapeCasts_S16384x1024_S4x4096x1024 := by
  unfold hostOps1
  after_results
  rfl

theorem end_v19 :
    Pipeline.afterTail₀ cfgs (dats m) 0 (V0 m) [hostOps1] c main_v19 = shapeCast S4x4096x1024 ((dats m 0 c).arrAt 8 cfg0.N) shapeCasts_S16384x1024_S4x4096x1024 := by
  unfold Pipeline.afterTail₀
  refine (tail_v19 _).trans (congrArg (fun u => shapeCast S4x4096x1024 u shapeCasts_S16384x1024_S4x4096x1024) ?_)
  exact Pipeline.withArrays_arr (cfgs 0).spec launch0.win.arr_inj c _ (fun w => (dats m 0 c).arrAt w (cfgs 0).N) 8

/-- An entry of the parts of a row, side by side. -/
theorem side_parts (O : FVec Ideal S16384x1024 .f32) (r : Fin 16384) (k : Fin 1024) :
    side (fun q => extractStridedSlice S16384x256 ![0, 0] O slices_S16384x1024_S16384x256_0_0 (ix2 r q))
      (fun q => extractStridedSlice S16384x256 ![0, 256] O slices_S16384x1024_S16384x256_0_256 (ix2 r q))
      (fun q => extractStridedSlice S16384x256 ![0, 512] O slices_S16384x1024_S16384x256_0_512 (ix2 r q))
      (fun q => extractStridedSlice S16384x256 ![0, 768] O slices_S16384x1024_S16384x256_0_768 (ix2 r q)) k = O (ix2 r k) := by
  refine Eq.trans ?_ (side_cut (fun k => O (ix2 r k)) k)
  congr 1 <;> (funext q; pointwise; try (refine congrArg O ?_; blk_ext))

end Launch

/-- The reference's result. -/
def refOut (o sz : FVec Ideal S4x4096x16x64 .f32) (x : FVec Ideal S4x4096x1024 .f32) (w : FVec Ideal S1024x1024 .f32) : FVec Ideal S4x4096x1024 .f32 :=
  addf x (Host.dotGeneral Cert.Reference3Ideal.dot_S4x4096x1024_S1024x1024_S4x4096x1024_2_0_01_1_n_n none
    (mulf (shapeCast _ o Cert.Reference3Ideal.Gen.shapeCasts_S4x4096x16x64_S4x4096x1024) (shapeCast _ sz Cert.Reference3Ideal.Gen.shapeCasts_S4x4096x16x64_S4x4096x1024)) w)

theorem refOut_at (o sz : FVec Ideal S4x4096x16x64 .f32) (x : FVec Ideal S4x4096x1024 .f32) (w : FVec Ideal S1024x1024 .f32) (b : Fin 4) (t : Fin 4096) (j : Fin 1024) :
    refOut o sz x w (ix3 b t j) = x (ix3 b t j) + ∑ k : Fin 1024, o (ix4 b t ⟨k / 64, by omega⟩ ⟨k % 64, by omega⟩) * sz (ix4 b t ⟨k / 64, by omega⟩ ⟨k % 64, by omega⟩) * w (ix2 k j) := by
  pointwise [refOut]

theorem join (m : (ℓ : Loc nD τ sig) → Buf (Elt Ideal) ℓ) (c : Dev nD) :
    shapeCast S4x4096x1024 ((dats m 0 c).arrAt 8 cfg0.N) shapeCasts_S16384x1024_S4x4096x1024 = refOut (a0 m c) (a1 m c) (a2 m c) (a3 m c) := by
  rw [left8]
  funext y
  obtain ⟨b, t, j, rfl⟩ : ∃ (b : Fin 4) (t : Fin 4096) (j : Fin 1024), y = ix3 b t j := ⟨_, _, _, eq_ix3 y⟩
  rw [refOut_at]
  have e : shapeCast S4x4096x1024 (outArr (Gen.V m c main_v6) (Gen.V m c main_v7) (Gen.V m c main_v8) (Gen.V m c main_v9) (Gen.V m c main_v12) (Gen.V m c main_v13)
      (Gen.V m c main_v14)) shapeCasts_S16384x1024_S4x4096x1024 (ix3 b t j)
      = outArr (Gen.V m c main_v6) (Gen.V m c main_v7) (Gen.V m c main_v8) (Gen.V m c main_v9) (Gen.V m c main_v12) (Gen.V m c main_v13)
      (Gen.V m c main_v14) (ix2 ⟨4096 * b + t, by omega⟩ j) := by
    generalize outArr _ _ _ _ _ _ _ = f
    pointwise
    refine congrArg f ?_
    blk_ext
  refine e.trans ?_
  rw [(in_o m c).1, (in_o m c).2.1, (in_o m c).2.2.1, (in_o m c).2.2.2, (in_z m c).1, (in_z m c).2.1, (in_z m c).2.2]
  show shapeCast S16384x1024 (a2 m c) shapeCasts_S4x4096x1024_S16384x1024 (ix2 ⟨4096 * b + t, by omega⟩ j) + ∑ k : Fin 1024, _ = _
  refine congrArg₂ (· + ·) ?_ ?_
  · generalize a2 m c = f
    pointwise
  · refine Eq.trans (Finset.sum_congr rfl fun k _ => ?_) (Equiv.sum_comp (Function.Involutive.toPerm swap swap_swap) _)
    refine congrArg₂ (· * ·) (congrArg₂ (· * ·) ?_ ?_) ?_
    · exact (side_parts _ _ k).trans (rowsO_at _ b t k)
    · exact rowsO_at _ b t k
    · exact rowsW_at _ k j

theorem value : Cert.algebraic_Kernel3Ideal_Reference3Ideal (hKernel3Ideal := Cert.Kernel3Ideal.Gen.facts)
    (hReference3Ideal := Cert.Reference3Ideal.Gen.facts) := by
  intro m ρ m' ρ' _ hin
  refine ⟨fun c => refOut (a0 m c) (a1 m c) (a2 m c) (a3 m c), ?_, ?_⟩
  · refine (θ_run _ _ _).mono (fun r h c => ?_) (θ_run_and (run_main (F := Ideal) m ρ) (unchanged (F := Ideal) m ρ))
    exact ⟨((h.1 c).2 Cert.Kernel3Ideal.main_v19 (Pipeline.mem_restRefs_of _ (by decide) (by decide))).trans ((end_v19 m c).trans (join m c)), h.2 c⟩
  · refine (θ_run _ _ _).mono (fun r h c => ?_) (Cert.Reference3Ideal.Value.run (F := Ideal) m' ρ')
    obtain ⟨e0, e1, e2, e3⟩ := hin c
    refine ⟨(h c).1.trans ?_, (h c).2⟩
    rw [e0, e1, e2, e3]
    rfl

end Cert.Kernel3Ideal.Gen
-- ==== Proof.MixPay.lean ====
module

public import proofs.«01_k».proof.Proof.Gen.Kernel4Ideal.Frame
public import proofs.«01_k».proof.Proof.NsaMath

@[expose] public section

set_option maxRecDepth 16384

noncomputable section

/-! The recurrent layer's output: a block of the norm by head, the bonus, the gate and the product. -/

open Idealize.ShloMosaic Idealize.ShloMosaic.TcCoe Idealize.SL.Sem
open Cert.Nsa

namespace Cert.Kernel4Ideal.Gen

/-- The sum over the columns of a column's head. -/
def seg (q : Fin 1024 → EReal) (j : Fin 1024) : EReal := ∑ r : Fin 1024, if (r : ℕ) / 64 = (j : ℕ) / 64 then q r else 0

/-- A value less its head's mean. -/
def cen (y : Fin 1024 → EReal) (j : Fin 1024) : EReal := y j - Ideal.div (seg y j) (Ideal.ofBits FTy.f32 1115684864#32)

/-- The head's norm, with its scale and shift. -/
def nrm (y : Fin 1024 → EReal) (j : Fin 1024) (w b : EReal) : EReal :=
  cen y j * Ideal.rsqrt (Ideal.div (seg (fun r => cen y r * cen y r) j) (Ideal.ofBits FTy.f32 1115684864#32) + Ideal.ofBits FTy.f32 975685036#32) * w + b

theorem sub_real {a b : EReal} (ha : IsR a) (hb : IsR b) : IsR (a - b) := by
  obtain ⟨x, rfl⟩ := ha; obtain ⟨y, rfl⟩ := hb; exact ⟨x - y, by norm_cast⟩

theorem seg_real {q : Fin 1024 → EReal} (h : ∀ j, IsR (q j)) (j : Fin 1024) : IsR (seg q j) :=
  IsR.sum fun r => by
    split
    · exact h r
    · exact ⟨0, rfl⟩

theorem cen_real {y : Fin 1024 → EReal} (h : ∀ j, IsR (y j)) (j : Fin 1024) : IsR (cen y j) := by
  unfold cen
  rw [← mul64]
  exact sub_real (h j) ((seg_real h j).mul ⟨_, c64i⟩)

theorem sel_head (r : Fin 1024) (l : Fin 128) (u v : EReal) :
    Scalar.select (IntOp.cmpi CmpIPredicate.eq (IntOp.shrui ArithUnit.vector (BitVec.ofNat 32 r) 6#32) (BitVec.ofNat 32 l)) u v
      = if (r : ℕ) / 64 = (l : ℕ) then u else v := sel_eq r l (by omega) (by omega) _ _

theorem cen_at (y : Vec Ideal S512x1024 .f32) (i : Fin 512) (j : Fin 1024) (hy : ∀ j, IsR (y (ix2 i j))) :
    k0_pay4 y (ix2 i j) = cen (fun r => y (ix2 i r)) j := by
  have s := seg_two (fun r => y (ix2 i r)) hy ((j : ℕ) / 64) (by omega)
  pointwise [k0_pay4, k0_pay2, k0_pay3]
  simp only [sel_head]
  rw [s, mul64]
  rfl

theorem nrm_at (y : Vec Ideal S512x1024 .f32) (w b : Vec Ideal S1x1024 .f32) (i : Fin 512) (j : Fin 1024) (hy : ∀ j, IsR (y (ix2 i j))) :
    k0_pay9 (k0_pay3 (F := Ideal)) (k0_pay4 y) (k0_pay7 y) (k0_pay8 y) w b (ix2 i j) = nrm (fun r => y (ix2 i r)) j (w (ix2 0 j)) (b (ix2 0 j)) := by
  have s := seg_two (fun r => cen (fun r => y (ix2 i r)) r * cen (fun r => y (ix2 i r)) r) (fun r => (cen_real hy r).mul (cen_real hy r)) ((j : ℕ) / 64) (by omega)
  pointwise [k0_pay9, k0_pay7, k0_pay8, k0_pay6, k0_pay5, k0_pay2, k0_pay3]
  simp only [sel_head, cen_at y i _ hy]
  rw [s, mul64]
  rfl

theorem bon_at (r k : Vec Ideal S512x1024 .f32) (a : Vec Ideal S1x1024 .f32) (D : FVec Ideal S512x1024 .f32) (v z x : Vec Ideal S512x1024 .f32) (W : Vec Ideal S1024x1024 .bf16)
    (i : Fin 512) (j : Fin 1024) (hq : ∀ j, IsR (r (ix2 i j) * k (ix2 i j) * a (ix2 0 j))) :
    k0_pay1 (k0_pay3 (F := Ideal)) D v (k0_pay11 (k0_pay2 (F := Ideal)) r k a) (k0_pay12 (k0_pay2 (F := Ideal)) r k a) (k0_pay13 (k0_pay2 (F := Ideal)) r k a) z x W (ix2 i j)
      = x (ix2 i j) + ∑ l : Fin 1024, (D (ix2 i l) + seg (fun c => r (ix2 i c) * k (ix2 i c) * a (ix2 0 c)) l * v (ix2 i l)) * z (ix2 i l) * W (ix2 l j) := by
  have s := fun l : Fin 1024 => seg_two (fun c => r (ix2 i c) * k (ix2 i c) * a (ix2 0 c)) hq ((l : ℕ) / 64) (by omega)
  pointwise [k0_pay1, k0_pay11, k0_pay12, k0_pay13, k0_pay2, k0_pay3]
  simp only [sel_head]
  simp only [s]
  rfl

theorem out_is (x0 x1 x2 x3 x4 x5 : Vec Ideal S512x1024 .f32) (x6 : Vec Ideal S8x1024 .f32) (x7 x8 : Vec Ideal S1024x1024 .bf16) :
    out0_9 x0 x1 x2 x3 x4 x5 x6 x7 x8 = k0_pay1 (k0_pay3 (F := Ideal))
      (k0_pay9 (k0_pay3 (F := Ideal)) (k0_pay4 x0) (k0_pay7 x0) (k0_pay8 x0) (View.ld x6 r0_1) (View.ld x6 r0_2)) x3
      (k0_pay11 (k0_pay2 (F := Ideal)) x1 x2 (View.ld x6 r0_3)) (k0_pay12 (k0_pay2 (F := Ideal)) x1 x2 (View.ld x6 r0_3))
      (k0_pay13 (k0_pay2 (F := Ideal)) x1 x2 (View.ld x6 r0_3)) x4 x5 x7 := by
  have e : k0_pay10 x3 = x3 := by
    funext y
    obtain ⟨i, j, rfl⟩ : ∃ (i : Fin 512) (j : Fin 1024), y = ix2 i j := ⟨_, _, eq_ix2 y⟩
    pointwise [k0_pay10]
  refine Eq.trans ?_ (congrArg (fun v => k0_pay1 (k0_pay3 (F := Ideal))
      (k0_pay9 (k0_pay3 (F := Ideal)) (k0_pay4 x0) (k0_pay7 x0) (k0_pay8 x0) (View.ld x6 r0_1) (View.ld x6 r0_2)) v
      (k0_pay11 (k0_pay2 (F := Ideal)) x1 x2 (View.ld x6 r0_3)) (k0_pay12 (k0_pay2 (F := Ideal)) x1 x2 (View.ld x6 r0_3))
      (k0_pay13 (k0_pay2 (F := Ideal)) x1 x2 (View.ld x6 r0_3)) x4 x5 x7) e)
  unfold_out out0_9
  frame_out

theorem row_at (A : Vec Ideal S8x1024 .f32) (j : Fin 1024) :
    View.ld A r0_1 (ix2 0 j) = A (ix2 1 j) ∧ View.ld A r0_2 (ix2 0 j) = A (ix2 2 j) ∧ View.ld A r0_3 (ix2 0 j) = A (ix2 0 j) := by
  refine ⟨?_, ?_, ?_⟩ <;> pointwise

/-- What the call leaves, from the arrays it is entered with. -/
def mixArr {n : ℕ} (Y R K V Z X : (⟨2, ![n, 1024]⟩ : Shape).Idx → EReal) (A : (⟨2, ![8, 1024]⟩ : Shape).Idx → EReal) (W : (⟨2, ![1024, 1024]⟩ : Shape).Idx → EReal)
    (i : Fin n) (j : Fin 1024) : EReal :=
  X (ix2 i j) + ∑ l : Fin 1024, (nrm (fun r => Y (ix2 i r)) l (A (ix2 1 l)) (A (ix2 2 l))
    + seg (fun c => R (ix2 i c) * K (ix2 i c) * A (ix2 0 c)) l * V (ix2 i l)) * Z (ix2 i l) * W (ix2 l j)

theorem out_at (x0 x1 x2 x3 x4 x5 : Vec Ideal S512x1024 .f32) (x6 : Vec Ideal S8x1024 .f32) (x7 x8 : Vec Ideal S1024x1024 .bf16) (i : Fin 512) (j : Fin 1024)
    (hy : ∀ j, IsR (x0 (ix2 i j))) (hq : ∀ j, IsR (x1 (ix2 i j) * x2 (ix2 i j) * x6 (ix2 0 j))) :
    out0_9 x0 x1 x2 x3 x4 x5 x6 x7 x8 (ix2 i j) = mixArr x0 x1 x2 x3 x4 x5 x6 x7 i j := by
  rw [out_is]
  refine (bon_at _ _ _ _ _ _ _ _ i j fun j => by rw [(row_at x6 j).2.2]; exact hq j).trans ?_
  unfold mixArr
  refine congrArg (x5 (ix2 i j) + ·) (Finset.sum_congr rfl fun l _ => congrArg (· * x4 (ix2 i l) * x7 (ix2 l j)) ?_)
  refine congrArg₂ (· + ·) ?_ (congrArg (fun f => seg f l * x3 (ix2 i l)) (funext fun c => congrArg (x1 (ix2 i c) * x2 (ix2 i c) * ·) (row_at x6 c).2.2))
  refine (nrm_at x0 _ _ i l hy).trans ?_
  rw [(row_at x6 l).1, (row_at x6 l).2.1]

/-- The token of a row of a point's block. -/
def tok (t : ℕ) (ht : t < 32) (i : Fin 512) : Fin 16384 := ⟨512 * t + i, by omega⟩

variable (m : (ℓ : Loc nD τ sig) → Buf (Elt Ideal) ℓ) (c : Dev nD)

theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel
theorem idx_4 : ∀ t : Fin grid0.N, win0_4.index t 0 = t.val ∧ win0_4.index t 1 = 0 := by decide +kernel
theorem idx_5 : ∀ t : Fin grid0.N, win0_5.index t 0 = t.val ∧ win0_5.index t 1 = 0 := by decide +kernel
theorem idx_6 : ∀ t : Fin grid0.N, win0_6.index t 0 = 0 ∧ win0_6.index t 1 = 0 := by decide +kernel
theorem idx_7 : ∀ t : Fin grid0.N, win0_7.index t 0 = 0 ∧ win0_7.index t 1 = 0 := by decide +kernel
theorem idx_9 : ∀ t : Fin grid0.N, win0_9.index t 0 = t.val ∧ win0_9.index t 1 = 0 := by decide +kernel

theorem blk_0 (t : Fin cfg0.N) (i : Fin 512) (j : Fin 1024) :
    iblk m c 0 t (ix2 i j) = Gen.V m c main_v11 (ix2 (tok t (show t.val < 32 from t.2) i) j) := by
  obtain ⟨e0, e1⟩ := idx_0 t
  blk_simp [iblk]
  blk_ext [e0, e1, tok]

theorem blk_1 (t : Fin cfg0.N) (i : Fin 512) (j : Fin 1024) :
    iblk m c 1 t (ix2 i j) = Gen.V m c main_v12 (ix2 (tok t (show t.val < 32 from t.2) i) j) := by
  obtain ⟨e0, e1⟩ := idx_1 t
  blk_simp [iblk]
  blk_ext [e0, e1, tok]

theorem blk_2 (t : Fin cfg0.N) (i : Fin 512) (j : Fin 1024) :
    iblk m c 2 t (ix2 i j) = Gen.V m c main_v13 (ix2 (tok t (show t.val < 32 from t.2) i) j) := by
  obtain ⟨e0, e1⟩ := idx_2 t
  blk_simp [iblk]
  blk_ext [e0, e1, tok]

theorem blk_3 (t : Fin cfg0.N) (i : Fin 512) (j : Fin 1024) :
    iblk m c 3 t (ix2 i j) = Gen.V m c main_v14 (ix2 (tok t (show t.val < 32 from t.2) i) j) := by
  obtain ⟨e0, e1⟩ := idx_3 t
  blk_simp [iblk]
  blk_ext [e0, e1, tok]

theorem blk_4 (t : Fin cfg0.N) (i : Fin 512) (j : Fin 1024) :
    iblk m c 4 t (ix2 i j) = Gen.V m c main_v15 (ix2 (tok t (show t.val < 32 from t.2) i) j) := by
  obtain ⟨e0, e1⟩ := idx_4 t
  blk_simp [iblk]
  blk_ext [e0, e1, tok]

theorem blk_5 (t : Fin cfg0.N) (i : Fin 512) (j : Fin 1024) :
    iblk m c 5 t (ix2 i j) = Gen.V m c main_v16 (ix2 (tok t (show t.val < 32 from t.2) i) j) := by
  obtain ⟨e0, e1⟩ := idx_5 t
  blk_simp [iblk]
  blk_ext [e0, e1, tok]

theorem blk_6 (t : Fin cfg0.N) (i : Fin 8) (j : Fin 1024) : iblk m c 6 t (ix2 i j) = Gen.V m c main_v10 (ix2 i j) := by
  obtain ⟨e0, e1⟩ := idx_6 t
  blk_simp [iblk]
  blk_ext [e0, e1]

theorem blk_7 (t : Fin cfg0.N) (i j : Fin 1024) : iblk m c 7 t (ix2 i j) = Gen.V m c main_v17 (ix2 i j) := by
  obtain ⟨e0, e1⟩ := idx_7 t
  blk_simp [iblk]
  blk_ext [e0, e1]

/-- The array the call leaves. -/
def mixed : FVec Ideal S16384x1024 .f32 :=
  fun i => mixArr (Gen.V m c main_v11) (Gen.V m c main_v12) (Gen.V m c main_v13) (Gen.V m c main_v14) (Gen.V m c main_v15) (Gen.V m c main_v16) (Gen.V m c main_v10)
    (Gen.V m c main_v17) (i 0) (i 1)

section Real
variable (hy : ∀ i, IsR (Gen.V m c main_v11 i)) (hr : ∀ i, IsR (Gen.V m c main_v12 i)) (hk : ∀ i, IsR (Gen.V m c main_v13 i))
  (ha : ∀ j : Fin 1024, IsR (Gen.V m c main_v10 (ix2 0 j)))
include hy hr hk ha

theorem val9 (t : Fin cfg0.N) (i : Fin 512) (j : Fin 1024) :
    out0_9 (iblk m c 0 t) (iblk m c 1 t) (iblk m c 2 t) (iblk m c 3 t) (iblk m c 4 t) (iblk m c 5 t) (iblk m c 6 t) (iblk m c 7 t) (iblk m c 8 t) (ix2 i j)
      = mixed m c (ix2 (tok t (show t.val < 32 from t.2) i) j) := by
  refine (out_at _ _ _ _ _ _ _ _ _ i j (fun j => ?_) fun j => ?_).trans ?_
  · rw [blk_0]; exact hy _
  · rw [blk_1, blk_2, blk_6]; exact ((hr _).mul (hk _)).mul (ha j)
  · unfold mixArr
    simp only [blk_0, blk_1, blk_2, blk_3, blk_4, blk_5, blk_6, blk_7]
    rfl

theorem left9 : (dats m 0 c).arrAt 9 cfg0.N = mixed m c := by
  refine (dats m 0 c).arrAt_eq_of_covers 9 _ (by decide +kernel) fun t hf y => ?_
  obtain ⟨e0, e1⟩ := idx_9 t
  obtain ⟨i, j, rfl⟩ : ∃ (i : Fin 512) (j : Fin 1024), y = ix2 i j := ⟨_, _, eq_ix2 y⟩
  refine Eq.trans ?_ (congrArg (mixed m c) (show ix2 (tok t (show t.val < 32 from t.2) i) j = _ by blk_ext [e0, e1, tok]))
  blk_simp
  rw [after0_9]
  exact val9 m c hy hr hk ha t i j

end Real

end Cert.Kernel4Ideal.Gen
-- ==== Proof.MixRef.lean ====
module

public import proofs.«01_k».proof.Proof.Gen.Reference4Ideal.Run
public import proofs.«01_k».proof.Proof.NsaMath

@[expose] public section

set_option maxRecDepth 16384

noncomputable section

/-! The recurrent layer's output as the model writes it, entry by entry. -/

open Idealize.ShloMosaic Idealize.ShloMosaic.TcCoe Idealize.SL.Sem
open Cert.Nsa Cert.Reference4Ideal.Gen

namespace Cert.Reference4Ideal.Value

/-- The heads of the rows. -/
def hd (y : FVec Ideal S4x4096x1024 .f32) : FVec Ideal S4x4096x16x64 .f32 := shapeCast S4x4096x16x64 y shapeCasts_S4x4096x1024_S4x4096x16x64

/-- The sum over a head. -/
def tot (y : FVec Ideal S4x4096x16x64 .f32) : FVec Ideal S4x4096x16x1 .f32 :=
  broadcastInDim S4x4096x16x1 ![0, 1, 2] bcast_S4x4096x16_S4x4096x16x1_0_1_2 (Host.reduceAdd y (constant S_ .f32 0x00000000#32) reducesTo_S4x4096x16x64_S4x4096x16_d3 h_S_)

/-- The mean over a head. -/
def mean (y : FVec Ideal S4x4096x16x64 .f32) : FVec Ideal S4x4096x16x1 .f32 :=
  Host.divf (tot y) (broadcastInDim S4x4096x16x1 ![] bcast_S_S4x4096x16x1 (constant S_ .f32 0x42800000#32))

/-- A value of a head, for each place of the head. -/
def each (y : FVec Ideal S4x4096x16x1 .f32) : FVec Ideal S4x4096x16x64 .f32 :=
  broadcastInDim S4x4096x16x64 ![0, 1, 2, 3] bcast_S4x4096x16x1_S4x4096x16x64_0_1_2_3 y

/-- Less the mean. -/
def less (y : FVec Ideal S4x4096x16x64 .f32) : FVec Ideal S4x4096x16x64 .f32 := subf y (each (mean y))

/-- The head's norm. -/
def norm (y : FVec Ideal S4x4096x16x64 .f32) : FVec Ideal S4x4096x16x64 .f32 :=
  mulf (less y) (each (Host.rsqrt (addf (mean (mulf (less y) (less y))) (broadcastInDim S4x4096x16x1 ![] bcast_S_S4x4096x16x1 (constant S_ .f32 0x3A27C5AC#32)))))

/-- Rows of the heads. -/
def flat (y : FVec Ideal S4x4096x16x64 .f32) : FVec Ideal S4x4096x1024 .f32 := shapeCast S4x4096x1024 y shapeCasts_S4x4096x16x64_S4x4096x1024

/-- A vector for each row. -/
def rows (w : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 w)

/-- The norm with its scale and shift. -/
def scaled (y : FVec Ideal S4x4096x1024 .f32) (w b : FVec Ideal S1024 .f32) : FVec Ideal S4x4096x1024 .f32 :=
  addf (mulf (flat (norm (hd y))) (rows w)) (rows b)

/-- The products whose sum over a head the bonus takes. -/
def trip (r k : FVec Ideal S4x4096x1024 .f32) (a : FVec Ideal S16x64 .f32) : FVec Ideal S4x4096x16x64 .f32 :=
  mulf (mulf (hd r) (hd k)) (broadcastInDim S4x4096x16x64 ![0, 1, 2, 3] bcast_S1x1x16x64_S4x4096x16x64_0_1_2_3 (broadcastInDim S1x1x16x64 ![2, 3] bcast_S16x64_S1x1x16x64_2_3 a))

/-- The bonus. -/
def bonus (r k v : FVec Ideal S4x4096x1024 .f32) (a : FVec Ideal S16x64 .f32) : FVec Ideal S4x4096x1024 .f32 := flat (mulf (each (tot (trip r k a))) (hd v))

/-- The result. -/
def refOut (y r k v z x : FVec Ideal S4x4096x1024 .f32) (a : FVec Ideal S16x64 .f32) (w b : FVec Ideal S1024 .f32) (W : FVec Ideal S1024x1024 .f32) : FVec Ideal S4x4096x1024 .f32 :=
  addf x (Host.dotGeneral dot_S4x4096x1024_S1024x1024_S4x4096x1024_2_0_01_1_n_n none (mulf (addf (scaled y w b) (bonus r k v a)) z) W)

theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) :=
  (θ_run defs _ _).mono (fun _ h c => (h c).1) (run (F := Ideal) m ρ)

theorem hd_at (y : FVec Ideal S4x4096x1024 .f32) (g : Fin 4) (t : Fin 4096) (h : Fin 16) (d : Fin 64) : hd y (ix4 g t h d) = y (ix3 g t ⟨64 * h + d, by omega⟩) := by
  pointwise [hd]
  try (refine congrArg y ?_; blk_ext)

theorem flat_at (y : FVec Ideal S4x4096x16x64 .f32) (g : Fin 4) (t : Fin 4096) (l : Fin 1024) : flat y (ix3 g t l) = y (ix4 g t ⟨l / 64, by omega⟩ ⟨l % 64, by omega⟩) := by
  pointwise [flat]
  try (refine congrArg y ?_; blk_ext)

theorem tot_at (y : FVec Ideal S4x4096x16x64 .f32) (g : Fin 4) (t : Fin 4096) (h : Fin 16) : tot y (ix4 g t h 0) = ∑ e : Fin 64, y (ix4 g t h e) := by
  pointwise [tot]

theorem each_at (y : FVec Ideal S4x4096x16x1 .f32) (g : Fin 4) (t : Fin 4096) (h : Fin 16) (d : Fin 64) : each y (ix4 g t h d) = y (ix4 g t h 0) := by
  pointwise [each]

theorem mean_at (y : FVec Ideal S4x4096x16x64 .f32) (g : Fin 4) (t : Fin 4096) (h : Fin 16) :
    mean y (ix4 g t h 0) = Ideal.div (∑ e : Fin 64, y (ix4 g t h e)) (Ideal.ofBits FTy.f32 1115684864#32) := by
  pointwise [mean]
  rw [tot_at]

theorem less_at (y : FVec Ideal S4x4096x16x64 .f32) (g : Fin 4) (t : Fin 4096) (h : Fin 16) (d : Fin 64) :
    less y (ix4 g t h d) = y (ix4 g t h d) - Ideal.div (∑ e : Fin 64, y (ix4 g t h e)) (Ideal.ofBits FTy.f32 1115684864#32) := by
  pointwise [less]
  rw [each_at, mean_at]

theorem norm_at (y : FVec Ideal S4x4096x16x64 .f32) (g : Fin 4) (t : Fin 4096) (h : Fin 16) (d : Fin 64) :
    norm y (ix4 g t h d) = less y (ix4 g t h d)
      * Ideal.rsqrt (Ideal.div (∑ e : Fin 64, less y (ix4 g t h e) * less y (ix4 g t h e)) (Ideal.ofBits FTy.f32 1115684864#32) + Ideal.ofBits FTy.f32 975685036#32) := by
  unfold norm
  show less y (ix4 g t h d) * each _ (ix4 g t h d) = _
  rw [each_at]
  pointwise
  rw [mean_at]
  rfl

theorem scaled_at (y : FVec Ideal S4x4096x1024 .f32) (w b : FVec Ideal S1024 .f32) (g : Fin 4) (t : Fin 4096) (l : Fin 1024) :
    scaled y w b (ix3 g t l) = norm (hd y) (ix4 g t ⟨l / 64, by omega⟩ ⟨l % 64, by omega⟩) * w (ix1 l) + b (ix1 l) := by
  pointwise [scaled, rows]
  rw [flat_at]

theorem trip_at (r k : FVec Ideal S4x4096x1024 .f32) (a : FVec Ideal S16x64 .f32) (g : Fin 4) (t : Fin 4096) (h : Fin 16) (d : Fin 64) :
    trip r k a (ix4 g t h d) = hd r (ix4 g t h d) * hd k (ix4 g t h d) * a (ix2 h d) := by
  pointwise [trip]

theorem bonus_at (r k v : FVec Ideal S4x4096x1024 .f32) (a : FVec Ideal S16x64 .f32) (g : Fin 4) (t : Fin 4096) (l : Fin 1024) :
    bonus r k v a (ix3 g t l) = (∑ e : Fin 64, trip r k a (ix4 g t ⟨l / 64, by omega⟩ e)) * v (ix3 g t l) := by
  unfold bonus
  rw [flat_at]
  show each _ _ * hd v _ = _
  rw [each_at, tot_at, hd_at]
  refine congrArg (_ * v ·) ?_
  refine congrArg (ix3 g t) (Fin.ext ?_)
  simp only []
  omega

theorem refOut_at (y r k v z x : FVec Ideal S4x4096x1024 .f32) (a : FVec Ideal S16x64 .f32) (w b : FVec Ideal S1024 .f32) (W : FVec Ideal S1024x1024 .f32)
    (g : Fin 4) (t : Fin 4096) (j : Fin 1024) :
    refOut y r k v z x a w b W (ix3 g t j) = x (ix3 g t j) + ∑ l : Fin 1024, (scaled y w b (ix3 g t l) + bonus r k v a (ix3 g t l)) * z (ix3 g t l) * W (ix2 l j) := by
  pointwise [refOut]

end Cert.Reference4Ideal.Value
-- ==== Proof.MixFinite.lean ====
module

public import proofs.«01_k».proof.Proof.Gen.Pre_finite4
public import proofs.«01_k».proof.Pre_finite4
public import proofs.«01_k».proof.Proof.WkvFinite

@[expose] public section

set_option maxRecDepth 16384

noncomputable section

/-! The fourth program's precondition: the values normed and the factors of the bonus are real numbers. -/

namespace Cert.Pre_finite4

open Idealize.ShloMosaic
open Facts

theorem finite_at [Facts] (x0 x1 x2 x3 x4 x5 : FVec Ideal S4x4096x1024 .f32) (x6 : FVec Ideal S16x64 .f32) (x7 x8 : FVec Ideal S1024 .f32)
    (x9 : FVec Ideal S1024x1024 .f32) (h : ∀ j, fn (F := Ideal) x0 x1 x2 x3 x4 x5 x6 x7 x8 x9 j = 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x6 i = ((EReal.toReal (x6 i) : ℝ) : EReal)) := by
  obtain ⟨e, e3⟩ := IntOp.andi_eq_one.1 (h (Shape.Idx.first h_S_))
  obtain ⟨e', e2⟩ := IntOp.andi_eq_one.1 e
  obtain ⟨e0, e1⟩ := IntOp.andi_eq_one.1 e'
  haveI : Subsingleton S_.Idx := ⟨fun a b => funext fun k => k.elim0⟩
  exact ⟨fun i => Cert.Pre_finite.real_of x0 _ i (Host.reduce_andi_all _ _ _ _ _ e0 i), fun i => Cert.Pre_finite.real_of x1 _ i (Host.reduce_andi_all _ _ _ _ _ e1 i),
    fun i => Cert.Pre_finite.real_of x2 _ i (Host.reduce_andi_all _ _ _ _ _ e2 i), fun i => Cert.Pre_finite.real_of x6 _ i (Host.reduce_andi_all _ _ _ _ _ e3 i)⟩

end Cert.Pre_finite4
-- ==== Proof.MixValue.lean ====
module

public import proofs.«01_k».proof.Defs
public import proofs.«01_k».proof.Proof.MixPay
public import proofs.«01_k».proof.Proof.MixRef
public import proofs.«01_k».proof.Proof.MixFinite

@[expose] public section

set_option maxRecDepth 16384

noncomputable section

/-! The recurrent layer's output: the host's steps around the call, and the kernel's result as the reference's. -/

open Idealize.ShloMosaic Idealize.ShloMosaic.TcCoe Idealize.SL.Sem
open Idealize.ShloMosaic.Pipeline (Dat)
open Cert.Nsa

namespace Cert.Kernel4Ideal.Gen

open Cert.Reference4Ideal.Value (hd hd_at less less_at norm norm_at scaled scaled_at trip trip_at bonus bonus_at refOut refOut_at)

/-- Token rows. -/
def rowsT (x : FVec Ideal S4x4096x1024 .f32) : FVec Ideal S16384x1024 .f32 := shapeCast S16384x1024 x shapeCasts_S4x4096x1024_S16384x1024

/-- A vector as a row. -/
def rowV (w : FVec Ideal S1024 .f32) : FVec Ideal S1x1024 .f32 := broadcastInDim S1x1024 ![1] bcast_S1024_S1x1024_1 w

/-- The row of zeros. -/
def zeros : FVec Ideal S1x1024 .f32 := rowV (broadcastInDim S1024 ![] bcast_S_S1024 (constant (F := Ideal) S_ .f32 0x00000000#32))

/-- The vectors, stacked. -/
def stack (a : FVec Ideal S16x64 .f32) (w b : FVec Ideal S1024 .f32) : FVec Ideal S8x1024 .f32 :=
  concatenate S8x1024 0 [⟨S1x1024, rowV (shapeCast S1024 a shapeCasts_S16x64_S1024)⟩, ⟨S1x1024, rowV w⟩, ⟨S1x1024, rowV b⟩, ⟨S1x1024, zeros⟩, ⟨S1x1024, zeros⟩,
    ⟨S1x1024, zeros⟩, ⟨S1x1024, zeros⟩, ⟨S1x1024, zeros⟩] concatenates_S1x1024_S1x1024_S1x1024_S1x1024_S1x1024_S1x1024_S1x1024_S1x1024_S8x1024_d0

theorem rowsT_at (x : FVec Ideal S4x4096x1024 .f32) (g : Fin 4) (t : Fin 4096) (k : Fin 1024) : rowsT x (ix2 ⟨4096 * g + t, by omega⟩ k) = x (ix3 g t k) := by
  pointwise [rowsT]

theorem rowsT_real (x : FVec Ideal S4x4096x1024 .f32) (h : ∀ i, IsR (x i)) (i : S16384x1024.Idx) : IsR (rowsT x i) := by
  obtain ⟨r, k, rfl⟩ : ∃ (r : Fin 16384) (k : Fin 1024), i = ix2 r k := ⟨_, _, eq_ix2 i⟩
  have e : r = ⟨4096 * ((⟨r / 4096, by omega⟩ : Fin 4) : ℕ) + ((⟨r % 4096, by omega⟩ : Fin 4096) : ℕ), by simp only []; omega⟩ := Fin.ext (by simp only []; omega)
  rw [e, rowsT_at]
  exact h _

theorem rowV_at (w : FVec Ideal S1024 .f32) (j : Fin 1024) : rowV w (ix2 0 j) = w (ix1 j) := by
  pointwise [rowV]

theorem stack_0 (a : FVec Ideal S16x64 .f32) (w b : FVec Ideal S1024 .f32) (h : Fin 16) (d : Fin 64) :
    stack a w b (ix2 0 ⟨64 * h + d, by omega⟩) = a (ix2 h d) := by
  unfold stack
  pointwise
  refine (rowV_at _ _).trans ?_
  pointwise
  try (refine congrArg a ?_; blk_ext)

theorem stack_1 (a : FVec Ideal S16x64 .f32) (w b : FVec Ideal S1024 .f32) (j : Fin 1024) : stack a w b (ix2 1 j) = w (ix1 j) := by
  unfold stack
  pointwise
  exact rowV_at _ _

theorem stack_2 (a : FVec Ideal S16x64 .f32) (w b : FVec Ideal S1024 .f32) (j : Fin 1024) : stack a w b (ix2 2 j) = b (ix1 j) := by
  unfold stack
  pointwise
  exact rowV_at _ _

section Launch
variable (m : (ℓ : Loc nD τ sig) → Buf (Elt Ideal) ℓ) (c : Dev nD)

/-- The arguments. -/
abbrev a0 : FVec Ideal S4x4096x1024 .f32 := m ((c : Thread nD τ).loc main_arg0)
abbrev a1 : FVec Ideal S4x4096x1024 .f32 := m ((c : Thread nD τ).loc main_arg1)
abbrev a2 : FVec Ideal S4x4096x1024 .f32 := m ((c : Thread nD τ).loc main_arg2)
abbrev a3 : FVec Ideal S4x4096x1024 .f32 := m ((c : Thread nD τ).loc main_arg3)
abbrev a4 : FVec Ideal S4x4096x1024 .f32 := m ((c : Thread nD τ).loc main_arg4)
abbrev a5 : FVec Ideal S4x4096x1024 .f32 := m ((c : Thread nD τ).loc main_arg5)
abbrev a6 : FVec Ideal S16x64 .f32 := m ((c : Thread nD τ).loc main_arg6)
abbrev a7 : FVec Ideal S1024 .f32 := m ((c : Thread nD τ).loc main_arg7)
abbrev a8 : FVec Ideal S1024 .f32 := m ((c : Thread nD τ).loc main_arg8)
abbrev a9 : FVec Ideal S1024x1024 .f32 := m ((c : Thread nD τ).loc main_arg9)

theorem in_rows : Gen.V m c main_v11 = rowsT (a0 m c) ∧ Gen.V m c main_v12 = rowsT (a1 m c) ∧ Gen.V m c main_v13 = rowsT (a2 m c)
    ∧ Gen.V m c main_v14 = rowsT (a3 m c) ∧ Gen.V m c main_v15 = rowsT (a4 m c) ∧ Gen.V m c main_v16 = rowsT (a5 m c) := by
  refine ⟨?_, ?_, ?_, ?_, ?_, ?_⟩ <;>
  · unfold Gen.V V0
    simp only [hostOps0, List.flatten_cons, List.flatten_nil, List.append_nil]
    after_results
    rfl

theorem in_vecs : Gen.V m c main_v10 = stack (a6 m c) (a7 m c) (a8 m c) := by
  unfold Gen.V V0
  simp only [hostOps0, List.flatten_cons, List.flatten_nil, List.append_nil]
  after_results
  rfl

theorem in_w : Gen.V m c main_v17 = (a9 m c : FVec Ideal S1024x1024 .f32) := by
  unfold Gen.V V0
  simp only [hostOps0, List.flatten_cons, List.flatten_nil, List.append_nil]
  after_results
  rfl

theorem tail_v22 (W : Valuation τ sig (Elt Ideal)) :
    StableHlo.after hostOps1 W (Proc.devRef .tc main_v22) = shapeCast S4x4096x1024 (W (Proc.devRef .tc main_v21)) shapeCasts_S16384x1024_S4x4096x1024 := by
  unfold hostOps1
  after_results
  rfl

theorem end_v22 :
    Pipeline.afterTail₀ cfgs (dats m) 0 (V0 m) [hostOps1] c main_v22 = shapeCast S4x4096x1024 ((dats m 0 c).arrAt 9 cfg0.N) shapeCasts_S16384x1024_S4x4096x1024 := by
  unfold Pipeline.afterTail₀
  refine (tail_v22 _).trans (congrArg (fun u => shapeCast S4x4096x1024 u shapeCasts_S16384x1024_S4x4096x1024) ?_)
  exact Pipeline.withArrays_arr (cfgs 0).spec launch0.win.arr_inj c _ (fun w => (dats m 0 c).arrAt w (cfgs 0).N) 9

end Launch

/-- The sum over a column's head, by the place in the head. -/
theorem seg_head (q : Fin 1024 → EReal) (l : Fin 1024) : seg q l = ∑ d : Fin 64, q ⟨64 * ((l : ℕ) / 64) + d, by omega⟩ :=
  seg_fold q ((l : ℕ) / 64) (by omega)

theorem cen_less (y : FVec Ideal S4x4096x1024 .f32) (g : Fin 4) (t : Fin 4096) (h : Fin 16) (d : Fin 64) :
    cen (fun k => y (ix3 g t k)) ⟨64 * h + d, by omega⟩ = less (hd y) (ix4 g t h d) := by
  have e : (64 * (h : ℕ) + (d : ℕ)) / 64 = h := by omega
  rw [less_at]
  unfold cen
  rw [seg_head]
  simp only [hd_at, e]

theorem nrm_scaled (y : FVec Ideal S4x4096x1024 .f32) (w b : FVec Ideal S1024 .f32) (g : Fin 4) (t : Fin 4096) (l : Fin 1024) :
    nrm (fun k => y (ix3 g t k)) l (w (ix1 l)) (b (ix1 l)) = scaled y w b (ix3 g t l) := by
  rw [scaled_at, norm_at]
  unfold nrm
  rw [seg_head]
  have e : ∀ d : Fin 64, cen (fun k => y (ix3 g t k)) ⟨64 * ((l : ℕ) / 64) + d, by omega⟩ = less (hd y) (ix4 g t ⟨l / 64, by omega⟩ d) :=
    fun d => cen_less y g t ⟨l / 64, by omega⟩ d
  have el : cen (fun k => y (ix3 g t k)) l = less (hd y) (ix4 g t ⟨l / 64, by omega⟩ ⟨l % 64, by omega⟩) := by
    refine Eq.trans (congrArg (cen _) (Fin.ext ?_)) (e ⟨l % 64, by omega⟩)
    simp only []
    omega
  simp only [e, el]

theorem seg_bonus (r k v : FVec Ideal S4x4096x1024 .f32) (a : FVec Ideal S16x64 .f32) (w b : FVec Ideal S1024 .f32) (g : Fin 4) (t : Fin 4096) (l : Fin 1024) :
    seg (fun c => r (ix3 g t c) * k (ix3 g t c) * stack a w b (ix2 0 c)) l * v (ix3 g t l) = bonus r k v a (ix3 g t l) := by
  rw [bonus_at, seg_head]
  refine congrArg (· * v (ix3 g t l)) (Finset.sum_congr rfl fun d _ => ?_)
  rw [trip_at, hd_at, hd_at]
  exact congrArg (r (ix3 g t _) * k (ix3 g t _) * ·) (stack_0 a w b ⟨l / 64, by omega⟩ d)

section Join
variable (m : (ℓ : Loc nD τ sig) → Buf (Elt Ideal) ℓ) (c : Dev nD)

theorem mixed_at (g : Fin 4) (t : Fin 4096) (j : Fin 1024) :
    mixed m c (ix2 ⟨4096 * g + t, by omega⟩ j) = refOut (a0 m c) (a1 m c) (a2 m c) (a3 m c) (a4 m c) (a5 m c) (a6 m c) (a7 m c) (a8 m c) (a9 m c) (ix3 g t j) := by
  obtain ⟨e0, e1, e2, e3, e4, e5⟩ := in_rows m c
  rw [refOut_at]
  unfold mixed
  rw [e0, e1, e2, e3, e4, e5, in_vecs, in_w]
  show mixArr (rowsT (a0 m c)) (rowsT (a1 m c)) (rowsT (a2 m c)) (rowsT (a3 m c)) (rowsT (a4 m c)) (rowsT (a5 m c)) (stack (a6 m c) (a7 m c) (a8 m c)) (a9 m c)
    ⟨4096 * g + t, by omega⟩ j = _
  unfold mixArr
  simp only [rowsT_at, stack_1, stack_2, nrm_scaled, seg_bonus]

theorem stack_real (h : ∀ i, IsR (a6 m c i)) (j : Fin 1024) : IsR (stack (a6 m c) (a7 m c) (a8 m c) (ix2 0 j)) := by
  have e : j = ⟨64 * ((⟨j / 64, by omega⟩ : Fin 16) : ℕ) + ((⟨j % 64, by omega⟩ : Fin 64) : ℕ), by simp only []; omega⟩ := Fin.ext (by simp only []; omega)
  rw [e, stack_0]
  exact h _

theorem left (hy : ∀ i, IsR (a0 m c i)) (hr : ∀ i, IsR (a1 m c i)) (hk : ∀ i, IsR (a2 m c i)) (ha : ∀ i, IsR (a6 m c i)) :
    (dats m 0 c).arrAt 9 cfg0.N = mixed m c := by
  obtain ⟨e0, e1, e2, -⟩ := in_rows m c
  refine left9 m c ?_ ?_ ?_ ?_
  · rw [e0]; exact rowsT_real _ hy
  · rw [e1]; exact rowsT_real _ hr
  · rw [e2]; exact rowsT_real _ hk
  · rw [in_vecs]; exact stack_real m c ha

/-- Rows back to tokens. -/
theorem back_at (f : FVec Ideal S16384x1024 .f32) (g : Fin 4) (t : Fin 4096) (j : Fin 1024) :
    shapeCast S4x4096x1024 f shapeCasts_S16384x1024_S4x4096x1024 (ix3 g t j) = f (ix2 ⟨4096 * g + t, by omega⟩ j) := by
  pointwise
  refine congrArg f ?_
  blk_ext

theorem join (hy : ∀ i, IsR (a0 m c i)) (hr : ∀ i, IsR (a1 m c i)) (hk : ∀ i, IsR (a2 m c i)) (ha : ∀ i, IsR (a6 m c i)) :
    shapeCast S4x4096x1024 ((dats m 0 c).arrAt 9 cfg0.N) shapeCasts_S16384x1024_S4x4096x1024
      = refOut (a0 m c) (a1 m c) (a2 m c) (a3 m c) (a4 m c) (a5 m c) (a6 m c) (a7 m c) (a8 m c) (a9 m c) := by
  rw [left m c hy hr hk ha]
  funext y
  obtain ⟨g, t, j, rfl⟩ : ∃ (g : Fin 4) (t : Fin 4096) (j : Fin 1024), y = ix3 g t j := ⟨_, _, _, eq_ix3 y⟩
  exact (back_at _ g t j).trans (mixed_at m c g t j)

end Join

theorem value : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m ρ m' ρ' hpre hin
  have hf := fun c => Cert.Pre_finite4.finite_at _ _ _ _ _ _ _ _ _ _ (fun j => congrFun (hpre c) j)
  refine ⟨fun c => refOut (a0 m c) (a1 m c) (a2 m c) (a3 m c) (a4 m c) (a5 m c) (a6 m c) (a7 m c) (a8 m c) (a9 m c), ?_, ?_⟩
  · refine (θ_run _ _ _).mono (fun r h c => ?_) (θ_run_and (run_main (F := Ideal) m ρ) (unchanged (F := Ideal) m ρ))
    exact ⟨((h.1 c).2 Cert.Kernel4Ideal.main_v22 (Pipeline.mem_restRefs_of _ (by decide) (by decide))).trans
      ((end_v22 m c).trans (join m c (fun i => ⟨_, (hf c).1 i⟩) (fun i => ⟨_, (hf c).2.1 i⟩) (fun i => ⟨_, (hf c).2.2.1 i⟩) (fun i => ⟨_, (hf c).2.2.2 i⟩))), h.2 c⟩
  · refine (θ_run _ _ _).mono (fun r h c => ?_) (θ_run_and (Cert.Reference4Ideal.Value.ran m' ρ') (Cert.Reference4Ideal.Value.run (F := Ideal) m' ρ'))
    obtain ⟨e0, e1, e2, e3, e4, e5, e6, e7, e8, e9⟩ := hin c
    have k := h.1 c
    rw [e0, e1, e2, e3, e4, e5, e6, e7, e8, e9] at k
    exact ⟨k, (h.2 c).2⟩

end Cert.Kernel4Ideal.Gen
-- ==== Proof.ShiftMath.lean ====
module

public import proofs.«01_k».proof.Proof.NsaMath

@[expose] public section

set_option maxRecDepth 16384

noncomputable section

/-! The RWKV-7 projections, one token at a time: a token's row mixed with the row before it. -/

open Idealize.ShloMosaic Idealize.ShloMosaic.TcCoe Idealize.SL.Sem

namespace Cert.Shift

/-- An entry mixed with the one before it. -/
def mixv (h p u : EReal) : EReal := h + (p - h) * u

/-- One column of the product of the mixed row. -/
def col {n : ℕ} (h p u W : Fin n → EReal) : EReal := ∑ k, mixv (h k) (p k) (u k) * W k

/-- The log decay, from the weight's argument. -/
def decay (y : EReal) : EReal :=
  -Ideal.exp (-(max (-y) 0 + Ideal.log (1 + Ideal.exp (-(max (-y) (- -y))))) - Ideal.ofBits FTy.f32 1056964608#32)

section Arrays
open Cert.Nsa
variable (X : (⟨2, ![16384, 1024]⟩ : Shape).Idx → EReal) (A : (⟨2, ![16, 1024]⟩ : Shape).Idx → EReal) (I : (⟨3, ![4, 1, 1024]⟩ : Shape).Idx → EReal)

/-- A token's normed row. -/
def hidT (n : Fin 16384) (k : Fin 1024) : EReal := hid (fun k => X (ix2 n k)) (fun k => A (ix2 0 k)) k

/-- The row before a token's: the carried state before a batch row's first token. -/
def preT (n : Fin 16384) (k : Fin 1024) : EReal :=
  if n.val % 4096 = 0 then I (ix3 ⟨n / 4096, by omega⟩ 0 k) else hidT X A ⟨n - 1, by omega⟩ k

/-- A token's mixed row, by the row of the coefficients, times a column. -/
def colT (r : Fin 16) (n : Fin 16384) (W : Fin 1024 → EReal) : EReal := col (hidT X A n) (preT X A I n) (fun k => A (ix2 r k)) W

/-- The receptance. -/
def rArr (W : (⟨2, ![1024, 1024]⟩ : Shape).Idx → EReal) : (⟨2, ![16384, 1024]⟩ : Shape).Idx → EReal :=
  fun y => colT X A I 1 (y 0) (fun k => W (ix2 k (y 1)))

/-- The log decay. -/
def wArr (B : (⟨2, ![1024, 128]⟩ : Shape).Idx → EReal) (C : (⟨2, ![128, 1024]⟩ : Shape).Idx → EReal) : (⟨2, ![16384, 1024]⟩ : Shape).Idx → EReal :=
  fun y => decay (A (ix2 7 (y 1)) + ∑ l : Fin 128, Ideal.tanh (colT X A I 2 (y 0) (fun k => B (ix2 k l))) * C (ix2 l (y 1)))

theorem wArr_at (B : (⟨2, ![1024, 128]⟩ : Shape).Idx → EReal) (C : (⟨2, ![128, 1024]⟩ : Shape).Idx → EReal) (n : Fin 16384) (j : Fin 1024) :
    wArr X A I B C (ix2 n j) = decay (A (ix2 7 j) + ∑ l : Fin 128, Ideal.tanh (colT X A I 2 n (fun k => B (ix2 k l))) * C (ix2 l j)) := rfl

theorem rArr_at (W : (⟨2, ![1024, 1024]⟩ : Shape).Idx → EReal) (n : Fin 16384) (j : Fin 1024) :
    rArr X A I W (ix2 n j) = colT X A I 1 n (fun k => W (ix2 k j)) := rfl

/-- The last rows. -/
def lastArr : (⟨3, ![4, 1, 1024]⟩ : Shape).Idx → EReal :=
  fun y => hidT X A ⟨4096 * (y 0).val + 4095, by have := (y 0).isLt; simp at this; omega⟩ (y 2)

end Arrays

end Cert.Shift

end
-- ==== Proof.ShiftPay.lean ====
module

public import proofs.«01_k».proof.Proof.Gen.Kernel5Ideal.Frame
public import proofs.«01_k».proof.Proof.ShiftMath

@[expose] public section

set_option maxRecDepth 16384

noncomputable section

/-! What a point of the projections' call computes, an entry at a time. -/

open Idealize.ShloMosaic Idealize.ShloMosaic.TcCoe Idealize.SL.Sem
open Cert.Nsa Cert.Shift

namespace Cert.Kernel5Ideal.Gen

theorem pay4_at (x : Vec Ideal S512x1024 .f32) (w : Vec Ideal S1x1024 .f32) (i : Fin 512) (k : Fin 1024) :
    k0_pay4 x w (ix2 i k) = hid (fun k => x (ix2 i k)) (fun k => w (ix2 0 k)) k := by
  pointwise [k0_pay4]
  rfl

theorem pick (n : ℕ) (hn : n < 512) (x y : EReal) : Scalar.select (IntOp.cmpi CmpIPredicate.eq (BitVec.ofNat 32 n) 0#32) x y = if n = 0 then x else y := by
  by_cases e : n = 0
  · subst e
    rw [if_pos rfl]
    rfl
  · rw [if_neg e]
    have this : BitVec.ofNat 32 n ≠ 0#32 := fun h => e (by
      have h := congrArg BitVec.toNat h
      rw [BitVec.toNat_ofNat, BitVec.toNat_ofNat, Nat.mod_eq_of_lt (by omega)] at h
      exact h)
    have c : IntOp.cmpi CmpIPredicate.eq (BitVec.ofNat 32 n) 0#32 = 0#1 := by
      show BitVec.ofBool (BitVec.ofNat 32 n == 0#32) = 0#1
      rw [beq_false_of_ne this]
      rfl
    rw [c]
    rfl

theorem pay5_at (x : Vec Ideal S512x1024 .f32) (w s : Vec Ideal S1x1024 .f32) (i : Fin 512) (k : Fin 1024) :
    k0_pay5 x w s (ix2 i k) = if i.val = 0 then s (ix2 0 k) else k0_pay4 x w (ix2 ⟨i - 1, by omega⟩ k) := by
  unfold k0_pay5
  generalize k0_pay4 x w = h
  pointwise
  rw [pick i i.isLt]
  by_cases e : i.val = 0
  · rw [if_pos e, if_pos e]
  · rw [if_neg e, if_neg e]
    refine congrArg h (congrArg (fun a => ix2 a k) (Fin.ext ?_))
    have hi := i.isLt
    simp only []
    omega

theorem pay8_at (h p : Vec Ideal S512x1024 .f32) (u : Vec Ideal S1x1024 .f32) (W : Vec Ideal S1024x1024 .bf16) (i : Fin 512) (j : Fin 1024) :
    k0_pay8 h p u W (ix2 i j) = col (fun k => h (ix2 i k)) (fun k => p (ix2 i k)) (fun k => u (ix2 0 k)) (fun k => W (ix2 k j)) := by
  pointwise [k0_pay8, k0_pay7]
  rfl

theorem pay9_at (h p : Vec Ideal S512x1024 .f32) (w0 u : Vec Ideal S1x1024 .f32) (A : Vec Ideal S1024x128 .bf16) (B : Vec Ideal S128x1024 .bf16) (i : Fin 512) (j : Fin 1024) :
    k0_pay9 h p w0 u A B (ix2 i j) = -(w0 (ix2 0 j) + ∑ l : Fin 128, Ideal.tanh (col (fun k => h (ix2 i k)) (fun k => p (ix2 i k)) (fun k => u (ix2 0 k)) (fun k => A (ix2 k l))) * B (ix2 l j)) := by
  pointwise [k0_pay9, k0_pay7]
  simp only [zero_sub]
  rfl

theorem pay1_at (h p : Vec Ideal S512x1024 .f32) (w0 u : Vec Ideal S1x1024 .f32) (A : Vec Ideal S1024x128 .bf16) (B : Vec Ideal S128x1024 .bf16) (i : Fin 512) (j : Fin 1024) :
    k0_pay1 (k0_pay9 h p w0 u A B) (k0_pay10 h p w0 u A B) (ix2 i j) = decay (w0 (ix2 0 j) + ∑ l : Fin 128, Ideal.tanh (col (fun k => h (ix2 i k)) (fun k => p (ix2 i k)) (fun k => u (ix2 0 k)) (fun k => A (ix2 k l))) * B (ix2 l j)) := by
  have e := pay9_at h p w0 u A B i j
  unfold k0_pay10
  revert e
  generalize k0_pay9 h p w0 u A B = f
  intro e
  pointwise [k0_pay1]
  simp only [zero_sub, e]
  rfl

theorem pay2_at (h : Vec Ideal S512x1024 .f32) (k : Fin 1024) : k0_pay2 (F := Ideal) h (ix3 0 0 k) = h (ix2 511 k) := by
  pointwise [k0_pay2]

theorem pay6_at (h : Vec Ideal S512x1024 .f32) (k : Fin 1024) : k0_pay6 (F := Ideal) h (ix2 0 k) = h (ix2 511 k) := by
  pointwise [k0_pay6]

theorem pay3_at (s : Vec Ideal S1x1x1024 .f32) (k : Fin 1024) : k0_pay3 (F := Ideal) s (ix2 0 k) = s (ix3 0 0 k) := by
  pointwise [k0_pay3]

end Cert.Kernel5Ideal.Gen

end
-- ==== Proof.ShiftOuts.lean ====
module

public import proofs.«01_k».proof.Proof.Gen.Kernel5Ideal.Frame
public import proofs.«01_k».proof.Proof.ShiftMath
public import Idealize.ShloMosaic.Lib.Pipeline.ReadBack

@[expose] public section

set_option maxRecDepth 16384

noncomputable section

/-! What a point of the projections' call leaves, from its blocks and the row carried into it. -/

open Idealize.ShloMosaic Idealize.ShloMosaic.TcCoe Idealize.SL.Sem
open Cert.Nsa Cert.Shift

namespace Cert.Kernel5Ideal.Gen

variable (m : (ℓ : Loc nD τ sig) → Buf (Elt Ideal) ℓ) (c : Dev nD)

/-- A row of the stacked vectors, as a point reads it. -/
def vrow (A : Vec Ideal S16x1024 .f32) (r : Fin 16) : Vec Ideal S1x1024 .f32 := fun y => A (ix2 r (y 1))

theorem row_0 (A : Vec Ideal S16x1024 .f32) : View.ld A (Rect.unit ![0, 0] ![1, 1024] inb_S16x1024_S1x1024_0_0) = vrow A 0 := by
  funext y; obtain ⟨z, k, rfl⟩ : ∃ (z : Fin 1) (k : Fin 1024), y = ix2 z k := ⟨_, _, eq_ix2 y⟩; obtain rfl : z = 0 := Subsingleton.elim _ _; pointwise [vrow]
theorem row_1 (A : Vec Ideal S16x1024 .f32) : View.ld A (Rect.unit ![1, 0] ![1, 1024] inb_S16x1024_S1x1024_1_0) = vrow A 1 := by
  funext y; obtain ⟨z, k, rfl⟩ : ∃ (z : Fin 1) (k : Fin 1024), y = ix2 z k := ⟨_, _, eq_ix2 y⟩; obtain rfl : z = 0 := Subsingleton.elim _ _; pointwise [vrow]
theorem row_2 (A : Vec Ideal S16x1024 .f32) : View.ld A (Rect.unit ![2, 0] ![1, 1024] inb_S16x1024_S1x1024_2_0) = vrow A 2 := by
  funext y; obtain ⟨z, k, rfl⟩ : ∃ (z : Fin 1) (k : Fin 1024), y = ix2 z k := ⟨_, _, eq_ix2 y⟩; obtain rfl : z = 0 := Subsingleton.elim _ _; pointwise [vrow]
theorem row_7 (A : Vec Ideal S16x1024 .f32) : View.ld A (Rect.unit ![7, 0] ![1, 1024] inb_S16x1024_S1x1024_7_0) = vrow A 7 := by
  funext y; obtain ⟨z, k, rfl⟩ : ∃ (z : Fin 1) (k : Fin 1024), y = ix2 z k := ⟨_, _, eq_ix2 y⟩; obtain rfl : z = 0 := Subsingleton.elim _ _; pointwise [vrow]

/-- The rows a point norms. -/
def hB (t : Fin cfg0.N) : Vec Ideal S512x1024 .f32 := k0_pay4 (iblk m c 0 t) (vrow (iblk m c 2 t) 0)

/-- The row carried into a point. -/
def carry (t : Fin cfg0.N) : Vec Ideal S1x1024 .f32 :=
  if t.val % 8 = 0 then k0_pay3 (iblk m c 1 t) else (outsAt0 m c (t.val - 1) (lt_of_le_of_lt (Nat.sub_le _ _) t.isLt)).2.2.2

/-- The rows before them. -/
def pB (t : Fin cfg0.N) : Vec Ideal S512x1024 .f32 := k0_pay5 (iblk m c 0 t) (vrow (iblk m c 2 t) 0) (carry m c t)

theorem outs9 (t : Fin cfg0.N) : (outsAt0 m c t.val t.isLt).1 = k0_pay8 (hB m c t) (pB m c t) (vrow (iblk m c 2 t) 1) (iblk m c 3 t) := by
  unfold pB hB carry
  rw [← row_0, ← row_1]
  by_cases h0 : t.val % 8 = 0
  · rw [if_pos h0, outsAt0_A m c t h0]
    frame_out
  · rw [if_neg h0, outsAt0_B m c t h0]
    frame_out
    simp only [read_unread_whole]

theorem outs10 (t : Fin cfg0.N) : (outsAt0 m c t.val t.isLt).2.1
    = k0_pay1 (k0_pay9 (hB m c t) (pB m c t) (vrow (iblk m c 2 t) 7) (vrow (iblk m c 2 t) 2) (iblk m c 5 t) (iblk m c 7 t))
        (k0_pay10 (hB m c t) (pB m c t) (vrow (iblk m c 2 t) 7) (vrow (iblk m c 2 t) 2) (iblk m c 5 t) (iblk m c 7 t)) := by
  unfold pB hB carry
  rw [← row_0, ← row_7, ← row_2]
  by_cases h0 : t.val % 8 = 0
  · rw [if_pos h0, outsAt0_A m c t h0]
    frame_out
  · rw [if_neg h0, outsAt0_B m c t h0]
    frame_out
    simp only [read_unread_whole]

theorem outs11 (t : Fin cfg0.N) : (outsAt0 m c t.val t.isLt).2.2.1 = k0_pay2 (F := Ideal) (hB m c t) := by
  unfold hB
  rw [← row_0]
  by_cases h0 : t.val % 8 = 0
  · rw [outsAt0_A m c t h0]
    frame_out
  · rw [outsAt0_B m c t h0]
    frame_out

theorem outsS (t : Fin cfg0.N) : (outsAt0 m c t.val t.isLt).2.2.2 = k0_pay6 (F := Ideal) (hB m c t) := by
  unfold hB
  rw [← row_0]
  by_cases h0 : t.val % 8 = 0
  · rw [outsAt0_A m c t h0]
    frame_out
  · rw [outsAt0_B m c t h0]
    frame_out

end Cert.Kernel5Ideal.Gen

end
-- ==== Proof.ShiftLeft.lean ====
module

public import proofs.«01_k».proof.Proof.ShiftPay
public import proofs.«01_k».proof.Proof.ShiftOuts

@[expose] public section

set_option maxRecDepth 16384

noncomputable section

/-! The arrays the projections' call leaves. -/

open Idealize.ShloMosaic Idealize.ShloMosaic.TcCoe Idealize.SL.Sem
open Idealize.ShloMosaic.Pipeline (Dat)
open Cert.Nsa Cert.Shift

namespace Cert.Kernel5Ideal.Gen

variable (m : (ℓ : Loc nD τ sig) → Buf (Elt Ideal) ℓ) (c : Dev nD)

/-- The token of a row of a point's block. -/
def tok (t : Fin cfg0.N) (i : Fin 512) : Fin 16384 := ⟨512 * t.val + i, by have : t.val < 32 := t.2; omega⟩

/-- The batch row of a point. -/
def brow (t : Fin cfg0.N) : Fin 4 := ⟨t.val / 8, by have : t.val < 32 := t.2; omega⟩

theorem idx_0 : ∀ t : Fin grid0.N, win0_0.index t 0 = t.val ∧ win0_0.index t 1 = 0 := by decide +kernel
theorem idx_1 : ∀ t : Fin grid0.N, win0_1.index t 0 = t.val / 8 ∧ win0_1.index t 1 = 0 ∧ win0_1.index t 2 = 0 := by decide +kernel
theorem idx_2 : ∀ t : Fin grid0.N, win0_2.index t 0 = 0 ∧ win0_2.index t 1 = 0 := by decide +kernel
theorem idx_3 : ∀ t : Fin grid0.N, win0_3.index t 0 = 0 ∧ win0_3.index t 1 = 0 := by decide +kernel
theorem idx_5 : ∀ t : Fin grid0.N, win0_5.index t 0 = 0 ∧ win0_5.index t 1 = 0 := by decide +kernel
theorem idx_7 : ∀ t : Fin grid0.N, win0_7.index t 0 = 0 ∧ win0_7.index t 1 = 0 := by decide +kernel
theorem idx_9 : ∀ t : Fin grid0.N, win0_9.index t 0 = t.val ∧ win0_9.index t 1 = 0 := by decide +kernel
theorem idx_10 : ∀ t : Fin grid0.N, win0_10.index t 0 = t.val ∧ win0_10.index t 1 = 0 := by decide +kernel
theorem idx_11 : ∀ t : Fin grid0.N, win0_11.index t 0 = t.val / 8 ∧ win0_11.index t 1 = 0 ∧ win0_11.index t 2 = 0 := by decide +kernel
theorem flush_11 : ∀ t : Fin grid0.N, win0_11.flush t = true → t.val % 8 = 7 := by decide +kernel

theorem blk_0 (t : Fin cfg0.N) (i : Fin 512) (j : Fin 1024) : iblk m c 0 t (ix2 i j) = Gen.V m c main_v0 (ix2 (tok t i) j) := by
  obtain ⟨e0, e1⟩ := idx_0 t
  blk_simp [iblk]
  blk_ext [e0, e1, tok]

theorem blk_1 (t : Fin cfg0.N) (j : Fin 1024) : iblk m c 1 t (ix3 0 0 j) = Gen.V m c main_v1 (ix3 (brow t) 0 j) := by
  obtain ⟨e0, e1, e2⟩ := idx_1 t
  blk_simp [iblk]
  blk_ext [e0, e1, e2, brow]

theorem blk_2 (t : Fin cfg0.N) (i : Fin 16) (j : Fin 1024) : iblk m c 2 t (ix2 i j) = Gen.V m c main_v31 (ix2 i j) := by
  obtain ⟨e0, e1⟩ := idx_2 t
  blk_simp [iblk]
  blk_ext [e0, e1]

theorem blk_3 (t : Fin cfg0.N) (i j : Fin 1024) : iblk m c 3 t (ix2 i j) = Gen.V m c main_v32 (ix2 i j) := by
  obtain ⟨e0, e1⟩ := idx_3 t
  blk_simp [iblk]
  blk_ext [e0, e1]

theorem blk_5 (t : Fin cfg0.N) (i : Fin 1024) (j : Fin 128) : iblk m c 5 t (ix2 i j) = Gen.V m c main_v37 (ix2 i j) := by
  obtain ⟨e0, e1⟩ := idx_5 t
  blk_simp [iblk]
  blk_ext [e0, e1]

theorem blk_7 (t : Fin cfg0.N) (i : Fin 128) (j : Fin 1024) : iblk m c 7 t (ix2 i j) = Gen.V m c main_v42 (ix2 i j) := by
  obtain ⟨e0, e1⟩ := idx_7 t
  blk_simp [iblk]
  blk_ext [e0, e1]

theorem vrow_at (t : Fin cfg0.N) (r : Fin 16) (k : Fin 1024) : vrow (iblk m c 2 t) r (ix2 0 k) = Gen.V m c main_v31 (ix2 r k) := blk_2 m c t r k

theorem hB_at (t : Fin cfg0.N) (i : Fin 512) (k : Fin 1024) : hB m c t (ix2 i k) = hidT (Gen.V m c main_v0) (Gen.V m c main_v31) (tok t i) k := by
  unfold hB hidT
  refine (pay4_at _ _ i k).trans ?_
  simp only [blk_0, vrow_at]

theorem carry_at (t : Fin cfg0.N) (k : Fin 1024) :
    carry m c t (ix2 0 k) = preT (Gen.V m c main_v0) (Gen.V m c main_v31) (Gen.V m c main_v1) (tok t 0) k := by
  have ht : t.val < 32 := t.2
  unfold carry preT
  by_cases h0 : t.val % 8 = 0
  · rw [if_pos h0]
    refine Eq.trans ?_ (if_pos (show (512 * t.val + 0) % 4096 = 0 by omega)).symm
    refine (pay3_at _ k).trans ((blk_1 m c t k).trans ?_)
    refine congrArg (fun g => Gen.V m c main_v1 (ix3 g 0 k)) (Fin.ext ?_)
    show t.val / 8 = (512 * t.val + 0) / 4096
    omega
  · rw [if_neg h0]
    refine Eq.trans ?_ (if_neg (show ¬(512 * t.val + 0) % 4096 = 0 by omega)).symm
    have e := outsS m c ⟨t.val - 1, lt_of_le_of_lt (Nat.sub_le _ _) t.isLt⟩
    refine (congrFun e _).trans ((pay6_at _ k).trans ((hB_at m c _ _ k).trans ?_))
    refine congrArg (fun n => hidT _ _ n k) (Fin.ext ?_)
    show 512 * (t.val - 1) + 511 = 512 * t.val + 0 - 1
    omega

theorem pB_at (t : Fin cfg0.N) (i : Fin 512) (k : Fin 1024) :
    pB m c t (ix2 i k) = preT (Gen.V m c main_v0) (Gen.V m c main_v31) (Gen.V m c main_v1) (tok t i) k := by
  unfold pB
  refine (pay5_at _ _ _ i k).trans ?_
  by_cases e : i.val = 0
  · rw [if_pos e, carry_at]
    obtain rfl : i = 0 := Fin.ext e
    rfl
  · rw [if_neg e]
    refine (hB_at m c t _ k).trans ?_
    unfold preT
    refine Eq.trans ?_ (if_neg (show ¬(512 * t.val + i.val) % 4096 = 0 by have := i.isLt; omega)).symm
    refine congrArg (fun n => hidT _ _ n k) (Fin.ext ?_)
    show 512 * t.val + (i.val - 1) = 512 * t.val + i.val - 1
    omega

theorem col_at (t : Fin cfg0.N) (r : Fin 16) (i : Fin 512) (W : Fin 1024 → EReal) :
    col (fun k => hB m c t (ix2 i k)) (fun k => pB m c t (ix2 i k)) (fun k => vrow (iblk m c 2 t) r (ix2 0 k)) W
      = colT (Gen.V m c main_v0) (Gen.V m c main_v31) (Gen.V m c main_v1) r (tok t i) W := by
  unfold colT
  simp only [hB_at, pB_at, vrow_at]

theorem arr9 : (dats m 0 c).arrAt 9 cfg0.N = rArr (Gen.V m c main_v0) (Gen.V m c main_v31) (Gen.V m c main_v1) (Gen.V m c main_v32) := by
  refine (dats m 0 c).arrAt_eq_of_covers 9 (rArr _ _ _ _) (by decide +kernel) fun t hf y => ?_
  obtain ⟨e0, e1⟩ := idx_9 t
  obtain ⟨i, j, rfl⟩ : ∃ (i : Fin 512) (j : Fin 1024), y = ix2 i j := ⟨_, _, eq_ix2 y⟩
  refine Eq.trans ?_ (congrArg (rArr _ _ _ _) (show ix2 (tok t i) j = _ by blk_ext [e0, e1, tok]))
  blk_simp
  rw [after0_9, outs9]
  refine (pay8_at _ _ _ _ i j).trans ((col_at m c t 1 i _).trans ?_)
  simp only [blk_3]
  rfl

theorem out10_at (t : Fin cfg0.N) (i : Fin 512) (j : Fin 1024) : (outsAt0 m c t.val t.isLt).2.1 (ix2 i j)
    = wArr (Gen.V m c main_v0) (Gen.V m c main_v31) (Gen.V m c main_v1) (Gen.V m c main_v37) (Gen.V m c main_v42) (ix2 (tok t i) j) := by
  rw [outs10, wArr_at]
  refine (pay1_at _ _ _ _ _ _ i j).trans ?_
  refine congrArg decay (congrArg₂ (· + ·) (vrow_at m c t 7 j) (Finset.sum_congr rfl fun l _ => congrArg₂ (· * ·) (congrArg Ideal.tanh ?_) (blk_7 m c t l j)))
  exact (col_at m c t 2 i _).trans (congrArg (colT _ _ _ 2 _) (funext fun k => blk_5 m c t k l))

theorem arr10 : (dats m 0 c).arrAt 10 cfg0.N
    = wArr (Gen.V m c main_v0) (Gen.V m c main_v31) (Gen.V m c main_v1) (Gen.V m c main_v37) (Gen.V m c main_v42) := by
  generalize hw : wArr (Gen.V m c main_v0) (Gen.V m c main_v31) (Gen.V m c main_v1) (Gen.V m c main_v37) (Gen.V m c main_v42) = f
  refine (dats m 0 c).arrAt_eq_of_covers 10 f (by decide +kernel) fun t hf y => ?_
  obtain ⟨e0, e1⟩ := idx_10 t
  obtain ⟨i, j, rfl⟩ : ∃ (i : Fin 512) (j : Fin 1024), y = ix2 i j := ⟨_, _, eq_ix2 y⟩
  refine Eq.trans ?_ (congrArg f (show ix2 (tok t i) j = _ by blk_ext [e0, e1, tok]))
  blk_simp
  rw [after0_10]
  subst hw
  exact out10_at m c t i j

theorem arr11 : (dats m 0 c).arrAt 11 cfg0.N = lastArr (Gen.V m c main_v0) (Gen.V m c main_v31) := by
  refine (dats m 0 c).arrAt_eq_of_covers 11 (lastArr _ _) (by decide +kernel) fun t hf y => ?_
  obtain ⟨e0, e1, e2⟩ := idx_11 t
  have h7 := flush_11 t hf
  obtain ⟨z, z', j, rfl⟩ : ∃ (z z' : Fin 1) (j : Fin 1024), y = ix3 z z' j := ⟨_, _, _, eq_ix3 y⟩
  obtain rfl : z = 0 := Subsingleton.elim _ _
  obtain rfl : z' = 0 := Subsingleton.elim _ _
  refine Eq.trans ?_ (congrArg (lastArr _ _) (show ix3 (brow t) 0 j = _ by blk_ext [e0, e1, e2, brow]))
  blk_simp
  rw [after0_11, outs11]
  refine (pay2_at _ j).trans ((hB_at m c t _ j).trans ?_)
  refine congrArg (fun n => hidT _ _ n j) (Fin.ext ?_)
  show 512 * t.val + 511 = 4096 * (t.val / 8) + 4095
  omega

end Cert.Kernel5Ideal.Gen

end
-- ==== Proof.ShiftHost.lean ====
module

public import proofs.«01_k».proof.Proof.ShiftLeft

@[expose] public section

set_option maxRecDepth 16384

noncomputable section

/-! The host's steps around the projections' call. -/

open Idealize.ShloMosaic Idealize.ShloMosaic.TcCoe Idealize.SL.Sem
open Idealize.ShloMosaic.Pipeline (Dat)
open Cert.Nsa Cert.Shift

namespace Cert.Kernel5Ideal.Gen

/-- A vector as a row. -/
def rowV (w : FVec Ideal S1024 .f32) : FVec Ideal S1x1024 .f32 := broadcastInDim S1x1024 ![1] bcast_S1024_S1x1024_1 w

theorem rowV_at (w : FVec Ideal S1024 .f32) (j : Fin 1024) : rowV w (ix2 0 j) = w (ix1 j) := by
  pointwise [rowV]

/-- The row of zeros. -/
def zeros : FVec Ideal S1x1024 .f32 := rowV (broadcastInDim S1024 ![] bcast_S_S1024 (constant (F := Ideal) S_ .f32 0x00000000#32))

/-- One of the mixing vectors. -/
def muRow (o : ℕ) (hs : S6x1024.Slices ![o, 0] S1x1024) (u : FVec Ideal S6x1024 .f32) : FVec Ideal S1x1024 .f32 :=
  rowV (shapeCast S1024 (extractStridedSlice S1x1024 ![o, 0] u hs) shapeCasts_S1x1024_S1024)

theorem muRow_0 (u : FVec Ideal S6x1024 .f32) (j : Fin 1024) : muRow 0 slices_S6x1024_S1x1024_0_0 u (ix2 0 j) = u (ix2 0 j) := by
  unfold muRow
  refine (rowV_at _ j).trans ?_
  pointwise
  try (refine congrArg u ?_; blk_ext)

theorem muRow_1 (u : FVec Ideal S6x1024 .f32) (j : Fin 1024) : muRow 1 slices_S6x1024_S1x1024_1_0 u (ix2 0 j) = u (ix2 1 j) := by
  unfold muRow
  refine (rowV_at _ j).trans ?_
  pointwise
  try (refine congrArg u ?_; blk_ext)

/-- The vectors, stacked. -/
def stack (w : FVec Ideal S1024 .f32) (u : FVec Ideal S6x1024 .f32) (w0 : FVec Ideal S1024 .f32) : FVec Ideal S16x1024 .f32 :=
  concatenate S16x1024 0 [⟨S1x1024, rowV w⟩, ⟨S1x1024, muRow 0 slices_S6x1024_S1x1024_0_0 u⟩, ⟨S1x1024, muRow 1 slices_S6x1024_S1x1024_1_0 u⟩, ⟨S1x1024, muRow 2 slices_S6x1024_S1x1024_2_0 u⟩,
    ⟨S1x1024, muRow 3 slices_S6x1024_S1x1024_3_0 u⟩, ⟨S1x1024, muRow 4 slices_S6x1024_S1x1024_4_0 u⟩, ⟨S1x1024, muRow 5 slices_S6x1024_S1x1024_5_0 u⟩, ⟨S1x1024, rowV w0⟩,
    ⟨S1x1024, zeros⟩, ⟨S1x1024, zeros⟩, ⟨S1x1024, zeros⟩, ⟨S1x1024, zeros⟩, ⟨S1x1024, zeros⟩, ⟨S1x1024, zeros⟩, ⟨S1x1024, zeros⟩, ⟨S1x1024, zeros⟩]
    concatenates_S1x1024_S1x1024_S1x1024_S1x1024_S1x1024_S1x1024_S1x1024_S1x1024_S1x1024_S1x1024_S1x1024_S1x1024_S1x1024_S1x1024_S1x1024_S1x1024_S16x1024_d0

theorem stack_0 (w : FVec Ideal S1024 .f32) (u : FVec Ideal S6x1024 .f32) (w0 : FVec Ideal S1024 .f32) (j : Fin 1024) : stack w u w0 (ix2 0 j) = w (ix1 j) := by
  unfold stack
  pointwise
  exact rowV_at _ _

theorem stack_1 (w : FVec Ideal S1024 .f32) (u : FVec Ideal S6x1024 .f32) (w0 : FVec Ideal S1024 .f32) (j : Fin 1024) : stack w u w0 (ix2 1 j) = u (ix2 0 j) := by
  unfold stack
  pointwise
  exact muRow_0 _ _

theorem stack_2 (w : FVec Ideal S1024 .f32) (u : FVec Ideal S6x1024 .f32) (w0 : FVec Ideal S1024 .f32) (j : Fin 1024) : stack w u w0 (ix2 2 j) = u (ix2 1 j) := by
  unfold stack
  pointwise
  exact muRow_1 _ _

theorem stack_7 (w : FVec Ideal S1024 .f32) (u : FVec Ideal S6x1024 .f32) (w0 : FVec Ideal S1024 .f32) (j : Fin 1024) : stack w u w0 (ix2 7 j) = w0 (ix1 j) := by
  unfold stack
  pointwise
  exact rowV_at _ _

/-- The first factor, its columns filled up with zeros. -/
def wide (B : FVec Ideal S1024x64 .f32) : FVec Ideal S1024x128 .f32 :=
  pad S1024x128 ![0, 0] ![0, 64] ![0, 0] B (sitofp .f32 (constantI S_ 32 0#32)) pads_S1024x64_S1024x128_000_0640 h_S_

/-- The second factor, its rows filled up with zeros. -/
def tall (C : FVec Ideal S64x1024 .f32) : FVec Ideal S128x1024 .f32 :=
  pad S128x1024 ![0, 0] ![64, 0] ![0, 0] C (sitofp .f32 (constantI S_ 32 0#32)) pads_S64x1024_S128x1024_0640_000 h_S_

theorem wide_at (B : FVec Ideal S1024x64 .f32) (k : Fin 1024) (l : Fin 128) (hl : l.val < 64) : wide B (ix2 k l) = B (ix2 k ⟨l, hl⟩) := by
  pointwise [wide]
  split
  · rfl
  · omega

theorem tall_at (C : FVec Ideal S64x1024 .f32) (l : Fin 128) (j : Fin 1024) (hl : l.val < 64) : tall C (ix2 l j) = C (ix2 ⟨l, hl⟩ j) := by
  pointwise [tall]
  split
  · rfl
  · omega

theorem tall_zero (C : FVec Ideal S64x1024 .f32) (l : Fin 128) (j : Fin 1024) (hl : ¬l.val < 64) : tall C (ix2 l j) = 0 := by
  pointwise [tall]
  split
  · omega
  · show (((0#32 : BitVec 32).toInt : ℝ) : EReal) = 0
    simp

/-- Token rows. -/
def rowsT (x : FVec Ideal S4x4096x1024 .f32) : FVec Ideal S16384x1024 .f32 := shapeCast S16384x1024 x shapeCasts_S4x4096x1024_S16384x1024

theorem rowsT_at (x : FVec Ideal S4x4096x1024 .f32) (g : Fin 4) (t : Fin 4096) (k : Fin 1024) : rowsT x (ix2 ⟨4096 * g + t, by omega⟩ k) = x (ix3 g t k) := by
  pointwise [rowsT]

/-- The carried state. -/
def rowsS (s : FVec Ideal S4x1024 .f32) : FVec Ideal S4x1x1024 .f32 := broadcastInDim S4x1x1024 ![0, 2] bcast_S4x1024_S4x1x1024_0_2 s

theorem rowsS_at (s : FVec Ideal S4x1024 .f32) (g : Fin 4) (k : Fin 1024) : rowsS s (ix3 g 0 k) = s (ix2 g k) := by
  pointwise [rowsS]

section Launch
variable (m : (ℓ : Loc nD τ sig) → Buf (Elt Ideal) ℓ) (c : Dev nD)

/-- The arguments. -/
abbrev a0 : FVec Ideal S4x4096x1024 .f32 := m ((c : Thread nD τ).loc main_arg0)
abbrev a1 : FVec Ideal S4x1024 .f32 := m ((c : Thread nD τ).loc main_arg1)
abbrev a2 : FVec Ideal S1024 .f32 := m ((c : Thread nD τ).loc main_arg2)
abbrev a3 : FVec Ideal S6x1024 .f32 := m ((c : Thread nD τ).loc main_arg3)
abbrev a4 : FVec Ideal S1024 .f32 := m ((c : Thread nD τ).loc main_arg4)
abbrev a5 : FVec Ideal S1024x1024 .f32 := m ((c : Thread nD τ).loc main_arg5)
abbrev a6 : FVec Ideal S1024x64 .f32 := m ((c : Thread nD τ).loc main_arg6)
abbrev a7 : FVec Ideal S64x1024 .f32 := m ((c : Thread nD τ).loc main_arg7)

theorem in_x : Gen.V m c main_v0 = rowsT (a0 m c) ∧ Gen.V m c main_v1 = rowsS (a1 m c) := by
  refine ⟨?_, ?_⟩ <;>
  · unfold Gen.V V0
    simp only [hostOps0, hostOps0_1, hostOps0_2, hostOps0_3, hostOps0_4, List.flatten_cons, List.flatten_nil, List.append_nil, List.cons_append, List.nil_append]
    after_results
    rfl

theorem in_vecs : Gen.V m c main_v31 = stack (a2 m c) (a3 m c) (a4 m c) := by
  unfold Gen.V V0
  simp only [hostOps0, hostOps0_1, hostOps0_2, hostOps0_3, hostOps0_4, List.flatten_cons, List.flatten_nil, List.append_nil, List.cons_append, List.nil_append]
  after_results
  rfl

theorem in_w : Gen.V m c main_v32 = (a5 m c : FVec Ideal S1024x1024 .f32) := by
  unfold Gen.V V0
  simp only [hostOps0, hostOps0_1, hostOps0_2, hostOps0_3, hostOps0_4, List.flatten_cons, List.flatten_nil, List.append_nil, List.cons_append, List.nil_append]
  after_results
  rfl

theorem in_l1 : Gen.V m c main_v37 = wide (a6 m c) := by
  unfold Gen.V V0
  simp only [hostOps0, hostOps0_1, hostOps0_2, hostOps0_3, hostOps0_4, List.flatten_cons, List.flatten_nil, List.append_nil, List.cons_append, List.nil_append]
  after_results
  rfl

theorem in_l2 : Gen.V m c main_v42 = tall (a7 m c) := by
  unfold Gen.V V0
  simp only [hostOps0, hostOps0_1, hostOps0_2, hostOps0_3, hostOps0_4, List.flatten_cons, List.flatten_nil, List.append_nil, List.cons_append, List.nil_append]
  after_results
  rfl

theorem tail_v47 (W : Valuation τ sig (Elt Ideal)) :
    StableHlo.after hostOps1 W (Proc.devRef .tc main_v47) = shapeCast S4x4096x1024 (W (Proc.devRef .tc main_v46_0)) shapeCasts_S16384x1024_S4x4096x1024 := by
  unfold hostOps1
  after_results
  rfl

theorem tail_v48 (W : Valuation τ sig (Elt Ideal)) :
    StableHlo.after hostOps1 W (Proc.devRef .tc main_v48) = shapeCast S4x4096x1024 (W (Proc.devRef .tc main_v46_1)) shapeCasts_S16384x1024_S4x4096x1024 := by
  unfold hostOps1
  after_results
  rfl

theorem tail_v49 (W : Valuation τ sig (Elt Ideal)) :
    StableHlo.after hostOps1 W (Proc.devRef .tc main_v49) = shapeCast S4x1024 (W (Proc.devRef .tc main_v46_2)) shapeCasts_S4x1x1024_S4x1024 := by
  unfold hostOps1
  after_results
  rfl

theorem end_v47 :
    Pipeline.afterTail₀ cfgs (dats m) 0 (V0 m) [hostOps1] c main_v47 = shapeCast S4x4096x1024 ((dats m 0 c).arrAt 9 cfg0.N) shapeCasts_S16384x1024_S4x4096x1024 := by
  unfold Pipeline.afterTail₀
  refine (tail_v47 _).trans (congrArg (fun u => shapeCast S4x4096x1024 u shapeCasts_S16384x1024_S4x4096x1024) ?_)
  exact Pipeline.withArrays_arr (cfgs 0).spec launch0.win.arr_inj c _ (fun w => (dats m 0 c).arrAt w (cfgs 0).N) 9

theorem end_v48 :
    Pipeline.afterTail₀ cfgs (dats m) 0 (V0 m) [hostOps1] c main_v48 = shapeCast S4x4096x1024 ((dats m 0 c).arrAt 10 cfg0.N) shapeCasts_S16384x1024_S4x4096x1024 := by
  unfold Pipeline.afterTail₀
  refine (tail_v48 _).trans (congrArg (fun u => shapeCast S4x4096x1024 u shapeCasts_S16384x1024_S4x4096x1024) ?_)
  exact Pipeline.withArrays_arr (cfgs 0).spec launch0.win.arr_inj c _ (fun w => (dats m 0 c).arrAt w (cfgs 0).N) 10

theorem end_v49 :
    Pipeline.afterTail₀ cfgs (dats m) 0 (V0 m) [hostOps1] c main_v49 = shapeCast S4x1024 ((dats m 0 c).arrAt 11 cfg0.N) shapeCasts_S4x1x1024_S4x1024 := by
  unfold Pipeline.afterTail₀
  refine (tail_v49 _).trans (congrArg (fun u => shapeCast S4x1024 u shapeCasts_S4x1x1024_S4x1024) ?_)
  exact Pipeline.withArrays_arr (cfgs 0).spec launch0.win.arr_inj c _ (fun w => (dats m 0 c).arrAt w (cfgs 0).N) 11

end Launch

end Cert.Kernel5Ideal.Gen

end
-- ==== Proof.ShiftRef.lean ====
module

public import proofs.«01_k».proof.Proof.Gen.Reference5Ideal.Run
public import proofs.«01_k».proof.Proof.ShiftMath

@[expose] public section

set_option maxRecDepth 16384

noncomputable section

/-! The reference's projections, entry by entry. -/

open Idealize.ShloMosaic Idealize.ShloMosaic.TcCoe Idealize.SL.Sem
open Cert.Nsa Cert.Shift Cert.Reference5Ideal.Gen

namespace Cert.Reference5Ideal.Value

/-- The normed rows. -/
def normed (x : FVec Ideal S4x4096x1024 .f32) (w : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 w))

theorem normed_at (x : FVec Ideal S4x4096x1024 .f32) (w : FVec Ideal S1024 .f32) (g : Fin 4) (t : Fin 4096) (k : Fin 1024) :
    normed x w (ix3 g t k) = hid (fun k => x (ix3 g t k)) (fun k => w (ix1 k)) k := by
  pointwise [normed]
  rfl

/-- The rows before them. -/
def before (h : FVec Ideal S4x4096x1024 .f32) (s : FVec Ideal S4x1024 .f32) : FVec Ideal S4x4096x1024 .f32 :=
  concatenate S4x4096x1024 1 [⟨S4x1x1024, broadcastInDim S4x1x1024 ![0, 2] bcast_S4x1024_S4x1x1024_0_2 s⟩,
    ⟨S4x4095x1024, extractStridedSlice S4x4095x1024 ![0, 0, 0] h slices_S4x4096x1024_S4x4095x1024_0_0_0⟩] concatenates_S4x1x1024_S4x4095x1024_S4x4096x1024_d1

theorem before_0 (h : FVec Ideal S4x4096x1024 .f32) (s : FVec Ideal S4x1024 .f32) (g : Fin 4) (k : Fin 1024) :
    before h s (ix3 g 0 k) = s (ix2 g k) := by
  pointwise [before]

theorem before_succ (h : FVec Ideal S4x4096x1024 .f32) (s : FVec Ideal S4x1024 .f32) (g : Fin 4) (t : Fin 4096) (ht : ¬t.val = 0) (k : Fin 1024) :
    before h s (ix3 g t k) = h (ix3 g ⟨t - 1, by omega⟩ k) := by
  pointwise [before]
  split
  · omega
  · rfl

/-- One of the mixing vectors, for every token. -/
def coef (o : ℕ) (hs : S6x1024.Slices ![o, 0] S1x1024) (u : FVec Ideal S6x1024 .f32) : FVec Ideal S4x4096x1024 .f32 :=
  broadcastInDim S4x4096x1024 ![0, 1, 2] bcast_S1x1x1024_S4x4096x1024_0_1_2 (broadcastInDim S1x1x1024 ![2] bcast_S1024_S1x1x1024_2
    (shapeCast S1024 (extractStridedSlice S1x1024 ![o, 0] u hs) shapeCasts_S1x1024_S1024))

theorem coef_0 (u : FVec Ideal S6x1024 .f32) (g : Fin 4) (t : Fin 4096) (k : Fin 1024) :
    coef 0 slices_S6x1024_S1x1024_0_0 u (ix3 g t k) = u (ix2 0 k) := by
  pointwise [coef]
  try (refine congrArg u ?_; blk_ext)

theorem coef_1 (u : FVec Ideal S6x1024 .f32) (g : Fin 4) (t : Fin 4096) (k : Fin 1024) :
    coef 1 slices_S6x1024_S1x1024_1_0 u (ix3 g t k) = u (ix2 1 k) := by
  pointwise [coef]
  try (refine congrArg u ?_; blk_ext)

/-- The mixed rows. -/
def mixed (h p u : FVec Ideal S4x4096x1024 .f32) : FVec Ideal S4x4096x1024 .f32 := addf h (mulf (subf p h) u)

theorem mixed_at (h p u : FVec Ideal S4x4096x1024 .f32) (y) : mixed h p u y = mixv (h y) (p y) (u y) := rfl

/-- The receptance. -/
def outR (a : FVec Ideal S4x4096x1024 .f32) (W : FVec Ideal S1024x1024 .f32) : FVec Ideal S4x4096x1024 .f32 :=
  Host.dotGeneral dot_S4x4096x1024_S1024x1024_S4x4096x1024_2_0_01_1_n_n none a W

theorem outR_at (a : FVec Ideal S4x4096x1024 .f32) (W : FVec Ideal S1024x1024 .f32) (g : Fin 4) (t : Fin 4096) (j : Fin 1024) :
    outR a W (ix3 g t j) = ∑ k : Fin 1024, a (ix3 g t k) * W (ix2 k j) := by
  pointwise [outR]

/-- The argument of the decay. -/
def argW (a : FVec Ideal S4x4096x1024 .f32) (w0 : FVec Ideal S1024 .f32) (B : FVec Ideal S1024x64 .f32) (C : FVec Ideal S64x1024 .f32) : FVec Ideal S4x4096x1024 .f32 :=
  addf (broadcastInDim S4x4096x1024 ![0, 1, 2] bcast_S1x1x1024_S4x4096x1024_0_1_2 (broadcastInDim S1x1x1024 ![2] bcast_S1024_S1x1x1024_2 w0))
    (Host.dotGeneral dot_S4x4096x64_S64x1024_S4x4096x1024_2_0_01_1_n_n none (Host.tanh (Host.dotGeneral dot_S4x4096x1024_S1024x64_S4x4096x64_2_0_01_1_n_n none a B)) C)

theorem argW_at (a : FVec Ideal S4x4096x1024 .f32) (w0 : FVec Ideal S1024 .f32) (B : FVec Ideal S1024x64 .f32) (C : FVec Ideal S64x1024 .f32)
    (g : Fin 4) (t : Fin 4096) (j : Fin 1024) :
    argW a w0 B C (ix3 g t j) = w0 (ix1 j) + ∑ l : Fin 64, Ideal.tanh (∑ k : Fin 1024, a (ix3 g t k) * B (ix2 k l)) * C (ix2 l j) := by
  pointwise [argW]

/-- The last rows. -/
def lastR (h : FVec Ideal S4x4096x1024 .f32) : FVec Ideal S4x1024 .f32 :=
  shapeCast S4x1024 (extractStridedSlice S4x1x1024 ![0, 4095, 0] h slices_S4x4096x1024_S4x1x1024_0_4095_0) shapeCasts_S4x1x1024_S4x1024

theorem lastR_at (h : FVec Ideal S4x4096x1024 .f32) (g : Fin 4) (k : Fin 1024) : lastR h (ix2 g k) = h (ix3 g 4095 k) := by
  pointwise [lastR]
  try (refine congrArg h ?_; blk_ext)

/-- The log decay, from the weight's argument. -/
def outW (y : FVec Ideal S4x4096x1024 .f32) : FVec Ideal S4x4096x1024 .f32 :=
  Host.negf (Host.exp (subf (Host.negf (select
    (cmpf .une (subf (Host.negf y) (broadcastInDim S4x4096x1024 ![] bcast_S_S4x4096x1024 (constant (F := Ideal) S_ .f32 0x00000000#32))) (subf (Host.negf y) (broadcastInDim S4x4096x1024 ![] bcast_S_S4x4096x1024 (constant (F := Ideal) S_ .f32 0x00000000#32))))
    (addf (Host.negf y) (broadcastInDim S4x4096x1024 ![] bcast_S_S4x4096x1024 (constant (F := Ideal) S_ .f32 0x00000000#32)))
    (addf (maximumf (Host.negf y) (broadcastInDim S4x4096x1024 ![] bcast_S_S4x4096x1024 (constant (F := Ideal) S_ .f32 0x00000000#32)))
      (Host.log1p (Host.exp (Host.negf (Host.absf (subf (Host.negf y) (broadcastInDim S4x4096x1024 ![] bcast_S_S4x4096x1024 (constant (F := Ideal) S_ .f32 0x00000000#32)))))))))) (broadcastInDim S4x4096x1024 ![] bcast_S_S4x4096x1024 (constant (F := Ideal) S_ .f32 0x3F000000#32))))

theorem outW_at (y : FVec Ideal S4x4096x1024 .f32) (g : Fin 4) (t : Fin 4096) (j : Fin 1024) : outW y (ix3 g t j) = decay (y (ix3 g t j)) := by
  pointwise [outW]
  rw [if_neg (fun h => h rfl)]
  rfl

/-- The results. -/
def resR (x : FVec Ideal S4x4096x1024 .f32) (s : FVec Ideal S4x1024 .f32) (w : FVec Ideal S1024 .f32) (u : FVec Ideal S6x1024 .f32) (W : FVec Ideal S1024x1024 .f32) : FVec Ideal S4x4096x1024 .f32 :=
  outR (mixed (normed x w) (before (normed x w) s) (coef 0 slices_S6x1024_S1x1024_0_0 u)) W

def resW (x : FVec Ideal S4x4096x1024 .f32) (s : FVec Ideal S4x1024 .f32) (w : FVec Ideal S1024 .f32) (u : FVec Ideal S6x1024 .f32) (w0 : FVec Ideal S1024 .f32)
    (B : FVec Ideal S1024x64 .f32) (C : FVec Ideal S64x1024 .f32) : FVec Ideal S4x4096x1024 .f32 :=
  outW (argW (mixed (normed x w) (before (normed x w) s) (coef 1 slices_S6x1024_S1x1024_1_0 u)) w0 B C)

theorem res_is (m : (ℓ : Loc nD τ sig) → Buf (Elt Ideal) ℓ) (c : Dev nD) :
    res_main_v42 m c = resW (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg6)) (m ((c.tc : Thread nD τ).loc main_arg7)) := by
  unfold res_main_v42 resW outW argW mixed before normed coef
  rfl

end Cert.Reference5Ideal.Value

end
-- ==== Proof.ShiftValue.lean ====
module

public import proofs.«01_k».proof.Defs
public import proofs.«01_k».proof.Proof.ShiftHost
public import proofs.«01_k».proof.Proof.ShiftRef

@[expose] public section

set_option maxRecDepth 16384

noncomputable section

/-! The projections' call: the kernel's results are the reference's. -/

open Idealize.ShloMosaic Idealize.ShloMosaic.TcCoe Idealize.SL.Sem
open Cert.Nsa Cert.Shift

namespace Cert.Kernel5Ideal.Gen

open Cert.Reference5Ideal.Value (normed normed_at before before_0 before_succ coef coef_0 coef_1 mixed mixed_at outR outR_at argW argW_at outW outW_at lastR lastR_at resR resW res_is)

/-- The sum over the padded rank is the sum over the rank. -/
theorem sum_rank (f : Fin 128 → EReal) (h : ∀ l : Fin 128, ¬l.val < 64 → f l = 0) : ∑ l, f l = ∑ l : Fin 64, f ⟨l, by omega⟩ := by
  have e := Fin.sum_univ_add (a := 64) (b := 64) f
  refine e.trans ?_
  rw [Finset.sum_eq_zero (s := Finset.univ) (f := fun i : Fin 64 => f (Fin.natAdd 64 i)) (fun i _ => h _ (by simp)), add_zero]
  rfl

section Join
variable (x : FVec Ideal S4x4096x1024 .f32) (s : FVec Ideal S4x1024 .f32) (w : FVec Ideal S1024 .f32) (u : FVec Ideal S6x1024 .f32) (w0 : FVec Ideal S1024 .f32)
  (W : FVec Ideal S1024x1024 .f32) (B : FVec Ideal S1024x64 .f32) (C : FVec Ideal S64x1024 .f32)

theorem hid_at (g : Fin 4) (t : Fin 4096) (k : Fin 1024) :
    hidT (rowsT x) (stack w u w0) ⟨4096 * g + t, by omega⟩ k = normed x w (ix3 g t k) := by
  rw [normed_at]
  unfold hidT
  simp only [rowsT_at, stack_0]

theorem pre_at (g : Fin 4) (t : Fin 4096) (k : Fin 1024) :
    preT (rowsT x) (stack w u w0) (rowsS s) ⟨4096 * g + t, by omega⟩ k = before (normed x w) s (ix3 g t k) := by
  unfold preT
  by_cases h0 : t.val = 0
  · obtain rfl : t = 0 := Fin.ext h0
    refine (if_pos (show (4096 * g.val + 0) % 4096 = 0 by omega)).trans ?_
    rw [before_0]
    refine Eq.trans (congrArg (fun g => rowsS s (ix3 g 0 k)) (Fin.ext ?_)) (rowsS_at s g k)
    show (4096 * g.val + 0) / 4096 = g.val
    omega
  · refine (if_neg (show ¬(4096 * g.val + t.val) % 4096 = 0 by have := t.isLt; omega)).trans ?_
    rw [before_succ _ _ g t h0, ← hid_at x w u w0]
    refine congrArg (fun n => hidT _ _ n k) (Fin.ext ?_)
    show 4096 * g.val + t.val - 1 = 4096 * g.val + (t.val - 1)
    omega

theorem col_r (g : Fin 4) (t : Fin 4096) (V : Fin 1024 → EReal) :
    colT (rowsT x) (stack w u w0) (rowsS s) 1 ⟨4096 * g + t, by omega⟩ V
      = ∑ k : Fin 1024, mixed (normed x w) (before (normed x w) s) (coef 0 Cert.Reference5Ideal.Gen.slices_S6x1024_S1x1024_0_0 u) (ix3 g t k) * V k := by
  unfold colT col
  refine Finset.sum_congr rfl fun k _ => congrArg (· * V k) ?_
  rw [mixed_at, hid_at, pre_at, coef_0]
  exact congrArg (mixv _ _) (stack_1 w u w0 k)

theorem col_w (g : Fin 4) (t : Fin 4096) (V : Fin 1024 → EReal) :
    colT (rowsT x) (stack w u w0) (rowsS s) 2 ⟨4096 * g + t, by omega⟩ V
      = ∑ k : Fin 1024, mixed (normed x w) (before (normed x w) s) (coef 1 Cert.Reference5Ideal.Gen.slices_S6x1024_S1x1024_1_0 u) (ix3 g t k) * V k := by
  unfold colT col
  refine Finset.sum_congr rfl fun k _ => congrArg (· * V k) ?_
  rw [mixed_at, hid_at, pre_at, coef_1]
  exact congrArg (mixv _ _) (stack_2 w u w0 k)

/-- Rows back to tokens. -/
theorem back_at (f : FVec Ideal S16384x1024 .f32) (g : Fin 4) (t : Fin 4096) (j : Fin 1024) :
    shapeCast S4x4096x1024 f shapeCasts_S16384x1024_S4x4096x1024 (ix3 g t j) = f (ix2 ⟨4096 * g + t, by omega⟩ j) := by
  pointwise
  refine congrArg f ?_
  blk_ext

theorem join_r : shapeCast S4x4096x1024 (rArr (rowsT x) (stack w u w0) (rowsS s) W) shapeCasts_S16384x1024_S4x4096x1024 = resR x s w u W := by
  funext y
  obtain ⟨g, t, j, rfl⟩ : ∃ (g : Fin 4) (t : Fin 4096) (j : Fin 1024), y = ix3 g t j := ⟨_, _, _, eq_ix3 y⟩
  refine (back_at _ g t j).trans ?_
  rw [rArr_at, col_r]
  exact (outR_at _ _ g t j).symm

theorem join_w : shapeCast S4x4096x1024 (wArr (rowsT x) (stack w u w0) (rowsS s) (wide B) (tall C)) shapeCasts_S16384x1024_S4x4096x1024 = resW x s w u w0 B C := by
  funext y
  obtain ⟨g, t, j, rfl⟩ : ∃ (g : Fin 4) (t : Fin 4096) (j : Fin 1024), y = ix3 g t j := ⟨_, _, _, eq_ix3 y⟩
  refine (back_at _ g t j).trans ?_
  rw [wArr_at]
  refine Eq.trans ?_ (outW_at _ g t j).symm
  refine congrArg decay ?_
  rw [argW_at, stack_7, sum_rank _ fun l hl => by rw [tall_zero C l j hl, mul_zero]]
  refine congrArg (w0 (ix1 j) + ·) (Finset.sum_congr rfl fun l _ => congrArg₂ (· * ·) (congrArg Ideal.tanh ?_) (tall_at C _ j l.isLt))
  refine (col_w x s w u w0 g t _).trans (Finset.sum_congr rfl fun k _ => congrArg (_ * ·) (wide_at B k _ l.isLt))

theorem join_s : shapeCast S4x1024 (lastArr (rowsT x) (stack w u w0)) shapeCasts_S4x1x1024_S4x1024 = lastR (normed x w) := by
  funext y
  obtain ⟨g, k, rfl⟩ : ∃ (g : Fin 4) (k : Fin 1024), y = ix2 g k := ⟨_, _, eq_ix2 y⟩
  rw [lastR_at, ← hid_at x w u w0]
  have e : shapeCast S4x1024 (lastArr (rowsT x) (stack w u w0)) shapeCasts_S4x1x1024_S4x1024 (ix2 g k) = lastArr (rowsT x) (stack w u w0) (ix3 g 0 k) := by
    generalize lastArr _ _ = f
    pointwise
    try (refine congrArg f ?_; blk_ext)
  exact e

end Join

theorem value : Cert.algebraic_Kernel5Ideal_Reference5Ideal (hKernel5Ideal := Cert.Kernel5Ideal.Gen.facts)
    (hReference5Ideal := Cert.Reference5Ideal.Gen.facts) := by
  intro m ρ m' ρ' _ hin
  refine ⟨fun c => resR (a0 m c) (a1 m c) (a2 m c) (a3 m c) (a5 m c),
    fun c => resW (a0 m c) (a1 m c) (a2 m c) (a3 m c) (a4 m c) (a6 m c) (a7 m c), fun c => lastR (normed (a0 m c) (a2 m c)), ?_, ?_⟩
  · refine (θ_run _ _ _).mono (fun r h c => ?_) (θ_run_and (run_main (F := Ideal) m ρ) (unchanged (F := Ideal) m ρ))
    obtain ⟨ex, es⟩ := in_x m c
    refine ⟨((h.1 c).2 Cert.Kernel5Ideal.main_v47 (Pipeline.mem_restRefs_of _ (by decide) (by decide))).trans ((end_v47 m c).trans ?_),
      ((h.1 c).2 Cert.Kernel5Ideal.main_v48 (Pipeline.mem_restRefs_of _ (by decide) (by decide))).trans ((end_v48 m c).trans ?_),
      ((h.1 c).2 Cert.Kernel5Ideal.main_v49 (Pipeline.mem_restRefs_of _ (by decide) (by decide))).trans ((end_v49 m c).trans ?_), h.2 c⟩
    · rw [arr9, ex, es, in_vecs, in_w]
      exact join_r _ _ _ _ _ _
    · rw [arr10, ex, es, in_vecs, in_l1, in_l2]
      exact join_w _ _ _ _ _ _ _
    · rw [arr11, ex, in_vecs]
      exact join_s _ _ _ _
  · refine (θ_run _ _ _).mono (fun r h c => ?_) (Cert.Reference5Ideal.Value.run (F := Ideal) m' ρ')
    obtain ⟨e0, e1, e2, e3, e4, e5, e6, e7⟩ := hin c
    refine ⟨(h c).1.trans ?_, (h c).2.1.trans ((res_is m' c).trans ?_), (h c).2.2.1.trans ?_, (h c).2.2.2⟩
    · rw [e0, e1, e2, e3, e5]
      rfl
    · rw [e0, e1, e2, e3, e4, e6, e7]
    · rw [e0, e2]
      rfl

end Cert.Kernel5Ideal.Gen

end
-- ==== Proof.GatePay.lean ====
module

public import proofs.«01_k».proof.Proof.Gen.Kernel6Ideal.Frame
public import proofs.«01_k».proof.Proof.ShiftPay
public import proofs.«01_k».proof.Proof.ShiftOuts

@[expose] public section

set_option maxRecDepth 16384

noncomputable section

/-! The gated projection: what a point computes, and what it leaves. -/

open Idealize.ShloMosaic Idealize.ShloMosaic.TcCoe Idealize.SL.Sem
open Idealize.ShloMosaic.Pipeline (Dat)
open Cert.Nsa Cert.Shift

namespace Cert.Kernel6Ideal.Gen

/-- One entry of the gate times the projection, from the two products. -/
def gate {n : ℕ} (f C : Fin n → EReal) (z : EReal) : EReal := (∑ l, sigm (f l) * C l) * (z * sigm z)

theorem norm_at (x : Vec Ideal S512x1024 .f32) (w : Vec Ideal S1x1024 .f32) (i : Fin 512) (k : Fin 1024) :
    k0_pay2 x w (ix2 i k) = hid (fun k => x (ix2 i k)) (fun k => w (ix2 0 k)) k := by
  pointwise [k0_pay2]
  rfl

theorem prev_at (x : Vec Ideal S512x1024 .f32) (w s : Vec Ideal S1x1024 .f32) (i : Fin 512) (k : Fin 1024) :
    k0_pay3 x w s (ix2 i k) = if i.val = 0 then s (ix2 0 k) else k0_pay2 x w (ix2 ⟨i - 1, by omega⟩ k) := by
  unfold k0_pay3
  generalize k0_pay2 x w = h
  pointwise
  rw [Cert.Kernel5Ideal.Gen.pick i i.isLt]
  by_cases e : i.val = 0
  · rw [if_pos e, if_pos e]
  · rw [if_neg e, if_neg e]
    refine congrArg h (congrArg (fun a => ix2 a k) (Fin.ext ?_))
    have hi := i.isLt
    simp only []
    omega

theorem last_at (h : Vec Ideal S512x1024 .f32) (k : Fin 1024) : k0_pay4 (F := Ideal) h (ix2 0 k) = h (ix2 511 k) := by
  pointwise [k0_pay4]

theorem init_at (s : Vec Ideal S1x1x1024 .f32) (k : Fin 1024) : k0_pay1 (F := Ideal) s (ix2 0 k) = s (ix3 0 0 k) := by
  pointwise [k0_pay1]

theorem gate_at (h p : Vec Ideal S512x1024 .f32) (u : Vec Ideal S1x1024 .f32) (W : Vec Ideal S1024x1024 .bf16) (A : Vec Ideal S1024x256 .bf16) (B : Vec Ideal S256x1024 .bf16)
    (i : Fin 512) (j : Fin 1024) :
    k0_pay5 h p u W A B (ix2 i j) = gate (fun l => col (fun k => h (ix2 i k)) (fun k => p (ix2 i k)) (fun k => u (ix2 0 k)) (fun k => A (ix2 k l))) (fun l => B (ix2 l j))
      (col (fun k => h (ix2 i k)) (fun k => p (ix2 i k)) (fun k => u (ix2 0 k)) (fun k => W (ix2 k j))) := by
  pointwise [k0_pay5]
  simp only [zero_sub]
  rfl

variable (m : (ℓ : Loc nD τ sig) → Buf (Elt Ideal) ℓ) (c : Dev nD)

open Cert.Kernel5Ideal.Gen (vrow)

theorem row_0 (A : Vec Ideal S16x1024 .f32) : View.ld A (Rect.unit ![0, 0] ![1, 1024] inb_S16x1024_S1x1024_0_0) = vrow A 0 := Cert.Kernel5Ideal.Gen.row_0 A

theorem row_6 (A : Vec Ideal S16x1024 .f32) : View.ld A (Rect.unit ![6, 0] ![1, 1024] inb_S16x1024_S1x1024_6_0) = vrow A 6 := by
  funext y; obtain ⟨z, k, rfl⟩ : ∃ (z : Fin 1) (k : Fin 1024), y = ix2 z k := ⟨_, _, eq_ix2 y⟩; obtain rfl : z = 0 := Subsingleton.elim _ _; pointwise [vrow]

/-- The rows a point norms. -/
def hB (t : Fin cfg0.N) : Vec Ideal S512x1024 .f32 := k0_pay2 (iblk m c 0 t) (vrow (iblk m c 2 t) 0)

/-- The row carried into a point. -/
def carry (t : Fin cfg0.N) : Vec Ideal S1x1024 .f32 :=
  if t.val % 8 = 0 then k0_pay1 (iblk m c 1 t) else (outsAt0 m c (t.val - 1) (lt_of_le_of_lt (Nat.sub_le _ _) t.isLt)).2

/-- The rows before them. -/
def pB (t : Fin cfg0.N) : Vec Ideal S512x1024 .f32 := k0_pay3 (iblk m c 0 t) (vrow (iblk m c 2 t) 0) (carry m c t)

theorem outs9 (t : Fin cfg0.N) : (outsAt0 m c t.val t.isLt).1 = k0_pay5 (hB m c t) (pB m c t) (vrow (iblk m c 2 t) 6) (iblk m c 3 t) (iblk m c 5 t) (iblk m c 7 t) := by
  unfold pB hB carry
  rw [← row_0, ← row_6]
  by_cases h0 : t.val % 8 = 0
  · rw [if_pos h0, outsAt0_A m c t h0]
    frame_out
  · rw [if_neg h0, outsAt0_B m c t h0]
    frame_out
    simp only [read_unread_whole]

theorem outsS (t : Fin cfg0.N) : (outsAt0 m c t.val t.isLt).2 = k0_pay4 (F := Ideal) (hB m c t) := by
  unfold hB
  rw [← row_0]
  by_cases h0 : t.val % 8 = 0
  · rw [outsAt0_A m c t h0]
    frame_out
  · rw [outsAt0_B m c t h0]
    frame_out

end Cert.Kernel6Ideal.Gen

end
-- ==== Proof.GateLeft.lean ====
module

public import proofs.«01_k».proof.Proof.GatePay

@[expose] public section

set_option maxRecDepth 16384

noncomputable section

/-! The array the gated projection leaves. -/

open Idealize.ShloMosaic Idealize.ShloMosaic.TcCoe Idealize.SL.Sem
open Idealize.ShloMosaic.Pipeline (Dat)
open Cert.Nsa Cert.Shift

namespace Cert.Kernel6Ideal.Gen

open Cert.Kernel5Ideal.Gen (vrow)

variable (m : (ℓ : Loc nD τ sig) → Buf (Elt Ideal) ℓ) (c : Dev nD)

/-- The token of a row of a point's block. -/
def tok (t : Fin cfg0.N) (i : Fin 512) : Fin 16384 := ⟨512 * t.val + i, by have : t.val < 32 := t.2; omega⟩

/-- The batch row of a point. -/
def brow (t : Fin cfg0.N) : Fin 4 := ⟨t.val / 8, by have : t.val < 32 := t.2; omega⟩

theorem idx_0 : ∀ t : Fin grid0.N, win0_0.index t 0 = t.val ∧ win0_0.index t 1 = 0 := by decide +kernel
theorem idx_1 : ∀ t : Fin grid0.N, win0_1.index t 0 = t.val / 8 ∧ win0_1.index t 1 = 0 ∧ win0_1.index t 2 = 0 := by decide +kernel
theorem idx_2 : ∀ t : Fin grid0.N, win0_2.index t 0 = 0 ∧ win0_2.index t 1 = 0 := by decide +kernel
theorem idx_3 : ∀ t : Fin grid0.N, win0_3.index t 0 = 0 ∧ win0_3.index t 1 = 0 := by decide +kernel
theorem idx_5 : ∀ t : Fin grid0.N, win0_5.index t 0 = 0 ∧ win0_5.index t 1 = 0 := by decide +kernel
theorem idx_7 : ∀ t : Fin grid0.N, win0_7.index t 0 = 0 ∧ win0_7.index t 1 = 0 := by decide +kernel
theorem idx_9 : ∀ t : Fin grid0.N, win0_9.index t 0 = t.val ∧ win0_9.index t 1 = 0 := by decide +kernel

theorem blk_0 (t : Fin cfg0.N) (i : Fin 512) (j : Fin 1024) : iblk m c 0 t (ix2 i j) = Gen.V m c main_v0 (ix2 (tok t i) j) := by
  obtain ⟨e0, e1⟩ := idx_0 t
  blk_simp [iblk]
  blk_ext [e0, e1, tok]

theorem blk_1 (t : Fin cfg0.N) (j : Fin 1024) : iblk m c 1 t (ix3 0 0 j) = Gen.V m c main_v1 (ix3 (brow t) 0 j) := by
  obtain ⟨e0, e1, e2⟩ := idx_1 t
  blk_simp [iblk]
  blk_ext [e0, e1, e2, brow]

theorem blk_2 (t : Fin cfg0.N) (i : Fin 16) (j : Fin 1024) : iblk m c 2 t (ix2 i j) = Gen.V m c main_v31 (ix2 i j) := by
  obtain ⟨e0, e1⟩ := idx_2 t
  blk_simp [iblk]
  blk_ext [e0, e1]

theorem blk_3 (t : Fin cfg0.N) (i j : Fin 1024) : iblk m c 3 t (ix2 i j) = Gen.V m c main_v32 (ix2 i j) := by
  obtain ⟨e0, e1⟩ := idx_3 t
  blk_simp [iblk]
  blk_ext [e0, e1]

theorem blk_5 (t : Fin cfg0.N) (i : Fin 1024) (j : Fin 256) : iblk m c 5 t (ix2 i j) = Gen.V m c main_v37 (ix2 i j) := by
  obtain ⟨e0, e1⟩ := idx_5 t
  blk_simp [iblk]
  blk_ext [e0, e1]

theorem blk_7 (t : Fin cfg0.N) (i : Fin 256) (j : Fin 1024) : iblk m c 7 t (ix2 i j) = Gen.V m c main_v42 (ix2 i j) := by
  obtain ⟨e0, e1⟩ := idx_7 t
  blk_simp [iblk]
  blk_ext [e0, e1]

theorem vrow_at (t : Fin cfg0.N) (r : Fin 16) (k : Fin 1024) : vrow (iblk m c 2 t) r (ix2 0 k) = Gen.V m c main_v31 (ix2 r k) := blk_2 m c t r k

theorem hB_at (t : Fin cfg0.N) (i : Fin 512) (k : Fin 1024) : hB m c t (ix2 i k) = hidT (Gen.V m c main_v0) (Gen.V m c main_v31) (tok t i) k := by
  unfold hB hidT
  refine (norm_at _ _ i k).trans ?_
  simp only [blk_0, vrow_at]

theorem carry_at (t : Fin cfg0.N) (k : Fin 1024) :
    carry m c t (ix2 0 k) = preT (Gen.V m c main_v0) (Gen.V m c main_v31) (Gen.V m c main_v1) (tok t 0) k := by
  have ht : t.val < 32 := t.2
  unfold carry preT
  by_cases h0 : t.val % 8 = 0
  · rw [if_pos h0]
    refine Eq.trans ?_ (if_pos (show (512 * t.val + 0) % 4096 = 0 by omega)).symm
    refine (init_at _ k).trans ((blk_1 m c t k).trans ?_)
    refine congrArg (fun g => Gen.V m c main_v1 (ix3 g 0 k)) (Fin.ext ?_)
    show t.val / 8 = (512 * t.val + 0) / 4096
    omega
  · rw [if_neg h0]
    refine Eq.trans ?_ (if_neg (show ¬(512 * t.val + 0) % 4096 = 0 by omega)).symm
    have e := outsS m c ⟨t.val - 1, lt_of_le_of_lt (Nat.sub_le _ _) t.isLt⟩
    refine (congrFun e _).trans ((last_at _ k).trans ((hB_at m c _ _ k).trans ?_))
    refine congrArg (fun n => hidT _ _ n k) (Fin.ext ?_)
    show 512 * (t.val - 1) + 511 = 512 * t.val + 0 - 1
    omega

theorem pB_at (t : Fin cfg0.N) (i : Fin 512) (k : Fin 1024) :
    pB m c t (ix2 i k) = preT (Gen.V m c main_v0) (Gen.V m c main_v31) (Gen.V m c main_v1) (tok t i) k := by
  unfold pB
  refine (prev_at _ _ _ i k).trans ?_
  by_cases e : i.val = 0
  · rw [if_pos e, carry_at]
    obtain rfl : i = 0 := Fin.ext e
    rfl
  · rw [if_neg e]
    refine (hB_at m c t _ k).trans ?_
    unfold preT
    refine Eq.trans ?_ (if_neg (show ¬(512 * t.val + i.val) % 4096 = 0 by have := i.isLt; omega)).symm
    refine congrArg (fun n => hidT _ _ n k) (Fin.ext ?_)
    show 512 * t.val + (i.val - 1) = 512 * t.val + i.val - 1
    omega

theorem col_at (t : Fin cfg0.N) (r : Fin 16) (i : Fin 512) (W : Fin 1024 → EReal) :
    col (fun k => hB m c t (ix2 i k)) (fun k => pB m c t (ix2 i k)) (fun k => vrow (iblk m c 2 t) r (ix2 0 k)) W
      = colT (Gen.V m c main_v0) (Gen.V m c main_v31) (Gen.V m c main_v1) r (tok t i) W := by
  unfold colT
  simp only [hB_at, pB_at, vrow_at]

/-- The gated projection. -/
def zArr (X : (⟨2, ![16384, 1024]⟩ : Shape).Idx → EReal) (A : (⟨2, ![16, 1024]⟩ : Shape).Idx → EReal) (I : (⟨3, ![4, 1, 1024]⟩ : Shape).Idx → EReal)
    (W : (⟨2, ![1024, 1024]⟩ : Shape).Idx → EReal) (B : (⟨2, ![1024, 256]⟩ : Shape).Idx → EReal) (C : (⟨2, ![256, 1024]⟩ : Shape).Idx → EReal) :
    (⟨2, ![16384, 1024]⟩ : Shape).Idx → EReal :=
  fun y => gate (fun l => colT X A I 6 (y 0) (fun k => B (ix2 k l))) (fun l => C (ix2 l (y 1))) (colT X A I 6 (y 0) (fun k => W (ix2 k (y 1))))

theorem zArr_at (X : (⟨2, ![16384, 1024]⟩ : Shape).Idx → EReal) (A : (⟨2, ![16, 1024]⟩ : Shape).Idx → EReal) (I : (⟨3, ![4, 1, 1024]⟩ : Shape).Idx → EReal)
    (W : (⟨2, ![1024, 1024]⟩ : Shape).Idx → EReal) (B : (⟨2, ![1024, 256]⟩ : Shape).Idx → EReal) (C : (⟨2, ![256, 1024]⟩ : Shape).Idx → EReal) (n : Fin 16384) (j : Fin 1024) :
    zArr X A I W B C (ix2 n j) = gate (fun l => colT X A I 6 n (fun k => B (ix2 k l))) (fun l => C (ix2 l j)) (colT X A I 6 n (fun k => W (ix2 k j))) := rfl

theorem out9_at (t : Fin cfg0.N) (i : Fin 512) (j : Fin 1024) : (outsAt0 m c t.val t.isLt).1 (ix2 i j)
    = zArr (Gen.V m c main_v0) (Gen.V m c main_v31) (Gen.V m c main_v1) (Gen.V m c main_v32) (Gen.V m c main_v37) (Gen.V m c main_v42) (ix2 (tok t i) j) := by
  rw [outs9, zArr_at]
  refine (gate_at _ _ _ _ _ _ i j).trans ?_
  have e1 := fun W => col_at m c t 6 i W
  refine congr (congrArg₂ gate (funext fun l => ?_) (funext fun l => blk_7 m c t l j)) ?_
  · exact (e1 _).trans (congrArg (colT _ _ _ 6 _) (funext fun k => blk_5 m c t k l))
  · exact (e1 _).trans (congrArg (colT _ _ _ 6 _) (funext fun k => blk_3 m c t k j))

theorem arr9 : (dats m 0 c).arrAt 9 cfg0.N
    = zArr (Gen.V m c main_v0) (Gen.V m c main_v31) (Gen.V m c main_v1) (Gen.V m c main_v32) (Gen.V m c main_v37) (Gen.V m c main_v42) := by
  generalize hw : zArr (Gen.V m c main_v0) (Gen.V m c main_v31) (Gen.V m c main_v1) (Gen.V m c main_v32) (Gen.V m c main_v37) (Gen.V m c main_v42) = f
  refine (dats m 0 c).arrAt_eq_of_covers 9 f (by decide +kernel) fun t hf y => ?_
  obtain ⟨e0, e1⟩ := idx_9 t
  obtain ⟨i, j, rfl⟩ : ∃ (i : Fin 512) (j : Fin 1024), y = ix2 i j := ⟨_, _, eq_ix2 y⟩
  refine Eq.trans ?_ (congrArg f (show ix2 (tok t i) j = _ by blk_ext [e0, e1, tok]))
  blk_simp
  rw [after0_9]
  subst hw
  exact out9_at m c t i j

end Cert.Kernel6Ideal.Gen

end
-- ==== Proof.GateValue.lean ====
module

public import proofs.«01_k».proof.Defs
public import proofs.«01_k».proof.Proof.GateLeft
public import proofs.«01_k».proof.Proof.ShiftValue
public import proofs.«01_k».proof.Proof.Gen.Reference6Ideal.Run

@[expose] public section

set_option maxRecDepth 16384

noncomputable section

/-! The gated projection: the kernel's result is the reference's. -/

open Idealize.ShloMosaic Idealize.ShloMosaic.TcCoe Idealize.SL.Sem
open Idealize.ShloMosaic.Pipeline (Dat)
open Cert.Nsa Cert.Shift

namespace Cert.Kernel6Ideal.Gen

open Cert.Kernel5Ideal.Gen (rowV rowV_at muRow stack stack_0 rowsT rowsT_at rowsS rowsS_at hid_at pre_at back_at)
open Cert.Reference5Ideal.Value (normed before coef mixed mixed_at outR outR_at)

/-- The vector of zeros. -/
def none0 : FVec Ideal S1024 .f32 := broadcastInDim S1024 ![] bcast_S_S1024 (constant (F := Ideal) S_ .f32 0x00000000#32)

theorem muRow_5 (u : FVec Ideal S6x1024 .f32) (j : Fin 1024) : muRow 5 slices_S6x1024_S1x1024_5_0 u (ix2 0 j) = u (ix2 5 j) := by
  unfold muRow
  refine (rowV_at _ j).trans ?_
  pointwise
  try (refine congrArg u ?_; blk_ext)

theorem stack_6 (w : FVec Ideal S1024 .f32) (u : FVec Ideal S6x1024 .f32) (w0 : FVec Ideal S1024 .f32) (j : Fin 1024) : stack w u w0 (ix2 6 j) = u (ix2 5 j) := by
  unfold stack
  pointwise
  exact muRow_5 _ _

/-- The first factor, its columns filled up with zeros. -/
def wide (B : FVec Ideal S1024x160 .f32) : FVec Ideal S1024x256 .f32 :=
  pad S1024x256 ![0, 0] ![0, 96] ![0, 0] B (sitofp .f32 (constantI S_ 32 0#32)) pads_S1024x160_S1024x256_000_0960 h_S_

/-- The second factor, its rows filled up with zeros. -/
def tall (C : FVec Ideal S160x1024 .f32) : FVec Ideal S256x1024 .f32 :=
  pad S256x1024 ![0, 0] ![96, 0] ![0, 0] C (sitofp .f32 (constantI S_ 32 0#32)) pads_S160x1024_S256x1024_0960_000 h_S_

theorem wide_at (B : FVec Ideal S1024x160 .f32) (k : Fin 1024) (l : Fin 256) (hl : l.val < 160) : wide B (ix2 k l) = B (ix2 k ⟨l, hl⟩) := by
  pointwise [wide]
  split
  · rfl
  · omega

theorem tall_at (C : FVec Ideal S160x1024 .f32) (l : Fin 256) (j : Fin 1024) (hl : l.val < 160) : tall C (ix2 l j) = C (ix2 ⟨l, hl⟩ j) := by
  pointwise [tall]
  split
  · rfl
  · omega

theorem tall_zero (C : FVec Ideal S160x1024 .f32) (l : Fin 256) (j : Fin 1024) (hl : ¬l.val < 160) : tall C (ix2 l j) = 0 := by
  pointwise [tall]
  split
  · omega
  · show (((0#32 : BitVec 32).toInt : ℝ) : EReal) = 0
    simp

section Launch
variable (m : (ℓ : Loc nD τ sig) → Buf (Elt Ideal) ℓ) (c : Dev nD)

/-- The arguments. -/
abbrev a0 : FVec Ideal S4x4096x1024 .f32 := m ((c : Thread nD τ).loc main_arg0)
abbrev a1 : FVec Ideal S4x1024 .f32 := m ((c : Thread nD τ).loc main_arg1)
abbrev a2 : FVec Ideal S1024 .f32 := m ((c : Thread nD τ).loc main_arg2)
abbrev a3 : FVec Ideal S6x1024 .f32 := m ((c : Thread nD τ).loc main_arg3)
abbrev a4 : FVec Ideal S1024x1024 .f32 := m ((c : Thread nD τ).loc main_arg4)
abbrev a5 : FVec Ideal S1024x160 .f32 := m ((c : Thread nD τ).loc main_arg5)
abbrev a6 : FVec Ideal S160x1024 .f32 := m ((c : Thread nD τ).loc main_arg6)

theorem in_x : Gen.V m c main_v0 = rowsT (a0 m c) := by
  unfold Gen.V V0
  simp only [hostOps0, hostOps0_1, hostOps0_2, hostOps0_3, hostOps0_4, List.flatten_cons, List.flatten_nil, List.append_nil, List.cons_append, List.nil_append]
  after_results
  rfl

theorem in_s : Gen.V m c main_v1 = rowsS (a1 m c) := by
  unfold Gen.V V0
  simp only [hostOps0, hostOps0_1, hostOps0_2, hostOps0_3, hostOps0_4, List.flatten_cons, List.flatten_nil, List.append_nil, List.cons_append, List.nil_append]
  after_results
  rfl

theorem in_vecs : Gen.V m c main_v31 = stack (a2 m c) (a3 m c) none0 := by
  unfold Gen.V V0
  simp only [hostOps0, hostOps0_1, hostOps0_2, hostOps0_3, hostOps0_4, List.flatten_cons, List.flatten_nil, List.append_nil, List.cons_append, List.nil_append]
  after_results
  rfl

theorem in_w : Gen.V m c main_v32 = (a4 m c : FVec Ideal S1024x1024 .f32) := by
  unfold Gen.V V0
  simp only [hostOps0, hostOps0_1, hostOps0_2, hostOps0_3, hostOps0_4, List.flatten_cons, List.flatten_nil, List.append_nil, List.cons_append, List.nil_append]
  after_results
  rfl

theorem in_l1 : Gen.V m c main_v37 = wide (a5 m c) := by
  unfold Gen.V V0
  simp only [hostOps0, hostOps0_1, hostOps0_2, hostOps0_3, hostOps0_4, List.flatten_cons, List.flatten_nil, List.append_nil, List.cons_append, List.nil_append]
  after_results
  rfl

theorem in_l2 : Gen.V m c main_v42 = tall (a6 m c) := by
  unfold Gen.V V0
  simp only [hostOps0, hostOps0_1, hostOps0_2, hostOps0_3, hostOps0_4, List.flatten_cons, List.flatten_nil, List.append_nil, List.cons_append, List.nil_append]
  after_results
  rfl

theorem tail_v47 (W : Valuation τ sig (Elt Ideal)) :
    StableHlo.after hostOps1 W (Proc.devRef .tc main_v47) = shapeCast S4x4096x1024 (W (Proc.devRef .tc main_v46)) shapeCasts_S16384x1024_S4x4096x1024 := by
  unfold hostOps1
  after_results
  rfl

theorem end_v47 :
    Pipeline.afterTail₀ cfgs (dats m) 0 (V0 m) [hostOps1] c main_v47 = shapeCast S4x4096x1024 ((dats m 0 c).arrAt 9 cfg0.N) shapeCasts_S16384x1024_S4x4096x1024 := by
  unfold Pipeline.afterTail₀
  refine (tail_v47 _).trans (congrArg (fun u => shapeCast S4x4096x1024 u shapeCasts_S16384x1024_S4x4096x1024) ?_)
  exact Pipeline.withArrays_arr (cfgs 0).spec launch0.win.arr_inj c _ (fun w => (dats m 0 c).arrAt w (cfgs 0).N) 9

end Launch

/-- The reference's gate, from the mixed rows. -/
def outG (a : FVec Ideal S4x4096x1024 .f32) (B : FVec Ideal S1024x160 .f32) (C : FVec Ideal S160x1024 .f32) : FVec Ideal S4x4096x1024 .f32 :=
  Host.dotGeneral Cert.Reference6Ideal.dot_S4x4096x160_S160x1024_S4x4096x1024_2_0_01_1_n_n none
    (Host.divf (broadcastInDim Cert.Reference6Ideal.S4x4096x160 ![] Cert.Reference6Ideal.Gen.bcast_S_S4x4096x160 (constant (F := Ideal) S_ .f32 0x3F800000#32))
      (addf (broadcastInDim Cert.Reference6Ideal.S4x4096x160 ![] Cert.Reference6Ideal.Gen.bcast_S_S4x4096x160 (constant (F := Ideal) S_ .f32 0x3F800000#32))
        (Host.exp (Host.negf (Host.dotGeneral Cert.Reference6Ideal.dot_S4x4096x1024_S1024x160_S4x4096x160_2_0_01_1_n_n none a B))))) C

theorem outG_at (a : FVec Ideal S4x4096x1024 .f32) (B : FVec Ideal S1024x160 .f32) (C : FVec Ideal S160x1024 .f32) (g : Fin 4) (t : Fin 4096) (j : Fin 1024) :
    outG a B C (ix3 g t j) = ∑ l : Fin 160, sigm (∑ k : Fin 1024, a (ix3 g t k) * B (ix2 k l)) * C (ix2 l j) := by
  pointwise [outG]
  rfl

/-- A value times its logistic. -/
def swish (z : FVec Ideal S4x4096x1024 .f32) : FVec Ideal S4x4096x1024 .f32 :=
  mulf z (Host.divf (broadcastInDim S4x4096x1024 ![] Cert.Reference6Ideal.Gen.bcast_S_S4x4096x1024 (constant (F := Ideal) S_ .f32 0x3F800000#32))
    (addf (broadcastInDim S4x4096x1024 ![] Cert.Reference6Ideal.Gen.bcast_S_S4x4096x1024 (constant (F := Ideal) S_ .f32 0x3F800000#32)) (Host.exp (Host.negf z))))

theorem swish_at (z : FVec Ideal S4x4096x1024 .f32) (g : Fin 4) (t : Fin 4096) (j : Fin 1024) : swish z (ix3 g t j) = z (ix3 g t j) * sigm (z (ix3 g t j)) := by
  pointwise [swish]
  rfl

/-- The mixed rows. -/
def mixG (x : FVec Ideal S4x4096x1024 .f32) (s : FVec Ideal S4x1024 .f32) (w : FVec Ideal S1024 .f32) (u : FVec Ideal S6x1024 .f32) : FVec Ideal S4x4096x1024 .f32 :=
  mixed (normed x w) (before (normed x w) s) (coef 5 Cert.Reference6Ideal.Gen.slices_S6x1024_S1x1024_5_0 u)

/-- The result. -/
def resZ (x : FVec Ideal S4x4096x1024 .f32) (s : FVec Ideal S4x1024 .f32) (w : FVec Ideal S1024 .f32) (u : FVec Ideal S6x1024 .f32) (W : FVec Ideal S1024x1024 .f32)
    (B : FVec Ideal S1024x160 .f32) (C : FVec Ideal S160x1024 .f32) : FVec Ideal S4x4096x1024 .f32 :=
  mulf (outG (mixG x s w u) B C) (swish (outR (mixG x s w u) W))

theorem res_is (m : (ℓ : Loc Cert.Reference6Ideal.nD Cert.Reference6Ideal.τ Cert.Reference6Ideal.sig) → Buf (Elt Ideal) ℓ) (c : Dev Cert.Reference6Ideal.nD) :
    Cert.Reference6Ideal.Value.res_main_v33 m c = resZ (m ((c.tc : Thread _ _).loc Cert.Reference6Ideal.main_arg0)) (m ((c.tc : Thread _ _).loc Cert.Reference6Ideal.main_arg1))
      (m ((c.tc : Thread _ _).loc Cert.Reference6Ideal.main_arg2)) (m ((c.tc : Thread _ _).loc Cert.Reference6Ideal.main_arg3)) (m ((c.tc : Thread _ _).loc Cert.Reference6Ideal.main_arg4))
      (m ((c.tc : Thread _ _).loc Cert.Reference6Ideal.main_arg5)) (m ((c.tc : Thread _ _).loc Cert.Reference6Ideal.main_arg6)) := by
  unfold Cert.Reference6Ideal.Value.res_main_v33 resZ outG swish outR mixG mixed before normed coef
  rfl

/-- The sum over the padded rank is the sum over the rank. -/
theorem sum_rank (f : Fin 256 → EReal) (h : ∀ l : Fin 256, ¬l.val < 160 → f l = 0) : ∑ l, f l = ∑ l : Fin 160, f ⟨l, by omega⟩ := by
  have e := Fin.sum_univ_add (a := 160) (b := 96) f
  refine e.trans ?_
  rw [Finset.sum_eq_zero (s := Finset.univ) (f := fun i : Fin 96 => f (Fin.natAdd 160 i)) (fun i _ => h _ (by simp)), add_zero]
  rfl

section Join
variable (x : FVec Ideal S4x4096x1024 .f32) (s : FVec Ideal S4x1024 .f32) (w : FVec Ideal S1024 .f32) (u : FVec Ideal S6x1024 .f32) (w0 : FVec Ideal S1024 .f32)
  (W : FVec Ideal S1024x1024 .f32) (B : FVec Ideal S1024x160 .f32) (C : FVec Ideal S160x1024 .f32)

theorem coef_5 (g : Fin 4) (t : Fin 4096) (k : Fin 1024) : coef 5 Cert.Reference6Ideal.Gen.slices_S6x1024_S1x1024_5_0 u (ix3 g t k) = u (ix2 5 k) := by
  pointwise [coef]
  try (refine congrArg u ?_; blk_ext)

theorem col_g (g : Fin 4) (t : Fin 4096) (V : Fin 1024 → EReal) :
    colT (rowsT x) (stack w u w0) (rowsS s) 6 ⟨4096 * g + t, by omega⟩ V = ∑ k : Fin 1024, mixG x s w u (ix3 g t k) * V k := by
  unfold colT col mixG
  refine Finset.sum_congr rfl fun k _ => congrArg (· * V k) ?_
  rw [mixed_at, hid_at, pre_at, coef_5]
  exact congrArg (mixv _ _) (stack_6 w u w0 k)

theorem join : shapeCast S4x4096x1024 (zArr (rowsT x) (stack w u w0) (rowsS s) W (wide B) (tall C)) shapeCasts_S16384x1024_S4x4096x1024 = resZ x s w u W B C := by
  funext y
  obtain ⟨g, t, j, rfl⟩ : ∃ (g : Fin 4) (t : Fin 4096) (j : Fin 1024), y = ix3 g t j := ⟨_, _, _, eq_ix3 y⟩
  refine (back_at _ g t j).trans ?_
  rw [zArr_at]
  refine Eq.trans ?_ (show outG (mixG x s w u) B C (ix3 g t j) * swish (outR (mixG x s w u) W) (ix3 g t j) = _ from rfl)
  have ez : colT (rowsT x) (stack w u w0) (rowsS s) 6 ⟨4096 * g + t, by omega⟩ (fun k => W (ix2 k j)) = outR (mixG x s w u) W (ix3 g t j) :=
    (col_g x s w u w0 g t _).trans (outR_at _ _ g t j).symm
  rw [outG_at, swish_at, ez]
  unfold gate
  rw [sum_rank _ fun l hl => (congrArg (_ * ·) (tall_zero C l j hl)).trans (mul_zero _)]
  refine congrArg (· * _) (Finset.sum_congr rfl fun l _ => congrArg₂ (· * ·) (congrArg sigm ?_) (tall_at C _ j l.isLt))
  refine (col_g x s w u w0 g t _).trans (Finset.sum_congr rfl fun k _ => congrArg (_ * ·) (wide_at B k _ l.isLt))

end Join

theorem value : Cert.algebraic_Kernel6Ideal_Reference6Ideal (hKernel6Ideal := Cert.Kernel6Ideal.Gen.facts)
    (hReference6Ideal := Cert.Reference6Ideal.Gen.facts) := by
  intro m ρ m' ρ' _ hin
  refine ⟨fun c => resZ (a0 m c) (a1 m c) (a2 m c) (a3 m c) (a4 m c) (a5 m c) (a6 m c), ?_, ?_⟩
  · refine (θ_run _ _ _).mono (fun r h c => ?_) (θ_run_and (run_main (F := Ideal) m ρ) (unchanged (F := Ideal) m ρ))
    refine ⟨((h.1 c).2 Cert.Kernel6Ideal.main_v47 (Pipeline.mem_restRefs_of _ (by decide) (by decide))).trans ((end_v47 m c).trans ?_), h.2 c⟩
    rw [arr9, in_x, in_s, in_vecs, in_w, in_l1, in_l2]
    exact join _ _ _ _ _ _ _ _
  · refine (θ_run _ _ _).mono (fun r h c => ?_) (Cert.Reference6Ideal.Value.run (F := Ideal) m' ρ')
    obtain ⟨e0, e1, e2, e3, e4, e5, e6⟩ := hin c
    refine ⟨(h c).1.trans ((res_is m' c).trans ?_), (h c).2⟩
    rw [e0, e1, e2, e3, e4, e5, e6]

end Cert.Kernel6Ideal.Gen

end
-- ==== Proof.ValPay.lean ====
module

public import proofs.«01_k».proof.Proof.Gen.Kernel7Ideal.Frame
public import proofs.«01_k».proof.Proof.ShiftPay
public import proofs.«01_k».proof.Proof.ShiftOuts

@[expose] public section

set_option maxRecDepth 16384

noncomputable section

/-! The values: what a point computes, and what it leaves. -/

open Idealize.ShloMosaic Idealize.ShloMosaic.TcCoe Idealize.SL.Sem
open Idealize.ShloMosaic.Pipeline (Dat)
open Cert.Nsa Cert.Shift

namespace Cert.Kernel7Ideal.Gen

/-- One entry of the values, drawn toward the first layer's. -/
def blend {n : ℕ} (f C : Fin n → EReal) (o v w : EReal) : EReal := v + (w - v) * sigm (o + ∑ l, f l * C l)

theorem norm_at (x : Vec Ideal S512x1024 .f32) (w : Vec Ideal S1x1024 .f32) (i : Fin 512) (k : Fin 1024) :
    k0_pay2 x w (ix2 i k) = hid (fun k => x (ix2 i k)) (fun k => w (ix2 0 k)) k := by
  pointwise [k0_pay2]
  rfl

theorem prev_at (x : Vec Ideal S512x1024 .f32) (w s : Vec Ideal S1x1024 .f32) (i : Fin 512) (k : Fin 1024) :
    k0_pay3 x w s (ix2 i k) = if i.val = 0 then s (ix2 0 k) else k0_pay2 x w (ix2 ⟨i - 1, by omega⟩ k) := by
  unfold k0_pay3
  generalize k0_pay2 x w = h
  pointwise
  rw [Cert.Kernel5Ideal.Gen.pick i i.isLt]
  by_cases e : i.val = 0
  · rw [if_pos e, if_pos e]
  · rw [if_neg e, if_neg e]
    refine congrArg h (congrArg (fun a => ix2 a k) (Fin.ext ?_))
    have hi := i.isLt
    simp only []
    omega

theorem last_at (h : Vec Ideal S512x1024 .f32) (k : Fin 1024) : k0_pay4 (F := Ideal) h (ix2 0 k) = h (ix2 511 k) := by
  pointwise [k0_pay4]

theorem init_at (s : Vec Ideal S1x1x1024 .f32) (k : Fin 1024) : k0_pay1 (F := Ideal) s (ix2 0 k) = s (ix3 0 0 k) := by
  pointwise [k0_pay1]

theorem blend_at (h p : Vec Ideal S512x1024 .f32) (u : Vec Ideal S1x1024 .f32) (W : Vec Ideal S1024x1024 .bf16) (o : Vec Ideal S1x1024 .f32)
    (A : Vec Ideal S1024x128 .bf16) (B : Vec Ideal S128x1024 .bf16) (f : Vec Ideal S512x1024 .f32) (i : Fin 512) (j : Fin 1024) :
    k0_pay5 h p u W o A B f (ix2 i j) = blend (fun l => col (fun k => h (ix2 i k)) (fun k => p (ix2 i k)) (fun k => u (ix2 0 k)) (fun k => A (ix2 k l))) (fun l => B (ix2 l j))
      (o (ix2 0 j)) (col (fun k => h (ix2 i k)) (fun k => p (ix2 i k)) (fun k => u (ix2 0 k)) (fun k => W (ix2 k j))) (f (ix2 i j)) := by
  pointwise [k0_pay5]
  simp only [zero_sub]
  rfl

variable (m : (ℓ : Loc nD τ sig) → Buf (Elt Ideal) ℓ) (c : Dev nD)

open Cert.Kernel5Ideal.Gen (vrow)

theorem row_0 (A : Vec Ideal S16x1024 .f32) : View.ld A (Rect.unit ![0, 0] ![1, 1024] inb_S16x1024_S1x1024_0_0) = vrow A 0 := Cert.Kernel5Ideal.Gen.row_0 A

theorem row_4 (A : Vec Ideal S16x1024 .f32) : View.ld A (Rect.unit ![4, 0] ![1, 1024] inb_S16x1024_S1x1024_4_0) = vrow A 4 := by
  funext y; obtain ⟨z, k, rfl⟩ : ∃ (z : Fin 1) (k : Fin 1024), y = ix2 z k := ⟨_, _, eq_ix2 y⟩; obtain rfl : z = 0 := Subsingleton.elim _ _; pointwise [vrow]

theorem row_9 (A : Vec Ideal S16x1024 .f32) : View.ld A (Rect.unit ![9, 0] ![1, 1024] inb_S16x1024_S1x1024_9_0) = vrow A 9 := by
  funext y; obtain ⟨z, k, rfl⟩ : ∃ (z : Fin 1) (k : Fin 1024), y = ix2 z k := ⟨_, _, eq_ix2 y⟩; obtain rfl : z = 0 := Subsingleton.elim _ _; pointwise [vrow]

/-- The rows a point norms. -/
def hB (t : Fin cfg0.N) : Vec Ideal S512x1024 .f32 := k0_pay2 (iblk m c 0 t) (vrow (iblk m c 2 t) 0)

/-- The row carried into a point. -/
def carry (t : Fin cfg0.N) : Vec Ideal S1x1024 .f32 :=
  if t.val % 8 = 0 then k0_pay1 (iblk m c 1 t) else (outsAt0 m c (t.val - 1) (lt_of_le_of_lt (Nat.sub_le _ _) t.isLt)).2

/-- The rows before them. -/
def pB (t : Fin cfg0.N) : Vec Ideal S512x1024 .f32 := k0_pay3 (iblk m c 0 t) (vrow (iblk m c 2 t) 0) (carry m c t)

theorem outs10 (t : Fin cfg0.N) : (outsAt0 m c t.val t.isLt).1 = k0_pay5 (hB m c t) (pB m c t) (vrow (iblk m c 2 t) 4) (iblk m c 3 t) (vrow (iblk m c 2 t) 9) (iblk m c 5 t) (iblk m c 7 t) (iblk m c 9 t) := by
  unfold pB hB carry
  rw [← row_0, ← row_4, ← row_9]
  by_cases h0 : t.val % 8 = 0
  · rw [if_pos h0, outsAt0_A m c t h0]
    frame_out
  · rw [if_neg h0, outsAt0_B m c t h0]
    frame_out
    simp only [read_unread_whole]

theorem outsS (t : Fin cfg0.N) : (outsAt0 m c t.val t.isLt).2 = k0_pay4 (F := Ideal) (hB m c t) := by
  unfold hB
  rw [← row_0]
  by_cases h0 : t.val % 8 = 0
  · rw [outsAt0_A m c t h0]
    frame_out
  · rw [outsAt0_B m c t h0]
    frame_out

end Cert.Kernel7Ideal.Gen

end
-- ==== Proof.ValLeft.lean ====
module

public import proofs.«01_k».proof.Proof.ValPay

@[expose] public section

set_option maxRecDepth 16384

noncomputable section

/-! The array the values leave. -/

open Idealize.ShloMosaic Idealize.ShloMosaic.TcCoe Idealize.SL.Sem
open Idealize.ShloMosaic.Pipeline (Dat)
open Cert.Nsa Cert.Shift

namespace Cert.Kernel7Ideal.Gen

open Cert.Kernel5Ideal.Gen (vrow)

variable (m : (ℓ : Loc nD τ sig) → Buf (Elt Ideal) ℓ) (c : Dev nD)

/-- The token of a row of a point's block. -/
def tok (t : Fin cfg0.N) (i : Fin 512) : Fin 16384 := ⟨512 * t.val + i, by have : t.val < 32 := t.2; omega⟩

/-- The batch row of a point. -/
def brow (t : Fin cfg0.N) : Fin 4 := ⟨t.val / 8, by have : t.val < 32 := t.2; omega⟩

theorem idx_0 : ∀ t : Fin grid0.N, win0_0.index t 0 = t.val ∧ win0_0.index t 1 = 0 := by decide +kernel
theorem idx_1 : ∀ t : Fin grid0.N, win0_1.index t 0 = t.val / 8 ∧ win0_1.index t 1 = 0 ∧ win0_1.index t 2 = 0 := by decide +kernel
theorem idx_2 : ∀ t : Fin grid0.N, win0_2.index t 0 = 0 ∧ win0_2.index t 1 = 0 := by decide +kernel
theorem idx_3 : ∀ t : Fin grid0.N, win0_3.index t 0 = 0 ∧ win0_3.index t 1 = 0 := by decide +kernel
theorem idx_5 : ∀ t : Fin grid0.N, win0_5.index t 0 = 0 ∧ win0_5.index t 1 = 0 := by decide +kernel
theorem idx_7 : ∀ t : Fin grid0.N, win0_7.index t 0 = 0 ∧ win0_7.index t 1 = 0 := by decide +kernel
theorem idx_9 : ∀ t : Fin grid0.N, win0_9.index t 0 = t.val ∧ win0_9.index t 1 = 0 := by decide +kernel
theorem idx_10 : ∀ t : Fin grid0.N, win0_10.index t 0 = t.val ∧ win0_10.index t 1 = 0 := by decide +kernel

theorem blk_0 (t : Fin cfg0.N) (i : Fin 512) (j : Fin 1024) : iblk m c 0 t (ix2 i j) = Gen.V m c main_v0 (ix2 (tok t i) j) := by
  obtain ⟨e0, e1⟩ := idx_0 t
  blk_simp [iblk]
  blk_ext [e0, e1, tok]

theorem blk_1 (t : Fin cfg0.N) (j : Fin 1024) : iblk m c 1 t (ix3 0 0 j) = Gen.V m c main_v1 (ix3 (brow t) 0 j) := by
  obtain ⟨e0, e1, e2⟩ := idx_1 t
  blk_simp [iblk]
  blk_ext [e0, e1, e2, brow]

theorem blk_2 (t : Fin cfg0.N) (i : Fin 16) (j : Fin 1024) : iblk m c 2 t (ix2 i j) = Gen.V m c main_v31 (ix2 i j) := by
  obtain ⟨e0, e1⟩ := idx_2 t
  blk_simp [iblk]
  blk_ext [e0, e1]

theorem blk_3 (t : Fin cfg0.N) (i j : Fin 1024) : iblk m c 3 t (ix2 i j) = Gen.V m c main_v32 (ix2 i j) := by
  obtain ⟨e0, e1⟩ := idx_3 t
  blk_simp [iblk]
  blk_ext [e0, e1]

theorem blk_5 (t : Fin cfg0.N) (i : Fin 1024) (j : Fin 128) : iblk m c 5 t (ix2 i j) = Gen.V m c main_v37 (ix2 i j) := by
  obtain ⟨e0, e1⟩ := idx_5 t
  blk_simp [iblk]
  blk_ext [e0, e1]

theorem blk_7 (t : Fin cfg0.N) (i : Fin 128) (j : Fin 1024) : iblk m c 7 t (ix2 i j) = Gen.V m c main_v42 (ix2 i j) := by
  obtain ⟨e0, e1⟩ := idx_7 t
  blk_simp [iblk]
  blk_ext [e0, e1]

theorem blk_9 (t : Fin cfg0.N) (i : Fin 512) (j : Fin 1024) : iblk m c 9 t (ix2 i j) = Gen.V m c main_v46 (ix2 (tok t i) j) := by
  obtain ⟨e0, e1⟩ := idx_9 t
  blk_simp [iblk]
  blk_ext [e0, e1, tok]

theorem vrow_at (t : Fin cfg0.N) (r : Fin 16) (k : Fin 1024) : vrow (iblk m c 2 t) r (ix2 0 k) = Gen.V m c main_v31 (ix2 r k) := blk_2 m c t r k

theorem hB_at (t : Fin cfg0.N) (i : Fin 512) (k : Fin 1024) : hB m c t (ix2 i k) = hidT (Gen.V m c main_v0) (Gen.V m c main_v31) (tok t i) k := by
  unfold hB hidT
  refine (norm_at _ _ i k).trans ?_
  simp only [blk_0, vrow_at]

theorem carry_at (t : Fin cfg0.N) (k : Fin 1024) :
    carry m c t (ix2 0 k) = preT (Gen.V m c main_v0) (Gen.V m c main_v31) (Gen.V m c main_v1) (tok t 0) k := by
  have ht : t.val < 32 := t.2
  unfold carry preT
  by_cases h0 : t.val % 8 = 0
  · rw [if_pos h0]
    refine Eq.trans ?_ (if_pos (show (512 * t.val + 0) % 4096 = 0 by omega)).symm
    refine (init_at _ k).trans ((blk_1 m c t k).trans ?_)
    refine congrArg (fun g => Gen.V m c main_v1 (ix3 g 0 k)) (Fin.ext ?_)
    show t.val / 8 = (512 * t.val + 0) / 4096
    omega
  · rw [if_neg h0]
    refine Eq.trans ?_ (if_neg (show ¬(512 * t.val + 0) % 4096 = 0 by omega)).symm
    have e := outsS m c ⟨t.val - 1, lt_of_le_of_lt (Nat.sub_le _ _) t.isLt⟩
    refine (congrFun e _).trans ((last_at _ k).trans ((hB_at m c _ _ k).trans ?_))
    refine congrArg (fun n => hidT _ _ n k) (Fin.ext ?_)
    show 512 * (t.val - 1) + 511 = 512 * t.val + 0 - 1
    omega

theorem pB_at (t : Fin cfg0.N) (i : Fin 512) (k : Fin 1024) :
    pB m c t (ix2 i k) = preT (Gen.V m c main_v0) (Gen.V m c main_v31) (Gen.V m c main_v1) (tok t i) k := by
  unfold pB
  refine (prev_at _ _ _ i k).trans ?_
  by_cases e : i.val = 0
  · rw [if_pos e, carry_at]
    obtain rfl : i = 0 := Fin.ext e
    rfl
  · rw [if_neg e]
    refine (hB_at m c t _ k).trans ?_
    unfold preT
    refine Eq.trans ?_ (if_neg (show ¬(512 * t.val + i.val) % 4096 = 0 by have := i.isLt; omega)).symm
    refine congrArg (fun n => hidT _ _ n k) (Fin.ext ?_)
    show 512 * t.val + (i.val - 1) = 512 * t.val + i.val - 1
    omega

theorem col_at (t : Fin cfg0.N) (r : Fin 16) (i : Fin 512) (W : Fin 1024 → EReal) :
    col (fun k => hB m c t (ix2 i k)) (fun k => pB m c t (ix2 i k)) (fun k => vrow (iblk m c 2 t) r (ix2 0 k)) W
      = colT (Gen.V m c main_v0) (Gen.V m c main_v31) (Gen.V m c main_v1) r (tok t i) W := by
  unfold colT
  simp only [hB_at, pB_at, vrow_at]

/-- The values. -/
def vArr (X : (⟨2, ![16384, 1024]⟩ : Shape).Idx → EReal) (A : (⟨2, ![16, 1024]⟩ : Shape).Idx → EReal) (I : (⟨3, ![4, 1, 1024]⟩ : Shape).Idx → EReal)
    (W : (⟨2, ![1024, 1024]⟩ : Shape).Idx → EReal) (B : (⟨2, ![1024, 128]⟩ : Shape).Idx → EReal) (C : (⟨2, ![128, 1024]⟩ : Shape).Idx → EReal)
    (Y : (⟨2, ![16384, 1024]⟩ : Shape).Idx → EReal) :
    (⟨2, ![16384, 1024]⟩ : Shape).Idx → EReal :=
  fun y => blend (fun l => colT X A I 4 (y 0) (fun k => B (ix2 k l))) (fun l => C (ix2 l (y 1))) (A (ix2 9 (y 1))) (colT X A I 4 (y 0) (fun k => W (ix2 k (y 1)))) (Y (ix2 (y 0) (y 1)))

theorem vArr_at (X : (⟨2, ![16384, 1024]⟩ : Shape).Idx → EReal) (A : (⟨2, ![16, 1024]⟩ : Shape).Idx → EReal) (I : (⟨3, ![4, 1, 1024]⟩ : Shape).Idx → EReal)
    (W : (⟨2, ![1024, 1024]⟩ : Shape).Idx → EReal) (B : (⟨2, ![1024, 128]⟩ : Shape).Idx → EReal) (C : (⟨2, ![128, 1024]⟩ : Shape).Idx → EReal)
    (Y : (⟨2, ![16384, 1024]⟩ : Shape).Idx → EReal) (n : Fin 16384) (j : Fin 1024) :
    vArr X A I W B C Y (ix2 n j)
      = blend (fun l => colT X A I 4 n (fun k => B (ix2 k l))) (fun l => C (ix2 l j)) (A (ix2 9 j)) (colT X A I 4 n (fun k => W (ix2 k j))) (Y (ix2 n j)) := rfl

theorem out10_at (t : Fin cfg0.N) (i : Fin 512) (j : Fin 1024) : (outsAt0 m c t.val t.isLt).1 (ix2 i j)
    = vArr (Gen.V m c main_v0) (Gen.V m c main_v31) (Gen.V m c main_v1) (Gen.V m c main_v32) (Gen.V m c main_v37) (Gen.V m c main_v42) (Gen.V m c main_v46) (ix2 (tok t i) j) := by
  rw [outs10, vArr_at]
  refine (blend_at _ _ _ _ _ _ _ _ i j).trans ?_
  have e1 := fun W => col_at m c t 4 i W
  refine congr (congr (congr (congrArg₂ blend (funext fun l => ?_) (funext fun l => blk_7 m c t l j)) (vrow_at m c t 9 j)) ?_) (blk_9 m c t i j)
  · exact (e1 _).trans (congrArg (colT _ _ _ 4 _) (funext fun k => blk_5 m c t k l))
  · exact (e1 _).trans (congrArg (colT _ _ _ 4 _) (funext fun k => blk_3 m c t k j))

theorem arr10 : (dats m 0 c).arrAt 10 cfg0.N
    = vArr (Gen.V m c main_v0) (Gen.V m c main_v31) (Gen.V m c main_v1) (Gen.V m c main_v32) (Gen.V m c main_v37) (Gen.V m c main_v42) (Gen.V m c main_v46) := by
  generalize hw : vArr (Gen.V m c main_v0) (Gen.V m c main_v31) (Gen.V m c main_v1) (Gen.V m c main_v32) (Gen.V m c main_v37) (Gen.V m c main_v42) (Gen.V m c main_v46) = f
  refine (dats m 0 c).arrAt_eq_of_covers 10 f (by decide +kernel) fun t hf y => ?_
  obtain ⟨e0, e1⟩ := idx_10 t
  obtain ⟨i, j, rfl⟩ : ∃ (i : Fin 512) (j : Fin 1024), y = ix2 i j := ⟨_, _, eq_ix2 y⟩
  refine Eq.trans ?_ (congrArg f (show ix2 (tok t i) j = _ by blk_ext [e0, e1, tok]))
  blk_simp
  rw [after0_10]
  subst hw
  exact out10_at m c t i j

end Cert.Kernel7Ideal.Gen

end
-- ==== Proof.ValValue.lean ====
module

public import proofs.«01_k».proof.Defs
public import proofs.«01_k».proof.Proof.ValLeft
public import proofs.«01_k».proof.Proof.ShiftValue
public import proofs.«01_k».proof.Proof.Gen.Reference7Ideal.Run

@[expose] public section

set_option maxRecDepth 16384

noncomputable section

/-! The values: the kernel's result is the reference's. -/

open Idealize.ShloMosaic Idealize.ShloMosaic.TcCoe Idealize.SL.Sem
open Idealize.ShloMosaic.Pipeline (Dat)
open Cert.Nsa Cert.Shift

namespace Cert.Kernel7Ideal.Gen

open Cert.Kernel5Ideal.Gen (rowV rowV_at muRow zeros stack stack_0 rowsT rowsT_at rowsS rowsS_at hid_at pre_at back_at)
open Cert.Reference5Ideal.Value (normed before coef mixed mixed_at outR outR_at)

theorem muRow_3 (u : FVec Ideal S6x1024 .f32) (j : Fin 1024) : muRow 3 slices_S6x1024_S1x1024_3_0 u (ix2 0 j) = u (ix2 3 j) := by
  unfold muRow
  refine (rowV_at _ j).trans ?_
  pointwise
  try (refine congrArg u ?_; blk_ext)

/-- The vectors, stacked, with the bias in its own row. -/
def pile (w : FVec Ideal S1024 .f32) (u : FVec Ideal S6x1024 .f32) (v0 : FVec Ideal S1024 .f32) : FVec Ideal S16x1024 .f32 :=
  concatenate S16x1024 0 [⟨S1x1024, rowV w⟩, ⟨S1x1024, muRow 0 slices_S6x1024_S1x1024_0_0 u⟩, ⟨S1x1024, muRow 1 slices_S6x1024_S1x1024_1_0 u⟩, ⟨S1x1024, muRow 2 slices_S6x1024_S1x1024_2_0 u⟩,
    ⟨S1x1024, muRow 3 slices_S6x1024_S1x1024_3_0 u⟩, ⟨S1x1024, muRow 4 slices_S6x1024_S1x1024_4_0 u⟩, ⟨S1x1024, muRow 5 slices_S6x1024_S1x1024_5_0 u⟩, ⟨S1x1024, zeros⟩,
    ⟨S1x1024, zeros⟩, ⟨S1x1024, rowV v0⟩, ⟨S1x1024, zeros⟩, ⟨S1x1024, zeros⟩, ⟨S1x1024, zeros⟩, ⟨S1x1024, zeros⟩, ⟨S1x1024, zeros⟩, ⟨S1x1024, zeros⟩]
    concatenates_S1x1024_S1x1024_S1x1024_S1x1024_S1x1024_S1x1024_S1x1024_S1x1024_S1x1024_S1x1024_S1x1024_S1x1024_S1x1024_S1x1024_S1x1024_S1x1024_S16x1024_d0

theorem pile_0 (w : FVec Ideal S1024 .f32) (u : FVec Ideal S6x1024 .f32) (v0 : FVec Ideal S1024 .f32) (j : Fin 1024) : pile w u v0 (ix2 0 j) = w (ix1 j) := by
  unfold pile
  pointwise
  exact rowV_at _ _

theorem pile_4 (w : FVec Ideal S1024 .f32) (u : FVec Ideal S6x1024 .f32) (v0 : FVec Ideal S1024 .f32) (j : Fin 1024) : pile w u v0 (ix2 4 j) = u (ix2 3 j) := by
  unfold pile
  pointwise
  exact muRow_3 _ _

theorem pile_9 (w : FVec Ideal S1024 .f32) (u : FVec Ideal S6x1024 .f32) (v0 : FVec Ideal S1024 .f32) (j : Fin 1024) : pile w u v0 (ix2 9 j) = v0 (ix1 j) := by
  unfold pile
  pointwise
  exact rowV_at _ _

/-- The first factor, its columns filled up with zeros. -/
def wide (B : FVec Ideal S1024x32 .f32) : FVec Ideal S1024x128 .f32 :=
  pad S1024x128 ![0, 0] ![0, 96] ![0, 0] B (sitofp .f32 (constantI S_ 32 0#32)) pads_S1024x32_S1024x128_000_0960 h_S_

/-- The second factor, its rows filled up with zeros. -/
def tall (C : FVec Ideal S32x1024 .f32) : FVec Ideal S128x1024 .f32 :=
  pad S128x1024 ![0, 0] ![96, 0] ![0, 0] C (sitofp .f32 (constantI S_ 32 0#32)) pads_S32x1024_S128x1024_0960_000 h_S_

theorem wide_at (B : FVec Ideal S1024x32 .f32) (k : Fin 1024) (l : Fin 128) (hl : l.val < 32) : wide B (ix2 k l) = B (ix2 k ⟨l, hl⟩) := by
  pointwise [wide]
  split
  · rfl
  · omega

theorem tall_at (C : FVec Ideal S32x1024 .f32) (l : Fin 128) (j : Fin 1024) (hl : l.val < 32) : tall C (ix2 l j) = C (ix2 ⟨l, hl⟩ j) := by
  pointwise [tall]
  split
  · rfl
  · omega

theorem tall_zero (C : FVec Ideal S32x1024 .f32) (l : Fin 128) (j : Fin 1024) (hl : ¬l.val < 32) : tall C (ix2 l j) = 0 := by
  pointwise [tall]
  split
  · omega
  · show (((0#32 : BitVec 32).toInt : ℝ) : EReal) = 0
    simp

section Launch
variable (m : (ℓ : Loc nD τ sig) → Buf (Elt Ideal) ℓ) (c : Dev nD)

/-- The arguments. -/
abbrev a0 : FVec Ideal S4x4096x1024 .f32 := m ((c : Thread nD τ).loc main_arg0)
abbrev a1 : FVec Ideal S4x1024 .f32 := m ((c : Thread nD τ).loc main_arg1)
abbrev a2 : FVec Ideal S1024 .f32 := m ((c : Thread nD τ).loc main_arg2)
abbrev a3 : FVec Ideal S6x1024 .f32 := m ((c : Thread nD τ).loc main_arg3)
abbrev a4 : FVec Ideal S1024 .f32 := m ((c : Thread nD τ).loc main_arg4)
abbrev a5 : FVec Ideal S1024x1024 .f32 := m ((c : Thread nD τ).loc main_arg5)
abbrev a6 : FVec Ideal S1024x32 .f32 := m ((c : Thread nD τ).loc main_arg6)
abbrev a7 : FVec Ideal S32x1024 .f32 := m ((c : Thread nD τ).loc main_arg7)
abbrev a8 : FVec Ideal S4x4096x1024 .f32 := m ((c : Thread nD τ).loc main_arg8)

theorem in_x : Gen.V m c main_v0 = rowsT (a0 m c) := by
  unfold Gen.V V0
  simp only [hostOps0, hostOps0_1, hostOps0_2, hostOps0_3, hostOps0_4, List.flatten_cons, List.flatten_nil, List.append_nil, List.cons_append, List.nil_append]
  after_results
  rfl

theorem in_s : Gen.V m c main_v1 = rowsS (a1 m c) := by
  unfold Gen.V V0
  simp only [hostOps0, hostOps0_1, hostOps0_2, hostOps0_3, hostOps0_4, List.flatten_cons, List.flatten_nil, List.append_nil, List.cons_append, List.nil_append]
  after_results
  rfl

theorem in_vecs : Gen.V m c main_v31 = pile (a2 m c) (a3 m c) (a4 m c) := by
  unfold Gen.V V0
  simp only [hostOps0, hostOps0_1, hostOps0_2, hostOps0_3, hostOps0_4, List.flatten_cons, List.flatten_nil, List.append_nil, List.cons_append, List.nil_append]
  after_results
  rfl

theorem in_w : Gen.V m c main_v32 = (a5 m c : FVec Ideal S1024x1024 .f32) := by
  unfold Gen.V V0
  simp only [hostOps0, hostOps0_1, hostOps0_2, hostOps0_3, hostOps0_4, List.flatten_cons, List.flatten_nil, List.append_nil, List.cons_append, List.nil_append]
  after_results
  rfl

theorem in_l1 : Gen.V m c main_v37 = wide (a6 m c) := by
  unfold Gen.V V0
  simp only [hostOps0, hostOps0_1, hostOps0_2, hostOps0_3, hostOps0_4, List.flatten_cons, List.flatten_nil, List.append_nil, List.cons_append, List.nil_append]
  after_results
  rfl

theorem in_l2 : Gen.V m c main_v42 = tall (a7 m c) := by
  unfold Gen.V V0
  simp only [hostOps0, hostOps0_1, hostOps0_2, hostOps0_3, hostOps0_4, List.flatten_cons, List.flatten_nil, List.append_nil, List.cons_append, List.nil_append]
  after_results
  rfl

theorem in_f : Gen.V m c main_v46 = rowsT (a8 m c) := by
  unfold Gen.V V0
  simp only [hostOps0, hostOps0_1, hostOps0_2, hostOps0_3, hostOps0_4, List.flatten_cons, List.flatten_nil, List.append_nil, List.cons_append, List.nil_append]
  after_results
  rfl

theorem tail_v48 (W : Valuation τ sig (Elt Ideal)) :
    StableHlo.after hostOps1 W (Proc.devRef .tc main_v48) = shapeCast S4x4096x1024 (W (Proc.devRef .tc main_v47)) shapeCasts_S16384x1024_S4x4096x1024 := by
  unfold hostOps1
  after_results
  rfl

theorem end_v48 :
    Pipeline.afterTail₀ cfgs (dats m) 0 (V0 m) [hostOps1] c main_v48 = shapeCast S4x4096x1024 ((dats m 0 c).arrAt 10 cfg0.N) shapeCasts_S16384x1024_S4x4096x1024 := by
  unfold Pipeline.afterTail₀
  refine (tail_v48 _).trans (congrArg (fun u => shapeCast S4x4096x1024 u shapeCasts_S16384x1024_S4x4096x1024) ?_)
  exact Pipeline.withArrays_arr (cfgs 0).spec launch0.win.arr_inj c _ (fun w => (dats m 0 c).arrAt w (cfgs 0).N) 10

end Launch

/-- The reference's weight of the first layer's values, from the mixed rows. -/
def outG (a : FVec Ideal S4x4096x1024 .f32) (v0 : FVec Ideal S1024 .f32) (B : FVec Ideal S1024x32 .f32) (C : FVec Ideal S32x1024 .f32) : FVec Ideal S4x4096x1024 .f32 :=
  Host.divf (broadcastInDim S4x4096x1024 ![] Cert.Reference7Ideal.Gen.bcast_S_S4x4096x1024 (constant (F := Ideal) S_ .f32 0x3F800000#32))
    (addf (broadcastInDim S4x4096x1024 ![] Cert.Reference7Ideal.Gen.bcast_S_S4x4096x1024 (constant (F := Ideal) S_ .f32 0x3F800000#32))
      (Host.exp (Host.negf (addf (broadcastInDim S4x4096x1024 ![0, 1, 2] Cert.Reference7Ideal.Gen.bcast_S1x1x1024_S4x4096x1024_0_1_2 (broadcastInDim Cert.Reference7Ideal.S1x1x1024 ![2] Cert.Reference7Ideal.Gen.bcast_S1024_S1x1x1024_2 v0))
        (Host.dotGeneral Cert.Reference7Ideal.dot_S4x4096x32_S32x1024_S4x4096x1024_2_0_01_1_n_n none
          (Host.dotGeneral Cert.Reference7Ideal.dot_S4x4096x1024_S1024x32_S4x4096x32_2_0_01_1_n_n none a B) C)))))

theorem outG_at (a : FVec Ideal S4x4096x1024 .f32) (v0 : FVec Ideal S1024 .f32) (B : FVec Ideal S1024x32 .f32) (C : FVec Ideal S32x1024 .f32) (g : Fin 4) (t : Fin 4096) (j : Fin 1024) :
    outG a v0 B C (ix3 g t j) = sigm (v0 (ix1 j) + ∑ l : Fin 32, (∑ k : Fin 1024, a (ix3 g t k) * B (ix2 k l)) * C (ix2 l j)) := by
  pointwise [outG]
  rfl

/-- The mixed rows. -/
def mixG (x : FVec Ideal S4x4096x1024 .f32) (s : FVec Ideal S4x1024 .f32) (w : FVec Ideal S1024 .f32) (u : FVec Ideal S6x1024 .f32) : FVec Ideal S4x4096x1024 .f32 :=
  mixed (normed x w) (before (normed x w) s) (coef 3 Cert.Reference7Ideal.Gen.slices_S6x1024_S1x1024_3_0 u)

/-- Values drawn toward others. -/
def drawn (v f q : FVec Ideal S4x4096x1024 .f32) : FVec Ideal S4x4096x1024 .f32 := addf v (mulf (subf f v) q)

theorem drawn_at (v f q : FVec Ideal S4x4096x1024 .f32) (y) : drawn v f q y = v y + (f y - v y) * q y := rfl

/-- The result. -/
def resV (x : FVec Ideal S4x4096x1024 .f32) (s : FVec Ideal S4x1024 .f32) (w : FVec Ideal S1024 .f32) (u : FVec Ideal S6x1024 .f32) (v0 : FVec Ideal S1024 .f32)
    (W : FVec Ideal S1024x1024 .f32) (B : FVec Ideal S1024x32 .f32) (C : FVec Ideal S32x1024 .f32) (f : FVec Ideal S4x4096x1024 .f32) : FVec Ideal S4x4096x1024 .f32 :=
  drawn (outR (mixG x s w u) W) f (outG (mixG x s w u) v0 B C)

theorem res_is (m : (ℓ : Loc Cert.Reference7Ideal.nD Cert.Reference7Ideal.τ Cert.Reference7Ideal.sig) → Buf (Elt Ideal) ℓ) (c : Dev Cert.Reference7Ideal.nD) :
    Cert.Reference7Ideal.Value.res_main_v37 m c = resV (m ((c.tc : Thread _ _).loc Cert.Reference7Ideal.main_arg0)) (m ((c.tc : Thread _ _).loc Cert.Reference7Ideal.main_arg1))
      (m ((c.tc : Thread _ _).loc Cert.Reference7Ideal.main_arg2)) (m ((c.tc : Thread _ _).loc Cert.Reference7Ideal.main_arg3)) (m ((c.tc : Thread _ _).loc Cert.Reference7Ideal.main_arg4))
      (m ((c.tc : Thread _ _).loc Cert.Reference7Ideal.main_arg5)) (m ((c.tc : Thread _ _).loc Cert.Reference7Ideal.main_arg6)) (m ((c.tc : Thread _ _).loc Cert.Reference7Ideal.main_arg7))
      (m ((c.tc : Thread _ _).loc Cert.Reference7Ideal.main_arg8)) := by
  unfold Cert.Reference7Ideal.Value.res_main_v37 resV drawn outG outR mixG mixed before normed coef
  rfl

/-- The sum over the padded rank is the sum over the rank. -/
theorem sum_rank (f : Fin 128 → EReal) (h : ∀ l : Fin 128, ¬l.val < 32 → f l = 0) : ∑ l, f l = ∑ l : Fin 32, f ⟨l, by omega⟩ := by
  have e := Fin.sum_univ_add (a := 32) (b := 96) f
  refine e.trans ?_
  rw [Finset.sum_eq_zero (s := Finset.univ) (f := fun i : Fin 96 => f (Fin.natAdd 32 i)) (fun i _ => h _ (by simp)), add_zero]
  rfl

section Join
variable (x : FVec Ideal S4x4096x1024 .f32) (s : FVec Ideal S4x1024 .f32) (w : FVec Ideal S1024 .f32) (u : FVec Ideal S6x1024 .f32) (v0 : FVec Ideal S1024 .f32)
  (W : FVec Ideal S1024x1024 .f32) (B : FVec Ideal S1024x32 .f32) (C : FVec Ideal S32x1024 .f32)

theorem coef_3 (g : Fin 4) (t : Fin 4096) (k : Fin 1024) : coef 3 Cert.Reference7Ideal.Gen.slices_S6x1024_S1x1024_3_0 u (ix3 g t k) = u (ix2 3 k) := by
  pointwise [coef]
  try (refine congrArg u ?_; blk_ext)

/-- A normed row reads the first of the stacked vectors alone. -/
theorem hid_pile (n : Fin 16384) (k : Fin 1024) : hidT (rowsT x) (pile w u v0) n k = hidT (rowsT x) (stack w u v0) n k := by
  unfold hidT
  simp only [pile_0, stack_0]

theorem pre_pile (n : Fin 16384) (k : Fin 1024) : preT (rowsT x) (pile w u v0) (rowsS s) n k = preT (rowsT x) (stack w u v0) (rowsS s) n k := by
  unfold preT
  simp only [hid_pile]

theorem col_v (g : Fin 4) (t : Fin 4096) (V : Fin 1024 → EReal) :
    colT (rowsT x) (pile w u v0) (rowsS s) 4 ⟨4096 * g + t, by omega⟩ V = ∑ k : Fin 1024, mixG x s w u (ix3 g t k) * V k := by
  unfold colT col mixG
  refine Finset.sum_congr rfl fun k _ => congrArg (· * V k) ?_
  rw [mixed_at, hid_pile, pre_pile, hid_at, pre_at, coef_3]
  exact congrArg (mixv _ _) (pile_4 w u v0 k)

theorem join (f : FVec Ideal S4x4096x1024 .f32) :
    shapeCast S4x4096x1024 (vArr (rowsT x) (pile w u v0) (rowsS s) W (wide B) (tall C) (rowsT f)) shapeCasts_S16384x1024_S4x4096x1024 = resV x s w u v0 W B C f := by
  funext y
  obtain ⟨g, t, j, rfl⟩ : ∃ (g : Fin 4) (t : Fin 4096) (j : Fin 1024), y = ix3 g t j := ⟨_, _, _, eq_ix3 y⟩
  refine (back_at _ g t j).trans ?_
  rw [vArr_at]
  unfold resV
  rw [drawn_at, outG_at, pile_9, rowsT_at]
  have ez : colT (rowsT x) (pile w u v0) (rowsS s) 4 ⟨4096 * g + t, by omega⟩ (fun k => W (ix2 k j)) = outR (mixG x s w u) W (ix3 g t j) :=
    (col_v x s w u v0 g t _).trans (outR_at _ _ g t j).symm
  rw [ez]
  unfold blend
  rw [sum_rank _ fun l hl => (congrArg (_ * ·) (tall_zero C l j hl)).trans (mul_zero _)]
  refine congrArg (fun q => outR (mixG x s w u) W (ix3 g t j) + (f (ix3 g t j) - outR (mixG x s w u) W (ix3 g t j)) * sigm (v0 (ix1 j) + q)) ?_
  refine Finset.sum_congr rfl fun l _ => congrArg₂ (· * ·) ?_ (tall_at C _ j l.isLt)
  refine (col_v x s w u v0 g t _).trans (Finset.sum_congr rfl fun k _ => congrArg (_ * ·) (wide_at B k _ l.isLt))

end Join

theorem value : Cert.algebraic_Kernel7Ideal_Reference7Ideal (hKernel7Ideal := Cert.Kernel7Ideal.Gen.facts)
    (hReference7Ideal := Cert.Reference7Ideal.Gen.facts) := by
  intro m ρ m' ρ' _ hin
  refine ⟨fun c => resV (a0 m c) (a1 m c) (a2 m c) (a3 m c) (a4 m c) (a5 m c) (a6 m c) (a7 m c) (a8 m c), ?_, ?_⟩
  · refine (θ_run _ _ _).mono (fun r h c => ?_) (θ_run_and (run_main (F := Ideal) m ρ) (unchanged (F := Ideal) m ρ))
    refine ⟨((h.1 c).2 Cert.Kernel7Ideal.main_v48 (Pipeline.mem_restRefs_of _ (by decide) (by decide))).trans ((end_v48 m c).trans ?_), h.2 c⟩
    rw [arr10, in_x, in_s, in_vecs, in_w, in_l1, in_l2, in_f]
    exact join _ _ _ _ _ _ _ _ _
  · refine (θ_run _ _ _).mono (fun r h c => ?_) (Cert.Reference7Ideal.Value.run (F := Ideal) m' ρ')
    obtain ⟨e0, e1, e2, e3, e4, e5, e6, e7, e8⟩ := hin c
    refine ⟨(h c).1.trans ((res_is m' c).trans ?_), (h c).2⟩
    rw [e0, e1, e2, e3, e4, e5, e6, e7, e8]

end Cert.Kernel7Ideal.Gen

end
-- ==== Proof.KeyPay.lean ====
module

public import proofs.«01_k».proof.Proof.Gen.Kernel8Ideal.Frame
public import proofs.«01_k».proof.Proof.ShiftPay
public import proofs.«01_k».proof.Proof.ShiftOuts
public import proofs.«01_k».proof.Proof.MixPay

@[expose] public section

set_option maxRecDepth 16384

noncomputable section

/-! The keys: what a point computes, and what it leaves. -/

open Idealize.ShloMosaic Idealize.ShloMosaic.TcCoe Idealize.SL.Sem
open Idealize.ShloMosaic.Pipeline (Dat)
open Cert.Nsa Cert.Shift

namespace Cert.Kernel8Ideal.Gen

open Cert.Kernel4Ideal.Gen (seg sel_head)

/-- The rate of one column. -/
def rate {n : ℕ} (f C : Fin n → EReal) (o : EReal) : EReal := sigm (o + ∑ l, f l * C l)

/-- A key scaled by its rate. -/
def keyv (k a b : EReal) : EReal := k * (Ideal.ofBits FTy.f32 0x3F800000#32 + (a - Ideal.ofBits FTy.f32 0x3F800000#32) * b)

/-- A column over its head's length. -/
def dirv (q : Fin 1024 → EReal) (j : Fin 1024) : EReal :=
  Ideal.div (q j) (max (Ideal.sqrt (seg (fun r => q r * q r) j)) (Ideal.ofBits FTy.f32 0x2B8CBCCC#32))

theorem norm_at (x : Vec Ideal S512x1024 .f32) (w : Vec Ideal S1x1024 .f32) (i : Fin 512) (k : Fin 1024) :
    k0_pay5 x w (ix2 i k) = hid (fun k => x (ix2 i k)) (fun k => w (ix2 0 k)) k := by
  pointwise [k0_pay5]
  rfl

theorem prev_at (x : Vec Ideal S512x1024 .f32) (w s : Vec Ideal S1x1024 .f32) (i : Fin 512) (k : Fin 1024) :
    k0_pay6 x w s (ix2 i k) = if i.val = 0 then s (ix2 0 k) else k0_pay5 x w (ix2 ⟨i - 1, by omega⟩ k) := by
  unfold k0_pay6
  generalize k0_pay5 x w = h
  pointwise
  rw [Cert.Kernel5Ideal.Gen.pick i i.isLt]
  by_cases e : i.val = 0
  · rw [if_pos e, if_pos e]
  · rw [if_neg e, if_neg e]
    refine congrArg h (congrArg (fun a => ix2 a k) (Fin.ext ?_))
    have hi := i.isLt
    simp only []
    omega

theorem last_at (h : Vec Ideal S512x1024 .f32) (k : Fin 1024) : k0_pay7 (F := Ideal) h (ix2 0 k) = h (ix2 511 k) := by
  pointwise [k0_pay7]

theorem init_at (s : Vec Ideal S1x1x1024 .f32) (k : Fin 1024) : k0_pay4 (F := Ideal) s (ix2 0 k) = s (ix3 0 0 k) := by
  pointwise [k0_pay4]

theorem raw_at (h p : Vec Ideal S512x1024 .f32) (u : Vec Ideal S1x1024 .f32) (W : Vec Ideal S1024x1024 .bf16) (i : Fin 512) (j : Fin 1024) :
    k0_pay9 h p u W (ix2 i j) = col (fun k => h (ix2 i k)) (fun k => p (ix2 i k)) (fun k => u (ix2 0 k)) (fun k => W (ix2 k j)) := by
  pointwise [k0_pay9, k0_pay8]
  rfl

theorem rate_at (h p : Vec Ideal S512x1024 .f32) (o u : Vec Ideal S1x1024 .f32) (A : Vec Ideal S1024x128 .bf16) (B : Vec Ideal S128x1024 .bf16) (i : Fin 512) (j : Fin 1024) :
    k0_pay10 h p o u A B (ix2 i j) = rate (fun l => col (fun k => h (ix2 i k)) (fun k => p (ix2 i k)) (fun k => u (ix2 0 k)) (fun k => A (ix2 k l))) (fun l => B (ix2 l j)) (o (ix2 0 j)) := by
  pointwise [k0_pay10, k0_pay8]
  simp only [zero_sub]
  rfl

theorem key_at (k a : Vec Ideal S512x1024 .f32) (b : Vec Ideal S1x1024 .f32) (i : Fin 512) (j : Fin 1024) :
    k0_pay1 k (k0_pay12 (F := Ideal) a) (k0_pay13 (F := Ideal) b) (ix2 i j) = keyv (k (ix2 i j)) (a (ix2 i j)) (b (ix2 0 j)) := by
  unfold keyv
  pointwise [k0_pay1, k0_pay12, k0_pay13]

theorem dir_at (k : Vec Ideal S512x1024 .f32) (w : Vec Ideal S1x1024 .f32) (i : Fin 512) (j : Fin 1024) (hq : ∀ j, IsR (k (ix2 i j) * w (ix2 0 j))) :
    k0_pay11 k (iota .tc S1024x128 32 [0] iota_S1024x128_d0_w32) w (ix2 i j) = dirv (fun r => k (ix2 i r) * w (ix2 0 r)) j := by
  have s := seg_two (fun r => k (ix2 i r) * w (ix2 0 r) * (k (ix2 i r) * w (ix2 0 r))) (fun r => (hq r).mul (hq r)) ((j : ℕ) / 64) (by omega)
  unfold dirv seg
  pointwise [k0_pay11]
  simp only [sel_head]
  rw [s]

theorem neg_at (k : Vec Ideal S512x1024 .f32) (i : Fin 512) (j : Fin 1024) : k0_pay2 (F := Ideal) k (ix2 i j) = -k (ix2 i j) := by
  pointwise [k0_pay2]
  exact zero_sub _

theorem prod_at (a k : Vec Ideal S512x1024 .f32) (i : Fin 512) (j : Fin 1024) : k0_pay3 (F := Ideal) a k (ix2 i j) = k (ix2 i j) * a (ix2 i j) := by
  pointwise [k0_pay3]

variable (m : (ℓ : Loc nD τ sig) → Buf (Elt Ideal) ℓ) (c : Dev nD)

open Cert.Kernel5Ideal.Gen (vrow)

theorem row_0 (A : Vec Ideal S16x1024 .f32) : View.ld A (Rect.unit ![0, 0] ![1, 1024] inb_S16x1024_S1x1024_0_0) = vrow A 0 := Cert.Kernel5Ideal.Gen.row_0 A
theorem row_3 (A : Vec Ideal S16x1024 .f32) : View.ld A (Rect.unit ![3, 0] ![1, 1024] inb_S16x1024_S1x1024_3_0) = vrow A 3 := by
  funext y; obtain ⟨z, k, rfl⟩ : ∃ (z : Fin 1) (k : Fin 1024), y = ix2 z k := ⟨_, _, eq_ix2 y⟩; obtain rfl : z = 0 := Subsingleton.elim _ _; pointwise [vrow]
theorem row_5 (A : Vec Ideal S16x1024 .f32) : View.ld A (Rect.unit ![5, 0] ![1, 1024] inb_S16x1024_S1x1024_5_0) = vrow A 5 := by
  funext y; obtain ⟨z, k, rfl⟩ : ∃ (z : Fin 1) (k : Fin 1024), y = ix2 z k := ⟨_, _, eq_ix2 y⟩; obtain rfl : z = 0 := Subsingleton.elim _ _; pointwise [vrow]
theorem row_8 (A : Vec Ideal S16x1024 .f32) : View.ld A (Rect.unit ![8, 0] ![1, 1024] inb_S16x1024_S1x1024_8_0) = vrow A 8 := by
  funext y; obtain ⟨z, k, rfl⟩ : ∃ (z : Fin 1) (k : Fin 1024), y = ix2 z k := ⟨_, _, eq_ix2 y⟩; obtain rfl : z = 0 := Subsingleton.elim _ _; pointwise [vrow]
theorem row_10 (A : Vec Ideal S16x1024 .f32) : View.ld A (Rect.unit ![10, 0] ![1, 1024] inb_S16x1024_S1x1024_10_0) = vrow A 10 := by
  funext y; obtain ⟨z, k, rfl⟩ : ∃ (z : Fin 1) (k : Fin 1024), y = ix2 z k := ⟨_, _, eq_ix2 y⟩; obtain rfl : z = 0 := Subsingleton.elim _ _; pointwise [vrow]
theorem row_11 (A : Vec Ideal S16x1024 .f32) : View.ld A (Rect.unit ![11, 0] ![1, 1024] inb_S16x1024_S1x1024_11_0) = vrow A 11 := by
  funext y; obtain ⟨z, k, rfl⟩ : ∃ (z : Fin 1) (k : Fin 1024), y = ix2 z k := ⟨_, _, eq_ix2 y⟩; obtain rfl : z = 0 := Subsingleton.elim _ _; pointwise [vrow]

/-- The rows a point norms. -/
def hB (t : Fin cfg0.N) : Vec Ideal S512x1024 .f32 := k0_pay5 (iblk m c 0 t) (vrow (iblk m c 2 t) 0)

/-- The row carried into a point. -/
def carry (t : Fin cfg0.N) : Vec Ideal S1x1024 .f32 :=
  if t.val % 8 = 0 then k0_pay4 (iblk m c 1 t) else (outsAt0 m c (t.val - 1) (lt_of_le_of_lt (Nat.sub_le _ _) t.isLt)).2.2.2

/-- The rows before them. -/
def pB (t : Fin cfg0.N) : Vec Ideal S512x1024 .f32 := k0_pay6 (iblk m c 0 t) (vrow (iblk m c 2 t) 0) (carry m c t)

/-- The keys before their scaling. -/
def kB (t : Fin cfg0.N) : Vec Ideal S512x1024 .f32 := k0_pay9 (hB m c t) (pB m c t) (vrow (iblk m c 2 t) 3) (iblk m c 3 t)

/-- The rates. -/
def rB (t : Fin cfg0.N) : Vec Ideal S512x1024 .f32 := k0_pay10 (hB m c t) (pB m c t) (vrow (iblk m c 2 t) 8) (vrow (iblk m c 2 t) 5) (iblk m c 5 t) (iblk m c 7 t)

/-- The directions. -/
def dB (t : Fin cfg0.N) : Vec Ideal S512x1024 .f32 := k0_pay11 (kB m c t) (iota .tc S1024x128 32 [0] iota_S1024x128_d0_w32) (vrow (iblk m c 2 t) 10)

theorem outs9 (t : Fin cfg0.N) : (outsAt0 m c t.val t.isLt).1 = k0_pay1 (kB m c t) (k0_pay12 (F := Ideal) (rB m c t)) (k0_pay13 (F := Ideal) (vrow (iblk m c 2 t) 11)) := by
  unfold kB rB pB hB carry
  rw [← row_0, ← row_3, ← row_5, ← row_8, ← row_11]
  by_cases h0 : t.val % 8 = 0
  · rw [if_pos h0, outsAt0_A m c t h0]
    frame_out
  · rw [if_neg h0, outsAt0_B m c t h0]
    frame_out
    simp only [read_unread_whole]

theorem outs10 (t : Fin cfg0.N) : (outsAt0 m c t.val t.isLt).2.1 = k0_pay2 (F := Ideal) (dB m c t) := by
  unfold dB kB pB hB carry
  rw [← row_0, ← row_3, ← row_10]
  by_cases h0 : t.val % 8 = 0
  · rw [if_pos h0, outsAt0_A m c t h0]
    frame_out
  · rw [if_neg h0, outsAt0_B m c t h0]
    frame_out
    simp only [read_unread_whole]

theorem outs11 (t : Fin cfg0.N) : (outsAt0 m c t.val t.isLt).2.2.1 = k0_pay3 (F := Ideal) (rB m c t) (dB m c t) := by
  unfold dB kB rB pB hB carry
  rw [← row_0, ← row_3, ← row_5, ← row_8, ← row_10]
  by_cases h0 : t.val % 8 = 0
  · rw [if_pos h0, outsAt0_A m c t h0]
    frame_out
  · rw [if_neg h0, outsAt0_B m c t h0]
    frame_out
    simp only [read_unread_whole]

theorem outsS (t : Fin cfg0.N) : (outsAt0 m c t.val t.isLt).2.2.2 = k0_pay7 (F := Ideal) (hB m c t) := by
  unfold hB
  rw [← row_0]
  by_cases h0 : t.val % 8 = 0
  · rw [outsAt0_A m c t h0]
    frame_out
  · rw [outsAt0_B m c t h0]
    frame_out

end Cert.Kernel8Ideal.Gen

end
-- ==== Proof.KeyLeft.lean ====
module

public import proofs.«01_k».proof.Proof.KeyPay

@[expose] public section

set_option maxRecDepth 16384

noncomputable section

/-! The arrays the keys leave. -/

open Idealize.ShloMosaic Idealize.ShloMosaic.TcCoe Idealize.SL.Sem
open Idealize.ShloMosaic.Pipeline (Dat)
open Cert.Nsa Cert.Shift

namespace Cert.Kernel8Ideal.Gen

open Cert.Kernel5Ideal.Gen (vrow)

variable (m : (ℓ : Loc nD τ sig) → Buf (Elt Ideal) ℓ) (c : Dev nD)

/-- The token of a row of a point's block. -/
def tok (t : Fin cfg0.N) (i : Fin 512) : Fin 16384 := ⟨512 * t.val + i, by have : t.val < 32 := t.2; omega⟩

/-- The batch row of a point. -/
def brow (t : Fin cfg0.N) : Fin 4 := ⟨t.val / 8, by have : t.val < 32 := t.2; omega⟩

theorem idx_0 : ∀ t : Fin grid0.N, win0_0.index t 0 = t.val ∧ win0_0.index t 1 = 0 := by decide +kernel
theorem idx_1 : ∀ t : Fin grid0.N, win0_1.index t 0 = t.val / 8 ∧ win0_1.index t 1 = 0 ∧ win0_1.index t 2 = 0 := by decide +kernel
theorem idx_2 : ∀ t : Fin grid0.N, win0_2.index t 0 = 0 ∧ win0_2.index t 1 = 0 := by decide +kernel
theorem idx_3 : ∀ t : Fin grid0.N, win0_3.index t 0 = 0 ∧ win0_3.index t 1 = 0 := by decide +kernel
theorem idx_5 : ∀ t : Fin grid0.N, win0_5.index t 0 = 0 ∧ win0_5.index t 1 = 0 := by decide +kernel
theorem idx_7 : ∀ t : Fin grid0.N, win0_7.index t 0 = 0 ∧ win0_7.index t 1 = 0 := by decide +kernel
theorem idx_9 : ∀ t : Fin grid0.N, win0_9.index t 0 = t.val ∧ win0_9.index t 1 = 0 := by decide +kernel
theorem idx_10 : ∀ t : Fin grid0.N, win0_10.index t 0 = t.val ∧ win0_10.index t 1 = 0 := by decide +kernel
theorem idx_11 : ∀ t : Fin grid0.N, win0_11.index t 0 = t.val ∧ win0_11.index t 1 = 0 := by decide +kernel

theorem blk_0 (t : Fin cfg0.N) (i : Fin 512) (j : Fin 1024) : iblk m c 0 t (ix2 i j) = Gen.V m c main_v0 (ix2 (tok t i) j) := by
  obtain ⟨e0, e1⟩ := idx_0 t
  blk_simp [iblk]
  blk_ext [e0, e1, tok]

theorem blk_1 (t : Fin cfg0.N) (j : Fin 1024) : iblk m c 1 t (ix3 0 0 j) = Gen.V m c main_v1 (ix3 (brow t) 0 j) := by
  obtain ⟨e0, e1, e2⟩ := idx_1 t
  blk_simp [iblk]
  blk_ext [e0, e1, e2, brow]

theorem blk_2 (t : Fin cfg0.N) (i : Fin 16) (j : Fin 1024) : iblk m c 2 t (ix2 i j) = Gen.V m c main_v31 (ix2 i j) := by
  obtain ⟨e0, e1⟩ := idx_2 t
  blk_simp [iblk]
  blk_ext [e0, e1]

theorem blk_3 (t : Fin cfg0.N) (i j : Fin 1024) : iblk m c 3 t (ix2 i j) = Gen.V m c main_v32 (ix2 i j) := by
  obtain ⟨e0, e1⟩ := idx_3 t
  blk_simp [iblk]
  blk_ext [e0, e1]

theorem blk_5 (t : Fin cfg0.N) (i : Fin 1024) (j : Fin 128) : iblk m c 5 t (ix2 i j) = Gen.V m c main_v37 (ix2 i j) := by
  obtain ⟨e0, e1⟩ := idx_5 t
  blk_simp [iblk]
  blk_ext [e0, e1]

theorem blk_7 (t : Fin cfg0.N) (i : Fin 128) (j : Fin 1024) : iblk m c 7 t (ix2 i j) = Gen.V m c main_v42 (ix2 i j) := by
  obtain ⟨e0, e1⟩ := idx_7 t
  blk_simp [iblk]
  blk_ext [e0, e1]

theorem vrow_at (t : Fin cfg0.N) (r : Fin 16) (k : Fin 1024) : vrow (iblk m c 2 t) r (ix2 0 k) = Gen.V m c main_v31 (ix2 r k) := blk_2 m c t r k

theorem hB_at (t : Fin cfg0.N) (i : Fin 512) (k : Fin 1024) : hB m c t (ix2 i k) = hidT (Gen.V m c main_v0) (Gen.V m c main_v31) (tok t i) k := by
  unfold hB hidT
  refine (norm_at _ _ i k).trans ?_
  simp only [blk_0, vrow_at]

theorem carry_at (t : Fin cfg0.N) (k : Fin 1024) :
    carry m c t (ix2 0 k) = preT (Gen.V m c main_v0) (Gen.V m c main_v31) (Gen.V m c main_v1) (tok t 0) k := by
  have ht : t.val < 32 := t.2
  unfold carry preT
  by_cases h0 : t.val % 8 = 0
  · rw [if_pos h0]
    refine Eq.trans ?_ (if_pos (show (512 * t.val + 0) % 4096 = 0 by omega)).symm
    refine (init_at _ k).trans ((blk_1 m c t k).trans ?_)
    refine congrArg (fun g => Gen.V m c main_v1 (ix3 g 0 k)) (Fin.ext ?_)
    show t.val / 8 = (512 * t.val + 0) / 4096
    omega
  · rw [if_neg h0]
    refine Eq.trans ?_ (if_neg (show ¬(512 * t.val + 0) % 4096 = 0 by omega)).symm
    have e := outsS m c ⟨t.val - 1, lt_of_le_of_lt (Nat.sub_le _ _) t.isLt⟩
    refine (congrFun e _).trans ((last_at _ k).trans ((hB_at m c _ _ k).trans ?_))
    refine congrArg (fun n => hidT _ _ n k) (Fin.ext ?_)
    show 512 * (t.val - 1) + 511 = 512 * t.val + 0 - 1
    omega

theorem pB_at (t : Fin cfg0.N) (i : Fin 512) (k : Fin 1024) :
    pB m c t (ix2 i k) = preT (Gen.V m c main_v0) (Gen.V m c main_v31) (Gen.V m c main_v1) (tok t i) k := by
  unfold pB
  refine (prev_at _ _ _ i k).trans ?_
  by_cases e : i.val = 0
  · rw [if_pos e, carry_at]
    obtain rfl : i = 0 := Fin.ext e
    rfl
  · rw [if_neg e]
    refine (hB_at m c t _ k).trans ?_
    unfold preT
    refine Eq.trans ?_ (if_neg (show ¬(512 * t.val + i.val) % 4096 = 0 by have := i.isLt; omega)).symm
    refine congrArg (fun n => hidT _ _ n k) (Fin.ext ?_)
    show 512 * t.val + (i.val - 1) = 512 * t.val + i.val - 1
    omega

theorem col_at (t : Fin cfg0.N) (r : Fin 16) (i : Fin 512) (W : Fin 1024 → EReal) :
    col (fun k => hB m c t (ix2 i k)) (fun k => pB m c t (ix2 i k)) (fun k => vrow (iblk m c 2 t) r (ix2 0 k)) W
      = colT (Gen.V m c main_v0) (Gen.V m c main_v31) (Gen.V m c main_v1) r (tok t i) W := by
  unfold colT
  simp only [hB_at, pB_at, vrow_at]

section Arrays
variable (X : (⟨2, ![16384, 1024]⟩ : Shape).Idx → EReal) (A : (⟨2, ![16, 1024]⟩ : Shape).Idx → EReal) (I : (⟨3, ![4, 1, 1024]⟩ : Shape).Idx → EReal)
  (W : (⟨2, ![1024, 1024]⟩ : Shape).Idx → EReal) (B : (⟨2, ![1024, 128]⟩ : Shape).Idx → EReal) (C : (⟨2, ![128, 1024]⟩ : Shape).Idx → EReal)

/-- A key before its scaling. -/
def kT (n : Fin 16384) (j : Fin 1024) : EReal := colT X A I 3 n (fun k => W (ix2 k j))

/-- A rate. -/
def rT (n : Fin 16384) (j : Fin 1024) : EReal := rate (fun l => colT X A I 5 n (fun k => B (ix2 k l))) (fun l => C (ix2 l j)) (A (ix2 8 j))

/-- A direction. -/
def dT (n : Fin 16384) (j : Fin 1024) : EReal := dirv (fun r => kT X A I W n r * A (ix2 10 r)) j

/-- The keys. -/
def kArr : (⟨2, ![16384, 1024]⟩ : Shape).Idx → EReal := fun y => keyv (kT X A I W (y 0) (y 1)) (rT X A I B C (y 0) (y 1)) (A (ix2 11 (y 1)))

/-- The directions, negated. -/
def nArr : (⟨2, ![16384, 1024]⟩ : Shape).Idx → EReal := fun y => -dT X A I W (y 0) (y 1)

/-- The directions by their rates. -/
def bArr : (⟨2, ![16384, 1024]⟩ : Shape).Idx → EReal := fun y => dT X A I W (y 0) (y 1) * rT X A I B C (y 0) (y 1)

theorem kArr_at (n : Fin 16384) (j : Fin 1024) : kArr X A I W B C (ix2 n j) = keyv (kT X A I W n j) (rT X A I B C n j) (A (ix2 11 j)) := rfl
theorem nArr_at (n : Fin 16384) (j : Fin 1024) : nArr X A I W (ix2 n j) = -dT X A I W n j := rfl
theorem bArr_at (n : Fin 16384) (j : Fin 1024) : bArr X A I W B C (ix2 n j) = dT X A I W n j * rT X A I B C n j := rfl

end Arrays

theorem kB_at (t : Fin cfg0.N) (i : Fin 512) (j : Fin 1024) : kB m c t (ix2 i j) = kT (Gen.V m c main_v0) (Gen.V m c main_v31) (Gen.V m c main_v1) (Gen.V m c main_v32) (tok t i) j := by
  unfold kB
  refine (raw_at _ _ _ _ i j).trans ((col_at m c t 3 i _).trans ?_)
  exact congrArg (colT _ _ _ 3 _) (funext fun k => blk_3 m c t k j)

theorem rB_at (t : Fin cfg0.N) (i : Fin 512) (j : Fin 1024) : rB m c t (ix2 i j) = rT (Gen.V m c main_v0) (Gen.V m c main_v31) (Gen.V m c main_v1) (Gen.V m c main_v37) (Gen.V m c main_v42) (tok t i) j := by
  unfold rB
  refine (rate_at _ _ _ _ _ _ i j).trans ?_
  refine congr (congrArg₂ rate (funext fun l => ?_) (funext fun l => blk_7 m c t l j)) (vrow_at m c t 8 j)
  exact (col_at m c t 5 i _).trans (congrArg (colT _ _ _ 5 _) (funext fun k => blk_5 m c t k l))

/-- The scaled keys are real numbers. -/
def Real8 : Prop := ∀ (n : Fin 16384) (j : Fin 1024), IsR (kT (Gen.V m c main_v0) (Gen.V m c main_v31) (Gen.V m c main_v1) (Gen.V m c main_v32) n j * Gen.V m c main_v31 (ix2 10 j))

theorem dB_at (hR : Real8 m c) (t : Fin cfg0.N) (i : Fin 512) (j : Fin 1024) : dB m c t (ix2 i j) = dT (Gen.V m c main_v0) (Gen.V m c main_v31) (Gen.V m c main_v1) (Gen.V m c main_v32) (tok t i) j := by
  have e : ∀ r : Fin 1024, kB m c t (ix2 i r) * vrow (iblk m c 2 t) 10 (ix2 0 r) = kT (Gen.V m c main_v0) (Gen.V m c main_v31) (Gen.V m c main_v1) (Gen.V m c main_v32) (tok t i) r * Gen.V m c main_v31 (ix2 10 r) :=
    fun r => congrArg₂ (· * ·) (kB_at m c t i r) (vrow_at m c t 10 r)
  unfold dB dT
  refine (dir_at _ _ i j fun r => ?_).trans (congrArg (fun q => dirv q j) (funext e))
  rw [e]
  exact hR _ _

theorem out9_at (t : Fin cfg0.N) (i : Fin 512) (j : Fin 1024) : (outsAt0 m c t.val t.isLt).1 (ix2 i j)
    = kArr (Gen.V m c main_v0) (Gen.V m c main_v31) (Gen.V m c main_v1) (Gen.V m c main_v32) (Gen.V m c main_v37) (Gen.V m c main_v42) (ix2 (tok t i) j) := by
  rw [outs9, kArr_at]
  refine (key_at _ _ _ i j).trans ?_
  exact congr (congrArg₂ keyv (kB_at m c t i j) (rB_at m c t i j)) (vrow_at m c t 11 j)

theorem out10_at (hR : Real8 m c) (t : Fin cfg0.N) (i : Fin 512) (j : Fin 1024) : (outsAt0 m c t.val t.isLt).2.1 (ix2 i j)
    = nArr (Gen.V m c main_v0) (Gen.V m c main_v31) (Gen.V m c main_v1) (Gen.V m c main_v32) (ix2 (tok t i) j) := by
  rw [outs10, nArr_at]
  exact (neg_at _ i j).trans (congrArg (- ·) (dB_at m c hR t i j))

theorem out11_at (hR : Real8 m c) (t : Fin cfg0.N) (i : Fin 512) (j : Fin 1024) : (outsAt0 m c t.val t.isLt).2.2.1 (ix2 i j)
    = bArr (Gen.V m c main_v0) (Gen.V m c main_v31) (Gen.V m c main_v1) (Gen.V m c main_v32) (Gen.V m c main_v37) (Gen.V m c main_v42) (ix2 (tok t i) j) := by
  rw [outs11, bArr_at]
  exact (prod_at _ _ i j).trans (congrArg₂ (· * ·) (dB_at m c hR t i j) (rB_at m c t i j))

theorem arr9 : (dats m 0 c).arrAt 9 cfg0.N = kArr (Gen.V m c main_v0) (Gen.V m c main_v31) (Gen.V m c main_v1) (Gen.V m c main_v32) (Gen.V m c main_v37) (Gen.V m c main_v42) := by
  generalize hw : kArr (Gen.V m c main_v0) (Gen.V m c main_v31) (Gen.V m c main_v1) (Gen.V m c main_v32) (Gen.V m c main_v37) (Gen.V m c main_v42) = f
  refine (dats m 0 c).arrAt_eq_of_covers 9 f (by decide +kernel) fun t hf y => ?_
  obtain ⟨e0, e1⟩ := idx_9 t
  obtain ⟨i, j, rfl⟩ : ∃ (i : Fin 512) (j : Fin 1024), y = ix2 i j := ⟨_, _, eq_ix2 y⟩
  refine Eq.trans ?_ (congrArg f (show ix2 (tok t i) j = _ by blk_ext [e0, e1, tok]))
  blk_simp
  rw [after0_9]
  subst hw
  exact out9_at m c t i j

theorem arr10 (hR : Real8 m c) : (dats m 0 c).arrAt 10 cfg0.N = nArr (Gen.V m c main_v0) (Gen.V m c main_v31) (Gen.V m c main_v1) (Gen.V m c main_v32) := by
  generalize hw : nArr (Gen.V m c main_v0) (Gen.V m c main_v31) (Gen.V m c main_v1) (Gen.V m c main_v32) = f
  refine (dats m 0 c).arrAt_eq_of_covers 10 f (by decide +kernel) fun t hf y => ?_
  obtain ⟨e0, e1⟩ := idx_10 t
  obtain ⟨i, j, rfl⟩ : ∃ (i : Fin 512) (j : Fin 1024), y = ix2 i j := ⟨_, _, eq_ix2 y⟩
  refine Eq.trans ?_ (congrArg f (show ix2 (tok t i) j = _ by blk_ext [e0, e1, tok]))
  blk_simp
  rw [after0_10]
  subst hw
  exact out10_at m c hR t i j

theorem arr11 (hR : Real8 m c) : (dats m 0 c).arrAt 11 cfg0.N = bArr (Gen.V m c main_v0) (Gen.V m c main_v31) (Gen.V m c main_v1) (Gen.V m c main_v32) (Gen.V m c main_v37) (Gen.V m c main_v42) := by
  generalize hw : bArr (Gen.V m c main_v0) (Gen.V m c main_v31) (Gen.V m c main_v1) (Gen.V m c main_v32) (Gen.V m c main_v37) (Gen.V m c main_v42) = f
  refine (dats m 0 c).arrAt_eq_of_covers 11 f (by decide +kernel) fun t hf y => ?_
  obtain ⟨e0, e1⟩ := idx_11 t
  obtain ⟨i, j, rfl⟩ : ∃ (i : Fin 512) (j : Fin 1024), y = ix2 i j := ⟨_, _, eq_ix2 y⟩
  refine Eq.trans ?_ (congrArg f (show ix2 (tok t i) j = _ by blk_ext [e0, e1, tok]))
  blk_simp
  rw [after0_11]
  subst hw
  exact out11_at m c hR t i j

end Cert.Kernel8Ideal.Gen

end
-- ==== Proof.KeyRef.lean ====
module

public import proofs.«01_k».proof.Proof.Gen.Reference8Ideal.Run
public import proofs.«01_k».proof.Proof.ShiftRef
public import proofs.«01_k».proof.Proof.MixRef
public import proofs.«01_k».proof.Proof.KeyPay

@[expose] public section

set_option maxRecDepth 16384

noncomputable section

/-! The keys' reference, entry by entry. -/

open Idealize.ShloMosaic Idealize.ShloMosaic.TcCoe Idealize.SL.Sem
open Cert.Nsa Cert.Shift

namespace Cert.Reference8Ideal.Value

open Cert.Reference8Ideal.Gen
open Cert.Reference5Ideal.Value (normed normed_at before before_0 before_succ coef mixed mixed_at outR outR_at)
open Cert.Reference4Ideal.Value (hd hd_at tot tot_at each each_at)
open Cert.Kernel8Ideal.Gen (rate keyv dirv)

/-- A vector, over every token. -/
def over (v : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 v)

theorem over_at (v : FVec Ideal S1024 .f32) (g : Fin 4) (t : Fin 4096) (j : Fin 1024) : over v (ix3 g t j) = v (ix1 j) := by
  pointwise [over]

/-- The rates, from the mixed rows. -/
def rates (a : FVec Ideal S4x4096x1024 .f32) (v0 : FVec Ideal S1024 .f32) (B : FVec Ideal S1024x64 .f32) (C : FVec Ideal S64x1024 .f32) : FVec Ideal S4x4096x1024 .f32 :=
  Host.divf (broadcastInDim S4x4096x1024 ![] bcast_S_S4x4096x1024 (constant (F := Ideal) S_ .f32 0x3F800000#32))
    (addf (broadcastInDim S4x4096x1024 ![] bcast_S_S4x4096x1024 (constant (F := Ideal) S_ .f32 0x3F800000#32))
      (Host.exp (Host.negf (addf (over v0)
        (Host.dotGeneral dot_S4x4096x64_S64x1024_S4x4096x1024_2_0_01_1_n_n none
          (Host.dotGeneral dot_S4x4096x1024_S1024x64_S4x4096x64_2_0_01_1_n_n none a B) C)))))

theorem rates_at (a : FVec Ideal S4x4096x1024 .f32) (v0 : FVec Ideal S1024 .f32) (B : FVec Ideal S1024x64 .f32) (C : FVec Ideal S64x1024 .f32) (g : Fin 4) (t : Fin 4096) (j : Fin 1024) :
    rates a v0 B C (ix3 g t j) = rate (fun l : Fin 64 => ∑ k : Fin 1024, a (ix3 g t k) * B (ix2 k l)) (fun l => C (ix2 l j)) (v0 (ix1 j)) := by
  pointwise [rates, over]
  rfl

/-- The keys scaled by their rates. -/
def keys (k a : FVec Ideal S4x4096x1024 .f32) (b : FVec Ideal S1024 .f32) : FVec Ideal S4x4096x1024 .f32 :=
  mulf k (addf (broadcastInDim S4x4096x1024 ![] bcast_S_S4x4096x1024 (constant (F := Ideal) S_ .f32 0x3F800000#32))
    (mulf (subf a (broadcastInDim S4x4096x1024 ![] bcast_S_S4x4096x1024 (constant (F := Ideal) S_ .f32 0x3F800000#32))) (over b)))

theorem keys_at (k a : FVec Ideal S4x4096x1024 .f32) (b : FVec Ideal S1024 .f32) (g : Fin 4) (t : Fin 4096) (j : Fin 1024) :
    keys k a b (ix3 g t j) = keyv (k (ix3 g t j)) (a (ix3 g t j)) (b (ix1 j)) := by
  unfold keyv
  pointwise [keys, over]

/-- A head's length, no less than the least. -/
def len (q : FVec Ideal S4x4096x16x64 .f32) : FVec Ideal S4x4096x16x1 .f32 :=
  maximumf (Host.sqrt (tot (mulf q q))) (broadcastInDim S4x4096x16x1 ![] bcast_S_S4x4096x16x1 (constant (F := Ideal) S_ .f32 0x2B8CBCCC#32))

theorem len_at (q : FVec Ideal S4x4096x16x64 .f32) (g : Fin 4) (t : Fin 4096) (h : Fin 16) :
    len q (ix4 g t h 0) = max (Ideal.sqrt (∑ e : Fin 64, q (ix4 g t h e) * q (ix4 g t h e))) (Ideal.ofBits FTy.f32 0x2B8CBCCC#32) := by
  have e := tot_at (mulf q q) g t h
  unfold len
  generalize tot (mulf q q) = f at e
  pointwise
  rw [e]
  rfl

/-- The directions. -/
def dirs (q : FVec Ideal S4x4096x16x64 .f32) : FVec Ideal S4x4096x16x64 .f32 := Host.divf q (each (len q))

theorem dirs_at (q : FVec Ideal S4x4096x16x64 .f32) (g : Fin 4) (t : Fin 4096) (h : Fin 16) (d : Fin 64) :
    dirs q (ix4 g t h d) = Ideal.div (q (ix4 g t h d)) (max (Ideal.sqrt (∑ e : Fin 64, q (ix4 g t h e) * q (ix4 g t h e))) (Ideal.ofBits FTy.f32 0x2B8CBCCC#32)) := by
  rw [← len_at, ← each_at (len q) g t h d]
  rfl

section Results
variable (x : FVec Ideal S4x4096x1024 .f32) (s : FVec Ideal S4x1024 .f32) (w : FVec Ideal S1024 .f32) (u : FVec Ideal S6x1024 .f32) (v0 : FVec Ideal S1024 .f32)
  (W : FVec Ideal S1024x1024 .f32) (B : FVec Ideal S1024x64 .f32) (C : FVec Ideal S64x1024 .f32) (e b : FVec Ideal S1024 .f32)

/-- The mixed rows of the keys. -/
def mixK : FVec Ideal S4x4096x1024 .f32 := mixed (normed x w) (before (normed x w) s) (coef 2 slices_S6x1024_S1x1024_2_0 u)

/-- The mixed rows of the rates. -/
def mixA : FVec Ideal S4x4096x1024 .f32 := mixed (normed x w) (before (normed x w) s) (coef 4 slices_S6x1024_S1x1024_4_0 u)

/-- The keys before their scaling. -/
def rawK : FVec Ideal S4x4096x1024 .f32 := outR (mixK x s w u) W

def resK : FVec Ideal S4x4096x1024 .f32 := keys (rawK x s w u W) (rates (mixA x s w u) v0 B C) b

def resD : FVec Ideal S4x4096x16x64 .f32 := dirs (hd (mulf (rawK x s w u W) (over e)))

def resN : FVec Ideal S4x4096x16x64 .f32 := Host.negf (resD x s w u W e)

def resB : FVec Ideal S4x4096x16x64 .f32 := mulf (resD x s w u W e) (hd (rates (mixA x s w u) v0 B C))

theorem coef_2 (g : Fin 4) (t : Fin 4096) (k : Fin 1024) : coef 2 slices_S6x1024_S1x1024_2_0 u (ix3 g t k) = u (ix2 2 k) := by
  pointwise [coef]
  try (refine congrArg u ?_; blk_ext)

theorem coef_4 (g : Fin 4) (t : Fin 4096) (k : Fin 1024) : coef 4 slices_S6x1024_S1x1024_4_0 u (ix3 g t k) = u (ix2 4 k) := by
  pointwise [coef]
  try (refine congrArg u ?_; blk_ext)

theorem resD_at (g : Fin 4) (t : Fin 4096) (h : Fin 16) (d : Fin 64) :
    resD x s w u W e (ix4 g t h d) = dirv (fun r => rawK x s w u W (ix3 g t r) * e (ix1 r)) ⟨64 * h + d, by omega⟩ := by
  have q : ∀ a : Fin 64, hd (mulf (rawK x s w u W) (over e)) (ix4 g t h a) = rawK x s w u W (ix3 g t ⟨64 * h + a, by omega⟩) * e (ix1 ⟨64 * h + a, by omega⟩) :=
    fun a => (hd_at _ g t h a).trans (congrArg (_ * ·) (over_at e g t _))
  have hh : (64 * (h : ℕ) + (d : ℕ)) / 64 = h := by omega
  unfold resD dirv
  rw [dirs_at]
  simp only [q]
  refine congrArg (fun z => Ideal.div _ (max (Ideal.sqrt z) _)) ?_
  unfold Cert.Kernel4Ideal.Gen.seg
  refine Eq.trans ?_ (seg_fold _ ((64 * (h : ℕ) + (d : ℕ)) / 64) (by omega)).symm
  refine Finset.sum_congr rfl fun a _ => ?_
  simp only [hh]

end Results

section Is
variable (m : (ℓ : Loc nD τ sig) → Buf (Elt Ideal) ℓ) (c : Dev nD)

theorem k_is : res_main_v60 m c = resK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg9)) := by
  unfold res_main_v60 resK keys rates rawK over mixK mixA outR mixed before normed coef
  rfl

theorem n_is : res_main_v61 m c = resN (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg8)) := by
  unfold res_main_v61 resN resD dirs len each tot hd rawK over mixK outR mixed before normed coef
  rfl

theorem b_is : res_main_v63 m c = resB (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) := by
  unfold res_main_v63 resB resD dirs len each tot hd rates rawK over mixK mixA outR mixed before normed coef
  rfl

end Is

end Cert.Reference8Ideal.Value

end
-- ==== Proof.KeyFinite.lean ====
module

public import proofs.«01_k».proof.Proof.Gen.Pre_finite8
public import proofs.«01_k».proof.Pre_finite8
public import proofs.«01_k».proof.Proof.WkvFinite

@[expose] public section

set_option maxRecDepth 16384

noncomputable section

/-! The eighth program's precondition: the keys before their scaling come from real numbers. -/

namespace Cert.Pre_finite8

open Idealize.ShloMosaic
open Facts

theorem finite_at [Facts] (x0 : FVec Ideal S4x4096x1024 .f32) (x1 : FVec Ideal S4x1024 .f32) (x2 : FVec Ideal S1024 .f32) (x3 : FVec Ideal S6x1024 .f32) (x4 : FVec Ideal S1024 .f32)
    (x5 : FVec Ideal S1024x1024 .f32) (x6 : FVec Ideal S1024x64 .f32) (x7 : FVec Ideal S64x1024 .f32) (x8 x9 : FVec Ideal S1024 .f32)
    (h : ∀ j, fn (F := Ideal) x0 x1 x2 x3 x4 x5 x6 x7 x8 x9 j = 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal))
      ∧ (∀ i, x5 i = ((EReal.toReal (x5 i) : ℝ) : EReal)) ∧ (∀ i, x8 i = ((EReal.toReal (x8 i) : ℝ) : EReal)) := by
  obtain ⟨d5, e8⟩ := IntOp.andi_eq_one.1 (h (Shape.Idx.first h_S_))
  obtain ⟨d3, e5⟩ := IntOp.andi_eq_one.1 d5
  obtain ⟨d2, e3⟩ := IntOp.andi_eq_one.1 d3
  obtain ⟨d1, e2⟩ := IntOp.andi_eq_one.1 d2
  obtain ⟨e0, e1⟩ := IntOp.andi_eq_one.1 d1
  haveI : Subsingleton S_.Idx := ⟨fun a b => funext fun k => k.elim0⟩
  exact ⟨fun i => Cert.Pre_finite.real_of x0 _ i (Host.reduce_andi_all _ _ _ _ _ e0 i), fun i => Cert.Pre_finite.real_of x1 _ i (Host.reduce_andi_all _ _ _ _ _ e1 i),
    fun i => Cert.Pre_finite.real_of x2 _ i (Host.reduce_andi_all _ _ _ _ _ e2 i), fun i => Cert.Pre_finite.real_of x3 _ i (Host.reduce_andi_all _ _ _ _ _ e3 i),
    fun i => Cert.Pre_finite.real_of x5 _ i (Host.reduce_andi_all _ _ _ _ _ e5 i), fun i => Cert.Pre_finite.real_of x8 _ i (Host.reduce_andi_all _ _ _ _ _ e8 i)⟩

end Cert.Pre_finite8
-- ==== Proof.KeyValue.lean ====
module

public import proofs.«01_k».proof.Defs
public import proofs.«01_k».proof.Proof.KeyLeft
public import proofs.«01_k».proof.Proof.KeyRef
public import proofs.«01_k».proof.Proof.KeyFinite
public import proofs.«01_k».proof.Proof.ShiftValue

@[expose] public section

set_option maxRecDepth 16384

noncomputable section

/-! The keys: the kernel's results are the reference's. -/

open Idealize.ShloMosaic Idealize.ShloMosaic.TcCoe Idealize.SL.Sem
open Idealize.ShloMosaic.Pipeline (Dat)
open Cert.Nsa Cert.Shift

namespace Cert.Kernel8Ideal.Gen

open Cert.Kernel5Ideal.Gen (rowV rowV_at muRow zeros stack stack_0 rowsT rowsT_at rowsS rowsS_at hid_at pre_at back_at wide wide_at tall tall_at tall_zero sum_rank)
open Cert.Reference5Ideal.Value (normed normed_at before before_0 before_succ coef mixed mixed_at outR outR_at)
open Cert.Reference8Ideal.Value (mixK mixA rawK resK resD resN resB rates rates_at keys_at coef_2 coef_4 resD_at k_is n_is b_is)

theorem muRow_2 (u : FVec Ideal S6x1024 .f32) (j : Fin 1024) : muRow 2 slices_S6x1024_S1x1024_2_0 u (ix2 0 j) = u (ix2 2 j) := by
  unfold muRow
  refine (rowV_at _ j).trans ?_
  pointwise
  try (refine congrArg u ?_; blk_ext)

theorem muRow_4 (u : FVec Ideal S6x1024 .f32) (j : Fin 1024) : muRow 4 slices_S6x1024_S1x1024_4_0 u (ix2 0 j) = u (ix2 4 j) := by
  unfold muRow
  refine (rowV_at _ j).trans ?_
  pointwise
  try (refine congrArg u ?_; blk_ext)

/-- The vectors, stacked, with the bias of the rates and the scales in their own rows. -/
def pile (w : FVec Ideal S1024 .f32) (u : FVec Ideal S6x1024 .f32) (v0 e b : FVec Ideal S1024 .f32) : FVec Ideal S16x1024 .f32 :=
  concatenate S16x1024 0 [⟨S1x1024, rowV w⟩, ⟨S1x1024, muRow 0 slices_S6x1024_S1x1024_0_0 u⟩, ⟨S1x1024, muRow 1 slices_S6x1024_S1x1024_1_0 u⟩, ⟨S1x1024, muRow 2 slices_S6x1024_S1x1024_2_0 u⟩,
    ⟨S1x1024, muRow 3 slices_S6x1024_S1x1024_3_0 u⟩, ⟨S1x1024, muRow 4 slices_S6x1024_S1x1024_4_0 u⟩, ⟨S1x1024, muRow 5 slices_S6x1024_S1x1024_5_0 u⟩, ⟨S1x1024, zeros⟩,
    ⟨S1x1024, rowV v0⟩, ⟨S1x1024, zeros⟩, ⟨S1x1024, rowV e⟩, ⟨S1x1024, rowV b⟩, ⟨S1x1024, zeros⟩, ⟨S1x1024, zeros⟩, ⟨S1x1024, zeros⟩, ⟨S1x1024, zeros⟩]
    concatenates_S1x1024_S1x1024_S1x1024_S1x1024_S1x1024_S1x1024_S1x1024_S1x1024_S1x1024_S1x1024_S1x1024_S1x1024_S1x1024_S1x1024_S1x1024_S1x1024_S16x1024_d0

section Pile
variable (w : FVec Ideal S1024 .f32) (u : FVec Ideal S6x1024 .f32) (v0 e b : FVec Ideal S1024 .f32) (j : Fin 1024)

theorem pile_0 : pile w u v0 e b (ix2 0 j) = w (ix1 j) := by
  unfold pile
  pointwise
  exact rowV_at _ _

theorem pile_3 : pile w u v0 e b (ix2 3 j) = u (ix2 2 j) := by
  unfold pile
  pointwise
  exact muRow_2 _ _

theorem pile_5 : pile w u v0 e b (ix2 5 j) = u (ix2 4 j) := by
  unfold pile
  pointwise
  exact muRow_4 _ _

theorem pile_8 : pile w u v0 e b (ix2 8 j) = v0 (ix1 j) := by
  unfold pile
  pointwise
  exact rowV_at _ _

theorem pile_10 : pile w u v0 e b (ix2 10 j) = e (ix1 j) := by
  unfold pile
  pointwise
  exact rowV_at _ _

theorem pile_11 : pile w u v0 e b (ix2 11 j) = b (ix1 j) := by
  unfold pile
  pointwise
  exact rowV_at _ _

end Pile

section Launch
variable (m : (ℓ : Loc nD τ sig) → Buf (Elt Ideal) ℓ) (c : Dev nD)

/-- The arguments. -/
abbrev a0 : FVec Ideal S4x4096x1024 .f32 := m ((c : Thread nD τ).loc main_arg0)
abbrev a1 : FVec Ideal S4x1024 .f32 := m ((c : Thread nD τ).loc main_arg1)
abbrev a2 : FVec Ideal S1024 .f32 := m ((c : Thread nD τ).loc main_arg2)
abbrev a3 : FVec Ideal S6x1024 .f32 := m ((c : Thread nD τ).loc main_arg3)
abbrev a4 : FVec Ideal S1024 .f32 := m ((c : Thread nD τ).loc main_arg4)
abbrev a5 : FVec Ideal S1024x1024 .f32 := m ((c : Thread nD τ).loc main_arg5)
abbrev a6 : FVec Ideal S1024x64 .f32 := m ((c : Thread nD τ).loc main_arg6)
abbrev a7 : FVec Ideal S64x1024 .f32 := m ((c : Thread nD τ).loc main_arg7)
abbrev a8 : FVec Ideal S1024 .f32 := m ((c : Thread nD τ).loc main_arg8)
abbrev a9 : FVec Ideal S1024 .f32 := m ((c : Thread nD τ).loc main_arg9)

theorem in_x : Gen.V m c main_v0 = rowsT (a0 m c) := by
  unfold Gen.V V0
  simp only [hostOps0, hostOps0_1, hostOps0_2, hostOps0_3, hostOps0_4, List.flatten_cons, List.flatten_nil, List.append_nil, List.cons_append, List.nil_append]
  after_results
  rfl

theorem in_s : Gen.V m c main_v1 = rowsS (a1 m c) := by
  unfold Gen.V V0
  simp only [hostOps0, hostOps0_1, hostOps0_2, hostOps0_3, hostOps0_4, List.flatten_cons, List.flatten_nil, List.append_nil, List.cons_append, List.nil_append]
  after_results
  rfl

theorem in_vecs : Gen.V m c main_v31 = pile (a2 m c) (a3 m c) (a4 m c) (a8 m c) (a9 m c) := by
  unfold Gen.V V0
  simp only [hostOps0, hostOps0_1, hostOps0_2, hostOps0_3, hostOps0_4, List.flatten_cons, List.flatten_nil, List.append_nil, List.cons_append, List.nil_append]
  after_results
  rfl

theorem in_w : Gen.V m c main_v32 = (a5 m c : FVec Ideal S1024x1024 .f32) := by
  unfold Gen.V V0
  simp only [hostOps0, hostOps0_1, hostOps0_2, hostOps0_3, hostOps0_4, List.flatten_cons, List.flatten_nil, List.append_nil, List.cons_append, List.nil_append]
  after_results
  rfl

theorem in_l1 : Gen.V m c main_v37 = wide (a6 m c) := by
  unfold Gen.V V0
  simp only [hostOps0, hostOps0_1, hostOps0_2, hostOps0_3, hostOps0_4, List.flatten_cons, List.flatten_nil, List.append_nil, List.cons_append, List.nil_append]
  after_results
  rfl

theorem in_l2 : Gen.V m c main_v42 = tall (a7 m c) := by
  unfold Gen.V V0
  simp only [hostOps0, hostOps0_1, hostOps0_2, hostOps0_3, hostOps0_4, List.flatten_cons, List.flatten_nil, List.append_nil, List.cons_append, List.nil_append]
  after_results
  rfl

theorem tail_v47 (W : Valuation τ sig (Elt Ideal)) :
    StableHlo.after hostOps1 W (Proc.devRef .tc main_v47) = shapeCast S4x4096x1024 (W (Proc.devRef .tc main_v46_0)) shapeCasts_S16384x1024_S4x4096x1024 := by
  unfold hostOps1
  after_results
  rfl

theorem end_v47 :
    Pipeline.afterTail₀ cfgs (dats m) 0 (V0 m) [hostOps1] c main_v47 = shapeCast S4x4096x1024 ((dats m 0 c).arrAt 9 cfg0.N) shapeCasts_S16384x1024_S4x4096x1024 := by
  unfold Pipeline.afterTail₀
  refine (tail_v47 _).trans (congrArg (fun u => shapeCast S4x4096x1024 u shapeCasts_S16384x1024_S4x4096x1024) ?_)
  exact Pipeline.withArrays_arr (cfgs 0).spec launch0.win.arr_inj c _ (fun w => (dats m 0 c).arrAt w (cfgs 0).N) 9

theorem tail_v48 (W : Valuation τ sig (Elt Ideal)) :
    StableHlo.after hostOps1 W (Proc.devRef .tc main_v48) = shapeCast S4x4096x16x64 (W (Proc.devRef .tc main_v46_1)) shapeCasts_S16384x1024_S4x4096x16x64 := by
  unfold hostOps1
  after_results
  rfl

theorem end_v48 :
    Pipeline.afterTail₀ cfgs (dats m) 0 (V0 m) [hostOps1] c main_v48 = shapeCast S4x4096x16x64 ((dats m 0 c).arrAt 10 cfg0.N) shapeCasts_S16384x1024_S4x4096x16x64 := by
  unfold Pipeline.afterTail₀
  refine (tail_v48 _).trans (congrArg (fun u => shapeCast S4x4096x16x64 u shapeCasts_S16384x1024_S4x4096x16x64) ?_)
  exact Pipeline.withArrays_arr (cfgs 0).spec launch0.win.arr_inj c _ (fun w => (dats m 0 c).arrAt w (cfgs 0).N) 10

theorem tail_v49 (W : Valuation τ sig (Elt Ideal)) :
    StableHlo.after hostOps1 W (Proc.devRef .tc main_v49) = shapeCast S4x4096x16x64 (W (Proc.devRef .tc main_v46_2)) shapeCasts_S16384x1024_S4x4096x16x64 := by
  unfold hostOps1
  after_results
  rfl

theorem end_v49 :
    Pipeline.afterTail₀ cfgs (dats m) 0 (V0 m) [hostOps1] c main_v49 = shapeCast S4x4096x16x64 ((dats m 0 c).arrAt 11 cfg0.N) shapeCasts_S16384x1024_S4x4096x16x64 := by
  unfold Pipeline.afterTail₀
  refine (tail_v49 _).trans (congrArg (fun u => shapeCast S4x4096x16x64 u shapeCasts_S16384x1024_S4x4096x16x64) ?_)
  exact Pipeline.withArrays_arr (cfgs 0).spec launch0.win.arr_inj c _ (fun w => (dats m 0 c).arrAt w (cfgs 0).N) 11

end Launch

theorem add_real {a b : EReal} (ha : IsR a) (hb : IsR b) : IsR (a + b) := by
  obtain ⟨x, rfl⟩ := ha; obtain ⟨y, rfl⟩ := hb; exact ⟨x + y, by norm_cast⟩

section Join
variable (x : FVec Ideal S4x4096x1024 .f32) (s : FVec Ideal S4x1024 .f32) (w : FVec Ideal S1024 .f32) (u : FVec Ideal S6x1024 .f32) (v0 : FVec Ideal S1024 .f32)
  (W : FVec Ideal S1024x1024 .f32) (B : FVec Ideal S1024x64 .f32) (C : FVec Ideal S64x1024 .f32) (e b : FVec Ideal S1024 .f32)

/-- A normed row reads the first of the stacked vectors alone. -/
theorem hid_pile (n : Fin 16384) (k : Fin 1024) : hidT (rowsT x) (pile w u v0 e b) n k = hidT (rowsT x) (stack w u v0) n k := by
  unfold hidT
  simp only [pile_0, stack_0]

theorem pre_pile (n : Fin 16384) (k : Fin 1024) : preT (rowsT x) (pile w u v0 e b) (rowsS s) n k = preT (rowsT x) (stack w u v0) (rowsS s) n k := by
  unfold preT
  simp only [hid_pile]

theorem col_k (g : Fin 4) (t : Fin 4096) (V : Fin 1024 → EReal) :
    colT (rowsT x) (pile w u v0 e b) (rowsS s) 3 ⟨4096 * g + t, by omega⟩ V = ∑ k : Fin 1024, mixK x s w u (ix3 g t k) * V k := by
  unfold colT col mixK
  refine Finset.sum_congr rfl fun k _ => congrArg (· * V k) ?_
  rw [mixed_at, hid_pile, pre_pile, hid_at, pre_at, coef_2]
  exact congrArg (mixv _ _) (pile_3 w u v0 e b k)

theorem col_a (g : Fin 4) (t : Fin 4096) (V : Fin 1024 → EReal) :
    colT (rowsT x) (pile w u v0 e b) (rowsS s) 5 ⟨4096 * g + t, by omega⟩ V = ∑ k : Fin 1024, mixA x s w u (ix3 g t k) * V k := by
  unfold colT col mixA
  refine Finset.sum_congr rfl fun k _ => congrArg (· * V k) ?_
  rw [mixed_at, hid_pile, pre_pile, hid_at, pre_at, coef_4]
  exact congrArg (mixv _ _) (pile_5 w u v0 e b k)

theorem kT_is (g : Fin 4) (t : Fin 4096) (j : Fin 1024) : kT (rowsT x) (pile w u v0 e b) (rowsS s) W ⟨4096 * g + t, by omega⟩ j = rawK x s w u W (ix3 g t j) :=
  (col_k x s w u v0 e b g t _).trans (outR_at _ _ g t j).symm

theorem rT_is (g : Fin 4) (t : Fin 4096) (j : Fin 1024) :
    rT (rowsT x) (pile w u v0 e b) (rowsS s) (wide B) (tall C) ⟨4096 * g + t, by omega⟩ j = rates (mixA x s w u) v0 B C (ix3 g t j) := by
  rw [rates_at]
  unfold rT rate
  rw [pile_8, sum_rank _ fun l hl => (congrArg (_ * ·) (tall_zero C l j hl)).trans (mul_zero _)]
  refine congrArg (fun q => sigm (v0 (ix1 j) + q)) ?_
  refine Finset.sum_congr rfl fun l _ => congrArg₂ (· * ·) ?_ (tall_at C _ j l.isLt)
  exact (col_a x s w u v0 e b g t _).trans (Finset.sum_congr rfl fun k _ => congrArg (_ * ·) (wide_at B k _ l.isLt))

theorem dT_is (g : Fin 4) (t : Fin 4096) (h : Fin 16) (d : Fin 64) :
    dT (rowsT x) (pile w u v0 e b) (rowsS s) W ⟨4096 * g + t, by omega⟩ ⟨64 * h + d, by omega⟩ = resD x s w u W e (ix4 g t h d) := by
  rw [resD_at]
  unfold dT
  refine congrArg (fun q => dirv q _) (funext fun r => ?_)
  rw [kT_is, pile_10]

/-- Rows back to the heads of the tokens. -/
theorem heads_at (f : FVec Ideal S16384x1024 .f32) (g : Fin 4) (t : Fin 4096) (h : Fin 16) (d : Fin 64) :
    shapeCast S4x4096x16x64 f shapeCasts_S16384x1024_S4x4096x16x64 (ix4 g t h d) = f (ix2 ⟨4096 * g + t, by omega⟩ ⟨64 * h + d, by omega⟩) := by
  pointwise
  try (refine congrArg f ?_; blk_ext)

theorem join_k : shapeCast S4x4096x1024 (kArr (rowsT x) (pile w u v0 e b) (rowsS s) W (wide B) (tall C)) shapeCasts_S16384x1024_S4x4096x1024 = resK x s w u v0 W B C b := by
  funext y
  obtain ⟨g, t, j, rfl⟩ : ∃ (g : Fin 4) (t : Fin 4096) (j : Fin 1024), y = ix3 g t j := ⟨_, _, _, eq_ix3 y⟩
  refine (back_at _ g t j).trans ?_
  unfold resK
  rw [kArr_at, keys_at, kT_is, rT_is, pile_11]

theorem join_n : shapeCast S4x4096x16x64 (nArr (rowsT x) (pile w u v0 e b) (rowsS s) W) shapeCasts_S16384x1024_S4x4096x16x64 = resN x s w u W e := by
  funext y
  obtain ⟨g, t, h, d, rfl⟩ : ∃ (g : Fin 4) (t : Fin 4096) (h : Fin 16) (d : Fin 64), y = ix4 g t h d := ⟨_, _, _, _, eq_ix4 y⟩
  refine (heads_at _ g t h d).trans ?_
  rw [nArr_at, dT_is]
  rfl

theorem join_b : shapeCast S4x4096x16x64 (bArr (rowsT x) (pile w u v0 e b) (rowsS s) W (wide B) (tall C)) shapeCasts_S16384x1024_S4x4096x16x64 = resB x s w u v0 W B C e := by
  funext y
  obtain ⟨g, t, h, d, rfl⟩ : ∃ (g : Fin 4) (t : Fin 4096) (h : Fin 16) (d : Fin 64), y = ix4 g t h d := ⟨_, _, _, _, eq_ix4 y⟩
  refine (heads_at _ g t h d).trans ?_
  rw [bArr_at, dT_is, rT_is]
  exact congrArg (_ * ·) (Cert.Reference4Ideal.Value.hd_at _ g t h d).symm

theorem raw_real (hx : ∀ i, IsR (x i)) (hs : ∀ i, IsR (s i)) (hw : ∀ i, IsR (w i)) (hu : ∀ i, IsR (u i)) (hW : ∀ i, IsR (W i)) (g : Fin 4) (t : Fin 4096) (j : Fin 1024) :
    IsR (rawK x s w u W (ix3 g t j)) := by
  have hn : ∀ (t : Fin 4096) (k : Fin 1024), IsR (normed x w (ix3 g t k)) := fun t k => by
    rw [normed_at]
    exact hid_real (fun _ => hx _) (fun _ => hw _) k
  have hb : ∀ k : Fin 1024, IsR (before (normed x w) s (ix3 g t k)) := fun k => by
    by_cases h0 : t.val = 0
    · obtain rfl : t = 0 := Fin.ext h0
      rw [before_0]
      exact hs _
    · rw [before_succ _ _ g t h0]
      exact hn _ k
  unfold rawK
  rw [outR_at]
  refine IsR.sum fun k => IsR.mul ?_ (hW _)
  unfold mixK
  rw [mixed_at, coef_2]
  exact add_real (hn t k) ((Cert.Kernel4Ideal.Gen.sub_real (hb k) (hn t k)).mul (hu _))

end Join

theorem real8 (m : (ℓ : Loc nD τ sig) → Buf (Elt Ideal) ℓ) (c : Dev nD) (hx : ∀ i, IsR (a0 m c i)) (hs : ∀ i, IsR (a1 m c i)) (hw : ∀ i, IsR (a2 m c i))
    (hu : ∀ i, IsR (a3 m c i)) (hW : ∀ i, IsR (a5 m c i)) (he : ∀ i, IsR (a8 m c i)) : Real8 m c := by
  intro n j
  rw [in_x, in_s, in_vecs, in_w, pile_10]
  refine IsR.mul ?_ (he _)
  have hn : n = ⟨4096 * (⟨n / 4096, by omega⟩ : Fin 4) + (⟨n % 4096, by omega⟩ : Fin 4096), by simp only []; omega⟩ := Fin.ext (by simp only []; omega)
  rw [hn, kT_is]
  exact raw_real _ _ _ _ _ hx hs hw hu hW _ _ _

section Ends
variable (m : (ℓ : Loc nD τ sig) → Buf (Elt Ideal) ℓ) (c : Dev nD)

theorem kRes : shapeCast S4x4096x1024 ((dats m 0 c).arrAt 9 cfg0.N) shapeCasts_S16384x1024_S4x4096x1024
    = resK (a0 m c) (a1 m c) (a2 m c) (a3 m c) (a4 m c) (a5 m c) (a6 m c) (a7 m c) (a9 m c) := by
  rw [arr9, in_x, in_s, in_vecs, in_w, in_l1, in_l2]
  exact join_k (a0 m c) (a1 m c) (a2 m c) (a3 m c) (a4 m c) (a5 m c) (a6 m c) (a7 m c) (a8 m c) (a9 m c)

theorem nRes (hR : Real8 m c) : shapeCast S4x4096x16x64 ((dats m 0 c).arrAt 10 cfg0.N) shapeCasts_S16384x1024_S4x4096x16x64
    = resN (a0 m c) (a1 m c) (a2 m c) (a3 m c) (a5 m c) (a8 m c) := by
  rw [arr10 m c hR, in_x, in_s, in_vecs, in_w]
  exact join_n (a0 m c) (a1 m c) (a2 m c) (a3 m c) (a4 m c) (a5 m c) (a8 m c) (a9 m c)

theorem bRes (hR : Real8 m c) : shapeCast S4x4096x16x64 ((dats m 0 c).arrAt 11 cfg0.N) shapeCasts_S16384x1024_S4x4096x16x64
    = resB (a0 m c) (a1 m c) (a2 m c) (a3 m c) (a4 m c) (a5 m c) (a6 m c) (a7 m c) (a8 m c) := by
  rw [arr11 m c hR, in_x, in_s, in_vecs, in_w, in_l1, in_l2]
  exact join_b (a0 m c) (a1 m c) (a2 m c) (a3 m c) (a4 m c) (a5 m c) (a6 m c) (a7 m c) (a8 m c) (a9 m c)

theorem pre_real (h : Cert.Pre_Kernel8Ideal_finite8 (hPre_finite8 := Cert.Pre_finite8.Gen.facts) m) : Real8 m c := by
  have hf := Cert.Pre_finite8.finite_at (a0 m c) (a1 m c) (a2 m c) (a3 m c) (a4 m c) (a5 m c) (a6 m c) (a7 m c) (a8 m c) (a9 m c) (fun j => congrFun (h c) j)
  exact real8 m c (fun i => ⟨_, hf.1 i⟩) (fun i => ⟨_, hf.2.1 i⟩) (fun i => ⟨_, hf.2.2.1 i⟩) (fun i => ⟨_, hf.2.2.2.1 i⟩)
    (fun i => ⟨_, hf.2.2.2.2.1 i⟩) (fun i => ⟨_, hf.2.2.2.2.2 i⟩)

end Ends

theorem value : Cert.algebraic_Kernel8Ideal_Reference8Ideal_pre_finite8 (hKernel8Ideal := Cert.Kernel8Ideal.Gen.facts)
    (hReference8Ideal := Cert.Reference8Ideal.Gen.facts) (hPre_finite8 := Cert.Pre_finite8.Gen.facts) := by
  intro m ρ m' ρ' hpre hin
  refine ⟨fun c => resK (a0 m c) (a1 m c) (a2 m c) (a3 m c) (a4 m c) (a5 m c) (a6 m c) (a7 m c) (a9 m c),
    fun c => resN (a0 m c) (a1 m c) (a2 m c) (a3 m c) (a5 m c) (a8 m c),
    fun c => resB (a0 m c) (a1 m c) (a2 m c) (a3 m c) (a4 m c) (a5 m c) (a6 m c) (a7 m c) (a8 m c), ?_, ?_⟩
  · refine (θ_run _ _ _).mono (fun r h c => ?_) (θ_run_and (run_main (F := Ideal) m ρ) (unchanged (F := Ideal) m ρ))
    have hR : Real8 m c := pre_real m c hpre
    refine ⟨((h.1 c).2 Cert.Kernel8Ideal.main_v47 (Pipeline.mem_restRefs_of _ (by decide) (by decide))).trans ((end_v47 m c).trans ?_),
      ((h.1 c).2 Cert.Kernel8Ideal.main_v48 (Pipeline.mem_restRefs_of _ (by decide) (by decide))).trans ((end_v48 m c).trans ?_),
      ((h.1 c).2 Cert.Kernel8Ideal.main_v49 (Pipeline.mem_restRefs_of _ (by decide) (by decide))).trans ((end_v49 m c).trans ?_), h.2 c⟩
    · exact kRes m c
    · exact nRes m c hR
    · exact bRes m c hR
  · refine (θ_run _ _ _).mono (fun r h c => ?_) (Cert.Reference8Ideal.Value.run (F := Ideal) m' ρ')
    obtain ⟨e0, e1, e2, e3, e4, e5, e6, e7, e8, e9⟩ := hin c
    refine ⟨(h c).1.trans ((k_is m' c).trans ?_), (h c).2.1.trans ((n_is m' c).trans ?_), (h c).2.2.1.trans ((b_is m' c).trans ?_), (h c).2.2.2⟩
    · rw [e0, e1, e2, e3, e4, e5, e6, e7, e9]
    · rw [e0, e1, e2, e3, e5, e8]
    · rw [e0, e1, e2, e3, e4, e5, e6, e7, e8]

end Cert.Kernel8Ideal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_finite8
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite4
public import proofs.«01_k».proof.Proof.RefRun
public import proofs.«01_k».proof.Proof.WkvValue
public import proofs.«01_k».proof.Proof.NsaValue
public import proofs.«01_k».proof.Proof.OutValue
public import proofs.«01_k».proof.Proof.MixValue
public import proofs.«01_k».proof.Proof.ShiftValue
public import proofs.«01_k».proof.Proof.GateValue
public import proofs.«01_k».proof.Proof.ValValue
public import proofs.«01_k».proof.Proof.KeyValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite2.Gen.facts, Cert.Pre_finite4.Gen.facts, Cert.Pre_finite8.Gen.facts,
  fun m g _ => Cert.Kernel.Gen.frame m g,
  fun m g _ => Cert.KernelIdeal.Gen.frame m g,
  fun m g _ => Cert.KernelIdeal.Gen.frame m g,
  fun m g _ => (θ_run _ _ _).mono (fun r h => ⟨fun c => (h c).2.2, sem_eq_zero_of_no_sems (by decide) _⟩) (Cert.ReferenceIdeal.Value.run m g),
  fun m g _ => (θ_run _ _ _).mono (fun r h => ⟨fun c => (h c).2.2, sem_eq_zero_of_no_sems (by decide) _⟩) (Cert.ReferenceIdeal.Value.run m g),
  fun m g _ => Cert.Kernel2.Gen.frame m g,
  fun m g _ => Cert.Kernel2Ideal.Gen.frame m g,
  fun m g _ => Cert.Kernel2Ideal.Gen.frame m g,
  fun m g _ => (θ_run _ _ _).mono (fun r h => ⟨fun c => (h c).2.2.2.2.2.2.2.2.2.2.2, sem_eq_zero_of_no_sems (by decide) _⟩) (Cert.Reference2Ideal.Value.run m g),
  fun m g _ => (θ_run _ _ _).mono (fun r h => ⟨fun c => (h c).2.2.2.2.2.2.2.2.2.2.2, sem_eq_zero_of_no_sems (by decide) _⟩) (Cert.Reference2Ideal.Value.run m g),
  fun m g _ => Cert.Kernel3.Gen.frame m g,
  fun m g _ => Cert.Kernel3Ideal.Gen.frame m g,
  fun m g _ => (θ_run _ _ _).mono (fun r h => ⟨fun c => (h c).2, sem_eq_zero_of_no_sems (by decide) _⟩) (Cert.Reference3Ideal.Value.run m g),
  fun m g _ => Cert.Kernel4.Gen.frame m g,
  fun m g _ => Cert.Kernel4Ideal.Gen.frame m g,
  fun m g _ => Cert.Kernel4Ideal.Gen.frame m g,
  fun m g _ => (θ_run _ _ _).mono (fun r h => ⟨fun c => (h c).2, sem_eq_zero_of_no_sems (by decide) _⟩) (Cert.Reference4Ideal.Value.run m g),
  fun m g _ => (θ_run _ _ _).mono (fun r h => ⟨fun c => (h c).2, sem_eq_zero_of_no_sems (by decide) _⟩) (Cert.Reference4Ideal.Value.run m g),
  fun m g _ => Cert.Kernel5.Gen.frame m g,
  fun m g _ => Cert.Kernel5Ideal.Gen.frame m g,
  fun m g _ => (θ_run _ _ _).mono (fun r h => ⟨fun c => (h c).2.2.2, sem_eq_zero_of_no_sems (by decide) _⟩) (Cert.Reference5Ideal.Value.run m g),
  fun m g _ => Cert.Kernel6.Gen.frame m g,
  fun m g _ => Cert.Kernel6Ideal.Gen.frame m g,
  fun m g _ => (θ_run _ _ _).mono (fun r h => ⟨fun c => (h c).2, sem_eq_zero_of_no_sems (by decide) _⟩) (Cert.Reference6Ideal.Value.run m g),
  fun m g _ => Cert.Kernel7.Gen.frame m g,
  fun m g _ => Cert.Kernel7Ideal.Gen.frame m g,
  fun m g _ => (θ_run _ _ _).mono (fun r h => ⟨fun c => (h c).2, sem_eq_zero_of_no_sems (by decide) _⟩) (Cert.Reference7Ideal.Value.run m g),
  fun m g _ => Cert.Kernel8.Gen.frame m g,
  fun m g _ => Cert.Kernel8Ideal.Gen.frame m g,
  fun m g _ => Cert.Kernel8Ideal.Gen.frame m g,
  fun m g _ => (θ_run _ _ _).mono (fun r h => ⟨fun c => (h c).2.2.2, sem_eq_zero_of_no_sems (by decide) _⟩) (Cert.Reference8Ideal.Value.run m g),
  fun m g _ => (θ_run _ _ _).mono (fun r h => ⟨fun c => (h c).2.2.2, sem_eq_zero_of_no_sems (by decide) _⟩) (Cert.Reference8Ideal.Value.run m g),
  trivial, Cert.WkvValue.value, trivial, Cert.Kernel2Ideal.Gen.value, trivial, Cert.Kernel3Ideal.Gen.value, trivial, Cert.Kernel4Ideal.Gen.value,
  trivial, Cert.Kernel5Ideal.Gen.value, trivial, Cert.Kernel6Ideal.Gen.value, trivial, Cert.Kernel7Ideal.Gen.value, trivial, Cert.Kernel8Ideal.Gen.value⟩

end Cert.Proof

end
